-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Feed (m : (ℓ : Loc Cert.Feed.nD Cert.Feed.τ Cert.Feed.sig) → Buf (Elt Bits) ℓ) : Prop :=
  True

def Pre_FeedIdeal (m : (ℓ : Loc Cert.FeedIdeal.nD Cert.FeedIdeal.τ Cert.FeedIdeal.sig) → Buf (Elt Ideal) ℓ) : Prop :=
  True

def Pre_FeedIdeal_finite2 [hPre_finite2 : Cert.Pre_finite2.Facts] (m : (ℓ : Loc Cert.FeedIdeal.nD Cert.FeedIdeal.τ Cert.FeedIdeal.sig) → Buf (Elt Ideal) ℓ) : Prop :=
  ∀ c : Dev Cert.FeedIdeal.nD,
    (Cert.Pre_finite2.fn (F := Ideal) (m ((c.tc : Thread Cert.FeedIdeal.nD Cert.FeedIdeal.τ).loc Cert.FeedIdeal.main_arg0)) (m ((c.tc : Thread Cert.FeedIdeal.nD Cert.FeedIdeal.τ).loc Cert.FeedIdeal.main_arg1)) (m ((c.tc : Thread Cert.FeedIdeal.nD Cert.FeedIdeal.τ).loc Cert.FeedIdeal.main_arg2)) (m ((c.tc : Thread Cert.FeedIdeal.nD Cert.FeedIdeal.τ).loc Cert.FeedIdeal.main_arg3)) (m ((c.tc : Thread Cert.FeedIdeal.nD Cert.FeedIdeal.τ).loc Cert.FeedIdeal.main_arg4)) (m ((c.tc : Thread Cert.FeedIdeal.nD Cert.FeedIdeal.τ).loc Cert.FeedIdeal.main_arg5))) = (fun _ => 1#1)

def Pre_FeedReferenceIdeal (m : (ℓ : Loc Cert.FeedReferenceIdeal.nD Cert.FeedReferenceIdeal.τ Cert.FeedReferenceIdeal.sig) → Buf (Elt Ideal) ℓ) : Prop :=
  True

def Pre_FeedReferenceIdeal_finite2 [hPre_finite2 : Cert.Pre_finite2.Facts] (m : (ℓ : Loc Cert.FeedReferenceIdeal.nD Cert.FeedReferenceIdeal.τ Cert.FeedReferenceIdeal.sig) → Buf (Elt Ideal) ℓ) : Prop :=
  ∀ c : Dev Cert.FeedReferenceIdeal.nD,
    (Cert.Pre_finite2.fn (F := Ideal) (m ((c.tc : Thread Cert.FeedReferenceIdeal.nD Cert.FeedReferenceIdeal.τ).loc Cert.FeedReferenceIdeal.main_arg0)) (m ((c.tc : Thread Cert.FeedReferenceIdeal.nD Cert.FeedReferenceIdeal.τ).loc Cert.FeedReferenceIdeal.main_arg1)) (m ((c.tc : Thread Cert.FeedReferenceIdeal.nD Cert.FeedReferenceIdeal.τ).loc Cert.FeedReferenceIdeal.main_arg2)) (m ((c.tc : Thread Cert.FeedReferenceIdeal.nD Cert.FeedReferenceIdeal.τ).loc Cert.FeedReferenceIdeal.main_arg3)) (m ((c.tc : Thread Cert.FeedReferenceIdeal.nD Cert.FeedReferenceIdeal.τ).loc Cert.FeedReferenceIdeal.main_arg4)) (m ((c.tc : Thread Cert.FeedReferenceIdeal.nD Cert.FeedReferenceIdeal.τ).loc Cert.FeedReferenceIdeal.main_arg5))) = (fun _ => 1#1)

def Pre_Joint (m : (ℓ : Loc Cert.Joint.nD Cert.Joint.τ Cert.Joint.sig) → Buf (Elt Bits) ℓ) : Prop :=
  True

def Pre_JointIdeal (m : (ℓ : Loc Cert.JointIdeal.nD Cert.JointIdeal.τ Cert.JointIdeal.sig) → Buf (Elt Ideal) ℓ) : Prop :=
  True

def Pre_JointReferenceIdeal (m : (ℓ : Loc Cert.JointReferenceIdeal.nD Cert.JointReferenceIdeal.τ Cert.JointReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvIdeal_finite4 [hPre_finite4 : Cert.Pre_finite4.Facts] (m : (ℓ : Loc Cert.ConvIdeal.nD Cert.ConvIdeal.τ Cert.ConvIdeal.sig) → Buf (Elt Ideal) ℓ) : Prop :=
  ∀ c : Dev Cert.ConvIdeal.nD,
    (Cert.Pre_finite4.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3))) = (fun _ => 1#1)

def Pre_ConvReferenceIdeal (m : (ℓ : Loc Cert.ConvReferenceIdeal.nD Cert.ConvReferenceIdeal.τ Cert.ConvReferenceIdeal.sig) → Buf (Elt Ideal) ℓ) : Prop :=
  True

def Pre_ConvReferenceIdeal_finite4 [hPre_finite4 : Cert.Pre_finite4.Facts] (m : (ℓ : Loc Cert.ConvReferenceIdeal.nD Cert.ConvReferenceIdeal.τ Cert.ConvReferenceIdeal.sig) → Buf (Elt Ideal) ℓ) : Prop :=
  ∀ c : Dev Cert.ConvReferenceIdeal.nD,
    (Cert.Pre_finite4.fn (F := Ideal) (m ((c.tc : Thread Cert.ConvReferenceIdeal.nD Cert.ConvReferenceIdeal.τ).loc Cert.ConvReferenceIdeal.main_arg0)) (m ((c.tc : Thread Cert.ConvReferenceIdeal.nD Cert.ConvReferenceIdeal.τ).loc Cert.ConvReferenceIdeal.main_arg1)) (m ((c.tc : Thread Cert.ConvReferenceIdeal.nD Cert.ConvReferenceIdeal.τ).loc Cert.ConvReferenceIdeal.main_arg2)) (m ((c.tc : Thread Cert.ConvReferenceIdeal.nD Cert.ConvReferenceIdeal.τ).loc Cert.ConvReferenceIdeal.main_arg3))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_finite5 [hPre_finite5 : Cert.Pre_finite5.Facts] (m : (ℓ : Loc Cert.GateIdeal.nD Cert.GateIdeal.τ Cert.GateIdeal.sig) → Buf (Elt Ideal) ℓ) : Prop :=
  ∀ c : Dev Cert.GateIdeal.nD,
    (Cert.Pre_finite5.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))) = (fun _ => 1#1)

def Pre_GateReferenceIdeal (m : (ℓ : Loc Cert.GateReferenceIdeal.nD Cert.GateReferenceIdeal.τ Cert.GateReferenceIdeal.sig) → Buf (Elt Ideal) ℓ) : Prop :=
  True

def Pre_GateReferenceIdeal_finite5 [hPre_finite5 : Cert.Pre_finite5.Facts] (m : (ℓ : Loc Cert.GateReferenceIdeal.nD Cert.GateReferenceIdeal.τ Cert.GateReferenceIdeal.sig) → Buf (Elt Ideal) ℓ) : Prop :=
  ∀ c : Dev Cert.GateReferenceIdeal.nD,
    (Cert.Pre_finite5.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite6 [hPre_finite6 : Cert.Pre_finite6.Facts] (m : (ℓ : Loc Cert.MixIdeal.nD Cert.MixIdeal.τ Cert.MixIdeal.sig) → Buf (Elt Ideal) ℓ) : Prop :=
  ∀ c : Dev Cert.MixIdeal.nD,
    (Cert.Pre_finite6.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4))) = (fun _ => 1#1)

def Pre_MixReferenceIdeal (m : (ℓ : Loc Cert.MixReferenceIdeal.nD Cert.MixReferenceIdeal.τ Cert.MixReferenceIdeal.sig) → Buf (Elt Ideal) ℓ) : Prop :=
  True

def Pre_MixReferenceIdeal_finite6 [hPre_finite6 : Cert.Pre_finite6.Facts] (m : (ℓ : Loc Cert.MixReferenceIdeal.nD Cert.MixReferenceIdeal.τ Cert.MixReferenceIdeal.sig) → Buf (Elt Ideal) ℓ) : Prop :=
  ∀ c : Dev Cert.MixReferenceIdeal.nD,
    (Cert.Pre_finite6.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4))) = (fun _ => 1#1)

def Pre_Entry (m : (ℓ : Loc Cert.Entry.nD Cert.Entry.τ Cert.Entry.sig) → Buf (Elt Bits) ℓ) : Prop :=
  True

def Pre_EntryIdeal (m : (ℓ : Loc Cert.EntryIdeal.nD Cert.EntryIdeal.τ Cert.EntryIdeal.sig) → Buf (Elt Ideal) ℓ) : Prop :=
  True

def Pre_EntryReferenceIdeal (m : (ℓ : Loc Cert.EntryReferenceIdeal.nD Cert.EntryReferenceIdeal.τ Cert.EntryReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_finite8 [hPre_finite8 : Cert.Pre_finite8.Facts] (m : (ℓ : Loc Cert.NormIdeal.nD Cert.NormIdeal.τ Cert.NormIdeal.sig) → Buf (Elt Ideal) ℓ) : Prop :=
  ∀ c : Dev Cert.NormIdeal.nD,
    (Cert.Pre_finite8.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2))) = (fun _ => 1#1)

def Pre_NormReferenceIdeal (m : (ℓ : Loc Cert.NormReferenceIdeal.nD Cert.NormReferenceIdeal.τ Cert.NormReferenceIdeal.sig) → Buf (Elt Ideal) ℓ) : Prop :=
  True

def Pre_NormReferenceIdeal_finite8 [hPre_finite8 : Cert.Pre_finite8.Facts] (m : (ℓ : Loc Cert.NormReferenceIdeal.nD Cert.NormReferenceIdeal.τ Cert.NormReferenceIdeal.sig) → Buf (Elt Ideal) ℓ) : Prop :=
  ∀ c : Dev Cert.NormReferenceIdeal.nD,
    (Cert.Pre_finite8.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2))) = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Weight (m : (ℓ : Loc Cert.Weight.nD Cert.Weight.τ Cert.Weight.sig) → Buf (Elt Bits) ℓ) : Prop :=
  True

def Pre_WeightIdeal (m : (ℓ : Loc Cert.WeightIdeal.nD Cert.WeightIdeal.τ Cert.WeightIdeal.sig) → Buf (Elt Ideal) ℓ) : Prop :=
  True

def Pre_WeightReferenceIdeal (m : (ℓ : Loc Cert.WeightReferenceIdeal.nD Cert.WeightReferenceIdeal.τ Cert.WeightReferenceIdeal.sig) → Buf (Elt Ideal) ℓ) : Prop :=
  True

def Pre_Low (m : (ℓ : Loc Cert.Low.nD Cert.Low.τ Cert.Low.sig) → Buf (Elt Bits) ℓ) : Prop :=
  True

def Pre_LowIdeal (m : (ℓ : Loc Cert.LowIdeal.nD Cert.LowIdeal.τ Cert.LowIdeal.sig) → Buf (Elt Ideal) ℓ) : Prop :=
  True

def Pre_LowReferenceIdeal (m : (ℓ : Loc Cert.LowReferenceIdeal.nD Cert.LowReferenceIdeal.τ Cert.LowReferenceIdeal.sig) → Buf (Elt Ideal) ℓ) : Prop :=
  True

def Pre_Lay (m : (ℓ : Loc Cert.Lay.nD Cert.Lay.τ Cert.Lay.sig) → Buf (Elt Bits) ℓ) : Prop :=
  True

def Pre_LayIdeal (m : (ℓ : Loc Cert.LayIdeal.nD Cert.LayIdeal.τ Cert.LayIdeal.sig) → Buf (Elt Ideal) ℓ) : Prop :=
  True

def Pre_LayReferenceIdeal (m : (ℓ : Loc Cert.LayReferenceIdeal.nD Cert.LayReferenceIdeal.τ Cert.LayReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Feed [hFeed : Cert.Feed.Facts] : Prop :=
  ∀ (m : (ℓ : Loc Cert.Feed.nD Cert.Feed.τ Cert.Feed.sig) → Buf (Elt Bits) ℓ) (g : Dev Cert.Feed.nD → PrngReg), Pre_Feed m →
    θ_run (Cert.Feed.defs (F := Bits)) (onTc (τ := Cert.Feed.τ) (Cert.Feed.main (F := Bits))) ⟨m, fun _ => 0, g⟩ (fun r => (∀ c : Dev Cert.Feed.nD,
      r.2.mem ((c.tc : Thread Cert.Feed.nD Cert.Feed.τ).loc Cert.Feed.main_arg0) = m ((c.tc : Thread Cert.Feed.nD Cert.Feed.τ).loc Cert.Feed.main_arg0)
      ∧ r.2.mem ((c.tc : Thread Cert.Feed.nD Cert.Feed.τ).loc Cert.Feed.main_arg1) = m ((c.tc : Thread Cert.Feed.nD Cert.Feed.τ).loc Cert.Feed.main_arg1)
      ∧ r.2.mem ((c.tc : Thread Cert.Feed.nD Cert.Feed.τ).loc Cert.Feed.main_arg2) = m ((c.tc : Thread Cert.Feed.nD Cert.Feed.τ).loc Cert.Feed.main_arg2)
      ∧ r.2.mem ((c.tc : Thread Cert.Feed.nD Cert.Feed.τ).loc Cert.Feed.main_arg3) = m ((c.tc : Thread Cert.Feed.nD Cert.Feed.τ).loc Cert.Feed.main_arg3)
      ∧ r.2.mem ((c.tc : Thread Cert.Feed.nD Cert.Feed.τ).loc Cert.Feed.main_arg4) = m ((c.tc : Thread Cert.Feed.nD Cert.Feed.τ).loc Cert.Feed.main_arg4)
      ∧ r.2.mem ((c.tc : Thread Cert.Feed.nD Cert.Feed.τ).loc Cert.Feed.main_arg5) = m ((c.tc : Thread Cert.Feed.nD Cert.Feed.τ).loc Cert.Feed.main_arg5))
      ∧ r.2.sem = fun _ => 0)

def quiescent_FeedIdeal [hFeedIdeal : Cert.FeedIdeal.Facts] : Prop :=
  ∀ (m : (ℓ : Loc Cert.FeedIdeal.nD Cert.FeedIdeal.τ Cert.FeedIdeal.sig) → Buf (Elt Ideal) ℓ) (g : Dev Cert.FeedIdeal.nD → PrngReg), Pre_FeedIdeal m →
    θ_run (Cert.FeedIdeal.defs (F := Ideal)) (onTc (τ := Cert.FeedIdeal.τ) (Cert.FeedIdeal.main (F := Ideal))) ⟨m, fun _ => 0, g⟩ (fun r => (∀ c : Dev Cert.FeedIdeal.nD,
      r.2.mem ((c.tc : Thread Cert.FeedIdeal.nD Cert.FeedIdeal.τ).loc Cert.FeedIdeal.main_arg0) = m ((c.tc : Thread Cert.FeedIdeal.nD Cert.FeedIdeal.τ).loc Cert.FeedIdeal.main_arg0)
      ∧ r.2.mem ((c.tc : Thread Cert.FeedIdeal.nD Cert.FeedIdeal.τ).loc Cert.FeedIdeal.main_arg1) = m ((c.tc : Thread Cert.FeedIdeal.nD Cert.FeedIdeal.τ).loc Cert.FeedIdeal.main_arg1)
      ∧ r.2.mem ((c.tc : Thread Cert.FeedIdeal.nD Cert.FeedIdeal.τ).loc Cert.FeedIdeal.main_arg2) = m ((c.tc : Thread Cert.FeedIdeal.nD Cert.FeedIdeal.τ).loc Cert.FeedIdeal.main_arg2)
      ∧ r.2.mem ((c.tc : Thread Cert.FeedIdeal.nD Cert.FeedIdeal.τ).loc Cert.FeedIdeal.main_arg3) = m ((c.tc : Thread Cert.FeedIdeal.nD Cert.FeedIdeal.τ).loc Cert.FeedIdeal.main_arg3)
      ∧ r.2.mem ((c.tc : Thread Cert.FeedIdeal.nD Cert.FeedIdeal.τ).loc Cert.FeedIdeal.main_arg4) = m ((c.tc : Thread Cert.FeedIdeal.nD Cert.FeedIdeal.τ).loc Cert.FeedIdeal.main_arg4)
      ∧ r.2.mem ((c.tc : Thread Cert.FeedIdeal.nD Cert.FeedIdeal.τ).loc Cert.FeedIdeal.main_arg5) = m ((c.tc : Thread Cert.FeedIdeal.nD Cert.FeedIdeal.τ).loc Cert.FeedIdeal.main_arg5))
      ∧ r.2.sem = fun _ => 0)

def quiescent_FeedIdeal_pre_finite2 [hFeedIdeal : Cert.FeedIdeal.Facts] [hPre_finite2 : Cert.Pre_finite2.Facts] : Prop :=
  ∀ (m : (ℓ : Loc Cert.FeedIdeal.nD Cert.FeedIdeal.τ Cert.FeedIdeal.sig) → Buf (Elt Ideal) ℓ) (g : Dev Cert.FeedIdeal.nD → PrngReg), Pre_FeedIdeal_finite2 m →
    θ_run (Cert.FeedIdeal.defs (F := Ideal)) (onTc (τ := Cert.FeedIdeal.τ) (Cert.FeedIdeal.main (F := Ideal))) ⟨m, fun _ => 0, g⟩ (fun r => (∀ c : Dev Cert.FeedIdeal.nD,
      r.2.mem ((c.tc : Thread Cert.FeedIdeal.nD Cert.FeedIdeal.τ).loc Cert.FeedIdeal.main_arg0) = m ((c.tc : Thread Cert.FeedIdeal.nD Cert.FeedIdeal.τ).loc Cert.FeedIdeal.main_arg0)
      ∧ r.2.mem ((c.tc : Thread Cert.FeedIdeal.nD Cert.FeedIdeal.τ).loc Cert.FeedIdeal.main_arg1) = m ((c.tc : Thread Cert.FeedIdeal.nD Cert.FeedIdeal.τ).loc Cert.FeedIdeal.main_arg1)
      ∧ r.2.mem ((c.tc : Thread Cert.FeedIdeal.nD Cert.FeedIdeal.τ).loc Cert.FeedIdeal.main_arg2) = m ((c.tc : Thread Cert.FeedIdeal.nD Cert.FeedIdeal.τ).loc Cert.FeedIdeal.main_arg2)
      ∧ r.2.mem ((c.tc : Thread Cert.FeedIdeal.nD Cert.FeedIdeal.τ).loc Cert.FeedIdeal.main_arg3) = m ((c.tc : Thread Cert.FeedIdeal.nD Cert.FeedIdeal.τ).loc Cert.FeedIdeal.main_arg3)
      ∧ r.2.mem ((c.tc : Thread Cert.FeedIdeal.nD Cert.FeedIdeal.τ).loc Cert.FeedIdeal.main_arg4) = m ((c.tc : Thread Cert.FeedIdeal.nD Cert.FeedIdeal.τ).loc Cert.FeedIdeal.main_arg4)
      ∧ r.2.mem ((c.tc : Thread Cert.FeedIdeal.nD Cert.FeedIdeal.τ).loc Cert.FeedIdeal.main_arg5) = m ((c.tc : Thread Cert.FeedIdeal.nD Cert.FeedIdeal.τ).loc Cert.FeedIdeal.main_arg5))
      ∧ r.2.sem = fun _ => 0)

def quiescent_FeedReferenceIdeal [hFeedReferenceIdeal : Cert.FeedReferenceIdeal.Facts] : Prop :=
  ∀ (m : (ℓ : Loc Cert.FeedReferenceIdeal.nD Cert.FeedReferenceIdeal.τ Cert.FeedReferenceIdeal.sig) → Buf (Elt Ideal) ℓ) (g : Dev Cert.FeedReferenceIdeal.nD → PrngReg), Pre_FeedReferenceIdeal m →
    θ_run (Cert.FeedReferenceIdeal.defs (F := Ideal)) (onTc (τ := Cert.FeedReferenceIdeal.τ) (Cert.FeedReferenceIdeal.main (F := Ideal))) ⟨m, fun _ => 0, g⟩ (fun r => (∀ c : Dev Cert.FeedReferenceIdeal.nD,
      r.2.mem ((c.tc : Thread Cert.FeedReferenceIdeal.nD Cert.FeedReferenceIdeal.τ).loc Cert.FeedReferenceIdeal.main_arg0) = m ((c.tc : Thread Cert.FeedReferenceIdeal.nD Cert.FeedReferenceIdeal.τ).loc Cert.FeedReferenceIdeal.main_arg0)
      ∧ r.2.mem ((c.tc : Thread Cert.FeedReferenceIdeal.nD Cert.FeedReferenceIdeal.τ).loc Cert.FeedReferenceIdeal.main_arg1) = m ((c.tc : Thread Cert.FeedReferenceIdeal.nD Cert.FeedReferenceIdeal.τ).loc Cert.FeedReferenceIdeal.main_arg1)
      ∧ r.2.mem ((c.tc : Thread Cert.FeedReferenceIdeal.nD Cert.FeedReferenceIdeal.τ).loc Cert.FeedReferenceIdeal.main_arg2) = m ((c.tc : Thread Cert.FeedReferenceIdeal.nD Cert.FeedReferenceIdeal.τ).loc Cert.FeedReferenceIdeal.main_arg2)
      ∧ r.2.mem ((c.tc : Thread Cert.FeedReferenceIdeal.nD Cert.FeedReferenceIdeal.τ).loc Cert.FeedReferenceIdeal.main_arg3) = m ((c.tc : Thread Cert.FeedReferenceIdeal.nD Cert.FeedReferenceIdeal.τ).loc Cert.FeedReferenceIdeal.main_arg3)
      ∧ r.2.mem ((c.tc : Thread Cert.FeedReferenceIdeal.nD Cert.FeedReferenceIdeal.τ).loc Cert.FeedReferenceIdeal.main_arg4) = m ((c.tc : Thread Cert.FeedReferenceIdeal.nD Cert.FeedReferenceIdeal.τ).loc Cert.FeedReferenceIdeal.main_arg4)
      ∧ r.2.mem ((c.tc : Thread Cert.FeedReferenceIdeal.nD Cert.FeedReferenceIdeal.τ).loc Cert.FeedReferenceIdeal.main_arg5) = m ((c.tc : Thread Cert.FeedReferenceIdeal.nD Cert.FeedReferenceIdeal.τ).loc Cert.FeedReferenceIdeal.main_arg5))
      ∧ r.2.sem = fun _ => 0)

def quiescent_FeedReferenceIdeal_pre_finite2 [hFeedReferenceIdeal : Cert.FeedReferenceIdeal.Facts] [hPre_finite2 : Cert.Pre_finite2.Facts] : Prop :=
  ∀ (m : (ℓ : Loc Cert.FeedReferenceIdeal.nD Cert.FeedReferenceIdeal.τ Cert.FeedReferenceIdeal.sig) → Buf (Elt Ideal) ℓ) (g : Dev Cert.FeedReferenceIdeal.nD → PrngReg), Pre_FeedReferenceIdeal_finite2 m →
    θ_run (Cert.FeedReferenceIdeal.defs (F := Ideal)) (onTc (τ := Cert.FeedReferenceIdeal.τ) (Cert.FeedReferenceIdeal.main (F := Ideal))) ⟨m, fun _ => 0, g⟩ (fun r => (∀ c : Dev Cert.FeedReferenceIdeal.nD,
      r.2.mem ((c.tc : Thread Cert.FeedReferenceIdeal.nD Cert.FeedReferenceIdeal.τ).loc Cert.FeedReferenceIdeal.main_arg0) = m ((c.tc : Thread Cert.FeedReferenceIdeal.nD Cert.FeedReferenceIdeal.τ).loc Cert.FeedReferenceIdeal.main_arg0)
      ∧ r.2.mem ((c.tc : Thread Cert.FeedReferenceIdeal.nD Cert.FeedReferenceIdeal.τ).loc Cert.FeedReferenceIdeal.main_arg1) = m ((c.tc : Thread Cert.FeedReferenceIdeal.nD Cert.FeedReferenceIdeal.τ).loc Cert.FeedReferenceIdeal.main_arg1)
      ∧ r.2.mem ((c.tc : Thread Cert.FeedReferenceIdeal.nD Cert.FeedReferenceIdeal.τ).loc Cert.FeedReferenceIdeal.main_arg2) = m ((c.tc : Thread Cert.FeedReferenceIdeal.nD Cert.FeedReferenceIdeal.τ).loc Cert.FeedReferenceIdeal.main_arg2)
      ∧ r.2.mem ((c.tc : Thread Cert.FeedReferenceIdeal.nD Cert.FeedReferenceIdeal.τ).loc Cert.FeedReferenceIdeal.main_arg3) = m ((c.tc : Thread Cert.FeedReferenceIdeal.nD Cert.FeedReferenceIdeal.τ).loc Cert.FeedReferenceIdeal.main_arg3)
      ∧ r.2.mem ((c.tc : Thread Cert.FeedReferenceIdeal.nD Cert.FeedReferenceIdeal.τ).loc Cert.FeedReferenceIdeal.main_arg4) = m ((c.tc : Thread Cert.FeedReferenceIdeal.nD Cert.FeedReferenceIdeal.τ).loc Cert.FeedReferenceIdeal.main_arg4)
      ∧ r.2.mem ((c.tc : Thread Cert.FeedReferenceIdeal.nD Cert.FeedReferenceIdeal.τ).loc Cert.FeedReferenceIdeal.main_arg5) = m ((c.tc : Thread Cert.FeedReferenceIdeal.nD Cert.FeedReferenceIdeal.τ).loc Cert.FeedReferenceIdeal.main_arg5))
      ∧ r.2.sem = fun _ => 0)

def quiescent_Joint [hJoint : Cert.Joint.Facts] : Prop :=
  ∀ (m : (ℓ : Loc Cert.Joint.nD Cert.Joint.τ Cert.Joint.sig) → Buf (Elt Bits) ℓ) (g : Dev Cert.Joint.nD → PrngReg), Pre_Joint m →
    θ_run (Cert.Joint.defs (F := Bits)) (onTc (τ := Cert.Joint.τ) (Cert.Joint.main (F := Bits))) ⟨m, fun _ => 0, g⟩ (fun r => (∀ c : Dev Cert.Joint.nD,
      r.2.mem ((c.tc : Thread Cert.Joint.nD Cert.Joint.τ).loc Cert.Joint.main_arg0) = m ((c.tc : Thread Cert.Joint.nD Cert.Joint.τ).loc Cert.Joint.main_arg0)
      ∧ r.2.mem ((c.tc : Thread Cert.Joint.nD Cert.Joint.τ).loc Cert.Joint.main_arg1) = m ((c.tc : Thread Cert.Joint.nD Cert.Joint.τ).loc Cert.Joint.main_arg1)
      ∧ r.2.mem ((c.tc : Thread Cert.Joint.nD Cert.Joint.τ).loc Cert.Joint.main_arg2) = m ((c.tc : Thread Cert.Joint.nD Cert.Joint.τ).loc Cert.Joint.main_arg2)
      ∧ r.2.mem ((c.tc : Thread Cert.Joint.nD Cert.Joint.τ).loc Cert.Joint.main_arg3) = m ((c.tc : Thread Cert.Joint.nD Cert.Joint.τ).loc Cert.Joint.main_arg3)
      ∧ r.2.mem ((c.tc : Thread Cert.Joint.nD Cert.Joint.τ).loc Cert.Joint.main_arg4) = m ((c.tc : Thread Cert.Joint.nD Cert.Joint.τ).loc Cert.Joint.main_arg4)
      ∧ r.2.mem ((c.tc : Thread Cert.Joint.nD Cert.Joint.τ).loc Cert.Joint.main_arg5) = m ((c.tc : Thread Cert.Joint.nD Cert.Joint.τ).loc Cert.Joint.main_arg5)
      ∧ r.2.mem ((c.tc : Thread Cert.Joint.nD Cert.Joint.τ).loc Cert.Joint.main_arg6) = m ((c.tc : Thread Cert.Joint.nD Cert.Joint.τ).loc Cert.Joint.main_arg6))
      ∧ r.2.sem = fun _ => 0)

def quiescent_JointIdeal [hJointIdeal : Cert.JointIdeal.Facts] : Prop :=
  ∀ (m : (ℓ : Loc Cert.JointIdeal.nD Cert.JointIdeal.τ Cert.JointIdeal.sig) → Buf (Elt Ideal) ℓ) (g : Dev Cert.JointIdeal.nD → PrngReg), Pre_JointIdeal m →
    θ_run (Cert.JointIdeal.defs (F := Ideal)) (onTc (τ := Cert.JointIdeal.τ) (Cert.JointIdeal.main (F := Ideal))) ⟨m, fun _ => 0, g⟩ (fun r => (∀ c : Dev Cert.JointIdeal.nD,
      r.2.mem ((c.tc : Thread Cert.JointIdeal.nD Cert.JointIdeal.τ).loc Cert.JointIdeal.main_arg0) = m ((c.tc : Thread Cert.JointIdeal.nD Cert.JointIdeal.τ).loc Cert.JointIdeal.main_arg0)
      ∧ r.2.mem ((c.tc : Thread Cert.JointIdeal.nD Cert.JointIdeal.τ).loc Cert.JointIdeal.main_arg1) = m ((c.tc : Thread Cert.JointIdeal.nD Cert.JointIdeal.τ).loc Cert.JointIdeal.main_arg1)
      ∧ r.2.mem ((c.tc : Thread Cert.JointIdeal.nD Cert.JointIdeal.τ).loc Cert.JointIdeal.main_arg2) = m ((c.tc : Thread Cert.JointIdeal.nD Cert.JointIdeal.τ).loc Cert.JointIdeal.main_arg2)
      ∧ r.2.mem ((c.tc : Thread Cert.JointIdeal.nD Cert.JointIdeal.τ).loc Cert.JointIdeal.main_arg3) = m ((c.tc : Thread Cert.JointIdeal.nD Cert.JointIdeal.τ).loc Cert.JointIdeal.main_arg3)
      ∧ r.2.mem ((c.tc : Thread Cert.JointIdeal.nD Cert.JointIdeal.τ).loc Cert.JointIdeal.main_arg4) = m ((c.tc : Thread Cert.JointIdeal.nD Cert.JointIdeal.τ).loc Cert.JointIdeal.main_arg4)
      ∧ r.2.mem ((c.tc : Thread Cert.JointIdeal.nD Cert.JointIdeal.τ).loc Cert.JointIdeal.main_arg5) = m ((c.tc : Thread Cert.JointIdeal.nD Cert.JointIdeal.τ).loc Cert.JointIdeal.main_arg5)
      ∧ r.2.mem ((c.tc : Thread Cert.JointIdeal.nD Cert.JointIdeal.τ).loc Cert.JointIdeal.main_arg6) = m ((c.tc : Thread Cert.JointIdeal.nD Cert.JointIdeal.τ).loc Cert.JointIdeal.main_arg6))
      ∧ r.2.sem = fun _ => 0)

def quiescent_JointReferenceIdeal [hJointReferenceIdeal : Cert.JointReferenceIdeal.Facts] : Prop :=
  ∀ (m : (ℓ : Loc Cert.JointReferenceIdeal.nD Cert.JointReferenceIdeal.τ Cert.JointReferenceIdeal.sig) → Buf (Elt Ideal) ℓ) (g : Dev Cert.JointReferenceIdeal.nD → PrngReg), Pre_JointReferenceIdeal m →
    θ_run (Cert.JointReferenceIdeal.defs (F := Ideal)) (onTc (τ := Cert.JointReferenceIdeal.τ) (Cert.JointReferenceIdeal.main (F := Ideal))) ⟨m, fun _ => 0, g⟩ (fun r => (∀ c : Dev Cert.JointReferenceIdeal.nD,
      r.2.mem ((c.tc : Thread Cert.JointReferenceIdeal.nD Cert.JointReferenceIdeal.τ).loc Cert.JointReferenceIdeal.main_arg0) = m ((c.tc : Thread Cert.JointReferenceIdeal.nD Cert.JointReferenceIdeal.τ).loc Cert.JointReferenceIdeal.main_arg0)
      ∧ r.2.mem ((c.tc : Thread Cert.JointReferenceIdeal.nD Cert.JointReferenceIdeal.τ).loc Cert.JointReferenceIdeal.main_arg1) = m ((c.tc : Thread Cert.JointReferenceIdeal.nD Cert.JointReferenceIdeal.τ).loc Cert.JointReferenceIdeal.main_arg1)
      ∧ r.2.mem ((c.tc : Thread Cert.JointReferenceIdeal.nD Cert.JointReferenceIdeal.τ).loc Cert.JointReferenceIdeal.main_arg2) = m ((c.tc : Thread Cert.JointReferenceIdeal.nD Cert.JointReferenceIdeal.τ).loc Cert.JointReferenceIdeal.main_arg2)
      ∧ r.2.mem ((c.tc : Thread Cert.JointReferenceIdeal.nD Cert.JointReferenceIdeal.τ).loc Cert.JointReferenceIdeal.main_arg3) = m ((c.tc : Thread Cert.JointReferenceIdeal.nD Cert.JointReferenceIdeal.τ).loc Cert.JointReferenceIdeal.main_arg3)
      ∧ r.2.mem ((c.tc : Thread Cert.JointReferenceIdeal.nD Cert.JointReferenceIdeal.τ).loc Cert.JointReferenceIdeal.main_arg4) = m ((c.tc : Thread Cert.JointReferenceIdeal.nD Cert.JointReferenceIdeal.τ).loc Cert.JointReferenceIdeal.main_arg4)
      ∧ r.2.mem ((c.tc : Thread Cert.JointReferenceIdeal.nD Cert.JointReferenceIdeal.τ).loc Cert.JointReferenceIdeal.main_arg5) = m ((c.tc : Thread Cert.JointReferenceIdeal.nD Cert.JointReferenceIdeal.τ).loc Cert.JointReferenceIdeal.main_arg5)
      ∧ r.2.mem ((c.tc : Thread Cert.JointReferenceIdeal.nD Cert.JointReferenceIdeal.τ).loc Cert.JointReferenceIdeal.main_arg6) = m ((c.tc : Thread Cert.JointReferenceIdeal.nD Cert.JointReferenceIdeal.τ).loc Cert.JointReferenceIdeal.main_arg6))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvIdeal_pre_finite4 [hConvIdeal : Cert.ConvIdeal.Facts] [hPre_finite4 : Cert.Pre_finite4.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal_finite4 m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3))
      ∧ r.2.sem = fun _ => 0)

def quiescent_ConvReferenceIdeal_pre_finite4 [hConvReferenceIdeal : Cert.ConvReferenceIdeal.Facts] [hPre_finite4 : Cert.Pre_finite4.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal_finite4 m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateIdeal_pre_finite5 [hGateIdeal : Cert.GateIdeal.Facts] [hPre_finite5 : Cert.Pre_finite5.Facts] : Prop :=
  ∀ (m : (ℓ : Loc Cert.GateIdeal.nD Cert.GateIdeal.τ Cert.GateIdeal.sig) → Buf (Elt Ideal) ℓ) (g : Dev Cert.GateIdeal.nD → PrngReg), Pre_GateIdeal_finite5 m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3))
      ∧ r.2.sem = fun _ => 0)

def quiescent_GateReferenceIdeal_pre_finite5 [hGateReferenceIdeal : Cert.GateReferenceIdeal.Facts] [hPre_finite5 : Cert.Pre_finite5.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal_finite5 m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixIdeal_pre_finite6 [hMixIdeal : Cert.MixIdeal.Facts] [hPre_finite6 : Cert.Pre_finite6.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite6 m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4))
      ∧ r.2.sem = fun _ => 0)

def quiescent_MixReferenceIdeal_pre_finite6 [hMixReferenceIdeal : Cert.MixReferenceIdeal.Facts] [hPre_finite6 : Cert.Pre_finite6.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal_finite6 m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4))
      ∧ r.2.sem = fun _ => 0)

def quiescent_Entry [hEntry : Cert.Entry.Facts] : Prop :=
  ∀ (m : (ℓ : Loc Cert.Entry.nD Cert.Entry.τ Cert.Entry.sig) → Buf (Elt Bits) ℓ) (g : Dev Cert.Entry.nD → PrngReg), Pre_Entry m →
    θ_run (Cert.Entry.defs (F := Bits)) (onTc (τ := Cert.Entry.τ) (Cert.Entry.main (F := Bits))) ⟨m, fun _ => 0, g⟩ (fun r => (∀ c : Dev Cert.Entry.nD,
      r.2.mem ((c.tc : Thread Cert.Entry.nD Cert.Entry.τ).loc Cert.Entry.main_arg0) = m ((c.tc : Thread Cert.Entry.nD Cert.Entry.τ).loc Cert.Entry.main_arg0)
      ∧ r.2.mem ((c.tc : Thread Cert.Entry.nD Cert.Entry.τ).loc Cert.Entry.main_arg1) = m ((c.tc : Thread Cert.Entry.nD Cert.Entry.τ).loc Cert.Entry.main_arg1)
      ∧ r.2.mem ((c.tc : Thread Cert.Entry.nD Cert.Entry.τ).loc Cert.Entry.main_arg2) = m ((c.tc : Thread Cert.Entry.nD Cert.Entry.τ).loc Cert.Entry.main_arg2)
      ∧ r.2.mem ((c.tc : Thread Cert.Entry.nD Cert.Entry.τ).loc Cert.Entry.main_arg3) = m ((c.tc : Thread Cert.Entry.nD Cert.Entry.τ).loc Cert.Entry.main_arg3)
      ∧ r.2.mem ((c.tc : Thread Cert.Entry.nD Cert.Entry.τ).loc Cert.Entry.main_arg4) = m ((c.tc : Thread Cert.Entry.nD Cert.Entry.τ).loc Cert.Entry.main_arg4)
      ∧ r.2.mem ((c.tc : Thread Cert.Entry.nD Cert.Entry.τ).loc Cert.Entry.main_arg5) = m ((c.tc : Thread Cert.Entry.nD Cert.Entry.τ).loc Cert.Entry.main_arg5))
      ∧ r.2.sem = fun _ => 0)

def quiescent_EntryIdeal [hEntryIdeal : Cert.EntryIdeal.Facts] : Prop :=
  ∀ (m : (ℓ : Loc Cert.EntryIdeal.nD Cert.EntryIdeal.τ Cert.EntryIdeal.sig) → Buf (Elt Ideal) ℓ) (g : Dev Cert.EntryIdeal.nD → PrngReg), Pre_EntryIdeal m →
    θ_run (Cert.EntryIdeal.defs (F := Ideal)) (onTc (τ := Cert.EntryIdeal.τ) (Cert.EntryIdeal.main (F := Ideal))) ⟨m, fun _ => 0, g⟩ (fun r => (∀ c : Dev Cert.EntryIdeal.nD,
      r.2.mem ((c.tc : Thread Cert.EntryIdeal.nD Cert.EntryIdeal.τ).loc Cert.EntryIdeal.main_arg0) = m ((c.tc : Thread Cert.EntryIdeal.nD Cert.EntryIdeal.τ).loc Cert.EntryIdeal.main_arg0)
      ∧ r.2.mem ((c.tc : Thread Cert.EntryIdeal.nD Cert.EntryIdeal.τ).loc Cert.EntryIdeal.main_arg1) = m ((c.tc : Thread Cert.EntryIdeal.nD Cert.EntryIdeal.τ).loc Cert.EntryIdeal.main_arg1)
      ∧ r.2.mem ((c.tc : Thread Cert.EntryIdeal.nD Cert.EntryIdeal.τ).loc Cert.EntryIdeal.main_arg2) = m ((c.tc : Thread Cert.EntryIdeal.nD Cert.EntryIdeal.τ).loc Cert.EntryIdeal.main_arg2)
      ∧ r.2.mem ((c.tc : Thread Cert.EntryIdeal.nD Cert.EntryIdeal.τ).loc Cert.EntryIdeal.main_arg3) = m ((c.tc : Thread Cert.EntryIdeal.nD Cert.EntryIdeal.τ).loc Cert.EntryIdeal.main_arg3)
      ∧ r.2.mem ((c.tc : Thread Cert.EntryIdeal.nD Cert.EntryIdeal.τ).loc Cert.EntryIdeal.main_arg4) = m ((c.tc : Thread Cert.EntryIdeal.nD Cert.EntryIdeal.τ).loc Cert.EntryIdeal.main_arg4)
      ∧ r.2.mem ((c.tc : Thread Cert.EntryIdeal.nD Cert.EntryIdeal.τ).loc Cert.EntryIdeal.main_arg5) = m ((c.tc : Thread Cert.EntryIdeal.nD Cert.EntryIdeal.τ).loc Cert.EntryIdeal.main_arg5))
      ∧ r.2.sem = fun _ => 0)

def quiescent_EntryReferenceIdeal [hEntryReferenceIdeal : Cert.EntryReferenceIdeal.Facts] : Prop :=
  ∀ (m : (ℓ : Loc Cert.EntryReferenceIdeal.nD Cert.EntryReferenceIdeal.τ Cert.EntryReferenceIdeal.sig) → Buf (Elt Ideal) ℓ) (g : Dev Cert.EntryReferenceIdeal.nD → PrngReg), Pre_EntryReferenceIdeal m →
    θ_run (Cert.EntryReferenceIdeal.defs (F := Ideal)) (onTc (τ := Cert.EntryReferenceIdeal.τ) (Cert.EntryReferenceIdeal.main (F := Ideal))) ⟨m, fun _ => 0, g⟩ (fun r => (∀ c : Dev Cert.EntryReferenceIdeal.nD,
      r.2.mem ((c.tc : Thread Cert.EntryReferenceIdeal.nD Cert.EntryReferenceIdeal.τ).loc Cert.EntryReferenceIdeal.main_arg0) = m ((c.tc : Thread Cert.EntryReferenceIdeal.nD Cert.EntryReferenceIdeal.τ).loc Cert.EntryReferenceIdeal.main_arg0)
      ∧ r.2.mem ((c.tc : Thread Cert.EntryReferenceIdeal.nD Cert.EntryReferenceIdeal.τ).loc Cert.EntryReferenceIdeal.main_arg1) = m ((c.tc : Thread Cert.EntryReferenceIdeal.nD Cert.EntryReferenceIdeal.τ).loc Cert.EntryReferenceIdeal.main_arg1)
      ∧ r.2.mem ((c.tc : Thread Cert.EntryReferenceIdeal.nD Cert.EntryReferenceIdeal.τ).loc Cert.EntryReferenceIdeal.main_arg2) = m ((c.tc : Thread Cert.EntryReferenceIdeal.nD Cert.EntryReferenceIdeal.τ).loc Cert.EntryReferenceIdeal.main_arg2)
      ∧ r.2.mem ((c.tc : Thread Cert.EntryReferenceIdeal.nD Cert.EntryReferenceIdeal.τ).loc Cert.EntryReferenceIdeal.main_arg3) = m ((c.tc : Thread Cert.EntryReferenceIdeal.nD Cert.EntryReferenceIdeal.τ).loc Cert.EntryReferenceIdeal.main_arg3)
      ∧ r.2.mem ((c.tc : Thread Cert.EntryReferenceIdeal.nD Cert.EntryReferenceIdeal.τ).loc Cert.EntryReferenceIdeal.main_arg4) = m ((c.tc : Thread Cert.EntryReferenceIdeal.nD Cert.EntryReferenceIdeal.τ).loc Cert.EntryReferenceIdeal.main_arg4)
      ∧ r.2.mem ((c.tc : Thread Cert.EntryReferenceIdeal.nD Cert.EntryReferenceIdeal.τ).loc Cert.EntryReferenceIdeal.main_arg5) = m ((c.tc : Thread Cert.EntryReferenceIdeal.nD Cert.EntryReferenceIdeal.τ).loc Cert.EntryReferenceIdeal.main_arg5))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormIdeal_pre_finite8 [hNormIdeal : Cert.NormIdeal.Facts] [hPre_finite8 : Cert.Pre_finite8.Facts] : Prop :=
  ∀ (m : (ℓ : Loc Cert.NormIdeal.nD Cert.NormIdeal.τ Cert.NormIdeal.sig) → Buf (Elt Ideal) ℓ) (g : Dev Cert.NormIdeal.nD → PrngReg), Pre_NormIdeal_finite8 m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2))
      ∧ r.2.sem = fun _ => 0)

def quiescent_NormReferenceIdeal_pre_finite8 [hNormReferenceIdeal : Cert.NormReferenceIdeal.Facts] [hPre_finite8 : Cert.Pre_finite8.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal_finite8 m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_Weight [hWeight : Cert.Weight.Facts] : Prop :=
  ∀ (m : (ℓ : Loc Cert.Weight.nD Cert.Weight.τ Cert.Weight.sig) → Buf (Elt Bits) ℓ) (g : Dev Cert.Weight.nD → PrngReg), Pre_Weight m →
    θ_run (Cert.Weight.defs (F := Bits)) (onTc (τ := Cert.Weight.τ) (Cert.Weight.main (F := Bits))) ⟨m, fun _ => 0, g⟩ (fun r => (∀ c : Dev Cert.Weight.nD,
      r.2.mem ((c.tc : Thread Cert.Weight.nD Cert.Weight.τ).loc Cert.Weight.main_arg0) = m ((c.tc : Thread Cert.Weight.nD Cert.Weight.τ).loc Cert.Weight.main_arg0)
      ∧ r.2.mem ((c.tc : Thread Cert.Weight.nD Cert.Weight.τ).loc Cert.Weight.main_arg1) = m ((c.tc : Thread Cert.Weight.nD Cert.Weight.τ).loc Cert.Weight.main_arg1)
      ∧ r.2.mem ((c.tc : Thread Cert.Weight.nD Cert.Weight.τ).loc Cert.Weight.main_arg2) = m ((c.tc : Thread Cert.Weight.nD Cert.Weight.τ).loc Cert.Weight.main_arg2)
      ∧ r.2.mem ((c.tc : Thread Cert.Weight.nD Cert.Weight.τ).loc Cert.Weight.main_arg3) = m ((c.tc : Thread Cert.Weight.nD Cert.Weight.τ).loc Cert.Weight.main_arg3)
      ∧ r.2.mem ((c.tc : Thread Cert.Weight.nD Cert.Weight.τ).loc Cert.Weight.main_arg4) = m ((c.tc : Thread Cert.Weight.nD Cert.Weight.τ).loc Cert.Weight.main_arg4))
      ∧ r.2.sem = fun _ => 0)

def quiescent_WeightIdeal [hWeightIdeal : Cert.WeightIdeal.Facts] : Prop :=
  ∀ (m : (ℓ : Loc Cert.WeightIdeal.nD Cert.WeightIdeal.τ Cert.WeightIdeal.sig) → Buf (Elt Ideal) ℓ) (g : Dev Cert.WeightIdeal.nD → PrngReg), Pre_WeightIdeal m →
    θ_run (Cert.WeightIdeal.defs (F := Ideal)) (onTc (τ := Cert.WeightIdeal.τ) (Cert.WeightIdeal.main (F := Ideal))) ⟨m, fun _ => 0, g⟩ (fun r => (∀ c : Dev Cert.WeightIdeal.nD,
      r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
      ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1)
      ∧ r.2.mem ((c.tc : Thread Cert.WeightIdeal.nD Cert.WeightIdeal.τ).loc Cert.WeightIdeal.main_arg2) = m ((c.tc : Thread Cert.WeightIdeal.nD Cert.WeightIdeal.τ).loc Cert.WeightIdeal.main_arg2)
      ∧ r.2.mem ((c.tc : Thread Cert.WeightIdeal.nD Cert.WeightIdeal.τ).loc Cert.WeightIdeal.main_arg3) = m ((c.tc : Thread Cert.WeightIdeal.nD Cert.WeightIdeal.τ).loc Cert.WeightIdeal.main_arg3)
      ∧ r.2.mem ((c.tc : Thread Cert.WeightIdeal.nD Cert.WeightIdeal.τ).loc Cert.WeightIdeal.main_arg4) = m ((c.tc : Thread Cert.WeightIdeal.nD Cert.WeightIdeal.τ).loc Cert.WeightIdeal.main_arg4))
      ∧ r.2.sem = fun _ => 0)

def quiescent_WeightReferenceIdeal [hWeightReferenceIdeal : Cert.WeightReferenceIdeal.Facts] : Prop :=
  ∀ (m : (ℓ : Loc Cert.WeightReferenceIdeal.nD Cert.WeightReferenceIdeal.τ Cert.WeightReferenceIdeal.sig) → Buf (Elt Ideal) ℓ) (g : Dev Cert.WeightReferenceIdeal.nD → PrngReg), Pre_WeightReferenceIdeal m →
    θ_run (Cert.WeightReferenceIdeal.defs (F := Ideal)) (onTc (τ := Cert.WeightReferenceIdeal.τ) (Cert.WeightReferenceIdeal.main (F := Ideal))) ⟨m, fun _ => 0, g⟩ (fun r => (∀ c : Dev Cert.WeightReferenceIdeal.nD,
      r.2.mem ((c.tc : Thread Cert.WeightReferenceIdeal.nD Cert.WeightReferenceIdeal.τ).loc Cert.WeightReferenceIdeal.main_arg0) = m ((c.tc : Thread Cert.WeightReferenceIdeal.nD Cert.WeightReferenceIdeal.τ).loc Cert.WeightReferenceIdeal.main_arg0)
      ∧ r.2.mem ((c.tc : Thread Cert.WeightReferenceIdeal.nD Cert.WeightReferenceIdeal.τ).loc Cert.WeightReferenceIdeal.main_arg1) = m ((c.tc : Thread Cert.WeightReferenceIdeal.nD Cert.WeightReferenceIdeal.τ).loc Cert.WeightReferenceIdeal.main_arg1)
      ∧ r.2.mem ((c.tc : Thread Cert.WeightReferenceIdeal.nD Cert.WeightReferenceIdeal.τ).loc Cert.WeightReferenceIdeal.main_arg2) = m ((c.tc : Thread Cert.WeightReferenceIdeal.nD Cert.WeightReferenceIdeal.τ).loc Cert.WeightReferenceIdeal.main_arg2)
      ∧ r.2.mem ((c.tc : Thread Cert.WeightReferenceIdeal.nD Cert.WeightReferenceIdeal.τ).loc Cert.WeightReferenceIdeal.main_arg3) = m ((c.tc : Thread Cert.WeightReferenceIdeal.nD Cert.WeightReferenceIdeal.τ).loc Cert.WeightReferenceIdeal.main_arg3)
      ∧ r.2.mem ((c.tc : Thread Cert.WeightReferenceIdeal.nD Cert.WeightReferenceIdeal.τ).loc Cert.WeightReferenceIdeal.main_arg4) = m ((c.tc : Thread Cert.WeightReferenceIdeal.nD Cert.WeightReferenceIdeal.τ).loc Cert.WeightReferenceIdeal.main_arg4))
      ∧ r.2.sem = fun _ => 0)

def quiescent_Low [hLow : Cert.Low.Facts] : Prop :=
  ∀ (m : (ℓ : Loc Cert.Low.nD Cert.Low.τ Cert.Low.sig) → Buf (Elt Bits) ℓ) (g : Dev Cert.Low.nD → PrngReg), Pre_Low m →
    θ_run (Cert.Low.defs (F := Bits)) (onTc (τ := Cert.Low.τ) (Cert.Low.main (F := Bits))) ⟨m, fun _ => 0, g⟩ (fun r => (∀ c : Dev Cert.Low.nD,
      r.2.mem ((c.tc : Thread Cert.Low.nD Cert.Low.τ).loc Cert.Low.main_arg0) = m ((c.tc : Thread Cert.Low.nD Cert.Low.τ).loc Cert.Low.main_arg0)
      ∧ r.2.mem ((c.tc : Thread Cert.Low.nD Cert.Low.τ).loc Cert.Low.main_arg1) = m ((c.tc : Thread Cert.Low.nD Cert.Low.τ).loc Cert.Low.main_arg1)
      ∧ r.2.mem ((c.tc : Thread Cert.Low.nD Cert.Low.τ).loc Cert.Low.main_arg2) = m ((c.tc : Thread Cert.Low.nD Cert.Low.τ).loc Cert.Low.main_arg2)
      ∧ r.2.mem ((c.tc : Thread Cert.Low.nD Cert.Low.τ).loc Cert.Low.main_arg3) = m ((c.tc : Thread Cert.Low.nD Cert.Low.τ).loc Cert.Low.main_arg3)
      ∧ r.2.mem ((c.tc : Thread Cert.Low.nD Cert.Low.τ).loc Cert.Low.main_arg4) = m ((c.tc : Thread Cert.Low.nD Cert.Low.τ).loc Cert.Low.main_arg4)
      ∧ r.2.mem ((c.tc : Thread Cert.Low.nD Cert.Low.τ).loc Cert.Low.main_arg5) = m ((c.tc : Thread Cert.Low.nD Cert.Low.τ).loc Cert.Low.main_arg5)
      ∧ r.2.mem ((c.tc : Thread Cert.Low.nD Cert.Low.τ).loc Cert.Low.main_arg6) = m ((c.tc : Thread Cert.Low.nD Cert.Low.τ).loc Cert.Low.main_arg6))
      ∧ r.2.sem = fun _ => 0)

def quiescent_LowIdeal [hLowIdeal : Cert.LowIdeal.Facts] : Prop :=
  ∀ (m : (ℓ : Loc Cert.LowIdeal.nD Cert.LowIdeal.τ Cert.LowIdeal.sig) → Buf (Elt Ideal) ℓ) (g : Dev Cert.LowIdeal.nD → PrngReg), Pre_LowIdeal m →
    θ_run (Cert.LowIdeal.defs (F := Ideal)) (onTc (τ := Cert.LowIdeal.τ) (Cert.LowIdeal.main (F := Ideal))) ⟨m, fun _ => 0, g⟩ (fun r => (∀ c : Dev Cert.LowIdeal.nD,
      r.2.mem ((c.tc : Thread Cert.LowIdeal.nD Cert.LowIdeal.τ).loc Cert.LowIdeal.main_arg0) = m ((c.tc : Thread Cert.LowIdeal.nD Cert.LowIdeal.τ).loc Cert.LowIdeal.main_arg0)
      ∧ r.2.mem ((c.tc : Thread Cert.LowIdeal.nD Cert.LowIdeal.τ).loc Cert.LowIdeal.main_arg1) = m ((c.tc : Thread Cert.LowIdeal.nD Cert.LowIdeal.τ).loc Cert.LowIdeal.main_arg1)
      ∧ r.2.mem ((c.tc : Thread Cert.LowIdeal.nD Cert.LowIdeal.τ).loc Cert.LowIdeal.main_arg2) = m ((c.tc : Thread Cert.LowIdeal.nD Cert.LowIdeal.τ).loc Cert.LowIdeal.main_arg2)
      ∧ r.2.mem ((c.tc : Thread Cert.LowIdeal.nD Cert.LowIdeal.τ).loc Cert.LowIdeal.main_arg3) = m ((c.tc : Thread Cert.LowIdeal.nD Cert.LowIdeal.τ).loc Cert.LowIdeal.main_arg3)
      ∧ r.2.mem ((c.tc : Thread Cert.LowIdeal.nD Cert.LowIdeal.τ).loc Cert.LowIdeal.main_arg4) = m ((c.tc : Thread Cert.LowIdeal.nD Cert.LowIdeal.τ).loc Cert.LowIdeal.main_arg4)
      ∧ r.2.mem ((c.tc : Thread Cert.LowIdeal.nD Cert.LowIdeal.τ).loc Cert.LowIdeal.main_arg5) = m ((c.tc : Thread Cert.LowIdeal.nD Cert.LowIdeal.τ).loc Cert.LowIdeal.main_arg5)
      ∧ r.2.mem ((c.tc : Thread Cert.LowIdeal.nD Cert.LowIdeal.τ).loc Cert.LowIdeal.main_arg6) = m ((c.tc : Thread Cert.LowIdeal.nD Cert.LowIdeal.τ).loc Cert.LowIdeal.main_arg6))
      ∧ r.2.sem = fun _ => 0)

def quiescent_LowReferenceIdeal [hLowReferenceIdeal : Cert.LowReferenceIdeal.Facts] : Prop :=
  ∀ (m : (ℓ : Loc Cert.LowReferenceIdeal.nD Cert.LowReferenceIdeal.τ Cert.LowReferenceIdeal.sig) → Buf (Elt Ideal) ℓ) (g : Dev Cert.LowReferenceIdeal.nD → PrngReg), Pre_LowReferenceIdeal m →
    θ_run (Cert.LowReferenceIdeal.defs (F := Ideal)) (onTc (τ := Cert.LowReferenceIdeal.τ) (Cert.LowReferenceIdeal.main (F := Ideal))) ⟨m, fun _ => 0, g⟩ (fun r => (∀ c : Dev Cert.LowReferenceIdeal.nD,
      r.2.mem ((c.tc : Thread Cert.LowReferenceIdeal.nD Cert.LowReferenceIdeal.τ).loc Cert.LowReferenceIdeal.main_arg0) = m ((c.tc : Thread Cert.LowReferenceIdeal.nD Cert.LowReferenceIdeal.τ).loc Cert.LowReferenceIdeal.main_arg0)
      ∧ r.2.mem ((c.tc : Thread Cert.LowReferenceIdeal.nD Cert.LowReferenceIdeal.τ).loc Cert.LowReferenceIdeal.main_arg1) = m ((c.tc : Thread Cert.LowReferenceIdeal.nD Cert.LowReferenceIdeal.τ).loc Cert.LowReferenceIdeal.main_arg1)
      ∧ r.2.mem ((c.tc : Thread Cert.LowReferenceIdeal.nD Cert.LowReferenceIdeal.τ).loc Cert.LowReferenceIdeal.main_arg2) = m ((c.tc : Thread Cert.LowReferenceIdeal.nD Cert.LowReferenceIdeal.τ).loc Cert.LowReferenceIdeal.main_arg2)
      ∧ r.2.mem ((c.tc : Thread Cert.LowReferenceIdeal.nD Cert.LowReferenceIdeal.τ).loc Cert.LowReferenceIdeal.main_arg3) = m ((c.tc : Thread Cert.LowReferenceIdeal.nD Cert.LowReferenceIdeal.τ).loc Cert.LowReferenceIdeal.main_arg3)
      ∧ r.2.mem ((c.tc : Thread Cert.LowReferenceIdeal.nD Cert.LowReferenceIdeal.τ).loc Cert.LowReferenceIdeal.main_arg4) = m ((c.tc : Thread Cert.LowReferenceIdeal.nD Cert.LowReferenceIdeal.τ).loc Cert.LowReferenceIdeal.main_arg4)
      ∧ r.2.mem ((c.tc : Thread Cert.LowReferenceIdeal.nD Cert.LowReferenceIdeal.τ).loc Cert.LowReferenceIdeal.main_arg5) = m ((c.tc : Thread Cert.LowReferenceIdeal.nD Cert.LowReferenceIdeal.τ).loc Cert.LowReferenceIdeal.main_arg5)
      ∧ r.2.mem ((c.tc : Thread Cert.LowReferenceIdeal.nD Cert.LowReferenceIdeal.τ).loc Cert.LowReferenceIdeal.main_arg6) = m ((c.tc : Thread Cert.LowReferenceIdeal.nD Cert.LowReferenceIdeal.τ).loc Cert.LowReferenceIdeal.main_arg6))
      ∧ r.2.sem = fun _ => 0)

def quiescent_Lay [hLay : Cert.Lay.Facts] : Prop :=
  ∀ (m : (ℓ : Loc Cert.Lay.nD Cert.Lay.τ Cert.Lay.sig) → Buf (Elt Bits) ℓ) (g : Dev Cert.Lay.nD → PrngReg), Pre_Lay m →
    θ_run (Cert.Lay.defs (F := Bits)) (onTc (τ := Cert.Lay.τ) (Cert.Lay.main (F := Bits))) ⟨m, fun _ => 0, g⟩ (fun r => (∀ c : Dev Cert.Lay.nD,
      r.2.mem ((c.tc : Thread Cert.Lay.nD Cert.Lay.τ).loc Cert.Lay.main_arg0) = m ((c.tc : Thread Cert.Lay.nD Cert.Lay.τ).loc Cert.Lay.main_arg0)
      ∧ r.2.mem ((c.tc : Thread Cert.Lay.nD Cert.Lay.τ).loc Cert.Lay.main_arg1) = m ((c.tc : Thread Cert.Lay.nD Cert.Lay.τ).loc Cert.Lay.main_arg1)
      ∧ r.2.mem ((c.tc : Thread Cert.Lay.nD Cert.Lay.τ).loc Cert.Lay.main_arg2) = m ((c.tc : Thread Cert.Lay.nD Cert.Lay.τ).loc Cert.Lay.main_arg2)
      ∧ r.2.mem ((c.tc : Thread Cert.Lay.nD Cert.Lay.τ).loc Cert.Lay.main_arg3) = m ((c.tc : Thread Cert.Lay.nD Cert.Lay.τ).loc Cert.Lay.main_arg3)
      ∧ r.2.mem ((c.tc : Thread Cert.Lay.nD Cert.Lay.τ).loc Cert.Lay.main_arg4) = m ((c.tc : Thread Cert.Lay.nD Cert.Lay.τ).loc Cert.Lay.main_arg4)
      ∧ r.2.mem ((c.tc : Thread Cert.Lay.nD Cert.Lay.τ).loc Cert.Lay.main_arg5) = m ((c.tc : Thread Cert.Lay.nD Cert.Lay.τ).loc Cert.Lay.main_arg5))
      ∧ r.2.sem = fun _ => 0)

def quiescent_LayIdeal [hLayIdeal : Cert.LayIdeal.Facts] : Prop :=
  ∀ (m : (ℓ : Loc Cert.LayIdeal.nD Cert.LayIdeal.τ Cert.LayIdeal.sig) → Buf (Elt Ideal) ℓ) (g : Dev Cert.LayIdeal.nD → PrngReg), Pre_LayIdeal m →
    θ_run (Cert.LayIdeal.defs (F := Ideal)) (onTc (τ := Cert.LayIdeal.τ) (Cert.LayIdeal.main (F := Ideal))) ⟨m, fun _ => 0, g⟩ (fun r => (∀ c : Dev Cert.LayIdeal.nD,
      r.2.mem ((c.tc : Thread Cert.LayIdeal.nD Cert.LayIdeal.τ).loc Cert.LayIdeal.main_arg0) = m ((c.tc : Thread Cert.LayIdeal.nD Cert.LayIdeal.τ).loc Cert.LayIdeal.main_arg0)
      ∧ r.2.mem ((c.tc : Thread Cert.LayIdeal.nD Cert.LayIdeal.τ).loc Cert.LayIdeal.main_arg1) = m ((c.tc : Thread Cert.LayIdeal.nD Cert.LayIdeal.τ).loc Cert.LayIdeal.main_arg1)
      ∧ r.2.mem ((c.tc : Thread Cert.LayIdeal.nD Cert.LayIdeal.τ).loc Cert.LayIdeal.main_arg2) = m ((c.tc : Thread Cert.LayIdeal.nD Cert.LayIdeal.τ).loc Cert.LayIdeal.main_arg2)
      ∧ r.2.mem ((c.tc : Thread Cert.LayIdeal.nD Cert.LayIdeal.τ).loc Cert.LayIdeal.main_arg3) = m ((c.tc : Thread Cert.LayIdeal.nD Cert.LayIdeal.τ).loc Cert.LayIdeal.main_arg3)
      ∧ r.2.mem ((c.tc : Thread Cert.LayIdeal.nD Cert.LayIdeal.τ).loc Cert.LayIdeal.main_arg4) = m ((c.tc : Thread Cert.LayIdeal.nD Cert.LayIdeal.τ).loc Cert.LayIdeal.main_arg4)
      ∧ r.2.mem ((c.tc : Thread Cert.LayIdeal.nD Cert.LayIdeal.τ).loc Cert.LayIdeal.main_arg5) = m ((c.tc : Thread Cert.LayIdeal.nD Cert.LayIdeal.τ).loc Cert.LayIdeal.main_arg5))
      ∧ r.2.sem = fun _ => 0)

def quiescent_LayReferenceIdeal [hLayReferenceIdeal : Cert.LayReferenceIdeal.Facts] : Prop :=
  ∀ (m : (ℓ : Loc Cert.LayReferenceIdeal.nD Cert.LayReferenceIdeal.τ Cert.LayReferenceIdeal.sig) → Buf (Elt Ideal) ℓ) (g : Dev Cert.LayReferenceIdeal.nD → PrngReg), Pre_LayReferenceIdeal m →
    θ_run (Cert.LayReferenceIdeal.defs (F := Ideal)) (onTc (τ := Cert.LayReferenceIdeal.τ) (Cert.LayReferenceIdeal.main (F := Ideal))) ⟨m, fun _ => 0, g⟩ (fun r => (∀ c : Dev Cert.LayReferenceIdeal.nD,
      r.2.mem ((c.tc : Thread Cert.LayReferenceIdeal.nD Cert.LayReferenceIdeal.τ).loc Cert.LayReferenceIdeal.main_arg0) = m ((c.tc : Thread Cert.LayReferenceIdeal.nD Cert.LayReferenceIdeal.τ).loc Cert.LayReferenceIdeal.main_arg0)
      ∧ r.2.mem ((c.tc : Thread Cert.LayReferenceIdeal.nD Cert.LayReferenceIdeal.τ).loc Cert.LayReferenceIdeal.main_arg1) = m ((c.tc : Thread Cert.LayReferenceIdeal.nD Cert.LayReferenceIdeal.τ).loc Cert.LayReferenceIdeal.main_arg1)
      ∧ r.2.mem ((c.tc : Thread Cert.LayReferenceIdeal.nD Cert.LayReferenceIdeal.τ).loc Cert.LayReferenceIdeal.main_arg2) = m ((c.tc : Thread Cert.LayReferenceIdeal.nD Cert.LayReferenceIdeal.τ).loc Cert.LayReferenceIdeal.main_arg2)
      ∧ r.2.mem ((c.tc : Thread Cert.LayReferenceIdeal.nD Cert.LayReferenceIdeal.τ).loc Cert.LayReferenceIdeal.main_arg3) = m ((c.tc : Thread Cert.LayReferenceIdeal.nD Cert.LayReferenceIdeal.τ).loc Cert.LayReferenceIdeal.main_arg3)
      ∧ r.2.mem ((c.tc : Thread Cert.LayReferenceIdeal.nD Cert.LayReferenceIdeal.τ).loc Cert.LayReferenceIdeal.main_arg4) = m ((c.tc : Thread Cert.LayReferenceIdeal.nD Cert.LayReferenceIdeal.τ).loc Cert.LayReferenceIdeal.main_arg4)
      ∧ r.2.mem ((c.tc : Thread Cert.LayReferenceIdeal.nD Cert.LayReferenceIdeal.τ).loc Cert.LayReferenceIdeal.main_arg5) = m ((c.tc : Thread Cert.LayReferenceIdeal.nD Cert.LayReferenceIdeal.τ).loc Cert.LayReferenceIdeal.main_arg5))
      ∧ r.2.sem = fun _ => 0)

def preserves_Kernel_KernelIdeal : Prop :=
  IdealRules.named_const.Statement Cert.KernelIdeal.κ "scale_log2" .f32 0x3E16C740#32 (((3424635 / 33554432) * (Real.log 2)⁻¹ : ℝ) : EReal)
  ∧ IdealRules.named_const.Statement Cert.KernelIdeal.κ "neg" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)) (v2 : (c : Dev Cert.KernelIdeal.nD) → Buf (Elt Ideal) ((c.tc : Thread Cert.KernelIdeal.nD Cert.KernelIdeal.τ).loc Cert.KernelIdeal.main_v44_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_v44_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Feed_FeedIdeal : Prop :=
  True

def algebraic_FeedIdeal_FeedReferenceIdeal_pre_finite2 [hFeedIdeal : Cert.FeedIdeal.Facts] [hFeedReferenceIdeal : Cert.FeedReferenceIdeal.Facts] [hPre_finite2 : Cert.Pre_finite2.Facts] : Prop :=
  ∀ (m : (ℓ : Loc Cert.FeedIdeal.nD Cert.FeedIdeal.τ Cert.FeedIdeal.sig) → Buf (Elt Ideal) ℓ) (g : Dev Cert.FeedIdeal.nD → PrngReg)
    (m' : (ℓ : Loc Cert.FeedReferenceIdeal.nD Cert.FeedReferenceIdeal.τ Cert.FeedReferenceIdeal.sig) → Buf (Elt Ideal) ℓ) (g' : Dev Cert.FeedReferenceIdeal.nD → PrngReg), Pre_FeedIdeal_finite2 m →
    (∀ c : Dev Cert.FeedIdeal.nD,
      m' ((c.tc : Thread Cert.FeedReferenceIdeal.nD Cert.FeedReferenceIdeal.τ).loc Cert.FeedReferenceIdeal.main_arg0) = m ((c.tc : Thread Cert.FeedIdeal.nD Cert.FeedIdeal.τ).loc Cert.FeedIdeal.main_arg0)
      ∧ m' ((c.tc : Thread Cert.FeedReferenceIdeal.nD Cert.FeedReferenceIdeal.τ).loc Cert.FeedReferenceIdeal.main_arg1) = m ((c.tc : Thread Cert.FeedIdeal.nD Cert.FeedIdeal.τ).loc Cert.FeedIdeal.main_arg1)
      ∧ m' ((c.tc : Thread Cert.FeedReferenceIdeal.nD Cert.FeedReferenceIdeal.τ).loc Cert.FeedReferenceIdeal.main_arg2) = m ((c.tc : Thread Cert.FeedIdeal.nD Cert.FeedIdeal.τ).loc Cert.FeedIdeal.main_arg2)
      ∧ m' ((c.tc : Thread Cert.FeedReferenceIdeal.nD Cert.FeedReferenceIdeal.τ).loc Cert.FeedReferenceIdeal.main_arg3) = m ((c.tc : Thread Cert.FeedIdeal.nD Cert.FeedIdeal.τ).loc Cert.FeedIdeal.main_arg3)
      ∧ m' ((c.tc : Thread Cert.FeedReferenceIdeal.nD Cert.FeedReferenceIdeal.τ).loc Cert.FeedReferenceIdeal.main_arg4) = m ((c.tc : Thread Cert.FeedIdeal.nD Cert.FeedIdeal.τ).loc Cert.FeedIdeal.main_arg4)
      ∧ m' ((c.tc : Thread Cert.FeedReferenceIdeal.nD Cert.FeedReferenceIdeal.τ).loc Cert.FeedReferenceIdeal.main_arg5) = m ((c.tc : Thread Cert.FeedIdeal.nD Cert.FeedIdeal.τ).loc Cert.FeedIdeal.main_arg5)) →
    ∃ (v0 : (c : Dev Cert.FeedIdeal.nD) → Buf (Elt Ideal) ((c.tc : Thread Cert.FeedIdeal.nD Cert.FeedIdeal.τ).loc Cert.FeedIdeal.main_v12)) (v1 : (c : Dev Cert.FeedIdeal.nD) → Buf (Elt Ideal) ((c.tc : Thread Cert.FeedIdeal.nD Cert.FeedIdeal.τ).loc Cert.FeedIdeal.main_v13)) (v2 : (c : Dev Cert.FeedIdeal.nD) → Buf (Elt Ideal) ((c.tc : Thread Cert.FeedIdeal.nD Cert.FeedIdeal.τ).loc Cert.FeedIdeal.main_v14_0)) (v3 : (c : Dev Cert.FeedIdeal.nD) → Buf (Elt Ideal) ((c.tc : Thread Cert.FeedIdeal.nD Cert.FeedIdeal.τ).loc Cert.FeedIdeal.main_v14_1)) (v4 : (c : Dev Cert.FeedIdeal.nD) → Buf (Elt Ideal) ((c.tc : Thread Cert.FeedIdeal.nD Cert.FeedIdeal.τ).loc Cert.FeedIdeal.main_v15)) (v5 : (c : Dev Cert.FeedIdeal.nD) → Buf (Elt Ideal) ((c.tc : Thread Cert.FeedIdeal.nD Cert.FeedIdeal.τ).loc Cert.FeedIdeal.main_v16)),
      θ_run (Cert.FeedIdeal.defs (F := Ideal)) (onTc (τ := Cert.FeedIdeal.τ) (Cert.FeedIdeal.main (F := Ideal))) ⟨m, fun _ => 0, g⟩ (fun r => ∀ c : Dev Cert.FeedIdeal.nD,
          r.2.mem ((c.tc : Thread Cert.FeedIdeal.nD Cert.FeedIdeal.τ).loc Cert.FeedIdeal.main_v12) = v0 c
          ∧ r.2.mem ((c.tc : Thread Cert.FeedIdeal.nD Cert.FeedIdeal.τ).loc Cert.FeedIdeal.main_v13) = v1 c
          ∧ r.2.mem ((c.tc : Thread Cert.FeedIdeal.nD Cert.FeedIdeal.τ).loc Cert.FeedIdeal.main_v14_0) = v2 c
          ∧ r.2.mem ((c.tc : Thread Cert.FeedIdeal.nD Cert.FeedIdeal.τ).loc Cert.FeedIdeal.main_v14_1) = v3 c
          ∧ r.2.mem ((c.tc : Thread Cert.FeedIdeal.nD Cert.FeedIdeal.τ).loc Cert.FeedIdeal.main_v15) = v4 c
          ∧ r.2.mem ((c.tc : Thread Cert.FeedIdeal.nD Cert.FeedIdeal.τ).loc Cert.FeedIdeal.main_v16) = v5 c
          ∧ r.2.mem ((c.tc : Thread Cert.FeedIdeal.nD Cert.FeedIdeal.τ).loc Cert.FeedIdeal.main_arg0) = m ((c.tc : Thread Cert.FeedIdeal.nD Cert.FeedIdeal.τ).loc Cert.FeedIdeal.main_arg0)
          ∧ r.2.mem ((c.tc : Thread Cert.FeedIdeal.nD Cert.FeedIdeal.τ).loc Cert.FeedIdeal.main_arg1) = m ((c.tc : Thread Cert.FeedIdeal.nD Cert.FeedIdeal.τ).loc Cert.FeedIdeal.main_arg1)
          ∧ r.2.mem ((c.tc : Thread Cert.FeedIdeal.nD Cert.FeedIdeal.τ).loc Cert.FeedIdeal.main_arg2) = m ((c.tc : Thread Cert.FeedIdeal.nD Cert.FeedIdeal.τ).loc Cert.FeedIdeal.main_arg2)
          ∧ r.2.mem ((c.tc : Thread Cert.FeedIdeal.nD Cert.FeedIdeal.τ).loc Cert.FeedIdeal.main_arg3) = m ((c.tc : Thread Cert.FeedIdeal.nD Cert.FeedIdeal.τ).loc Cert.FeedIdeal.main_arg3)
          ∧ r.2.mem ((c.tc : Thread Cert.FeedIdeal.nD Cert.FeedIdeal.τ).loc Cert.FeedIdeal.main_arg4) = m ((c.tc : Thread Cert.FeedIdeal.nD Cert.FeedIdeal.τ).loc Cert.FeedIdeal.main_arg4)
          ∧ r.2.mem ((c.tc : Thread Cert.FeedIdeal.nD Cert.FeedIdeal.τ).loc Cert.FeedIdeal.main_arg5) = m ((c.tc : Thread Cert.FeedIdeal.nD Cert.FeedIdeal.τ).loc Cert.FeedIdeal.main_arg5))
      ∧ θ_run (Cert.FeedReferenceIdeal.defs (F := Ideal)) (onTc (τ := Cert.FeedReferenceIdeal.τ) (Cert.FeedReferenceIdeal.main (F := Ideal))) ⟨m', fun _ => 0, g'⟩ (fun r => ∀ c : Dev Cert.FeedReferenceIdeal.nD,
          r.2.mem ((c.tc : Thread Cert.FeedReferenceIdeal.nD Cert.FeedReferenceIdeal.τ).loc Cert.FeedReferenceIdeal.main_v21) = v0 c
          ∧ r.2.mem ((c.tc : Thread Cert.FeedReferenceIdeal.nD Cert.FeedReferenceIdeal.τ).loc Cert.FeedReferenceIdeal.main_v23) = v1 c
          ∧ r.2.mem ((c.tc : Thread Cert.FeedReferenceIdeal.nD Cert.FeedReferenceIdeal.τ).loc Cert.FeedReferenceIdeal.main_v26) = v2 c
          ∧ r.2.mem ((c.tc : Thread Cert.FeedReferenceIdeal.nD Cert.FeedReferenceIdeal.τ).loc Cert.FeedReferenceIdeal.main_v29) = v3 c
          ∧ r.2.mem ((c.tc : Thread Cert.FeedReferenceIdeal.nD Cert.FeedReferenceIdeal.τ).loc Cert.FeedReferenceIdeal.main_v32) = v4 c
          ∧ r.2.mem ((c.tc : Thread Cert.FeedReferenceIdeal.nD Cert.FeedReferenceIdeal.τ).loc Cert.FeedReferenceIdeal.main_v35) = v5 c
          ∧ r.2.mem ((c.tc : Thread Cert.FeedReferenceIdeal.nD Cert.FeedReferenceIdeal.τ).loc Cert.FeedReferenceIdeal.main_arg0) = m' ((c.tc : Thread Cert.FeedReferenceIdeal.nD Cert.FeedReferenceIdeal.τ).loc Cert.FeedReferenceIdeal.main_arg0)
          ∧ r.2.mem ((c.tc : Thread Cert.FeedReferenceIdeal.nD Cert.FeedReferenceIdeal.τ).loc Cert.FeedReferenceIdeal.main_arg1) = m' ((c.tc : Thread Cert.FeedReferenceIdeal.nD Cert.FeedReferenceIdeal.τ).loc Cert.FeedReferenceIdeal.main_arg1)
          ∧ r.2.mem ((c.tc : Thread Cert.FeedReferenceIdeal.nD Cert.FeedReferenceIdeal.τ).loc Cert.FeedReferenceIdeal.main_arg2) = m' ((c.tc : Thread Cert.FeedReferenceIdeal.nD Cert.FeedReferenceIdeal.τ).loc Cert.FeedReferenceIdeal.main_arg2)
          ∧ r.2.mem ((c.tc : Thread Cert.FeedReferenceIdeal.nD Cert.FeedReferenceIdeal.τ).loc Cert.FeedReferenceIdeal.main_arg3) = m' ((c.tc : Thread Cert.FeedReferenceIdeal.nD Cert.FeedReferenceIdeal.τ).loc Cert.FeedReferenceIdeal.main_arg3)
          ∧ r.2.mem ((c.tc : Thread Cert.FeedReferenceIdeal.nD Cert.FeedReferenceIdeal.τ).loc Cert.FeedReferenceIdeal.main_arg4) = m' ((c.tc : Thread Cert.FeedReferenceIdeal.nD Cert.FeedReferenceIdeal.τ).loc Cert.FeedReferenceIdeal.main_arg4)
          ∧ r.2.mem ((c.tc : Thread Cert.FeedReferenceIdeal.nD Cert.FeedReferenceIdeal.τ).loc Cert.FeedReferenceIdeal.main_arg5) = m' ((c.tc : Thread Cert.FeedReferenceIdeal.nD Cert.FeedReferenceIdeal.τ).loc Cert.FeedReferenceIdeal.main_arg5))

def preserves_Joint_JointIdeal : Prop :=
  True

def algebraic_JointIdeal_JointReferenceIdeal [hJointIdeal : Cert.JointIdeal.Facts] [hJointReferenceIdeal : Cert.JointReferenceIdeal.Facts] : Prop :=
  ∀ (m : (ℓ : Loc Cert.JointIdeal.nD Cert.JointIdeal.τ Cert.JointIdeal.sig) → Buf (Elt Ideal) ℓ) (g : Dev Cert.JointIdeal.nD → PrngReg)
    (m' : (ℓ : Loc Cert.JointReferenceIdeal.nD Cert.JointReferenceIdeal.τ Cert.JointReferenceIdeal.sig) → Buf (Elt Ideal) ℓ) (g' : Dev Cert.JointReferenceIdeal.nD → PrngReg), Pre_JointIdeal m →
    (∀ c : Dev Cert.JointIdeal.nD,
      m' ((c.tc : Thread Cert.JointReferenceIdeal.nD Cert.JointReferenceIdeal.τ).loc Cert.JointReferenceIdeal.main_arg0) = m ((c.tc : Thread Cert.JointIdeal.nD Cert.JointIdeal.τ).loc Cert.JointIdeal.main_arg0)
      ∧ m' ((c.tc : Thread Cert.JointReferenceIdeal.nD Cert.JointReferenceIdeal.τ).loc Cert.JointReferenceIdeal.main_arg1) = m ((c.tc : Thread Cert.JointIdeal.nD Cert.JointIdeal.τ).loc Cert.JointIdeal.main_arg1)
      ∧ m' ((c.tc : Thread Cert.JointReferenceIdeal.nD Cert.JointReferenceIdeal.τ).loc Cert.JointReferenceIdeal.main_arg2) = m ((c.tc : Thread Cert.JointIdeal.nD Cert.JointIdeal.τ).loc Cert.JointIdeal.main_arg2)
      ∧ m' ((c.tc : Thread Cert.JointReferenceIdeal.nD Cert.JointReferenceIdeal.τ).loc Cert.JointReferenceIdeal.main_arg3) = m ((c.tc : Thread Cert.JointIdeal.nD Cert.JointIdeal.τ).loc Cert.JointIdeal.main_arg3)
      ∧ m' ((c.tc : Thread Cert.JointReferenceIdeal.nD Cert.JointReferenceIdeal.τ).loc Cert.JointReferenceIdeal.main_arg4) = m ((c.tc : Thread Cert.JointIdeal.nD Cert.JointIdeal.τ).loc Cert.JointIdeal.main_arg4)
      ∧ m' ((c.tc : Thread Cert.JointReferenceIdeal.nD Cert.JointReferenceIdeal.τ).loc Cert.JointReferenceIdeal.main_arg5) = m ((c.tc : Thread Cert.JointIdeal.nD Cert.JointIdeal.τ).loc Cert.JointIdeal.main_arg5)
      ∧ m' ((c.tc : Thread Cert.JointReferenceIdeal.nD Cert.JointReferenceIdeal.τ).loc Cert.JointReferenceIdeal.main_arg6) = m ((c.tc : Thread Cert.JointIdeal.nD Cert.JointIdeal.τ).loc Cert.JointIdeal.main_arg6)) →
    ∃ (v0 : (c : Dev Cert.JointIdeal.nD) → Buf (Elt Ideal) ((c.tc : Thread Cert.JointIdeal.nD Cert.JointIdeal.τ).loc Cert.JointIdeal.main_v9)),
      θ_run (Cert.JointIdeal.defs (F := Ideal)) (onTc (τ := Cert.JointIdeal.τ) (Cert.JointIdeal.main (F := Ideal))) ⟨m, fun _ => 0, g⟩ (fun r => ∀ c : Dev Cert.JointIdeal.nD,
          r.2.mem ((c.tc : Thread Cert.JointIdeal.nD Cert.JointIdeal.τ).loc Cert.JointIdeal.main_v9) = v0 c
          ∧ r.2.mem ((c.tc : Thread Cert.JointIdeal.nD Cert.JointIdeal.τ).loc Cert.JointIdeal.main_arg0) = m ((c.tc : Thread Cert.JointIdeal.nD Cert.JointIdeal.τ).loc Cert.JointIdeal.main_arg0)
          ∧ r.2.mem ((c.tc : Thread Cert.JointIdeal.nD Cert.JointIdeal.τ).loc Cert.JointIdeal.main_arg1) = m ((c.tc : Thread Cert.JointIdeal.nD Cert.JointIdeal.τ).loc Cert.JointIdeal.main_arg1)
          ∧ r.2.mem ((c.tc : Thread Cert.JointIdeal.nD Cert.JointIdeal.τ).loc Cert.JointIdeal.main_arg2) = m ((c.tc : Thread Cert.JointIdeal.nD Cert.JointIdeal.τ).loc Cert.JointIdeal.main_arg2)
          ∧ r.2.mem ((c.tc : Thread Cert.JointIdeal.nD Cert.JointIdeal.τ).loc Cert.JointIdeal.main_arg3) = m ((c.tc : Thread Cert.JointIdeal.nD Cert.JointIdeal.τ).loc Cert.JointIdeal.main_arg3)
          ∧ r.2.mem ((c.tc : Thread Cert.JointIdeal.nD Cert.JointIdeal.τ).loc Cert.JointIdeal.main_arg4) = m ((c.tc : Thread Cert.JointIdeal.nD Cert.JointIdeal.τ).loc Cert.JointIdeal.main_arg4)
          ∧ r.2.mem ((c.tc : Thread Cert.JointIdeal.nD Cert.JointIdeal.τ).loc Cert.JointIdeal.main_arg5) = m ((c.tc : Thread Cert.JointIdeal.nD Cert.JointIdeal.τ).loc Cert.JointIdeal.main_arg5)
          ∧ r.2.mem ((c.tc : Thread Cert.JointIdeal.nD Cert.JointIdeal.τ).loc Cert.JointIdeal.main_arg6) = m ((c.tc : Thread Cert.JointIdeal.nD Cert.JointIdeal.τ).loc Cert.JointIdeal.main_arg6))
      ∧ θ_run (Cert.JointReferenceIdeal.defs (F := Ideal)) (onTc (τ := Cert.JointReferenceIdeal.τ) (Cert.JointReferenceIdeal.main (F := Ideal))) ⟨m', fun _ => 0, g'⟩ (fun r => ∀ c : Dev Cert.JointReferenceIdeal.nD,
          r.2.mem ((c.tc : Thread Cert.JointReferenceIdeal.nD Cert.JointReferenceIdeal.τ).loc Cert.JointReferenceIdeal.main_v19) = v0 c
          ∧ r.2.mem ((c.tc : Thread Cert.JointReferenceIdeal.nD Cert.JointReferenceIdeal.τ).loc Cert.JointReferenceIdeal.main_arg0) = m' ((c.tc : Thread Cert.JointReferenceIdeal.nD Cert.JointReferenceIdeal.τ).loc Cert.JointReferenceIdeal.main_arg0)
          ∧ r.2.mem ((c.tc : Thread Cert.JointReferenceIdeal.nD Cert.JointReferenceIdeal.τ).loc Cert.JointReferenceIdeal.main_arg1) = m' ((c.tc : Thread Cert.JointReferenceIdeal.nD Cert.JointReferenceIdeal.τ).loc Cert.JointReferenceIdeal.main_arg1)
          ∧ r.2.mem ((c.tc : Thread Cert.JointReferenceIdeal.nD Cert.JointReferenceIdeal.τ).loc Cert.JointReferenceIdeal.main_arg2) = m' ((c.tc : Thread Cert.JointReferenceIdeal.nD Cert.JointReferenceIdeal.τ).loc Cert.JointReferenceIdeal.main_arg2)
          ∧ r.2.mem ((c.tc : Thread Cert.JointReferenceIdeal.nD Cert.JointReferenceIdeal.τ).loc Cert.JointReferenceIdeal.main_arg3) = m' ((c.tc : Thread Cert.JointReferenceIdeal.nD Cert.JointReferenceIdeal.τ).loc Cert.JointReferenceIdeal.main_arg3)
          ∧ r.2.mem ((c.tc : Thread Cert.JointReferenceIdeal.nD Cert.JointReferenceIdeal.τ).loc Cert.JointReferenceIdeal.main_arg4) = m' ((c.tc : Thread Cert.JointReferenceIdeal.nD Cert.JointReferenceIdeal.τ).loc Cert.JointReferenceIdeal.main_arg4)
          ∧ r.2.mem ((c.tc : Thread Cert.JointReferenceIdeal.nD Cert.JointReferenceIdeal.τ).loc Cert.JointReferenceIdeal.main_arg5) = m' ((c.tc : Thread Cert.JointReferenceIdeal.nD Cert.JointReferenceIdeal.τ).loc Cert.JointReferenceIdeal.main_arg5)
          ∧ r.2.mem ((c.tc : Thread Cert.JointReferenceIdeal.nD Cert.JointReferenceIdeal.τ).loc Cert.JointReferenceIdeal.main_arg6) = m' ((c.tc : Thread Cert.JointReferenceIdeal.nD Cert.JointReferenceIdeal.τ).loc Cert.JointReferenceIdeal.main_arg6))

def preserves_Conv_ConvIdeal : Prop :=
  True

def algebraic_ConvIdeal_ConvReferenceIdeal_pre_finite4 [hConvIdeal : Cert.ConvIdeal.Facts] [hConvReferenceIdeal : Cert.ConvReferenceIdeal.Facts] [hPre_finite4 : Cert.Pre_finite4.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal_finite4 m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)
      ∧ m' ((c.tc : Thread Cert.ConvReferenceIdeal.nD Cert.ConvReferenceIdeal.τ).loc Cert.ConvReferenceIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)) (v2 : (c : Dev Cert.ConvIdeal.nD) → Buf (Elt Ideal) ((c.tc : Thread Cert.ConvIdeal.nD Cert.ConvIdeal.τ).loc Cert.ConvIdeal.main_v0_2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_v0_2) = v2 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v66) = v0 c
          ∧ r.2.mem ((c.tc : Thread Cert.ConvReferenceIdeal.nD Cert.ConvReferenceIdeal.τ).loc Cert.ConvReferenceIdeal.main_v63) = v1 c
          ∧ r.2.mem ((c.tc : Thread Cert.ConvReferenceIdeal.nD Cert.ConvReferenceIdeal.τ).loc Cert.ConvReferenceIdeal.main_v29) = v2 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3))

def preserves_Gate_GateIdeal : Prop :=
  True

def algebraic_GateIdeal_GateReferenceIdeal_pre_finite5 [hGateIdeal : Cert.GateIdeal.Facts] [hGateReferenceIdeal : Cert.GateReferenceIdeal.Facts] [hPre_finite5 : Cert.Pre_finite5.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal_finite5 m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)
      ∧ m' ((c.tc : Thread Cert.GateReferenceIdeal.nD Cert.GateReferenceIdeal.τ).loc Cert.GateReferenceIdeal.main_arg2) = m ((c.tc : Thread Cert.GateIdeal.nD Cert.GateIdeal.τ).loc Cert.GateIdeal.main_arg2)
      ∧ m' ((c.tc : Thread Cert.GateReferenceIdeal.nD Cert.GateReferenceIdeal.τ).loc Cert.GateReferenceIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v0_0)) (v1 : (c : Dev Cert.GateIdeal.nD) → Buf (Elt Ideal) ((c.tc : Thread Cert.GateIdeal.nD Cert.GateIdeal.τ).loc Cert.GateIdeal.main_v0_1)) (v2 : (c : Dev Cert.GateIdeal.nD) → Buf (Elt Ideal) ((c.tc : Thread Cert.GateIdeal.nD Cert.GateIdeal.τ).loc Cert.GateIdeal.main_v0_2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_0) = v0 c
          ∧ r.2.mem ((c.tc : Thread Cert.GateIdeal.nD Cert.GateIdeal.τ).loc Cert.GateIdeal.main_v0_1) = v1 c
          ∧ r.2.mem ((c.tc : Thread Cert.GateIdeal.nD Cert.GateIdeal.τ).loc Cert.GateIdeal.main_v0_2) = v2 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v37) = v0 c
          ∧ r.2.mem ((c.tc : Thread Cert.GateReferenceIdeal.nD Cert.GateReferenceIdeal.τ).loc Cert.GateReferenceIdeal.main_v39) = v1 c
          ∧ r.2.mem ((c.tc : Thread Cert.GateReferenceIdeal.nD Cert.GateReferenceIdeal.τ).loc Cert.GateReferenceIdeal.main_v19) = v2 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3))

def preserves_Mix_MixIdeal : Prop :=
  True

def algebraic_MixIdeal_MixReferenceIdeal_pre_finite6 [hMixIdeal : Cert.MixIdeal.Facts] [hMixReferenceIdeal : Cert.MixReferenceIdeal.Facts] [hPre_finite6 : Cert.Pre_finite6.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal_finite6 m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)) →
    ∃ (v0 : (c : Dev Cert.MixIdeal.nD) → Buf (Elt Ideal) ((c.tc : Thread Cert.MixIdeal.nD Cert.MixIdeal.τ).loc Cert.MixIdeal.main_v1_0)) (v1 : (c : Dev Cert.MixIdeal.nD) → Buf (Elt Ideal) ((c.tc : Thread Cert.MixIdeal.nD Cert.MixIdeal.τ).loc Cert.MixIdeal.main_v1_1)) (v2 : (c : Dev Cert.MixIdeal.nD) → Buf (Elt Ideal) ((c.tc : Thread Cert.MixIdeal.nD Cert.MixIdeal.τ).loc Cert.MixIdeal.main_v1_2)) (v3 : (c : Dev Cert.MixIdeal.nD) → Buf (Elt Ideal) ((c.tc : Thread Cert.MixIdeal.nD Cert.MixIdeal.τ).loc Cert.MixIdeal.main_v1_3)) (v4 : (c : Dev Cert.MixIdeal.nD) → Buf (Elt Ideal) ((c.tc : Thread Cert.MixIdeal.nD Cert.MixIdeal.τ).loc Cert.MixIdeal.main_v1_4)) (v5 : (c : Dev Cert.MixIdeal.nD) → Buf (Elt Ideal) ((c.tc : Thread Cert.MixIdeal.nD Cert.MixIdeal.τ).loc Cert.MixIdeal.main_v1_5)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v1_0) = v0 c
          ∧ r.2.mem ((c.tc : Thread Cert.MixIdeal.nD Cert.MixIdeal.τ).loc Cert.MixIdeal.main_v1_1) = v1 c
          ∧ r.2.mem ((c.tc : Thread Cert.MixIdeal.nD Cert.MixIdeal.τ).loc Cert.MixIdeal.main_v1_2) = v2 c
          ∧ r.2.mem ((c.tc : Thread Cert.MixIdeal.nD Cert.MixIdeal.τ).loc Cert.MixIdeal.main_v1_3) = v3 c
          ∧ r.2.mem ((c.tc : Thread Cert.MixIdeal.nD Cert.MixIdeal.τ).loc Cert.MixIdeal.main_v1_4) = v4 c
          ∧ r.2.mem ((c.tc : Thread Cert.MixIdeal.nD Cert.MixIdeal.τ).loc Cert.MixIdeal.main_v1_5) = v5 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v56) = v0 c
          ∧ r.2.mem ((c.tc : Thread Cert.MixReferenceIdeal.nD Cert.MixReferenceIdeal.τ).loc Cert.MixReferenceIdeal.main_v63) = v1 c
          ∧ r.2.mem ((c.tc : Thread Cert.MixReferenceIdeal.nD Cert.MixReferenceIdeal.τ).loc Cert.MixReferenceIdeal.main_v32) = v2 c
          ∧ r.2.mem ((c.tc : Thread Cert.MixReferenceIdeal.nD Cert.MixReferenceIdeal.τ).loc Cert.MixReferenceIdeal.main_v29) = v3 c
          ∧ r.2.mem ((c.tc : Thread Cert.MixReferenceIdeal.nD Cert.MixReferenceIdeal.τ).loc Cert.MixReferenceIdeal.main_v61) = v4 c
          ∧ r.2.mem ((c.tc : Thread Cert.MixReferenceIdeal.nD Cert.MixReferenceIdeal.τ).loc Cert.MixReferenceIdeal.main_v62) = v5 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4))

def preserves_Entry_EntryIdeal : Prop :=
  True

def algebraic_EntryIdeal_EntryReferenceIdeal [hEntryIdeal : Cert.EntryIdeal.Facts] [hEntryReferenceIdeal : Cert.EntryReferenceIdeal.Facts] : Prop :=
  ∀ (m : (ℓ : Loc Cert.EntryIdeal.nD Cert.EntryIdeal.τ Cert.EntryIdeal.sig) → Buf (Elt Ideal) ℓ) (g : Dev Cert.EntryIdeal.nD → PrngReg)
    (m' : (ℓ : Loc Cert.EntryReferenceIdeal.nD Cert.EntryReferenceIdeal.τ Cert.EntryReferenceIdeal.sig) → Buf (Elt Ideal) ℓ) (g' : Dev Cert.EntryReferenceIdeal.nD → PrngReg), Pre_EntryIdeal m →
    (∀ c : Dev Cert.EntryIdeal.nD,
      m' ((c.tc : Thread Cert.EntryReferenceIdeal.nD Cert.EntryReferenceIdeal.τ).loc Cert.EntryReferenceIdeal.main_arg0) = m ((c.tc : Thread Cert.EntryIdeal.nD Cert.EntryIdeal.τ).loc Cert.EntryIdeal.main_arg0)
      ∧ m' ((c.tc : Thread Cert.EntryReferenceIdeal.nD Cert.EntryReferenceIdeal.τ).loc Cert.EntryReferenceIdeal.main_arg1) = m ((c.tc : Thread Cert.EntryIdeal.nD Cert.EntryIdeal.τ).loc Cert.EntryIdeal.main_arg1)
      ∧ m' ((c.tc : Thread Cert.EntryReferenceIdeal.nD Cert.EntryReferenceIdeal.τ).loc Cert.EntryReferenceIdeal.main_arg2) = m ((c.tc : Thread Cert.EntryIdeal.nD Cert.EntryIdeal.τ).loc Cert.EntryIdeal.main_arg2)
      ∧ m' ((c.tc : Thread Cert.EntryReferenceIdeal.nD Cert.EntryReferenceIdeal.τ).loc Cert.EntryReferenceIdeal.main_arg3) = m ((c.tc : Thread Cert.EntryIdeal.nD Cert.EntryIdeal.τ).loc Cert.EntryIdeal.main_arg3)
      ∧ m' ((c.tc : Thread Cert.EntryReferenceIdeal.nD Cert.EntryReferenceIdeal.τ).loc Cert.EntryReferenceIdeal.main_arg4) = m ((c.tc : Thread Cert.EntryIdeal.nD Cert.EntryIdeal.τ).loc Cert.EntryIdeal.main_arg4)
      ∧ m' ((c.tc : Thread Cert.EntryReferenceIdeal.nD Cert.EntryReferenceIdeal.τ).loc Cert.EntryReferenceIdeal.main_arg5) = m ((c.tc : Thread Cert.EntryIdeal.nD Cert.EntryIdeal.τ).loc Cert.EntryIdeal.main_arg5)) →
    ∃ (v0 : (c : Dev Cert.EntryIdeal.nD) → Buf (Elt Ideal) ((c.tc : Thread Cert.EntryIdeal.nD Cert.EntryIdeal.τ).loc Cert.EntryIdeal.main_v11)),
      θ_run (Cert.EntryIdeal.defs (F := Ideal)) (onTc (τ := Cert.EntryIdeal.τ) (Cert.EntryIdeal.main (F := Ideal))) ⟨m, fun _ => 0, g⟩ (fun r => ∀ c : Dev Cert.EntryIdeal.nD,
          r.2.mem ((c.tc : Thread Cert.EntryIdeal.nD Cert.EntryIdeal.τ).loc Cert.EntryIdeal.main_v11) = v0 c
          ∧ r.2.mem ((c.tc : Thread Cert.EntryIdeal.nD Cert.EntryIdeal.τ).loc Cert.EntryIdeal.main_arg0) = m ((c.tc : Thread Cert.EntryIdeal.nD Cert.EntryIdeal.τ).loc Cert.EntryIdeal.main_arg0)
          ∧ r.2.mem ((c.tc : Thread Cert.EntryIdeal.nD Cert.EntryIdeal.τ).loc Cert.EntryIdeal.main_arg1) = m ((c.tc : Thread Cert.EntryIdeal.nD Cert.EntryIdeal.τ).loc Cert.EntryIdeal.main_arg1)
          ∧ r.2.mem ((c.tc : Thread Cert.EntryIdeal.nD Cert.EntryIdeal.τ).loc Cert.EntryIdeal.main_arg2) = m ((c.tc : Thread Cert.EntryIdeal.nD Cert.EntryIdeal.τ).loc Cert.EntryIdeal.main_arg2)
          ∧ r.2.mem ((c.tc : Thread Cert.EntryIdeal.nD Cert.EntryIdeal.τ).loc Cert.EntryIdeal.main_arg3) = m ((c.tc : Thread Cert.EntryIdeal.nD Cert.EntryIdeal.τ).loc Cert.EntryIdeal.main_arg3)
          ∧ r.2.mem ((c.tc : Thread Cert.EntryIdeal.nD Cert.EntryIdeal.τ).loc Cert.EntryIdeal.main_arg4) = m ((c.tc : Thread Cert.EntryIdeal.nD Cert.EntryIdeal.τ).loc Cert.EntryIdeal.main_arg4)
          ∧ r.2.mem ((c.tc : Thread Cert.EntryIdeal.nD Cert.EntryIdeal.τ).loc Cert.EntryIdeal.main_arg5) = m ((c.tc : Thread Cert.EntryIdeal.nD Cert.EntryIdeal.τ).loc Cert.EntryIdeal.main_arg5))
      ∧ θ_run (Cert.EntryReferenceIdeal.defs (F := Ideal)) (onTc (τ := Cert.EntryReferenceIdeal.τ) (Cert.EntryReferenceIdeal.main (F := Ideal))) ⟨m', fun _ => 0, g'⟩ (fun r => ∀ c : Dev Cert.EntryReferenceIdeal.nD,
          r.2.mem ((c.tc : Thread Cert.EntryReferenceIdeal.nD Cert.EntryReferenceIdeal.τ).loc Cert.EntryReferenceIdeal.main_v21) = v0 c
          ∧ r.2.mem ((c.tc : Thread Cert.EntryReferenceIdeal.nD Cert.EntryReferenceIdeal.τ).loc Cert.EntryReferenceIdeal.main_arg0) = m' ((c.tc : Thread Cert.EntryReferenceIdeal.nD Cert.EntryReferenceIdeal.τ).loc Cert.EntryReferenceIdeal.main_arg0)
          ∧ r.2.mem ((c.tc : Thread Cert.EntryReferenceIdeal.nD Cert.EntryReferenceIdeal.τ).loc Cert.EntryReferenceIdeal.main_arg1) = m' ((c.tc : Thread Cert.EntryReferenceIdeal.nD Cert.EntryReferenceIdeal.τ).loc Cert.EntryReferenceIdeal.main_arg1)
          ∧ r.2.mem ((c.tc : Thread Cert.EntryReferenceIdeal.nD Cert.EntryReferenceIdeal.τ).loc Cert.EntryReferenceIdeal.main_arg2) = m' ((c.tc : Thread Cert.EntryReferenceIdeal.nD Cert.EntryReferenceIdeal.τ).loc Cert.EntryReferenceIdeal.main_arg2)
          ∧ r.2.mem ((c.tc : Thread Cert.EntryReferenceIdeal.nD Cert.EntryReferenceIdeal.τ).loc Cert.EntryReferenceIdeal.main_arg3) = m' ((c.tc : Thread Cert.EntryReferenceIdeal.nD Cert.EntryReferenceIdeal.τ).loc Cert.EntryReferenceIdeal.main_arg3)
          ∧ r.2.mem ((c.tc : Thread Cert.EntryReferenceIdeal.nD Cert.EntryReferenceIdeal.τ).loc Cert.EntryReferenceIdeal.main_arg4) = m' ((c.tc : Thread Cert.EntryReferenceIdeal.nD Cert.EntryReferenceIdeal.τ).loc Cert.EntryReferenceIdeal.main_arg4)
          ∧ r.2.mem ((c.tc : Thread Cert.EntryReferenceIdeal.nD Cert.EntryReferenceIdeal.τ).loc Cert.EntryReferenceIdeal.main_arg5) = m' ((c.tc : Thread Cert.EntryReferenceIdeal.nD Cert.EntryReferenceIdeal.τ).loc Cert.EntryReferenceIdeal.main_arg5))

def preserves_Norm_NormIdeal : Prop :=
  True

def algebraic_NormIdeal_NormReferenceIdeal_pre_finite8 [hNormIdeal : Cert.NormIdeal.Facts] [hNormReferenceIdeal : Cert.NormReferenceIdeal.Facts] [hPre_finite8 : Cert.Pre_finite8.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal_finite8 m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v33) = v0 c
          ∧ r.2.mem ((c.tc : Thread Cert.NormReferenceIdeal.nD Cert.NormReferenceIdeal.τ).loc Cert.NormReferenceIdeal.main_v17) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v8) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_Weight_WeightIdeal : Prop :=
  True

def algebraic_WeightIdeal_WeightReferenceIdeal [hWeightIdeal : Cert.WeightIdeal.Facts] [hWeightReferenceIdeal : Cert.WeightReferenceIdeal.Facts] : Prop :=
  ∀ (m : (ℓ : Loc Cert.WeightIdeal.nD Cert.WeightIdeal.τ Cert.WeightIdeal.sig) → Buf (Elt Ideal) ℓ) (g : Dev Cert.WeightIdeal.nD → PrngReg)
    (m' : (ℓ : Loc Cert.WeightReferenceIdeal.nD Cert.WeightReferenceIdeal.τ Cert.WeightReferenceIdeal.sig) → Buf (Elt Ideal) ℓ) (g' : Dev Cert.WeightReferenceIdeal.nD → PrngReg), Pre_WeightIdeal m →
    (∀ c : Dev Cert.WeightIdeal.nD,
      m' ((c.tc : Thread Cert.WeightReferenceIdeal.nD Cert.WeightReferenceIdeal.τ).loc Cert.WeightReferenceIdeal.main_arg0) = m ((c.tc : Thread Cert.WeightIdeal.nD Cert.WeightIdeal.τ).loc Cert.WeightIdeal.main_arg0)
      ∧ m' ((c.tc : Thread Cert.WeightReferenceIdeal.nD Cert.WeightReferenceIdeal.τ).loc Cert.WeightReferenceIdeal.main_arg1) = m ((c.tc : Thread Cert.WeightIdeal.nD Cert.WeightIdeal.τ).loc Cert.WeightIdeal.main_arg1)
      ∧ m' ((c.tc : Thread Cert.WeightReferenceIdeal.nD Cert.WeightReferenceIdeal.τ).loc Cert.WeightReferenceIdeal.main_arg2) = m ((c.tc : Thread Cert.WeightIdeal.nD Cert.WeightIdeal.τ).loc Cert.WeightIdeal.main_arg2)
      ∧ m' ((c.tc : Thread Cert.WeightReferenceIdeal.nD Cert.WeightReferenceIdeal.τ).loc Cert.WeightReferenceIdeal.main_arg3) = m ((c.tc : Thread Cert.WeightIdeal.nD Cert.WeightIdeal.τ).loc Cert.WeightIdeal.main_arg3)
      ∧ m' ((c.tc : Thread Cert.WeightReferenceIdeal.nD Cert.WeightReferenceIdeal.τ).loc Cert.WeightReferenceIdeal.main_arg4) = m ((c.tc : Thread Cert.WeightIdeal.nD Cert.WeightIdeal.τ).loc Cert.WeightIdeal.main_arg4)) →
    ∃ (v0 : (c : Dev Cert.WeightIdeal.nD) → Buf (Elt Ideal) ((c.tc : Thread Cert.WeightIdeal.nD Cert.WeightIdeal.τ).loc Cert.WeightIdeal.main_v6)),
      θ_run (Cert.WeightIdeal.defs (F := Ideal)) (onTc (τ := Cert.WeightIdeal.τ) (Cert.WeightIdeal.main (F := Ideal))) ⟨m, fun _ => 0, g⟩ (fun r => ∀ c : Dev Cert.WeightIdeal.nD,
          r.2.mem ((c.tc : Thread Cert.WeightIdeal.nD Cert.WeightIdeal.τ).loc Cert.WeightIdeal.main_v6) = v0 c
          ∧ r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
          ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1)
          ∧ r.2.mem ((c.tc : Thread Cert.WeightIdeal.nD Cert.WeightIdeal.τ).loc Cert.WeightIdeal.main_arg2) = m ((c.tc : Thread Cert.WeightIdeal.nD Cert.WeightIdeal.τ).loc Cert.WeightIdeal.main_arg2)
          ∧ r.2.mem ((c.tc : Thread Cert.WeightIdeal.nD Cert.WeightIdeal.τ).loc Cert.WeightIdeal.main_arg3) = m ((c.tc : Thread Cert.WeightIdeal.nD Cert.WeightIdeal.τ).loc Cert.WeightIdeal.main_arg3)
          ∧ r.2.mem ((c.tc : Thread Cert.WeightIdeal.nD Cert.WeightIdeal.τ).loc Cert.WeightIdeal.main_arg4) = m ((c.tc : Thread Cert.WeightIdeal.nD Cert.WeightIdeal.τ).loc Cert.WeightIdeal.main_arg4))
      ∧ θ_run (Cert.WeightReferenceIdeal.defs (F := Ideal)) (onTc (τ := Cert.WeightReferenceIdeal.τ) (Cert.WeightReferenceIdeal.main (F := Ideal))) ⟨m', fun _ => 0, g'⟩ (fun r => ∀ c : Dev Cert.WeightReferenceIdeal.nD,
          r.2.mem ((c.tc : Thread Cert.WeightReferenceIdeal.nD Cert.WeightReferenceIdeal.τ).loc Cert.WeightReferenceIdeal.main_v21) = v0 c
          ∧ r.2.mem ((c.tc : Thread Cert.WeightReferenceIdeal.nD Cert.WeightReferenceIdeal.τ).loc Cert.WeightReferenceIdeal.main_arg0) = m' ((c.tc : Thread Cert.WeightReferenceIdeal.nD Cert.WeightReferenceIdeal.τ).loc Cert.WeightReferenceIdeal.main_arg0)
          ∧ r.2.mem ((c.tc : Thread Cert.WeightReferenceIdeal.nD Cert.WeightReferenceIdeal.τ).loc Cert.WeightReferenceIdeal.main_arg1) = m' ((c.tc : Thread Cert.WeightReferenceIdeal.nD Cert.WeightReferenceIdeal.τ).loc Cert.WeightReferenceIdeal.main_arg1)
          ∧ r.2.mem ((c.tc : Thread Cert.WeightReferenceIdeal.nD Cert.WeightReferenceIdeal.τ).loc Cert.WeightReferenceIdeal.main_arg2) = m' ((c.tc : Thread Cert.WeightReferenceIdeal.nD Cert.WeightReferenceIdeal.τ).loc Cert.WeightReferenceIdeal.main_arg2)
          ∧ r.2.mem ((c.tc : Thread Cert.WeightReferenceIdeal.nD Cert.WeightReferenceIdeal.τ).loc Cert.WeightReferenceIdeal.main_arg3) = m' ((c.tc : Thread Cert.WeightReferenceIdeal.nD Cert.WeightReferenceIdeal.τ).loc Cert.WeightReferenceIdeal.main_arg3)
          ∧ r.2.mem ((c.tc : Thread Cert.WeightReferenceIdeal.nD Cert.WeightReferenceIdeal.τ).loc Cert.WeightReferenceIdeal.main_arg4) = m' ((c.tc : Thread Cert.WeightReferenceIdeal.nD Cert.WeightReferenceIdeal.τ).loc Cert.WeightReferenceIdeal.main_arg4))

def preserves_Low_LowIdeal : Prop :=
  True

def algebraic_LowIdeal_LowReferenceIdeal [hLowIdeal : Cert.LowIdeal.Facts] [hLowReferenceIdeal : Cert.LowReferenceIdeal.Facts] : Prop :=
  ∀ (m : (ℓ : Loc Cert.LowIdeal.nD Cert.LowIdeal.τ Cert.LowIdeal.sig) → Buf (Elt Ideal) ℓ) (g : Dev Cert.LowIdeal.nD → PrngReg)
    (m' : (ℓ : Loc Cert.LowReferenceIdeal.nD Cert.LowReferenceIdeal.τ Cert.LowReferenceIdeal.sig) → Buf (Elt Ideal) ℓ) (g' : Dev Cert.LowReferenceIdeal.nD → PrngReg), Pre_LowIdeal m →
    (∀ c : Dev Cert.LowIdeal.nD,
      m' ((c.tc : Thread Cert.LowReferenceIdeal.nD Cert.LowReferenceIdeal.τ).loc Cert.LowReferenceIdeal.main_arg0) = m ((c.tc : Thread Cert.LowIdeal.nD Cert.LowIdeal.τ).loc Cert.LowIdeal.main_arg0)
      ∧ m' ((c.tc : Thread Cert.LowReferenceIdeal.nD Cert.LowReferenceIdeal.τ).loc Cert.LowReferenceIdeal.main_arg1) = m ((c.tc : Thread Cert.LowIdeal.nD Cert.LowIdeal.τ).loc Cert.LowIdeal.main_arg1)
      ∧ m' ((c.tc : Thread Cert.LowReferenceIdeal.nD Cert.LowReferenceIdeal.τ).loc Cert.LowReferenceIdeal.main_arg2) = m ((c.tc : Thread Cert.LowIdeal.nD Cert.LowIdeal.τ).loc Cert.LowIdeal.main_arg2)
      ∧ m' ((c.tc : Thread Cert.LowReferenceIdeal.nD Cert.LowReferenceIdeal.τ).loc Cert.LowReferenceIdeal.main_arg3) = m ((c.tc : Thread Cert.LowIdeal.nD Cert.LowIdeal.τ).loc Cert.LowIdeal.main_arg3)
      ∧ m' ((c.tc : Thread Cert.LowReferenceIdeal.nD Cert.LowReferenceIdeal.τ).loc Cert.LowReferenceIdeal.main_arg4) = m ((c.tc : Thread Cert.LowIdeal.nD Cert.LowIdeal.τ).loc Cert.LowIdeal.main_arg4)
      ∧ m' ((c.tc : Thread Cert.LowReferenceIdeal.nD Cert.LowReferenceIdeal.τ).loc Cert.LowReferenceIdeal.main_arg5) = m ((c.tc : Thread Cert.LowIdeal.nD Cert.LowIdeal.τ).loc Cert.LowIdeal.main_arg5)
      ∧ m' ((c.tc : Thread Cert.LowReferenceIdeal.nD Cert.LowReferenceIdeal.τ).loc Cert.LowReferenceIdeal.main_arg6) = m ((c.tc : Thread Cert.LowIdeal.nD Cert.LowIdeal.τ).loc Cert.LowIdeal.main_arg6)) →
    ∃ (v0 : (c : Dev Cert.LowIdeal.nD) → Buf (Elt Ideal) ((c.tc : Thread Cert.LowIdeal.nD Cert.LowIdeal.τ).loc Cert.LowIdeal.main_v6)) (v1 : (c : Dev Cert.LowIdeal.nD) → Buf (Elt Ideal) ((c.tc : Thread Cert.LowIdeal.nD Cert.LowIdeal.τ).loc Cert.LowIdeal.main_v11)) (v2 : (c : Dev Cert.LowIdeal.nD) → Buf (Elt Ideal) ((c.tc : Thread Cert.LowIdeal.nD Cert.LowIdeal.τ).loc Cert.LowIdeal.main_v3)),
      θ_run (Cert.LowIdeal.defs (F := Ideal)) (onTc (τ := Cert.LowIdeal.τ) (Cert.LowIdeal.main (F := Ideal))) ⟨m, fun _ => 0, g⟩ (fun r => ∀ c : Dev Cert.LowIdeal.nD,
          r.2.mem ((c.tc : Thread Cert.LowIdeal.nD Cert.LowIdeal.τ).loc Cert.LowIdeal.main_v6) = v0 c
          ∧ r.2.mem ((c.tc : Thread Cert.LowIdeal.nD Cert.LowIdeal.τ).loc Cert.LowIdeal.main_v11) = v1 c
          ∧ r.2.mem ((c.tc : Thread Cert.LowIdeal.nD Cert.LowIdeal.τ).loc Cert.LowIdeal.main_v3) = v2 c
          ∧ r.2.mem ((c.tc : Thread Cert.LowIdeal.nD Cert.LowIdeal.τ).loc Cert.LowIdeal.main_arg0) = m ((c.tc : Thread Cert.LowIdeal.nD Cert.LowIdeal.τ).loc Cert.LowIdeal.main_arg0)
          ∧ r.2.mem ((c.tc : Thread Cert.LowIdeal.nD Cert.LowIdeal.τ).loc Cert.LowIdeal.main_arg1) = m ((c.tc : Thread Cert.LowIdeal.nD Cert.LowIdeal.τ).loc Cert.LowIdeal.main_arg1)
          ∧ r.2.mem ((c.tc : Thread Cert.LowIdeal.nD Cert.LowIdeal.τ).loc Cert.LowIdeal.main_arg2) = m ((c.tc : Thread Cert.LowIdeal.nD Cert.LowIdeal.τ).loc Cert.LowIdeal.main_arg2)
          ∧ r.2.mem ((c.tc : Thread Cert.LowIdeal.nD Cert.LowIdeal.τ).loc Cert.LowIdeal.main_arg3) = m ((c.tc : Thread Cert.LowIdeal.nD Cert.LowIdeal.τ).loc Cert.LowIdeal.main_arg3)
          ∧ r.2.mem ((c.tc : Thread Cert.LowIdeal.nD Cert.LowIdeal.τ).loc Cert.LowIdeal.main_arg4) = m ((c.tc : Thread Cert.LowIdeal.nD Cert.LowIdeal.τ).loc Cert.LowIdeal.main_arg4)
          ∧ r.2.mem ((c.tc : Thread Cert.LowIdeal.nD Cert.LowIdeal.τ).loc Cert.LowIdeal.main_arg5) = m ((c.tc : Thread Cert.LowIdeal.nD Cert.LowIdeal.τ).loc Cert.LowIdeal.main_arg5)
          ∧ r.2.mem ((c.tc : Thread Cert.LowIdeal.nD Cert.LowIdeal.τ).loc Cert.LowIdeal.main_arg6) = m ((c.tc : Thread Cert.LowIdeal.nD Cert.LowIdeal.τ).loc Cert.LowIdeal.main_arg6))
      ∧ θ_run (Cert.LowReferenceIdeal.defs (F := Ideal)) (onTc (τ := Cert.LowReferenceIdeal.τ) (Cert.LowReferenceIdeal.main (F := Ideal))) ⟨m', fun _ => 0, g'⟩ (fun r => ∀ c : Dev Cert.LowReferenceIdeal.nD,
          r.2.mem ((c.tc : Thread Cert.LowReferenceIdeal.nD Cert.LowReferenceIdeal.τ).loc Cert.LowReferenceIdeal.main_v27) = v0 c
          ∧ r.2.mem ((c.tc : Thread Cert.LowReferenceIdeal.nD Cert.LowReferenceIdeal.τ).loc Cert.LowReferenceIdeal.main_v28) = v1 c
          ∧ r.2.mem ((c.tc : Thread Cert.LowReferenceIdeal.nD Cert.LowReferenceIdeal.τ).loc Cert.LowReferenceIdeal.main_v29) = v2 c
          ∧ r.2.mem ((c.tc : Thread Cert.LowReferenceIdeal.nD Cert.LowReferenceIdeal.τ).loc Cert.LowReferenceIdeal.main_arg0) = m' ((c.tc : Thread Cert.LowReferenceIdeal.nD Cert.LowReferenceIdeal.τ).loc Cert.LowReferenceIdeal.main_arg0)
          ∧ r.2.mem ((c.tc : Thread Cert.LowReferenceIdeal.nD Cert.LowReferenceIdeal.τ).loc Cert.LowReferenceIdeal.main_arg1) = m' ((c.tc : Thread Cert.LowReferenceIdeal.nD Cert.LowReferenceIdeal.τ).loc Cert.LowReferenceIdeal.main_arg1)
          ∧ r.2.mem ((c.tc : Thread Cert.LowReferenceIdeal.nD Cert.LowReferenceIdeal.τ).loc Cert.LowReferenceIdeal.main_arg2) = m' ((c.tc : Thread Cert.LowReferenceIdeal.nD Cert.LowReferenceIdeal.τ).loc Cert.LowReferenceIdeal.main_arg2)
          ∧ r.2.mem ((c.tc : Thread Cert.LowReferenceIdeal.nD Cert.LowReferenceIdeal.τ).loc Cert.LowReferenceIdeal.main_arg3) = m' ((c.tc : Thread Cert.LowReferenceIdeal.nD Cert.LowReferenceIdeal.τ).loc Cert.LowReferenceIdeal.main_arg3)
          ∧ r.2.mem ((c.tc : Thread Cert.LowReferenceIdeal.nD Cert.LowReferenceIdeal.τ).loc Cert.LowReferenceIdeal.main_arg4) = m' ((c.tc : Thread Cert.LowReferenceIdeal.nD Cert.LowReferenceIdeal.τ).loc Cert.LowReferenceIdeal.main_arg4)
          ∧ r.2.mem ((c.tc : Thread Cert.LowReferenceIdeal.nD Cert.LowReferenceIdeal.τ).loc Cert.LowReferenceIdeal.main_arg5) = m' ((c.tc : Thread Cert.LowReferenceIdeal.nD Cert.LowReferenceIdeal.τ).loc Cert.LowReferenceIdeal.main_arg5)
          ∧ r.2.mem ((c.tc : Thread Cert.LowReferenceIdeal.nD Cert.LowReferenceIdeal.τ).loc Cert.LowReferenceIdeal.main_arg6) = m' ((c.tc : Thread Cert.LowReferenceIdeal.nD Cert.LowReferenceIdeal.τ).loc Cert.LowReferenceIdeal.main_arg6))

def preserves_Lay_LayIdeal : Prop :=
  True

def algebraic_LayIdeal_LayReferenceIdeal [hLayIdeal : Cert.LayIdeal.Facts] [hLayReferenceIdeal : Cert.LayReferenceIdeal.Facts] : Prop :=
  ∀ (m : (ℓ : Loc Cert.LayIdeal.nD Cert.LayIdeal.τ Cert.LayIdeal.sig) → Buf (Elt Ideal) ℓ) (g : Dev Cert.LayIdeal.nD → PrngReg)
    (m' : (ℓ : Loc Cert.LayReferenceIdeal.nD Cert.LayReferenceIdeal.τ Cert.LayReferenceIdeal.sig) → Buf (Elt Ideal) ℓ) (g' : Dev Cert.LayReferenceIdeal.nD → PrngReg), Pre_LayIdeal m →
    (∀ c : Dev Cert.LayIdeal.nD,
      m' ((c.tc : Thread Cert.LayReferenceIdeal.nD Cert.LayReferenceIdeal.τ).loc Cert.LayReferenceIdeal.main_arg0) = m ((c.tc : Thread Cert.LayIdeal.nD Cert.LayIdeal.τ).loc Cert.LayIdeal.main_arg0)
      ∧ m' ((c.tc : Thread Cert.LayReferenceIdeal.nD Cert.LayReferenceIdeal.τ).loc Cert.LayReferenceIdeal.main_arg1) = m ((c.tc : Thread Cert.LayIdeal.nD Cert.LayIdeal.τ).loc Cert.LayIdeal.main_arg1)
      ∧ m' ((c.tc : Thread Cert.LayReferenceIdeal.nD Cert.LayReferenceIdeal.τ).loc Cert.LayReferenceIdeal.main_arg2) = m ((c.tc : Thread Cert.LayIdeal.nD Cert.LayIdeal.τ).loc Cert.LayIdeal.main_arg2)
      ∧ m' ((c.tc : Thread Cert.LayReferenceIdeal.nD Cert.LayReferenceIdeal.τ).loc Cert.LayReferenceIdeal.main_arg3) = m ((c.tc : Thread Cert.LayIdeal.nD Cert.LayIdeal.τ).loc Cert.LayIdeal.main_arg3)
      ∧ m' ((c.tc : Thread Cert.LayReferenceIdeal.nD Cert.LayReferenceIdeal.τ).loc Cert.LayReferenceIdeal.main_arg4) = m ((c.tc : Thread Cert.LayIdeal.nD Cert.LayIdeal.τ).loc Cert.LayIdeal.main_arg4)
      ∧ m' ((c.tc : Thread Cert.LayReferenceIdeal.nD Cert.LayReferenceIdeal.τ).loc Cert.LayReferenceIdeal.main_arg5) = m ((c.tc : Thread Cert.LayIdeal.nD Cert.LayIdeal.τ).loc Cert.LayIdeal.main_arg5)) →
    ∃ (v0 : (c : Dev Cert.LayIdeal.nD) → Buf (Elt Ideal) ((c.tc : Thread Cert.LayIdeal.nD Cert.LayIdeal.τ).loc Cert.LayIdeal.main_v1_0)) (v1 : (c : Dev Cert.LayIdeal.nD) → Buf (Elt Ideal) ((c.tc : Thread Cert.LayIdeal.nD Cert.LayIdeal.τ).loc Cert.LayIdeal.main_v1_1)) (v2 : (c : Dev Cert.LayIdeal.nD) → Buf (Elt Ideal) ((c.tc : Thread Cert.LayIdeal.nD Cert.LayIdeal.τ).loc Cert.LayIdeal.main_v1_2)),
      θ_run (Cert.LayIdeal.defs (F := Ideal)) (onTc (τ := Cert.LayIdeal.τ) (Cert.LayIdeal.main (F := Ideal))) ⟨m, fun _ => 0, g⟩ (fun r => ∀ c : Dev Cert.LayIdeal.nD,
          r.2.mem ((c.tc : Thread Cert.LayIdeal.nD Cert.LayIdeal.τ).loc Cert.LayIdeal.main_v1_0) = v0 c
          ∧ r.2.mem ((c.tc : Thread Cert.LayIdeal.nD Cert.LayIdeal.τ).loc Cert.LayIdeal.main_v1_1) = v1 c
          ∧ r.2.mem ((c.tc : Thread Cert.LayIdeal.nD Cert.LayIdeal.τ).loc Cert.LayIdeal.main_v1_2) = v2 c
          ∧ r.2.mem ((c.tc : Thread Cert.LayIdeal.nD Cert.LayIdeal.τ).loc Cert.LayIdeal.main_arg0) = m ((c.tc : Thread Cert.LayIdeal.nD Cert.LayIdeal.τ).loc Cert.LayIdeal.main_arg0)
          ∧ r.2.mem ((c.tc : Thread Cert.LayIdeal.nD Cert.LayIdeal.τ).loc Cert.LayIdeal.main_arg1) = m ((c.tc : Thread Cert.LayIdeal.nD Cert.LayIdeal.τ).loc Cert.LayIdeal.main_arg1)
          ∧ r.2.mem ((c.tc : Thread Cert.LayIdeal.nD Cert.LayIdeal.τ).loc Cert.LayIdeal.main_arg2) = m ((c.tc : Thread Cert.LayIdeal.nD Cert.LayIdeal.τ).loc Cert.LayIdeal.main_arg2)
          ∧ r.2.mem ((c.tc : Thread Cert.LayIdeal.nD Cert.LayIdeal.τ).loc Cert.LayIdeal.main_arg3) = m ((c.tc : Thread Cert.LayIdeal.nD Cert.LayIdeal.τ).loc Cert.LayIdeal.main_arg3)
          ∧ r.2.mem ((c.tc : Thread Cert.LayIdeal.nD Cert.LayIdeal.τ).loc Cert.LayIdeal.main_arg4) = m ((c.tc : Thread Cert.LayIdeal.nD Cert.LayIdeal.τ).loc Cert.LayIdeal.main_arg4)
          ∧ r.2.mem ((c.tc : Thread Cert.LayIdeal.nD Cert.LayIdeal.τ).loc Cert.LayIdeal.main_arg5) = m ((c.tc : Thread Cert.LayIdeal.nD Cert.LayIdeal.τ).loc Cert.LayIdeal.main_arg5))
      ∧ θ_run (Cert.LayReferenceIdeal.defs (F := Ideal)) (onTc (τ := Cert.LayReferenceIdeal.τ) (Cert.LayReferenceIdeal.main (F := Ideal))) ⟨m', fun _ => 0, g'⟩ (fun r => ∀ c : Dev Cert.LayReferenceIdeal.nD,
          r.2.mem ((c.tc : Thread Cert.LayReferenceIdeal.nD Cert.LayReferenceIdeal.τ).loc Cert.LayReferenceIdeal.main_v3) = v0 c
          ∧ r.2.mem ((c.tc : Thread Cert.LayReferenceIdeal.nD Cert.LayReferenceIdeal.τ).loc Cert.LayReferenceIdeal.main_v26) = v1 c
          ∧ r.2.mem ((c.tc : Thread Cert.LayReferenceIdeal.nD Cert.LayReferenceIdeal.τ).loc Cert.LayReferenceIdeal.main_v27) = v2 c
          ∧ r.2.mem ((c.tc : Thread Cert.LayReferenceIdeal.nD Cert.LayReferenceIdeal.τ).loc Cert.LayReferenceIdeal.main_arg0) = m' ((c.tc : Thread Cert.LayReferenceIdeal.nD Cert.LayReferenceIdeal.τ).loc Cert.LayReferenceIdeal.main_arg0)
          ∧ r.2.mem ((c.tc : Thread Cert.LayReferenceIdeal.nD Cert.LayReferenceIdeal.τ).loc Cert.LayReferenceIdeal.main_arg1) = m' ((c.tc : Thread Cert.LayReferenceIdeal.nD Cert.LayReferenceIdeal.τ).loc Cert.LayReferenceIdeal.main_arg1)
          ∧ r.2.mem ((c.tc : Thread Cert.LayReferenceIdeal.nD Cert.LayReferenceIdeal.τ).loc Cert.LayReferenceIdeal.main_arg2) = m' ((c.tc : Thread Cert.LayReferenceIdeal.nD Cert.LayReferenceIdeal.τ).loc Cert.LayReferenceIdeal.main_arg2)
          ∧ r.2.mem ((c.tc : Thread Cert.LayReferenceIdeal.nD Cert.LayReferenceIdeal.τ).loc Cert.LayReferenceIdeal.main_arg3) = m' ((c.tc : Thread Cert.LayReferenceIdeal.nD Cert.LayReferenceIdeal.τ).loc Cert.LayReferenceIdeal.main_arg3)
          ∧ r.2.mem ((c.tc : Thread Cert.LayReferenceIdeal.nD Cert.LayReferenceIdeal.τ).loc Cert.LayReferenceIdeal.main_arg4) = m' ((c.tc : Thread Cert.LayReferenceIdeal.nD Cert.LayReferenceIdeal.τ).loc Cert.LayReferenceIdeal.main_arg4)
          ∧ r.2.mem ((c.tc : Thread Cert.LayReferenceIdeal.nD Cert.LayReferenceIdeal.τ).loc Cert.LayReferenceIdeal.main_arg5) = m' ((c.tc : Thread Cert.LayReferenceIdeal.nD Cert.LayReferenceIdeal.τ).loc Cert.LayReferenceIdeal.main_arg5))

def Claim : Prop :=
  ∃ (hKernel : Cert.Kernel.Facts) (hKernelIdeal : Cert.KernelIdeal.Facts) (hReferenceIdeal : Cert.ReferenceIdeal.Facts) (hFeed : Cert.Feed.Facts) (hFeedIdeal : Cert.FeedIdeal.Facts) (hFeedReferenceIdeal : Cert.FeedReferenceIdeal.Facts) (hJoint : Cert.Joint.Facts) (hJointIdeal : Cert.JointIdeal.Facts) (hJointReferenceIdeal : Cert.JointReferenceIdeal.Facts) (hConv : Cert.Conv.Facts) (hConvIdeal : Cert.ConvIdeal.Facts) (hConvReferenceIdeal : Cert.ConvReferenceIdeal.Facts) (hGate : Cert.Gate.Facts) (hGateIdeal : Cert.GateIdeal.Facts) (hGateReferenceIdeal : Cert.GateReferenceIdeal.Facts) (hMix : Cert.Mix.Facts) (hMixIdeal : Cert.MixIdeal.Facts) (hMixReferenceIdeal : Cert.MixReferenceIdeal.Facts) (hEntry : Cert.Entry.Facts) (hEntryIdeal : Cert.EntryIdeal.Facts) (hEntryReferenceIdeal : Cert.EntryReferenceIdeal.Facts) (hNorm : Cert.Norm.Facts) (hNormIdeal : Cert.NormIdeal.Facts) (hNormReferenceIdeal : Cert.NormReferenceIdeal.Facts) (hOut : Cert.Out.Facts) (hOutIdeal : Cert.OutIdeal.Facts) (hOutReferenceIdeal : Cert.OutReferenceIdeal.Facts) (hWeight : Cert.Weight.Facts) (hWeightIdeal : Cert.WeightIdeal.Facts) (hWeightReferenceIdeal : Cert.WeightReferenceIdeal.Facts) (hLow : Cert.Low.Facts) (hLowIdeal : Cert.LowIdeal.Facts) (hLowReferenceIdeal : Cert.LowReferenceIdeal.Facts) (hLay : Cert.Lay.Facts) (hLayIdeal : Cert.LayIdeal.Facts) (hLayReferenceIdeal : Cert.LayReferenceIdeal.Facts) (hPre_finite : Cert.Pre_finite.Facts) (hPre_finite2 : Cert.Pre_finite2.Facts) (hPre_finite4 : Cert.Pre_finite4.Facts) (hPre_finite5 : Cert.Pre_finite5.Facts) (hPre_finite6 : Cert.Pre_finite6.Facts) (hPre_finite8 : Cert.Pre_finite8.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Feed (hFeed := hFeed)
    ∧ quiescent_FeedIdeal (hFeedIdeal := hFeedIdeal)
    ∧ quiescent_FeedIdeal_pre_finite2 (hFeedIdeal := hFeedIdeal) (hPre_finite2 := hPre_finite2)
    ∧ quiescent_FeedReferenceIdeal (hFeedReferenceIdeal := hFeedReferenceIdeal)
    ∧ quiescent_FeedReferenceIdeal_pre_finite2 (hFeedReferenceIdeal := hFeedReferenceIdeal) (hPre_finite2 := hPre_finite2)
    ∧ quiescent_Joint (hJoint := hJoint)
    ∧ quiescent_JointIdeal (hJointIdeal := hJointIdeal)
    ∧ quiescent_JointReferenceIdeal (hJointReferenceIdeal := hJointReferenceIdeal)
    ∧ quiescent_Conv (hConv := hConv)
    ∧ quiescent_ConvIdeal (hConvIdeal := hConvIdeal)
    ∧ quiescent_ConvIdeal_pre_finite4 (hConvIdeal := hConvIdeal) (hPre_finite4 := hPre_finite4)
    ∧ quiescent_ConvReferenceIdeal (hConvReferenceIdeal := hConvReferenceIdeal)
    ∧ quiescent_ConvReferenceIdeal_pre_finite4 (hConvReferenceIdeal := hConvReferenceIdeal) (hPre_finite4 := hPre_finite4)
    ∧ quiescent_Gate (hGate := hGate)
    ∧ quiescent_GateIdeal (hGateIdeal := hGateIdeal)
    ∧ quiescent_GateIdeal_pre_finite5 (hGateIdeal := hGateIdeal) (hPre_finite5 := hPre_finite5)
    ∧ quiescent_GateReferenceIdeal (hGateReferenceIdeal := hGateReferenceIdeal)
    ∧ quiescent_GateReferenceIdeal_pre_finite5 (hGateReferenceIdeal := hGateReferenceIdeal) (hPre_finite5 := hPre_finite5)
    ∧ quiescent_Mix (hMix := hMix)
    ∧ quiescent_MixIdeal (hMixIdeal := hMixIdeal)
    ∧ quiescent_MixIdeal_pre_finite6 (hMixIdeal := hMixIdeal) (hPre_finite6 := hPre_finite6)
    ∧ quiescent_MixReferenceIdeal (hMixReferenceIdeal := hMixReferenceIdeal)
    ∧ quiescent_MixReferenceIdeal_pre_finite6 (hMixReferenceIdeal := hMixReferenceIdeal) (hPre_finite6 := hPre_finite6)
    ∧ quiescent_Entry (hEntry := hEntry)
    ∧ quiescent_EntryIdeal (hEntryIdeal := hEntryIdeal)
    ∧ quiescent_EntryReferenceIdeal (hEntryReferenceIdeal := hEntryReferenceIdeal)
    ∧ quiescent_Norm (hNorm := hNorm)
    ∧ quiescent_NormIdeal (hNormIdeal := hNormIdeal)
    ∧ quiescent_NormIdeal_pre_finite8 (hNormIdeal := hNormIdeal) (hPre_finite8 := hPre_finite8)
    ∧ quiescent_NormReferenceIdeal (hNormReferenceIdeal := hNormReferenceIdeal)
    ∧ quiescent_NormReferenceIdeal_pre_finite8 (hNormReferenceIdeal := hNormReferenceIdeal) (hPre_finite8 := hPre_finite8)
    ∧ quiescent_Out (hOut := hOut)
    ∧ quiescent_OutIdeal (hOutIdeal := hOutIdeal)
    ∧ quiescent_OutReferenceIdeal (hOutReferenceIdeal := hOutReferenceIdeal)
    ∧ quiescent_Weight (hWeight := hWeight)
    ∧ quiescent_WeightIdeal (hWeightIdeal := hWeightIdeal)
    ∧ quiescent_WeightReferenceIdeal (hWeightReferenceIdeal := hWeightReferenceIdeal)
    ∧ quiescent_Low (hLow := hLow)
    ∧ quiescent_LowIdeal (hLowIdeal := hLowIdeal)
    ∧ quiescent_LowReferenceIdeal (hLowReferenceIdeal := hLowReferenceIdeal)
    ∧ quiescent_Lay (hLay := hLay)
    ∧ quiescent_LayIdeal (hLayIdeal := hLayIdeal)
    ∧ quiescent_LayReferenceIdeal (hLayReferenceIdeal := hLayReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Feed_FeedIdeal
    ∧ algebraic_FeedIdeal_FeedReferenceIdeal_pre_finite2 (hFeedIdeal := hFeedIdeal) (hFeedReferenceIdeal := hFeedReferenceIdeal) (hPre_finite2 := hPre_finite2)
    ∧ preserves_Joint_JointIdeal
    ∧ algebraic_JointIdeal_JointReferenceIdeal (hJointIdeal := hJointIdeal) (hJointReferenceIdeal := hJointReferenceIdeal)
    ∧ preserves_Conv_ConvIdeal
    ∧ algebraic_ConvIdeal_ConvReferenceIdeal_pre_finite4 (hConvIdeal := hConvIdeal) (hConvReferenceIdeal := hConvReferenceIdeal) (hPre_finite4 := hPre_finite4)
    ∧ preserves_Gate_GateIdeal
    ∧ algebraic_GateIdeal_GateReferenceIdeal_pre_finite5 (hGateIdeal := hGateIdeal) (hGateReferenceIdeal := hGateReferenceIdeal) (hPre_finite5 := hPre_finite5)
    ∧ preserves_Mix_MixIdeal
    ∧ algebraic_MixIdeal_MixReferenceIdeal_pre_finite6 (hMixIdeal := hMixIdeal) (hMixReferenceIdeal := hMixReferenceIdeal) (hPre_finite6 := hPre_finite6)
    ∧ preserves_Entry_EntryIdeal
    ∧ algebraic_EntryIdeal_EntryReferenceIdeal (hEntryIdeal := hEntryIdeal) (hEntryReferenceIdeal := hEntryReferenceIdeal)
    ∧ preserves_Norm_NormIdeal
    ∧ algebraic_NormIdeal_NormReferenceIdeal_pre_finite8 (hNormIdeal := hNormIdeal) (hNormReferenceIdeal := hNormReferenceIdeal) (hPre_finite8 := hPre_finite8)
    ∧ preserves_Out_OutIdeal
    ∧ algebraic_OutIdeal_OutReferenceIdeal (hOutIdeal := hOutIdeal) (hOutReferenceIdeal := hOutReferenceIdeal)
    ∧ preserves_Weight_WeightIdeal
    ∧ algebraic_WeightIdeal_WeightReferenceIdeal (hWeightIdeal := hWeightIdeal) (hWeightReferenceIdeal := hWeightReferenceIdeal)
    ∧ preserves_Low_LowIdeal
    ∧ algebraic_LowIdeal_LowReferenceIdeal (hLowIdeal := hLowIdeal) (hLowReferenceIdeal := hLowReferenceIdeal)
    ∧ preserves_Lay_LayIdeal
    ∧ algebraic_LayIdeal_LayReferenceIdeal (hLayIdeal := hLayIdeal) (hLayReferenceIdeal := hLayReferenceIdeal)
-- ==== Pre_finite.lean ====
abbrev S2048x16x96 : Shape := ⟨3, ![2048, 16, 96]⟩
abbrev S2048x16x64 : Shape := ⟨3, ![2048, 16, 64]⟩
abbrev S_ : Shape := ⟨0, ![]⟩

class Facts : Prop where
  bcast_S_S2048x16x96 : S_.BroadcastsInDim S2048x16x96 (![] : Fin 0 → Fin S2048x16x96.rank)
  reducesTo_S2048x16x96_S_d0_1_2 : S2048x16x96.ReducesTo [0, 1, 2] S_
  h_S_ : 0 < S_.numel
  bcast_S_S2048x16x64 : S_.BroadcastsInDim S2048x16x64 (![] : Fin 0 → Fin S2048x16x64.rank)
  reducesTo_S2048x16x64_S_d0_1_2 : S2048x16x64.ReducesTo [0, 1, 2] S_

variable [Facts]

def fn_part1 {F : FTy → Type} [FloatOps F] (main_v13 : IVec S_ 1) (main_v16 : IVec S2048x16x64 1) : IVec S_ 1 :=
  let main_c_5 : IVec S_ 1 := constantI S_ 1 1#1
  let main_v17 : IVec S_ 1 := (fun x v => Host.reduce IntOp.andi x v reducesTo_S2048x16x64_S_d0_1_2 h_S_) main_v16 main_c_5
  let main_v18 : IVec S_ 1 := andi main_v13 main_v17
  main_v18

def fn {F : FTy → Type} [FloatOps F] (main_arg0 : FVec F S2048x16x96 .f32) (main_arg1 : FVec F S2048x16x96 .f32) (main_arg2 : FVec F S2048x16x64 .f32) (main_arg3 : FVec F S2048x16x64 .f32) : IVec S_ 1 :=
  let main_v0 : FVec F S2048x16x96 .f32 := Host.absf main_arg0
  let main_cst : FVec F S_ .f32 := constant S_ .f32 0x7F800000#32
  let main_v1 : FVec F S2048x16x96 .f32 := broadcastInDim S2048x16x96 ![] bcast_S_S2048x16x96 main_cst
  let main_v2 : IVec S2048x16x96 1 := cmpf .olt main_v0 main_v1
  let main_c : IVec S_ 1 := constantI S_ 1 1#1
  let main_v3 : IVec S_ 1 := (fun x v => Host.reduce IntOp.andi x v reducesTo_S2048x16x96_S_d0_1_2 h_S_) main_v2 main_c
  let main_v4 : FVec F S2048x16x96 .f32 := Host.absf main_arg1
  let main_cst_0 : FVec F S_ .f32 := constant S_ .f32 0x7F800000#32
  let main_v5 : FVec F S2048x16x96 .f32 := broadcastInDim S2048x16x96 ![] bcast_S_S2048x16x96 main_cst_0
  let main_v6 : IVec S2048x16x96 1 := cmpf .olt main_v4 main_v5
  let main_c_1 : IVec S_ 1 := constantI S_ 1 1#1
  let main_v7 : IVec S_ 1 := (fun x v => Host.reduce IntOp.andi x v reducesTo_S2048x16x96_S_d0_1_2 h_S_) main_v6 main_c_1
  let main_v8 : IVec S_ 1 := andi main_v3 main_v7
  let main_v9 : FVec F S2048x16x64 .f32 := Host.absf main_arg2
  let main_cst_2 : FVec F S_ .f32 := constant S_ .f32 0x7F800000#32
  let main_v10 : FVec F S2048x16x64 .f32 := broadcastInDim S2048x16x64 ![] bcast_S_S2048x16x64 main_cst_2
  let main_v11 : IVec S2048x16x64 1 := cmpf .olt main_v9 main_v10
  let main_c_3 : IVec S_ 1 := constantI S_ 1 1#1
  let main_v12 : IVec S_ 1 := (fun x v => Host.reduce IntOp.andi x v reducesTo_S2048x16x64_S_d0_1_2 h_S_) main_v11 main_c_3
  let main_v13 : IVec S_ 1 := andi main_v8 main_v12
  let main_v14 : FVec F S2048x16x64 .f32 := Host.absf main_arg3
  let main_cst_4 : FVec F S_ .f32 := constant S_ .f32 0x7F800000#32
  let main_v15 : FVec F S2048x16x64 .f32 := broadcastInDim S2048x16x64 ![] bcast_S_S2048x16x64 main_cst_4
  let main_v16 : IVec S2048x16x64 1 := cmpf .olt main_v14 main_v15
  fn_part1 (F := F) main_v13 main_v16
-- ==== Pre_finite2.lean ====
abbrev S2048x1024 : Shape := ⟨2, ![2048, 1024]⟩
abbrev S1024x2816 : Shape := ⟨2, ![1024, 2816]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  main_v18

def fn {F : FTy → Type} [FloatOps F] (main_arg0 : FVec F S2048x1024 .f32) (main_arg1 : FVec F S1024x2816 .f32) (main_arg2 : FVec F S1024x2816 .f32) (main_arg3 : FVec F S2816x1024 .f32) (main_arg4 : FVec F S2048x1024 .f32) (main_arg5 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x2816 .f32 := Host.absf main_arg2
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S2048x1024 .f32 := Host.absf main_arg4
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_v13 main_v16
-- ==== Pre_finite4.lean ====
abbrev S2048x1536 : Shape := ⟨2, ![2048, 1536]⟩
abbrev S4x1536 : Shape := ⟨2, ![4, 1536]⟩
abbrev S1x1536 : Shape := ⟨2, ![1, 1536]⟩
abbrev S_ : Shape := ⟨0, ![]⟩

class Facts : Prop where
  bcast_S_S2048x1536 : S_.BroadcastsInDim S2048x1536 (![] : Fin 0 → Fin S2048x1536.rank)
  reducesTo_S2048x1536_S_d0_1 : S2048x1536.ReducesTo [0, 1] S_
  h_S_ : 0 < S_.numel

variable [Facts]

def fn {F : FTy → Type} [FloatOps F] (main_arg0 : FVec F S2048x1536 .f32) (main_arg1 : FVec F S4x1536 .f32) (main_arg2 : FVec F S1x1536 .f32) (main_arg3 : FVec F S2048x1536 .f32) : IVec S_ 1 :=
  let main_v0 : FVec F S2048x1536 .f32 := Host.absf main_arg3
  let main_cst : FVec F S_ .f32 := constant S_ .f32 0x7F800000#32
  let main_v1 : FVec F S2048x1536 .f32 := broadcastInDim S2048x1536 ![] bcast_S_S2048x1536 main_cst
  let main_v2 : IVec S2048x1536 1 := cmpf .olt main_v0 main_v1
  let main_c : IVec S_ 1 := constantI S_ 1 1#1
  let main_v3 : IVec S_ 1 := (fun x v => Host.reduce IntOp.andi x v reducesTo_S2048x1536_S_d0_1 h_S_) main_v2 main_c
  main_v3
-- ==== Pre_finite5.lean ====
abbrev S2048x1024 : Shape := ⟨2, ![2048, 1024]⟩
abbrev S1x1024 : Shape := ⟨2, ![1, 1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_

variable [Facts]

def fn {F : FTy → Type} [FloatOps F] (main_arg0 : FVec F S2048x1024 .f32) (main_arg1 : FVec F S2048x1024 .f32) (main_arg2 : FVec F S1x1024 .f32) (main_arg3 : FVec F S2048x1024 .f32) : IVec S_ 1 :=
  let main_v0 : FVec F S1x1024 .f32 := Host.absf main_arg2
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S2048x1024 .f32 := Host.absf main_arg3
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  main_v8
-- ==== Pre_finite6.lean ====
abbrev S2048x1024 : Shape := ⟨2, ![2048, 1024]⟩
abbrev S1x1024 : Shape := ⟨2, ![1, 1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_

variable [Facts]

def fn {F : FTy → Type} [FloatOps F] (main_arg0 : FVec F S2048x1024 .f32) (main_arg1 : FVec F S2048x1024 .f32) (main_arg2 : FVec F S1x1024 .f32) (main_arg3 : FVec F S2048x1024 .f32) (main_arg4 : FVec F S2048x1024 .f32) : IVec S_ 1 :=
  let main_v0 : FVec F S1x1024 .f32 := Host.absf main_arg2
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S2048x1024 .f32 := Host.absf main_arg3
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  main_v8
-- ==== Pre_finite8.lean ====
abbrev S2048x1024 : Shape := ⟨2, ![2048, 1024]⟩
abbrev S1x1024 : Shape := ⟨2, ![1, 1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_

variable [Facts]

def fn {F : FTy → Type} [FloatOps F] (main_arg0 : FVec F S2048x1024 .f32) (main_arg1 : FVec F S1x1024 .f32) (main_arg2 : FVec F S2048x1024 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S2048x1024 .f32 := Host.absf main_arg2
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  main_v8
-- ==== Kernel.lean ====
abbrev S2048x16x96 : Shape := ⟨3, ![2048, 16, 96]⟩
abbrev S2048x16x64 : Shape := ⟨3, ![2048, 16, 64]⟩
abbrev S16x2048x2048 : Shape := ⟨3, ![16, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S16x2048 : Shape := ⟨2, ![16, 2048]⟩
abbrev S16x2048x1 : Shape := ⟨3, ![16, 2048, 1]⟩
abbrev S16x64x2048 : Shape := ⟨3, ![16, 64, 2048]⟩
abbrev S2048x16 : Shape := ⟨2, ![2048, 16]⟩
abbrev S8x2x2048 : Shape := ⟨3, ![8, 2, 2048]⟩
abbrev S8x4x2048 : Shape := ⟨3, ![8, 4, 2048]⟩
abbrev S8x8x2048 : Shape := ⟨3, ![8, 8, 2048]⟩
abbrev S2048x16x128 : Shape := ⟨3, ![2048, 16, 128]⟩
abbrev S2048x1024 : Shape := ⟨2, ![2048, 1024]⟩
abbrev S2048x256 : Shape := ⟨2, ![2048, 256]⟩
abbrev S256x256 : Shape := ⟨2, ![256, 256]⟩
abbrev S256x128 : Shape := ⟨2, ![256, 128]⟩
abbrev S2048x128 : Shape := ⟨2, ![2048, 128]⟩
abbrev S1x8x2048 : Shape := ⟨3, ![1, 8, 2048]⟩
abbrev S256x2048 : Shape := ⟨2, ![256, 2048]⟩
abbrev S1x8x256 : Shape := ⟨3, ![1, 8, 256]⟩
abbrev S8x256 : Shape := ⟨2, ![8, 256]⟩
abbrev S1x256 : Shape := ⟨2, ![1, 256]⟩
abbrev S128x256 : Shape := ⟨2, ![128, 256]⟩

abbrev nBuf : Space → Nat
  | .hbm => 65
  | .vmem => 18
  | .smem => 0
  | _ => 0

abbrev bufTy : (tb : Table) → Fin (tcTables nBuf tb) → BufTy
  | .hbm, ⟨0, _⟩ => ⟨S2048x16x96, .f32⟩
  | .hbm, ⟨1, _⟩ => ⟨S2048x16x96, .f32⟩
  | .hbm, ⟨2, _⟩ => ⟨S2048x16x64, .f32⟩
  | .hbm, ⟨3, _⟩ => ⟨S2048x16x64, .f32⟩
  | .hbm, ⟨4, _⟩ => ⟨S16x2048x2048, .f32⟩
  | .hbm, ⟨5, _⟩ => ⟨S_, .f32⟩
  | .hbm, ⟨6, _⟩ => ⟨S16x2048x2048, .f32⟩
  | .hbm, ⟨7, _⟩ => ⟨S16x2048x2048, .f32⟩
  | .hbm, ⟨8, _⟩ => ⟨S2048, .i32⟩
  | .hbm, ⟨9, _⟩ => ⟨S2048, .i32⟩
  | .hbm, ⟨10, _⟩ => ⟨S2048x1, .i32⟩
  | .hbm, ⟨11, _⟩ => ⟨S1x2048, .i32⟩
  | .hbm, ⟨12, _⟩ => ⟨S2048x2048, .i32⟩
  | .hbm, ⟨13, _⟩ => ⟨S2048x2048, .i32⟩
  | .hbm, ⟨14, _⟩ => ⟨S2048x2048, .i1⟩
  | .hbm, ⟨15, _⟩ => ⟨S_, .f32⟩
  | .hbm, ⟨16, _⟩ => ⟨S_, .f32⟩
  | .hbm, ⟨17, _⟩ => ⟨S16x2048x2048, .i1⟩
  | .hbm, ⟨18, _⟩ => ⟨S16x2048x2048, .f32⟩
  | .hbm, ⟨19, _⟩ => ⟨S16x2048x2048, .f32⟩
  | .hbm, ⟨20, _⟩ => ⟨S_, .f32⟩
  | .hbm, ⟨21, _⟩ => ⟨S16x2048, .f32⟩
  | .hbm, ⟨22, _⟩ => ⟨S16x2048x1, .f32⟩
  | .hbm, ⟨23, _⟩ => ⟨S16x2048x2048, .f32⟩
  | .hbm, ⟨24, _⟩ => ⟨S16x2048x2048, .f32⟩
  | .hbm, ⟨25, _⟩ => ⟨S16x2048x2048, .f32⟩
  | .hbm, ⟨26, _⟩ => ⟨S_, .f32⟩
  | .hbm, ⟨27, _⟩ => ⟨S16x2048, .f32⟩
  | .hbm, ⟨28, _⟩ => ⟨S16x2048, .f32⟩
  | .hbm, ⟨29, _⟩ => ⟨S16x2048, .f32⟩
  | .hbm, ⟨30, _⟩ => ⟨S16x2048x1, .f32⟩
  | .hbm, ⟨31, _⟩ => ⟨S16x2048x2048, .f32⟩
  | .hbm, ⟨32, _⟩ => ⟨S16x2048x2048, .f32⟩
  | .hbm, ⟨33, _⟩ => ⟨S16x64x2048, .f32⟩
  | .hbm, ⟨34, _⟩ => ⟨S2048x16x64, .f32⟩
  | .hbm, ⟨35, _⟩ => ⟨S2048x16x64, .f32⟩
  | .hbm, ⟨36, _⟩ => ⟨S_, .f32⟩
  | .hbm, ⟨37, _⟩ => ⟨S2048x16, .f32⟩
  | .hbm, ⟨38, _⟩ => ⟨S16x2048, .f32⟩
  | .hbm, ⟨39, _⟩ => ⟨S_, .f32⟩
  | .hbm, ⟨40, _⟩ => ⟨S_, .f32⟩
  | .hbm, ⟨41, _⟩ => ⟨S16x2048, .f32⟩
  | .hbm, ⟨42, _⟩ => ⟨S16x2048, .f32⟩
  | .hbm, ⟨43, _⟩ => ⟨S8x2x2048, .f32⟩
  | .hbm, ⟨44, _⟩ => ⟨S8x2x2048, .f32⟩
  | .hbm, ⟨45, _⟩ => ⟨S_, .f32⟩
  | .hbm, ⟨46, _⟩ => ⟨S8x4x2048, .f32⟩
  | .hbm, ⟨47, _⟩ => ⟨S8x8x2048, .f32⟩
  | .hbm, ⟨48, _⟩ => ⟨S_, .i32⟩
  | .hbm, ⟨49, _⟩ => ⟨S_, .f32⟩
  | .hbm, ⟨50, _⟩ => ⟨S2048x16x128, .f32⟩
  | .hbm, ⟨51, _⟩ => ⟨S2048x2048, .f32⟩
  | .hbm, ⟨52, _⟩ => ⟨S2048x2048, .bf16⟩
  | .hbm, ⟨53, _⟩ => ⟨S_, .i32⟩
  | .hbm, ⟨54, _⟩ => ⟨S_, .f32⟩
  | .hbm, ⟨55, _⟩ => ⟨S2048x16x128, .f32⟩
  | .hbm, ⟨56, _⟩ => ⟨S2048x2048, .f32⟩
  | .hbm, ⟨57, _⟩ => ⟨S2048x2048, .bf16⟩
  | .hbm, ⟨58, _⟩ => ⟨S2048x2048, .bf16⟩
  | .hbm, ⟨59, _⟩ => ⟨S2048x1024, .f32⟩
  | .hbm, ⟨60, _⟩ => ⟨S2048x1024, .bf16⟩
  | .hbm, ⟨61, _⟩ => ⟨S2048x1024, .f32⟩
  | .hbm, ⟨62, _⟩ => ⟨S2048x2048, .f32⟩
  | .hbm, ⟨63, _⟩ => ⟨S2048x2048, .f32⟩
  | .hbm, ⟨64, _⟩ => ⟨S2048x1024, .bf16⟩
  | .local _ .vmem, ⟨0, _⟩ => ⟨S2048x256, .bf16⟩
  | .local _ .vmem, ⟨1, _⟩ => ⟨S2048x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S256x128, .bf16⟩
  | .local _ .vmem, ⟨7, _⟩ => ⟨S256x128, .bf16⟩
  | .local _ .vmem, ⟨8, _⟩ => ⟨S2048x128, .f32⟩
  | .local _ .vmem, ⟨9, _⟩ => ⟨S2048x128, .f32⟩
  | .local _ .vmem, ⟨10, _⟩ => ⟨S1x8x2048, .f32⟩
  | .local _ .vmem, ⟨11, _⟩ => ⟨S1x8x2048, .f32⟩
  | .local _ .vmem, ⟨12, _⟩ => ⟨S256x2048, .f32⟩
  | .local _ .vmem, ⟨13, _⟩ => ⟨S256x2048, .f32⟩
  | .local _ .vmem, ⟨14, _⟩ => ⟨S256x256, .f32⟩
  | .local _ .vmem, ⟨15, _⟩ => ⟨S256x256, .f32⟩
  | .local _ .vmem, ⟨16, _⟩ => ⟨S256x128, .bf16⟩
  | .local _ .vmem, ⟨17, _⟩ => ⟨S256x128, .bf16⟩
  | _, _ => ⟨S2048x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_c : Ref sig .tc := ⟨.hbm, 48, rfl⟩
abbrev main_call1_v0 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_6 : Ref sig .tc := ⟨.hbm, 53, rfl⟩
abbrev main_call2_v0 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44_0 : Ref sig .tc := ⟨.hbm, 62, rfl⟩
abbrev main_v44_1 : Ref sig .tc := ⟨.hbm, 63, rfl⟩
abbrev main_v44_2 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let arg1 : BitVec 32 := BitVec.ofNat 32 (i 1).val
  let c8_i32 : BitVec 32 := 8#32
  let v14 : BitVec 32 := Scalar.subi c8_i32 arg1
  let c1_i32 : BitVec 32 := 1#32
  let v16 : BitVec 32 := Scalar.divsi v14 c1_i32
  let v17 : BitVec 32 := Scalar.muli v16 c1_i32
  let v18 : BitVec 32 := Scalar.addi arg1 v17
  let c1_i32_4 : BitVec 32 := 1#32
  ⟨arg1, v18, c1_i32_4⟩
def k0_mult1 (i : grid0.Coords) (k0_t1 : Fin (k0_t1_loop i).trips) : BitVec 32 :=
  let arg1 : BitVec 32 := BitVec.ofNat 32 (i 1).val
  let c1_i32_4 : BitVec 32 := 1#32
  let arg11 : BitVec 32 := Scf.iv arg1 c1_i32_4 k0_t1
  let c256_i32 : BitVec 32 := 256#32
  let v25 : BitVec 32 := Scalar.muli arg11 c256_i32
  v25
def k0_off1 (i : grid0.Coords) (k0_t1 : Fin (k0_t1_loop i).trips) : Fin 2 → Nat :=
  let arg1 : BitVec 32 := BitVec.ofNat 32 (i 1).val
  let c1_i32_4 : BitVec 32 := 1#32
  let arg11 : BitVec 32 := Scf.iv arg1 c1_i32_4 k0_t1
  let c256_i32 : BitVec 32 := 256#32
  let v25 : BitVec 32 := Scalar.muli arg11 c256_i32
  let v26 : BitVec 32 := v25
  let v27 : Index := Scalar.indexCast v26
  let c0_11 : Index := 0#32
  ![v27.toNat, 0]
def k0_off2 (i : grid0.Coords) (k0_t1 : Fin (k0_t1_loop i).trips) : Fin 2 → Nat :=
  let arg1 : BitVec 32 := BitVec.ofNat 32 (i 1).val
  let c1_i32_4 : BitVec 32 := 1#32
  let arg11 : BitVec 32 := Scf.iv arg1 c1_i32_4 k0_t1
  let c256_i32 : BitVec 32 := 256#32
  let v25 : BitVec 32 := Scalar.muli arg11 c256_i32
  let v26 : BitVec 32 := v25
  let v30 : Index := Scalar.indexCast v26
  let c0_12 : Index := 0#32
  ![v30.toNat, 0]
def k0_off3 (i : grid0.Coords) (k0_t1 : Fin (k0_t1_loop i).trips) : Fin 3 → Nat :=
  let c0_13 : Index := 0#32
  let c0_14 : Index := 0#32
  let arg1 : BitVec 32 := BitVec.ofNat 32 (i 1).val
  let c1_i32_4 : BitVec 32 := 1#32
  let arg11 : BitVec 32 := Scf.iv arg1 c1_i32_4 k0_t1
  let c256_i32 : BitVec 32 := 256#32
  let v25 : BitVec 32 := Scalar.muli arg11 c256_i32
  let v26 : BitVec 32 := v25
  let v34 : Index := Scalar.indexCast v26
  ![0, 0, v34.toNat]
def k0_off4 (i : grid0.Coords) (k0_t1 : Fin (k0_t1_loop i).trips) : Fin 2 → Nat :=
  let c0_25 : Index := 0#32
  let arg1 : BitVec 32 := BitVec.ofNat 32 (i 1).val
  let c1_i32_4 : BitVec 32 := 1#32
  let arg11 : BitVec 32 := Scf.iv arg1 c1_i32_4 k0_t1
  let c256_i32 : BitVec 32 := 256#32
  let v25 : BitVec 32 := Scalar.muli arg11 c256_i32
  let v26 : BitVec 32 := v25
  let v70 : Index := Scalar.indexCast v26
  ![0, v70.toNat]
def k0_off5 (i : grid0.Coords) (k0_t1 : Fin (k0_t1_loop i).trips) : Fin 2 → Nat :=
  let c128_40 : Index := 128#32
  let arg1 : BitVec 32 := BitVec.ofNat 32 (i 1).val
  let c1_i32_4 : BitVec 32 := 1#32
  let arg11 : BitVec 32 := Scf.iv arg1 c1_i32_4 k0_t1
  let c256_i32 : BitVec 32 := 256#32
  let v25 : BitVec 32 := Scalar.muli arg11 c256_i32
  let v26 : BitVec 32 := v25
  let v109 : Index := Scalar.indexCast v26
  ![128, v109.toNat]
@[reducible] def k0_t2_loop (i : grid0.Coords) : Scf.Loop 32 :=
  let arg1 : BitVec 32 := BitVec.ofNat 32 (i 1).val
  let c8_i32 : BitVec 32 := 8#32
  let v14 : BitVec 32 := Scalar.subi c8_i32 arg1
  let c1_i32 : BitVec 32 := 1#32
  let v16 : BitVec 32 := Scalar.divsi v14 c1_i32
  let v17 : BitVec 32 := Scalar.muli v16 c1_i32
  let v18 : BitVec 32 := Scalar.addi arg1 v17
  let v15 : BitVec 32 := Scalar.addi arg1 v14
  let c1_i32_5 : BitVec 32 := 1#32
  ⟨v18, v15, c1_i32_5⟩
def k0_mult2 (i : grid0.Coords) (k0_t2 : Fin (k0_t2_loop i).trips) : BitVec 32 :=
  let arg1 : BitVec 32 := BitVec.ofNat 32 (i 1).val
  let c8_i32 : BitVec 32 := 8#32
  let v14 : BitVec 32 := Scalar.subi c8_i32 arg1
  let c1_i32 : BitVec 32 := 1#32
  let v16 : BitVec 32 := Scalar.divsi v14 c1_i32
  let v17 : BitVec 32 := Scalar.muli v16 c1_i32
  let v18 : BitVec 32 := Scalar.addi arg1 v17
  let c1_i32_5 : BitVec 32 := 1#32
  let arg11 : BitVec 32 := Scf.iv v18 c1_i32_5 k0_t2
  let c256_i32 : BitVec 32 := 256#32
  let v25 : BitVec 32 := Scalar.muli arg11 c256_i32
  v25
def k0_off6 (i : grid0.Coords) (k0_t2 : Fin (k0_t2_loop i).trips) : Fin 2 → Nat :=
  let arg1 : BitVec 32 := BitVec.ofNat 32 (i 1).val
  let c8_i32 : BitVec 32 := 8#32
  let v14 : BitVec 32 := Scalar.subi c8_i32 arg1
  let c1_i32 : BitVec 32 := 1#32
  let v16 : BitVec 32 := Scalar.divsi v14 c1_i32
  let v17 : BitVec 32 := Scalar.muli v16 c1_i32
  let v18 : BitVec 32 := Scalar.addi arg1 v17
  let c1_i32_5 : BitVec 32 := 1#32
  let arg11 : BitVec 32 := Scf.iv v18 c1_i32_5 k0_t2
  let c256_i32 : BitVec 32 := 256#32
  let v25 : BitVec 32 := Scalar.muli arg11 c256_i32
  let v26 : BitVec 32 := v25
  let v27 : Index := Scalar.indexCast v26
  let c0_11 : Index := 0#32
  ![v27.toNat, 0]
def k0_off7 (i : grid0.Coords) (k0_t2 : Fin (k0_t2_loop i).trips) : Fin 2 → Nat :=
  let arg1 : BitVec 32 := BitVec.ofNat 32 (i 1).val
  let c8_i32 : BitVec 32 := 8#32
  let v14 : BitVec 32 := Scalar.subi c8_i32 arg1
  let c1_i32 : BitVec 32 := 1#32
  let v16 : BitVec 32 := Scalar.divsi v14 c1_i32
  let v17 : BitVec 32 := Scalar.muli v16 c1_i32
  let v18 : BitVec 32 := Scalar.addi arg1 v17
  let c1_i32_5 : BitVec 32 := 1#32
  let arg11 : BitVec 32 := Scf.iv v18 c1_i32_5 k0_t2
  let c256_i32 : BitVec 32 := 256#32
  let v25 : BitVec 32 := Scalar.muli arg11 c256_i32
  let v26 : BitVec 32 := v25
  let v30 : Index := Scalar.indexCast v26
  let c0_12 : Index := 0#32
  ![v30.toNat, 0]
def k0_off8 (i : grid0.Coords) (k0_t2 : Fin (k0_t2_loop i).trips) : Fin 3 → Nat :=
  let c0_13 : Index := 0#32
  let c0_14 : Index := 0#32
  let arg1 : BitVec 32 := BitVec.ofNat 32 (i 1).val
  let c8_i32 : BitVec 32 := 8#32
  let v14 : BitVec 32 := Scalar.subi c8_i32 arg1
  let c1_i32 : BitVec 32 := 1#32
  let v16 : BitVec 32 := Scalar.divsi v14 c1_i32
  let v17 : BitVec 32 := Scalar.muli v16 c1_i32
  let v18 : BitVec 32 := Scalar.addi arg1 v17
  let c1_i32_5 : BitVec 32 := 1#32
  let arg11 : BitVec 32 := Scf.iv v18 c1_i32_5 k0_t2
  let c256_i32 : BitVec 32 := 256#32
  let v25 : BitVec 32 := Scalar.muli arg11 c256_i32
  let v26 : BitVec 32 := v25
  let v34 : Index := Scalar.indexCast v26
  ![0, 0, v34.toNat]
def k0_off9 (i : grid0.Coords) (k0_t2 : Fin (k0_t2_loop i).trips) : Fin 2 → Nat :=
  let c0_25 : Index := 0#32
  let arg1 : BitVec 32 := BitVec.ofNat 32 (i 1).val
  let c8_i32 : BitVec 32 := 8#32
  let v14 : BitVec 32 := Scalar.subi c8_i32 arg1
  let c1_i32 : BitVec 32 := 1#32
  let v16 : BitVec 32 := Scalar.divsi v14 c1_i32
  let v17 : BitVec 32 := Scalar.muli v16 c1_i32
  let v18 : BitVec 32 := Scalar.addi arg1 v17
  let c1_i32_5 : BitVec 32 := 1#32
  let arg11 : BitVec 32 := Scf.iv v18 c1_i32_5 k0_t2
  let c256_i32 : BitVec 32 := 256#32
  let v25 : BitVec 32 := Scalar.muli arg11 c256_i32
  let v26 : BitVec 32 := v25
  let v70 : Index := Scalar.indexCast v26
  ![0, v70.toNat]
def k0_off10 (i : grid0.Coords) (k0_t2 : Fin (k0_t2_loop i).trips) : Fin 2 → Nat :=
  let c128_40 : Index := 128#32
  let arg1 : BitVec 32 := BitVec.ofNat 32 (i 1).val
  let c8_i32 : BitVec 32 := 8#32
  let v14 : BitVec 32 := Scalar.subi c8_i32 arg1
  let c1_i32 : BitVec 32 := 1#32
  let v16 : BitVec 32 := Scalar.divsi v14 c1_i32
  let v17 : BitVec 32 := Scalar.muli v16 c1_i32
  let v18 : BitVec 32 := Scalar.addi arg1 v17
  let c1_i32_5 : BitVec 32 := 1#32
  let arg11 : BitVec 32 := Scf.iv v18 c1_i32_5 k0_t2
  let c256_i32 : BitVec 32 := 256#32
  let v25 : BitVec 32 := Scalar.muli arg11 c256_i32
  let v26 : BitVec 32 := v25
  let v109 : Index := Scalar.indexCast v26
  ![128, v109.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "neg" => some ⊥
  | "scale_log2" => some (((3424635 / 33554432) * (Real.log 2)⁻¹ : ℝ) : EReal)
  | _ => none
-- ==== ReferenceIdeal.lean ====
abbrev S2048x16x96 : Shape := ⟨3, ![2048, 16, 96]⟩
abbrev S2048x16x64 : Shape := ⟨3, ![2048, 16, 64]⟩
abbrev S16x2048x2048 : Shape := ⟨3, ![16, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S16x2048 : Shape := ⟨2, ![16, 2048]⟩
abbrev S16x2048x1 : Shape := ⟨3, ![16, 2048, 1]⟩
abbrev S16x64x2048 : Shape := ⟨3, ![16, 64, 2048]⟩
abbrev S16x2048x96 : Shape := ⟨3, ![16, 2048, 96]⟩
abbrev S2048x16x128 : Shape := ⟨3, ![2048, 16, 128]⟩
abbrev S2048x1024 : Shape := ⟨2, ![2048, 1024]⟩

abbrev nBuf : Space → Nat
  | .hbm => 101
  | .vmem => 0
  | .smem => 0
  | _ => 0

abbrev bufTy : (tb : Table) → Fin (tcTables nBuf tb) → BufTy
  | .hbm, ⟨0, _⟩ => ⟨S2048x16x96, .f32⟩
  | .hbm, ⟨1, _⟩ => ⟨S2048x16x96, .f32⟩
  | .hbm, ⟨2, _⟩ => ⟨S2048x16x64, .f32⟩
  | .hbm, ⟨3, _⟩ => ⟨S2048x16x64, .f32⟩
  | .hbm, ⟨4, _⟩ => ⟨S16x2048x2048, .f32⟩
  | .hbm, ⟨5, _⟩ => ⟨S_, .f32⟩
  | .hbm, ⟨6, _⟩ => ⟨S16x2048x2048, .f32⟩
  | .hbm, ⟨7, _⟩ => ⟨S16x2048x2048, .f32⟩
  | .hbm, ⟨8, _⟩ => ⟨S2048, .i32⟩
  | .hbm, ⟨9, _⟩ => ⟨S2048, .i32⟩
  | .hbm, ⟨10, _⟩ => ⟨S2048x1, .i32⟩
  | .hbm, ⟨11, _⟩ => ⟨S1x2048, .i32⟩
  | .hbm, ⟨12, _⟩ => ⟨S2048x2048, .i32⟩
  | .hbm, ⟨13, _⟩ => ⟨S2048x2048, .i32⟩
  | .hbm, ⟨14, _⟩ => ⟨S2048x2048, .i1⟩
  | .hbm, ⟨15, _⟩ => ⟨S_, .f32⟩
  | .hbm, ⟨16, _⟩ => ⟨S_, .f32⟩
  | .hbm, ⟨17, _⟩ => ⟨S16x2048x2048, .i1⟩
  | .hbm, ⟨18, _⟩ => ⟨S16x2048x2048, .f32⟩
  | .hbm, ⟨19, _⟩ => ⟨S16x2048x2048, .f32⟩
  | .hbm, ⟨20, _⟩ => ⟨S_, .f32⟩
  | .hbm, ⟨21, _⟩ => ⟨S16x2048x2048, .f32⟩
  | .hbm, ⟨22, _⟩ => ⟨S_, .f32⟩
  | .hbm, ⟨23, _⟩ => ⟨S16x2048, .f32⟩
  | .hbm, ⟨24, _⟩ => ⟨S16x2048x1, .f32⟩
  | .hbm, ⟨25, _⟩ => ⟨S16x2048x2048, .f32⟩
  | .hbm, ⟨26, _⟩ => ⟨S16x2048x2048, .i1⟩
  | .hbm, ⟨27, _⟩ => ⟨S16x2048x2048, .f32⟩
  | .hbm, ⟨28, _⟩ => ⟨S_, .f32⟩
  | .hbm, ⟨29, _⟩ => ⟨S16x2048, .f32⟩
  | .hbm, ⟨30, _⟩ => ⟨S_, .f32⟩
  | .hbm, ⟨31, _⟩ => ⟨S16x2048, .f32⟩
  | .hbm, ⟨32, _⟩ => ⟨S16x2048, .f32⟩
  | .hbm, ⟨33, _⟩ => ⟨S_, .f32⟩
  | .hbm, ⟨34, _⟩ => ⟨S16x2048, .f32⟩
  | .hbm, ⟨35, _⟩ => ⟨S16x2048, .i1⟩
  | .hbm, ⟨36, _⟩ => ⟨S_, .f32⟩
  | .hbm, ⟨37, _⟩ => ⟨S16x2048, .f32⟩
  | .hbm, ⟨38, _⟩ => ⟨S16x2048, .i1⟩
  | .hbm, ⟨39, _⟩ => ⟨S_, .f32⟩
  | .hbm, ⟨40, _⟩ => ⟨S16x2048, .f32⟩
  | .hbm, ⟨41, _⟩ => ⟨S_, .f32⟩
  | .hbm, ⟨42, _⟩ => ⟨S16x2048, .f32⟩
  | .hbm, ⟨43, _⟩ => ⟨S_, .f32⟩
  | .hbm, ⟨44, _⟩ => ⟨S16x2048, .f32⟩
  | .hbm, ⟨45, _⟩ => ⟨S16x2048, .f32⟩
  | .hbm, ⟨46, _⟩ => ⟨S16x2048, .f32⟩
  | .hbm, ⟨47, _⟩ => ⟨S16x2048x1, .f32⟩
  | .hbm, ⟨48, _⟩ => ⟨S16x2048x2048, .f32⟩
  | .hbm, ⟨49, _⟩ => ⟨S16x2048x2048, .f32⟩
  | .hbm, ⟨50, _⟩ => ⟨S16x2048x2048, .f32⟩
  | .hbm, ⟨51, _⟩ => ⟨S_, .f32⟩
  | .hbm, ⟨52, _⟩ => ⟨S16x2048, .f32⟩
  | .hbm, ⟨53, _⟩ => ⟨S16x2048x1, .f32⟩
  | .hbm, ⟨54, _⟩ => ⟨S16x2048x2048, .f32⟩
  | .hbm, ⟨55, _⟩ => ⟨S16x2048x2048, .f32⟩
  | .hbm, ⟨56, _⟩ => ⟨S16x2048x1, .f32⟩
  | .hbm, ⟨57, _⟩ => ⟨S_, .f32⟩
  | .hbm, ⟨58, _⟩ => ⟨S16x2048x1, .f32⟩
  | .hbm, ⟨59, _⟩ => ⟨S16x2048x1, .f32⟩
  | .hbm, ⟨60, _⟩ => ⟨S16x64x2048, .f32⟩
  | .hbm, ⟨61, _⟩ => ⟨S2048x16x64, .f32⟩
  | .hbm, ⟨62, _⟩ => ⟨S16x64x2048, .f32⟩
  | .hbm, ⟨63, _⟩ => ⟨S16x2048x2048, .f32⟩
  | .hbm, ⟨64, _⟩ => ⟨S16x64x2048, .f32⟩
  | .hbm, ⟨65, _⟩ => ⟨S2048x16x64, .f32⟩
  | .hbm, ⟨66, _⟩ => ⟨S16x2048x2048, .f32⟩
  | .hbm, ⟨67, _⟩ => ⟨S16x2048x2048, .f32⟩
  | .hbm, ⟨68, _⟩ => ⟨S16x2048x2048, .f32⟩
  | .hbm, ⟨69, _⟩ => ⟨S_, .f32⟩
  | .hbm, ⟨70, _⟩ => ⟨S16x2048, .f32⟩
  | .hbm, ⟨71, _⟩ => ⟨S16x2048x1, .f32⟩
  | .hbm, ⟨72, _⟩ => ⟨S16x2048x1, .f32⟩
  | .hbm, ⟨73, _⟩ => ⟨S16x2048x2048, .f32⟩
  | .hbm, ⟨74, _⟩ => ⟨S16x2048x2048, .f32⟩
  | .hbm, ⟨75, _⟩ => ⟨S_, .f32⟩
  | .hbm, ⟨76, _⟩ => ⟨S16x2048, .f32⟩
  | .hbm, ⟨77, _⟩ => ⟨S16x2048x2048, .f32⟩
  | .hbm, ⟨78, _⟩ => ⟨S16x2048x2048, .f32⟩
  | .hbm, ⟨79, _⟩ => ⟨S16x2048x2048, .f32⟩
  | .hbm, ⟨80, _⟩ => ⟨S_, .f32⟩
  | .hbm, ⟨81, _⟩ => ⟨S16x2048x2048, .f32⟩
  | .hbm, ⟨82, _⟩ => ⟨S16x2048x2048, .f32⟩
  | .hbm, ⟨83, _⟩ => ⟨S_, .f32⟩
  | .hbm, ⟨84, _⟩ => ⟨S16x2048x2048, .f32⟩
  | .hbm, ⟨85, _⟩ => ⟨S16x2048x2048, .f32⟩
  | .hbm, ⟨86, _⟩ => ⟨S16x2048x96, .f32⟩
  | .hbm, ⟨87, _⟩ => ⟨S2048x16x96, .f32⟩
  | .hbm, ⟨88, _⟩ => ⟨S16x2048x96, .f32⟩
  | .hbm, ⟨89, _⟩ => ⟨S2048x16x96, .f32⟩
  | .hbm, ⟨90, _⟩ => ⟨S_, .i32⟩
  | .hbm, ⟨91, _⟩ => ⟨S_, .f32⟩
  | .hbm, ⟨92, _⟩ => ⟨S2048x16x128, .f32⟩
  | .hbm, ⟨93, _⟩ => ⟨S2048x2048, .f32⟩
  | .hbm, ⟨94, _⟩ => ⟨S_, .i32⟩
  | .hbm, ⟨95, _⟩ => ⟨S_, .f32⟩
  | .hbm, ⟨96, _⟩ => ⟨S2048x16x128, .f32⟩
  | .hbm, ⟨97, _⟩ => ⟨S2048x2048, .f32⟩
  | .hbm, ⟨98, _⟩ => ⟨S2048x2048, .f32⟩
  | .hbm, ⟨99, _⟩ => ⟨S2048x1024, .f32⟩
  | .hbm, ⟨100, _⟩ => ⟨S2048x1024, .bf16⟩
  | _, _ => ⟨S2048x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call1_cst : Ref sig .tc := ⟨.hbm, 80, rfl⟩
abbrev main_call1_v0 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c : Ref sig .tc := ⟨.hbm, 90, rfl⟩
abbrev main_call2_v0 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_call3_v0 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩

abbrev nD : Nat := 1
abbrev τ : Topo := Topo.v7x

variable {F : FTy → Type} [FloatOps F]
-- ==== Feed.lean ====
abbrev S2048x1024 : Shape := ⟨2, ![2048, 1024]⟩
abbrev S1024x2816 : Shape := ⟨2, ![1024, 2816]⟩
abbrev S2816x1024 : Shape := ⟨2, ![2816, 1024]⟩
abbrev S4x704x1024 : Shape := ⟨3, ![4, 704, 1024]⟩
abbrev S4x2048x704 : Shape := ⟨3, ![4, 2048, 704]⟩
abbrev S1024x1024 : Shape := ⟨2, ![1024, 1024]⟩
abbrev S1x704x1024 : Shape := ⟨3, ![1, 704, 1024]⟩
abbrev S1x1024x704 : Shape := ⟨3, ![1, 1024, 704]⟩
abbrev S704x1024 : Shape := ⟨2, ![704, 1024]⟩
abbrev S1024x704 : Shape := ⟨2, ![1024, 704]⟩
abbrev S1x2048x704 : Shape := ⟨3, ![1, 2048, 704]⟩
abbrev S2048x704 : Shape := ⟨2, ![2048, 704]⟩

abbrev nBuf : Space → Nat
  | .hbm => 26
  | .vmem => 42
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2048x1024, .f32⟩
  | .hbm, ⟨5, _⟩ => ⟨S2048x1024, .f32⟩
  | .hbm, ⟨6, _⟩ => ⟨S2048x1024, .bf16⟩
  | .hbm, ⟨7, _⟩ => ⟨S2048x1024, .bf16⟩
  | .hbm, ⟨8, _⟩ => ⟨S2048x1024, .bf16⟩
  | .hbm, ⟨9, _⟩ => ⟨S2816x1024, .f32⟩
  | .hbm, ⟨10, _⟩ => ⟨S2816x1024, .bf16⟩
  | .hbm, ⟨11, _⟩ => ⟨S4x704x1024, .bf16⟩
  | .hbm, ⟨12, _⟩ => ⟨S2816x1024, .f32⟩
  | .hbm, ⟨13, _⟩ => ⟨S2816x1024, .bf16⟩
  | .hbm, ⟨14, _⟩ => ⟨S4x704x1024, .bf16⟩
  | .hbm, ⟨15, _⟩ => ⟨S2816x1024, .bf16⟩
  | .hbm, ⟨16, _⟩ => ⟨S4x704x1024, .bf16⟩
  | .hbm, ⟨17, _⟩ => ⟨S4x2048x704, .bf16⟩
  | .hbm, ⟨18, _⟩ => ⟨S4x2048x704, .bf16⟩
  | .hbm, ⟨19, _⟩ => ⟨S4x2048x704, .bf16⟩
  | .hbm, ⟨20, _⟩ => ⟨S1024x1024, .bf16⟩
  | .hbm, ⟨21, _⟩ => ⟨S4x704x1024, .bf16⟩
  | .hbm, ⟨22, _⟩ => ⟨S4x2048x704, .bf16⟩
  | .hbm, ⟨23, _⟩ => ⟨S4x2048x704, .bf16⟩
  | .hbm, ⟨24, _⟩ => ⟨S4x704x1024, .bf16⟩
  | .hbm, ⟨25, _⟩ => ⟨S4x704x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S2048x1024, .bf16⟩
  | .local _ .vmem, ⟨13, _⟩ => ⟨S2048x1024, .bf16⟩
  | .local _ .vmem, ⟨14, _⟩ => ⟨S1024x1024, .bf16⟩
  | .local _ .vmem, ⟨15, _⟩ => ⟨S1x2048x704, .bf16⟩
  | .local _ .vmem, ⟨16, _⟩ => ⟨S1x2048x704, .bf16⟩
  | .local _ .vmem, ⟨17, _⟩ => ⟨S2048x1024, .bf16⟩
  | .local _ .vmem, ⟨18, _⟩ => ⟨S1x704x1024, .bf16⟩
  | .local _ .vmem, ⟨19, _⟩ => ⟨S1x704x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1x704x1024, .bf16⟩
  | .local _ .vmem, ⟨23, _⟩ => ⟨S1x704x1024, .bf16⟩
  | .local _ .vmem, ⟨24, _⟩ => ⟨S1x1024x704, .bf16⟩
  | .local _ .vmem, ⟨25, _⟩ => ⟨S1x1024x704, .bf16⟩
  | .local _ .vmem, ⟨26, _⟩ => ⟨S1x1024x704, .bf16⟩
  | .local _ .vmem, ⟨27, _⟩ => ⟨S1x1024x704, .bf16⟩
  | .local _ .vmem, ⟨28, _⟩ => ⟨S1x1024x704, .bf16⟩
  | .local _ .vmem, ⟨29, _⟩ => ⟨S1x1024x704, .bf16⟩
  | .local _ .vmem, ⟨30, _⟩ => ⟨S1x1024x704, .bf16⟩
  | .local _ .vmem, ⟨31, _⟩ => ⟨S1x1024x704, .bf16⟩
  | .local _ .vmem, ⟨32, _⟩ => ⟨S1x2048x704, .bf16⟩
  | .local _ .vmem, ⟨33, _⟩ => ⟨S1x2048x704, .bf16⟩
  | .local _ .vmem, ⟨34, _⟩ => ⟨S2048x1024, .bf16⟩
  | .local _ .vmem, ⟨35, _⟩ => ⟨S1x704x1024, .bf16⟩
  | .local _ .vmem, ⟨36, _⟩ => ⟨S1x704x1024, .bf16⟩
  | .local _ .vmem, ⟨37, _⟩ => ⟨S1x2048x704, .bf16⟩
  | .local _ .vmem, ⟨38, _⟩ => ⟨S1x2048x704, .bf16⟩
  | .local _ .vmem, ⟨39, _⟩ => ⟨S2048x1024, .bf16⟩
  | .local _ .vmem, ⟨40, _⟩ => ⟨S1x704x1024, .bf16⟩
  | .local _ .vmem, ⟨41, _⟩ => ⟨S1x704x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc3_stg4_1 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg2_0 : Ref sig .tc := ⟨.vmem, 40, rfl⟩
abbrev cc5_stg2_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem1_0 : DmaSem sig := 13
abbrev cc1_sem2_0 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc3_sem4_0 : DmaSem sig := 28
abbrev cc3_sem4_1 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem2_1 : DmaSem sig := 36
abbrev cc5_sem0_0 : DmaSem sig := 37
abbrev cc5_sem0_1 : DmaSem sig := 38
abbrev cc5_sem1_0 : DmaSem sig := 39
abbrev cc5_sem2_0 : DmaSem sig := 40
abbrev cc5_sem2_1 : DmaSem sig := 41

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![1, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S2048x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, false]

abbrev stage1_1 : Fin 1 → Memref sig .tc .vmem S2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, false]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true, false]

abbrev grid2 : Pipeline.Grid := ⟨3, ![1, 1, 4], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat, arg1.toNat]

abbrev stage2_0 : Fin 2 → Memref sig .tc .vmem S1x2048x704 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S2048x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, false]

abbrev stage2_2 : Fin 2 → Memref sig .tc .vmem S1x704x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true]

abbrev grid3 : Pipeline.Grid := ⟨2, ![2, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1x704x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x1024x704 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x1024x704 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1x1024x704 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1x1024x704 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev grid4 : Pipeline.Grid := ⟨3, ![1, 1, 4], ![false, false, false]⟩

def cc4_transform_0 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat, arg1.toNat]

abbrev stage4_0 : Fin 2 → Memref sig .tc .vmem S1x2048x704 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S2048x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, false]

abbrev stage4_2 : Fin 2 → Memref sig .tc .vmem S1x704x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, true]

abbrev grid5 : Pipeline.Grid := ⟨3, ![1, 1, 4], ![false, false, false]⟩

def cc5_transform_0 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat, arg1.toNat]

abbrev stage5_0 : Fin 2 → Memref sig .tc .vmem S1x2048x704 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S2048x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, false]

abbrev stage5_2 : Fin 2 → Memref sig .tc .vmem S1x704x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, true]
-- ==== FeedReferenceIdeal.lean ====
abbrev S2048x1024 : Shape := ⟨2, ![2048, 1024]⟩
abbrev S1024x2816 : Shape := ⟨2, ![1024, 2816]⟩
abbrev S2816x1024 : Shape := ⟨2, ![2816, 1024]⟩
abbrev S2048x2816 : Shape := ⟨2, ![2048, 2816]⟩
abbrev S_ : Shape := ⟨0, ![]⟩
abbrev S1024x1024 : Shape := ⟨2, ![1024, 1024]⟩
abbrev S4x704x1024 : Shape := ⟨3, ![4, 704, 1024]⟩
abbrev S2048x4x704 : Shape := ⟨3, ![2048, 4, 704]⟩
abbrev S4x2048x704 : Shape := ⟨3, ![4, 2048, 704]⟩

abbrev nBuf : Space → Nat
  | .hbm => 58
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2048x1024, .f32⟩
  | .hbm, ⟨5, _⟩ => ⟨S2048x1024, .f32⟩
  | .hbm, ⟨6, _⟩ => ⟨S2048x2816, .f32⟩
  | .hbm, ⟨7, _⟩ => ⟨S2048x2816, .f32⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x2816, .f32⟩
  | .hbm, ⟨12, _⟩ => ⟨S2048x2816, .f32⟩
  | .hbm, ⟨13, _⟩ => ⟨S_, .f32⟩
  | .hbm, ⟨14, _⟩ => ⟨S2048x2816, .f32⟩
  | .hbm, ⟨15, _⟩ => ⟨S2048x2816, .f32⟩
  | .hbm, ⟨16, _⟩ => ⟨S_, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S2048x2816, .f32⟩
  | .hbm, ⟨22, _⟩ => ⟨S2048x1024, .f32⟩
  | .hbm, ⟨23, _⟩ => ⟨S1024x2816, .f32⟩
  | .hbm, ⟨24, _⟩ => ⟨S2816x1024, .f32⟩
  | .hbm, ⟨25, _⟩ => ⟨S2048x2816, .f32⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S2816x1024, .f32⟩
  | .hbm, ⟨34, _⟩ => ⟨S1024x2816, .f32⟩
  | .hbm, ⟨35, _⟩ => ⟨S2048x2816, .f32⟩
  | .hbm, ⟨36, _⟩ => ⟨S2816x1024, .f32⟩
  | .hbm, ⟨37, _⟩ => ⟨S1024x2816, .f32⟩
  | .hbm, ⟨38, _⟩ => ⟨S_, .f32⟩
  | .hbm, ⟨39, _⟩ => ⟨S1024x1024, .f32⟩
  | .hbm, ⟨40, _⟩ => ⟨S2048x1024, .f32⟩
  | .hbm, ⟨41, _⟩ => ⟨S1024x1024, .f32⟩
  | .hbm, ⟨42, _⟩ => ⟨S1024x1024, .f32⟩
  | .hbm, ⟨43, _⟩ => ⟨S1024x1024, .bf16⟩
  | .hbm, ⟨44, _⟩ => ⟨S4x704x1024, .f32⟩
  | .hbm, ⟨45, _⟩ => ⟨S4x704x1024, .bf16⟩
  | .hbm, ⟨46, _⟩ => ⟨S2048x4x704, .f32⟩
  | .hbm, ⟨47, _⟩ => ⟨S4x2048x704, .f32⟩
  | .hbm, ⟨48, _⟩ => ⟨S4x2048x704, .bf16⟩
  | .hbm, ⟨49, _⟩ => ⟨S2048x4x704, .f32⟩
  | .hbm, ⟨50, _⟩ => ⟨S4x2048x704, .f32⟩
  | .hbm, ⟨51, _⟩ => ⟨S4x2048x704, .bf16⟩
  | .hbm, ⟨52, _⟩ => ⟨S2816x1024, .f32⟩
  | .hbm, ⟨53, _⟩ => ⟨S4x704x1024, .f32⟩
  | .hbm, ⟨54, _⟩ => ⟨S4x704x1024, .bf16⟩
  | .hbm, ⟨55, _⟩ => ⟨S2816x1024, .f32⟩
  | .hbm, ⟨56, _⟩ => ⟨S4x704x1024, .f32⟩
  | .hbm, ⟨57, _⟩ => ⟨S4x704x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v2_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v2_1 : Ref sig .tc := ⟨.hbm, 19, rfl⟩
abbrev main_v2_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩

abbrev nD : Nat := 1
abbrev τ : Topo := Topo.v7x

variable {F : FTy → Type} [FloatOps F]
-- ==== Joint.lean ====
abbrev S4x2048x704 : Shape := ⟨3, ![4, 2048, 704]⟩
abbrev S1024x2816 : Shape := ⟨2, ![1024, 2816]⟩
abbrev S1024x1024 : Shape := ⟨2, ![1024, 1024]⟩
abbrev S2048x1024 : Shape := ⟨2, ![2048, 1024]⟩
abbrev S2816x1024 : Shape := ⟨2, ![2816, 1024]⟩
abbrev S4x704x1024 : Shape := ⟨3, ![4, 704, 1024]⟩
abbrev S1x1024x704 : Shape := ⟨3, ![1, 1024, 704]⟩
abbrev S1x704x1024 : Shape := ⟨3, ![1, 704, 1024]⟩
abbrev S1024x704 : Shape := ⟨2, ![1024, 704]⟩
abbrev S704x1024 : Shape := ⟨2, ![704, 1024]⟩

abbrev nBuf : Space → Nat
  | .hbm => 17
  | .vmem => 15
  | .smem => 0
  | _ => 0

abbrev bufTy : (tb : Table) → Fin (tcTables nBuf tb) → BufTy
  | .hbm, ⟨0, _⟩ => ⟨S4x2048x704, .bf16⟩
  | .hbm, ⟨1, _⟩ => ⟨S4x2048x704, .bf16⟩
  | .hbm, ⟨2, _⟩ => ⟨S1024x2816, .f32⟩
  | .hbm, ⟨3, _⟩ => ⟨S1024x2816, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2816x1024, .f32⟩
  | .hbm, ⟨8, _⟩ => ⟨S2816x1024, .bf16⟩
  | .hbm, ⟨9, _⟩ => ⟨S4x704x1024, .bf16⟩
  | .hbm, ⟨10, _⟩ => ⟨S2816x1024, .f32⟩
  | .hbm, ⟨11, _⟩ => ⟨S2816x1024, .bf16⟩
  | .hbm, ⟨12, _⟩ => ⟨S4x704x1024, .bf16⟩
  | .hbm, ⟨13, _⟩ => ⟨S2048x1024, .bf16⟩
  | .hbm, ⟨14, _⟩ => ⟨S1024x1024, .bf16⟩
  | .hbm, ⟨15, _⟩ => ⟨S1024x1024, .bf16⟩
  | .hbm, ⟨16, _⟩ => ⟨S2048x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x704x1024, .bf16⟩
  | .local _ .vmem, ⟨7, _⟩ => ⟨S1x704x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v11 : BitVec 1 := Scalar.cmpi .eq arg2 c0_i32
  let v12 : BitVec 32 := Scalar.extui v11
  let c0_i32_12 : BitVec 32 := 0#32
  let v13 : BitVec 1 := Scalar.cmpi .ne v12 c0_i32_12
  v13

def k0_cond2 (i : grid0.Coords) : BitVec 1 :=
  let arg2 : BitVec 32 := BitVec.ofNat 32 (i 2).val
  let c0_i32_13 : BitVec 32 := 0#32
  let v14 : BitVec 1 := Scalar.cmpi .sgt arg2 c0_i32_13
  let v15 : BitVec 32 := Scalar.extui v14
  let c0_i32_14 : BitVec 32 := 0#32
  let v16 : BitVec 1 := Scalar.cmpi .ne v15 c0_i32_14
  v16

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== JointReferenceIdeal.lean ====
abbrev S4x2048x704 : Shape := ⟨3, ![4, 2048, 704]⟩
abbrev S1024x2816 : Shape := ⟨2, ![1024, 2816]⟩
abbrev S1024x1024 : Shape := ⟨2, ![1024, 1024]⟩
abbrev S2048x1024 : Shape := ⟨2, ![2048, 1024]⟩
abbrev S_ : Shape := ⟨0, ![]⟩
abbrev S2048x2816 : Shape := ⟨2, ![2048, 2816]⟩
abbrev S2048x4x704 : Shape := ⟨3, ![2048, 4, 704]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x704, .bf16⟩
  | .hbm, ⟨1, _⟩ => ⟨S4x2048x704, .bf16⟩
  | .hbm, ⟨2, _⟩ => ⟨S1024x2816, .f32⟩
  | .hbm, ⟨3, _⟩ => ⟨S1024x2816, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S2048x2816, .f32⟩
  | .hbm, ⟨13, _⟩ => ⟨S2048x2816, .f32⟩
  | .hbm, ⟨14, _⟩ => ⟨S2048x1024, .f32⟩
  | .hbm, ⟨15, _⟩ => ⟨S4x2048x704, .f32⟩
  | .hbm, ⟨16, _⟩ => ⟨S2048x4x704, .f32⟩
  | .hbm, ⟨17, _⟩ => ⟨S2048x2816, .f32⟩
  | .hbm, ⟨18, _⟩ => ⟨S4x2048x704, .f32⟩
  | .hbm, ⟨19, _⟩ => ⟨S2048x4x704, .f32⟩
  | .hbm, ⟨20, _⟩ => ⟨S2048x2816, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | _, _ => ⟨S4x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Conv.lean ====
abbrev S2048x1536 : Shape := ⟨2, ![2048, 1536]⟩
abbrev S4x1536 : Shape := ⟨2, ![4, 1536]⟩
abbrev S1x1536 : Shape := ⟨2, ![1, 1536]⟩
abbrev S2048x256 : Shape := ⟨2, ![2048, 256]⟩
abbrev S4x256 : Shape := ⟨2, ![4, 256]⟩
abbrev S1x256 : Shape := ⟨2, ![1, 256]⟩
abbrev S256 : Shape := ⟨1, ![256]⟩

abbrev nBuf : Space → Nat
  | .hbm => 7
  | .vmem => 14
  | .smem => 0
  | _ => 0

abbrev bufTy : (tb : Table) → Fin (tcTables nBuf tb) → BufTy
  | .hbm, ⟨0, _⟩ => ⟨S2048x1536, .f32⟩
  | .hbm, ⟨1, _⟩ => ⟨S4x1536, .f32⟩
  | .hbm, ⟨2, _⟩ => ⟨S1x1536, .f32⟩
  | .hbm, ⟨3, _⟩ => ⟨S2048x1536, .f32⟩
  | .hbm, ⟨4, _⟩ => ⟨S2048x1536, .bf16⟩
  | .hbm, ⟨5, _⟩ => ⟨S4x1536, .f32⟩
  | .hbm, ⟨6, _⟩ => ⟨S1x1536, .f32⟩
  | .local _ .vmem, ⟨0, _⟩ => ⟨S2048x256, .f32⟩
  | .local _ .vmem, ⟨1, _⟩ => ⟨S2048x256, .f32⟩
  | .local _ .vmem, ⟨2, _⟩ => ⟨S4x256, .f32⟩
  | .local _ .vmem, ⟨3, _⟩ => ⟨S4x256, .f32⟩
  | .local _ .vmem, ⟨4, _⟩ => ⟨S1x256, .f32⟩
  | .local _ .vmem, ⟨5, _⟩ => ⟨S1x256, .f32⟩
  | .local _ .vmem, ⟨6, _⟩ => ⟨S2048x256, .f32⟩
  | .local _ .vmem, ⟨7, _⟩ => ⟨S2048x256, .f32⟩
  | .local _ .vmem, ⟨8, _⟩ => ⟨S2048x256, .bf16⟩
  | .local _ .vmem, ⟨9, _⟩ => ⟨S2048x256, .bf16⟩
  | .local _ .vmem, ⟨10, _⟩ => ⟨S4x256, .f32⟩
  | .local _ .vmem, ⟨11, _⟩ => ⟨S4x256, .f32⟩
  | .local _ .vmem, ⟨12, _⟩ => ⟨S1x256, .f32⟩
  | .local _ .vmem, ⟨13, _⟩ => ⟨S1x256, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvReferenceIdeal.lean ====
abbrev S2048x1536 : Shape := ⟨2, ![2048, 1536]⟩
abbrev S4x1536 : Shape := ⟨2, ![4, 1536]⟩
abbrev S1x1536 : Shape := ⟨2, ![1, 1536]⟩
abbrev S_ : Shape := ⟨0, ![]⟩
abbrev S3x1536 : Shape := ⟨2, ![3, 1536]⟩
abbrev S2051x1536 : Shape := ⟨2, ![2051, 1536]⟩
abbrev S1536 : Shape := ⟨1, ![1536]⟩

abbrev nBuf : Space → Nat
  | .hbm => 102
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S4x1536, .f32⟩
  | .hbm, ⟨2, _⟩ => ⟨S1x1536, .f32⟩
  | .hbm, ⟨3, _⟩ => ⟨S2048x1536, .f32⟩
  | .hbm, ⟨4, _⟩ => ⟨S_, .f32⟩
  | .hbm, ⟨5, _⟩ => ⟨S3x1536, .f32⟩
  | .hbm, ⟨6, _⟩ => ⟨S2051x1536, .f32⟩
  | .hbm, ⟨7, _⟩ => ⟨S_, .f32⟩
  | .hbm, ⟨8, _⟩ => ⟨S3x1536, .f32⟩
  | .hbm, ⟨9, _⟩ => ⟨S1x1536, .f32⟩
  | .hbm, ⟨10, _⟩ => ⟨S2048x1536, .f32⟩
  | .hbm, ⟨11, _⟩ => ⟨S2048x1536, .f32⟩
  | .hbm, ⟨12, _⟩ => ⟨S2048x1536, .f32⟩
  | .hbm, ⟨13, _⟩ => ⟨S_, .f32⟩
  | .hbm, ⟨14, _⟩ => ⟨S2048x1536, .f32⟩
  | .hbm, ⟨15, _⟩ => ⟨S2048x1536, .f32⟩
  | .hbm, ⟨16, _⟩ => ⟨S1x1536, .f32⟩
  | .hbm, ⟨17, _⟩ => ⟨S2048x1536, .f32⟩
  | .hbm, ⟨18, _⟩ => ⟨S2048x1536, .f32⟩
  | .hbm, ⟨19, _⟩ => ⟨S2048x1536, .f32⟩
  | .hbm, ⟨20, _⟩ => ⟨S2048x1536, .f32⟩
  | .hbm, ⟨21, _⟩ => ⟨S1x1536, .f32⟩
  | .hbm, ⟨22, _⟩ => ⟨S2048x1536, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S1x1536, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S2048x1536, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S2048x1536, .f32⟩
  | .hbm, ⟨35, _⟩ => ⟨S_, .f32⟩
  | .hbm, ⟨36, _⟩ => ⟨S2048x1536, .f32⟩
  | .hbm, ⟨37, _⟩ => ⟨S2048x1536, .f32⟩
  | .hbm, ⟨38, _⟩ => ⟨S_, .f32⟩
  | .hbm, ⟨39, _⟩ => ⟨S2048x1536, .f32⟩
  | .hbm, ⟨40, _⟩ => ⟨S2048x1536, .f32⟩
  | .hbm, ⟨41, _⟩ => ⟨S_, .f32⟩
  | .hbm, ⟨42, _⟩ => ⟨S2048x1536, .f32⟩
  | .hbm, ⟨43, _⟩ => ⟨S2048x1536, .f32⟩
  | .hbm, ⟨44, _⟩ => ⟨S2048x1536, .f32⟩
  | .hbm, ⟨45, _⟩ => ⟨S2048x1536, .f32⟩
  | .hbm, ⟨46, _⟩ => ⟨S2048x1536, .f32⟩
  | .hbm, ⟨47, _⟩ => ⟨S2048x1536, .f32⟩
  | .hbm, ⟨48, _⟩ => ⟨S2048x1536, .f32⟩
  | .hbm, ⟨49, _⟩ => ⟨S2048x1536, .f32⟩
  | .hbm, ⟨50, _⟩ => ⟨S_, .f32⟩
  | .hbm, ⟨51, _⟩ => ⟨S1536, .f32⟩
  | .hbm, ⟨52, _⟩ => ⟨S1x1536, .f32⟩
  | .hbm, ⟨53, _⟩ => ⟨S2048x1536, .f32⟩
  | .hbm, ⟨54, _⟩ => ⟨S2048x1536, .f32⟩
  | .hbm, ⟨55, _⟩ => ⟨S2048x1536, .f32⟩
  | .hbm, ⟨56, _⟩ => ⟨S_, .f32⟩
  | .hbm, ⟨57, _⟩ => ⟨S1536, .f32⟩
  | .hbm, ⟨58, _⟩ => ⟨S1x1536, .f32⟩
  | .hbm, ⟨59, _⟩ => ⟨S_, .f32⟩
  | .hbm, ⟨60, _⟩ => ⟨S2051x1536, .f32⟩
  | .hbm, ⟨61, _⟩ => ⟨S_, .f32⟩
  | .hbm, ⟨62, _⟩ => ⟨S4x1536, .f32⟩
  | .hbm, ⟨63, _⟩ => ⟨S2048x1536, .f32⟩
  | .hbm, ⟨64, _⟩ => ⟨S2048x1536, .f32⟩
  | .hbm, ⟨65, _⟩ => ⟨S2048x1536, .f32⟩
  | .hbm, ⟨66, _⟩ => ⟨S_, .f32⟩
  | .hbm, ⟨67, _⟩ => ⟨S1536, .f32⟩
  | .hbm, ⟨68, _⟩ => ⟨S1x1536, .f32⟩
  | .hbm, ⟨69, _⟩ => ⟨S_, .f32⟩
  | .hbm, ⟨70, _⟩ => ⟨S2051x1536, .f32⟩
  | .hbm, ⟨71, _⟩ => ⟨S2051x1536, .f32⟩
  | .hbm, ⟨72, _⟩ => ⟨S_, .f32⟩
  | .hbm, ⟨73, _⟩ => ⟨S4x1536, .f32⟩
  | .hbm, ⟨74, _⟩ => ⟨S4x1536, .f32⟩
  | .hbm, ⟨75, _⟩ => ⟨S2048x1536, .f32⟩
  | .hbm, ⟨76, _⟩ => ⟨S2048x1536, .f32⟩
  | .hbm, ⟨77, _⟩ => ⟨S2048x1536, .f32⟩
  | .hbm, ⟨78, _⟩ => ⟨S_, .f32⟩
  | .hbm, ⟨79, _⟩ => ⟨S1536, .f32⟩
  | .hbm, ⟨80, _⟩ => ⟨S1x1536, .f32⟩
  | .hbm, ⟨81, _⟩ => ⟨S_, .f32⟩
  | .hbm, ⟨82, _⟩ => ⟨S2051x1536, .f32⟩
  | .hbm, ⟨83, _⟩ => ⟨S2051x1536, .f32⟩
  | .hbm, ⟨84, _⟩ => ⟨S_, .f32⟩
  | .hbm, ⟨85, _⟩ => ⟨S4x1536, .f32⟩
  | .hbm, ⟨86, _⟩ => ⟨S4x1536, .f32⟩
  | .hbm, ⟨87, _⟩ => ⟨S2048x1536, .f32⟩
  | .hbm, ⟨88, _⟩ => ⟨S2048x1536, .f32⟩
  | .hbm, ⟨89, _⟩ => ⟨S2048x1536, .f32⟩
  | .hbm, ⟨90, _⟩ => ⟨S_, .f32⟩
  | .hbm, ⟨91, _⟩ => ⟨S1536, .f32⟩
  | .hbm, ⟨92, _⟩ => ⟨S1x1536, .f32⟩
  | .hbm, ⟨93, _⟩ => ⟨S_, .f32⟩
  | .hbm, ⟨94, _⟩ => ⟨S2051x1536, .f32⟩
  | .hbm, ⟨95, _⟩ => ⟨S2051x1536, .f32⟩
  | .hbm, ⟨96, _⟩ => ⟨S_, .f32⟩
  | .hbm, ⟨97, _⟩ => ⟨S4x1536, .f32⟩
  | .hbm, ⟨98, _⟩ => ⟨S4x1536, .f32⟩
  | .hbm, ⟨99, _⟩ => ⟨S3x1536, .f32⟩
  | .hbm, ⟨100, _⟩ => ⟨S2048x1536, .f32⟩
  | .hbm, ⟨101, _⟩ => ⟨S2048x1536, .bf16⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v26_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v26_1 : Ref sig .tc := ⟨.hbm, 44, rfl⟩
abbrev main_v26_0 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v27 : Ref sig .tc := ⟨.hbm, 49, rfl⟩
abbrev main_cst_2 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_3 : Ref sig .tc := ⟨.hbm, 56, rfl⟩
abbrev main_v33 : Ref sig .tc := ⟨.hbm, 57, rfl⟩
abbrev main_v34 : Ref sig .tc := ⟨.hbm, 58, rfl⟩
abbrev main_cst_4 : Ref sig .tc := ⟨.hbm, 59, rfl⟩
abbrev main_v35 : Ref sig .tc := ⟨.hbm, 60, rfl⟩
abbrev main_cst_5 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_6 : Ref sig .tc := ⟨.hbm, 66, rfl⟩
abbrev main_v40 : Ref sig .tc := ⟨.hbm, 67, rfl⟩
abbrev main_v41 : Ref sig .tc := ⟨.hbm, 68, rfl⟩
abbrev main_cst_7 : Ref sig .tc := ⟨.hbm, 69, rfl⟩
abbrev main_v42 : Ref sig .tc := ⟨.hbm, 70, rfl⟩
abbrev main_v43 : Ref sig .tc := ⟨.hbm, 71, rfl⟩
abbrev main_cst_8 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_9 : Ref sig .tc := ⟨.hbm, 78, rfl⟩
abbrev main_v49 : Ref sig .tc := ⟨.hbm, 79, rfl⟩
abbrev main_v50 : Ref sig .tc := ⟨.hbm, 80, rfl⟩
abbrev main_cst_10 : Ref sig .tc := ⟨.hbm, 81, rfl⟩
abbrev main_v51 : Ref sig .tc := ⟨.hbm, 82, rfl⟩
abbrev main_v52 : Ref sig .tc := ⟨.hbm, 83, rfl⟩
abbrev main_cst_11 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_12 : Ref sig .tc := ⟨.hbm, 90, rfl⟩
abbrev main_v58 : Ref sig .tc := ⟨.hbm, 91, rfl⟩
abbrev main_v59 : Ref sig .tc := ⟨.hbm, 92, rfl⟩
abbrev main_cst_13 : Ref sig .tc := ⟨.hbm, 93, rfl⟩
abbrev main_v60 : Ref sig .tc := ⟨.hbm, 94, rfl⟩
abbrev main_v61 : Ref sig .tc := ⟨.hbm, 95, rfl⟩
abbrev main_cst_14 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩

abbrev nD : Nat := 1
abbrev τ : Topo := Topo.v7x

variable {F : FTy → Type} [FloatOps F]
-- ==== Gate.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S2048x1024, .bf16⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GateReferenceIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 67
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S2048, .f32⟩
  | .hbm, ⟨46, _⟩ => ⟨S2048x1, .f32⟩
  | .hbm, ⟨47, _⟩ => ⟨S2048x1024, .f32⟩
  | .hbm, ⟨48, _⟩ => ⟨S2048x1024, .f32⟩
  | .hbm, ⟨49, _⟩ => ⟨S2048x1, .f32⟩
  | .hbm, ⟨50, _⟩ => ⟨S_, .f32⟩
  | .hbm, ⟨51, _⟩ => ⟨S2048x1, .f32⟩
  | .hbm, ⟨52, _⟩ => ⟨S2048x1, .f32⟩
  | .hbm, ⟨53, _⟩ => ⟨S_, .f32⟩
  | .hbm, ⟨54, _⟩ => ⟨S2048, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_5 : Ref sig .tc := ⟨.hbm, 50, rfl⟩
abbrev main_v28 : Ref sig .tc := ⟨.hbm, 51, rfl⟩
abbrev main_v29 : Ref sig .tc := ⟨.hbm, 52, rfl⟩
abbrev main_cst_6 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v38 : Ref sig .tc := ⟨.hbm, 65, rfl⟩
abbrev main_v39 : Ref sig .tc := ⟨.hbm, 66, rfl⟩

abbrev nD : Nat := 1
abbrev τ : Topo := Topo.v7x

variable {F : FTy → Type} [FloatOps F]
-- ==== Mix.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1024x1024 : Shape := ⟨2, ![1024, 1024]⟩

abbrev nBuf : Space → Nat
  | .hbm => 12
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S2048x1024, .bf16⟩
  | .hbm, ⟨6, _⟩ => ⟨S2048x1024, .f32⟩
  | .hbm, ⟨7, _⟩ => ⟨S2048x1024, .bf16⟩
  | .hbm, ⟨8, _⟩ => ⟨S1x1024, .f32⟩
  | .hbm, ⟨9, _⟩ => ⟨S1x1024, .f32⟩
  | .hbm, ⟨10, _⟩ => ⟨S2048x1024, .f32⟩
  | .hbm, ⟨11, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S2048x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixReferenceIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S2048x2048 : Shape := ⟨2, ![2048, 2048]⟩

abbrev nBuf : Space → Nat
  | .hbm => 86
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S1x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x1, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S2048x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S_, .f32⟩
  | .hbm, ⟨52, _⟩ => ⟨S2048, .f32⟩
  | .hbm, ⟨53, _⟩ => ⟨S2048x1, .f32⟩
  | .hbm, ⟨54, _⟩ => ⟨S2048x1024, .f32⟩
  | .hbm, ⟨55, _⟩ => ⟨S2048x1024, .f32⟩
  | .hbm, ⟨56, _⟩ => ⟨S2048x1, .f32⟩
  | .hbm, ⟨57, _⟩ => ⟨S_, .f32⟩
  | .hbm, ⟨58, _⟩ => ⟨S2048x1, .f32⟩
  | .hbm, ⟨59, _⟩ => ⟨S2048x1, .f32⟩
  | .hbm, ⟨60, _⟩ => ⟨S_, .f32⟩
  | .hbm, ⟨61, _⟩ => ⟨S2048, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S_, .f32⟩
  | .hbm, ⟨69, _⟩ => ⟨S2048, .f32⟩
  | .hbm, ⟨70, _⟩ => ⟨S2048x1, .f32⟩
  | .hbm, ⟨71, _⟩ => ⟨S_, .f32⟩
  | .hbm, ⟨72, _⟩ => ⟨S2048x1, .f32⟩
  | .hbm, ⟨73, _⟩ => ⟨S2048x1, .f32⟩
  | .hbm, ⟨74, _⟩ => ⟨S_, .f32⟩
  | .hbm, ⟨75, _⟩ => ⟨S2048, .f32⟩
  | .hbm, ⟨76, _⟩ => ⟨S2048x1024, .f32⟩
  | .hbm, ⟨77, _⟩ => ⟨S2048x1024, .f32⟩
  | .hbm, ⟨78, _⟩ => ⟨S_, .f32⟩
  | .hbm, ⟨79, _⟩ => ⟨S2048x1024, .f32⟩
  | .hbm, ⟨80, _⟩ => ⟨S2048x2048, .f32⟩
  | .hbm, ⟨81, _⟩ => ⟨S2048x1024, .f32⟩
  | .hbm, ⟨82, _⟩ => ⟨S2048x2048, .f32⟩
  | .hbm, ⟨83, _⟩ => ⟨S2048x1024, .f32⟩
  | .hbm, ⟨84, _⟩ => ⟨S2048x1024, .f32⟩
  | .hbm, ⟨85, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_12 : Ref sig .tc := ⟨.hbm, 68, rfl⟩
abbrev main_v50 : Ref sig .tc := ⟨.hbm, 69, rfl⟩
abbrev main_v51 : Ref sig .tc := ⟨.hbm, 70, rfl⟩
abbrev main_cst_13 : Ref sig .tc := ⟨.hbm, 71, rfl⟩
abbrev main_v52 : Ref sig .tc := ⟨.hbm, 72, rfl⟩
abbrev main_v53 : Ref sig .tc := ⟨.hbm, 73, rfl⟩
abbrev main_cst_14 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_15 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩

abbrev nD : Nat := 1
abbrev τ : Topo := Topo.v7x

variable {F : FTy → Type} [FloatOps F]
-- ==== Entry.lean ====
abbrev S2048x1024 : Shape := ⟨2, ![2048, 1024]⟩
abbrev S2048x1536 : Shape := ⟨2, ![2048, 1536]⟩
abbrev S2048x768 : Shape := ⟨2, ![2048, 768]⟩
abbrev S2048x128 : Shape := ⟨2, ![2048, 128]⟩
abbrev S1024x3248 : Shape := ⟨2, ![1024, 3248]⟩
abbrev S3248x1024 : Shape := ⟨2, ![3248, 1024]⟩
abbrev S384x1024 : Shape := ⟨2, ![384, 1024]⟩
abbrev S256x1024 : Shape := ⟨2, ![256, 1024]⟩
abbrev S32x1024 : Shape := ⟨2, ![32, 1024]⟩
abbrev S_ : Shape := ⟨0, ![]⟩
abbrev S96x1024 : Shape := ⟨2, ![96, 1024]⟩
abbrev S16x1024 : Shape := ⟨2, ![16, 1024]⟩
abbrev S240x1024 : Shape := ⟨2, ![240, 1024]⟩
abbrev S1024x1024 : Shape := ⟨2, ![1024, 1024]⟩
abbrev S2048x896 : Shape := ⟨2, ![2048, 896]⟩
abbrev S1024x512 : Shape := ⟨2, ![1024, 512]⟩
abbrev S512x512 : Shape := ⟨2, ![512, 512]⟩
abbrev S1024x896 : Shape := ⟨2, ![1024, 896]⟩
abbrev S896x512 : Shape := ⟨2, ![896, 512]⟩

abbrev nBuf : Space → Nat
  | .hbm => 20
  | .vmem => 28
  | .smem => 0
  | _ => 0

abbrev bufTy : (tb : Table) → Fin (tcTables nBuf tb) → BufTy
  | .hbm, ⟨0, _⟩ => ⟨S2048x1024, .bf16⟩
  | .hbm, ⟨1, _⟩ => ⟨S2048x1536, .bf16⟩
  | .hbm, ⟨2, _⟩ => ⟨S2048x768, .bf16⟩
  | .hbm, ⟨3, _⟩ => ⟨S2048x128, .f32⟩
  | .hbm, ⟨4, _⟩ => ⟨S1024x3248, .f32⟩
  | .hbm, ⟨5, _⟩ => ⟨S2048x1024, .f32⟩
  | .hbm, ⟨6, _⟩ => ⟨S1024x3248, .bf16⟩
  | .hbm, ⟨7, _⟩ => ⟨S3248x1024, .bf16⟩
  | .hbm, ⟨8, _⟩ => ⟨S384x1024, .bf16⟩
  | .hbm, ⟨9, _⟩ => ⟨S256x1024, .bf16⟩
  | .hbm, ⟨10, _⟩ => ⟨S32x1024, .bf16⟩
  | .hbm, ⟨11, _⟩ => ⟨S_, .bf16⟩
  | .hbm, ⟨12, _⟩ => ⟨S96x1024, .bf16⟩
  | .hbm, ⟨13, _⟩ => ⟨S16x1024, .bf16⟩
  | .hbm, ⟨14, _⟩ => ⟨S_, .bf16⟩
  | .hbm, ⟨15, _⟩ => ⟨S240x1024, .bf16⟩
  | .hbm, ⟨16, _⟩ => ⟨S1024x1024, .bf16⟩
  | .hbm, ⟨17, _⟩ => ⟨S2048x128, .bf16⟩
  | .hbm, ⟨18, _⟩ => ⟨S2048x896, .bf16⟩
  | .hbm, ⟨19, _⟩ => ⟨S2048x1024, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .bf16⟩
  | .local _ .vmem, ⟨5, _⟩ => ⟨S1024x512, .bf16⟩
  | .local _ .vmem, ⟨6, _⟩ => ⟨S512x512, .bf16⟩
  | .local _ .vmem, ⟨7, _⟩ => ⟨S512x512, .bf16⟩
  | .local _ .vmem, ⟨8, _⟩ => ⟨S1024x512, .bf16⟩
  | .local _ .vmem, ⟨9, _⟩ => ⟨S1024x512, .bf16⟩
  | .local _ .vmem, ⟨10, _⟩ => ⟨S512x512, .bf16⟩
  | .local _ .vmem, ⟨11, _⟩ => ⟨S512x512, .bf16⟩
  | .local _ .vmem, ⟨12, _⟩ => ⟨S1024x512, .bf16⟩
  | .local _ .vmem, ⟨13, _⟩ => ⟨S1024x512, .bf16⟩
  | .local _ .vmem, ⟨14, _⟩ => ⟨S512x512, .bf16⟩
  | .local _ .vmem, ⟨15, _⟩ => ⟨S512x512, .bf16⟩
  | .local _ .vmem, ⟨16, _⟩ => ⟨S1024x512, .bf16⟩
  | .local _ .vmem, ⟨17, _⟩ => ⟨S1024x512, .bf16⟩
  | .local _ .vmem, ⟨18, _⟩ => ⟨S512x512, .bf16⟩
  | .local _ .vmem, ⟨19, _⟩ => ⟨S512x512, .bf16⟩
  | .local _ .vmem, ⟨20, _⟩ => ⟨S1024x896, .bf16⟩
  | .local _ .vmem, ⟨21, _⟩ => ⟨S1024x896, .bf16⟩
  | .local _ .vmem, ⟨22, _⟩ => ⟨S896x512, .bf16⟩
  | .local _ .vmem, ⟨23, _⟩ => ⟨S896x512, .bf16⟩
  | .local _ .vmem, ⟨24, _⟩ => ⟨S1024x512, .f32⟩
  | .local _ .vmem, ⟨25, _⟩ => ⟨S1024x512, .f32⟩
  | .local _ .vmem, ⟨26, _⟩ => ⟨S1024x512, .f32⟩
  | .local _ .vmem, ⟨27, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, c2_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  ![c4_i32.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S1024x896 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S896x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, false]

abbrev stage0_12 : Fin 2 → Memref sig .tc .vmem S1024x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S1024x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]
-- ==== EntryReferenceIdeal.lean ====
abbrev S2048x1024 : Shape := ⟨2, ![2048, 1024]⟩
abbrev S2048x1536 : Shape := ⟨2, ![2048, 1536]⟩
abbrev S2048x768 : Shape := ⟨2, ![2048, 768]⟩
abbrev S2048x128 : Shape := ⟨2, ![2048, 128]⟩
abbrev S1024x3248 : Shape := ⟨2, ![1024, 3248]⟩
abbrev S2048x16 : Shape := ⟨2, ![2048, 16]⟩
abbrev S2048x384 : Shape := ⟨2, ![2048, 384]⟩
abbrev S2048x256 : Shape := ⟨2, ![2048, 256]⟩
abbrev S2048x32 : Shape := ⟨2, ![2048, 32]⟩
abbrev S_ : Shape := ⟨0, ![]⟩
abbrev S2048x3248 : Shape := ⟨2, ![2048, 3248]⟩

abbrev nBuf : Space → Nat
  | .hbm => 31
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1536, .bf16⟩
  | .hbm, ⟨2, _⟩ => ⟨S2048x768, .bf16⟩
  | .hbm, ⟨3, _⟩ => ⟨S2048x128, .f32⟩
  | .hbm, ⟨4, _⟩ => ⟨S1024x3248, .f32⟩
  | .hbm, ⟨5, _⟩ => ⟨S2048x1024, .f32⟩
  | .hbm, ⟨6, _⟩ => ⟨S2048x1024, .f32⟩
  | .hbm, ⟨7, _⟩ => ⟨S2048x1536, .f32⟩
  | .hbm, ⟨8, _⟩ => ⟨S2048x768, .f32⟩
  | .hbm, ⟨9, _⟩ => ⟨S2048x16, .f32⟩
  | .hbm, ⟨10, _⟩ => ⟨S2048x384, .f32⟩
  | .hbm, ⟨11, _⟩ => ⟨S2048x256, .f32⟩
  | .hbm, ⟨12, _⟩ => ⟨S2048x32, .f32⟩
  | .hbm, ⟨13, _⟩ => ⟨S_, .f32⟩
  | .hbm, ⟨14, _⟩ => ⟨S2048x1024, .f32⟩
  | .hbm, ⟨15, _⟩ => ⟨S2048x3248, .f32⟩
  | .hbm, ⟨16, _⟩ => ⟨S2048x1024, .f32⟩
  | .hbm, ⟨17, _⟩ => ⟨S2048x1536, .f32⟩
  | .hbm, ⟨18, _⟩ => ⟨S2048x16, .f32⟩
  | .hbm, ⟨19, _⟩ => ⟨S2048x384, .f32⟩
  | .hbm, ⟨20, _⟩ => ⟨S2048x256, .f32⟩
  | .hbm, ⟨21, _⟩ => ⟨S2048x32, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S2048x3248, .f32⟩
  | .hbm, ⟨29, _⟩ => ⟨S2048x1024, .f32⟩
  | .hbm, ⟨30, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Norm.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== NormReferenceIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 45
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048, .f32⟩
  | .hbm, ⟨31, _⟩ => ⟨S2048x1, .f32⟩
  | .hbm, ⟨32, _⟩ => ⟨S2048x1024, .f32⟩
  | .hbm, ⟨33, _⟩ => ⟨S2048x1024, .f32⟩
  | .hbm, ⟨34, _⟩ => ⟨S2048x1, .f32⟩
  | .hbm, ⟨35, _⟩ => ⟨S_, .f32⟩
  | .hbm, ⟨36, _⟩ => ⟨S2048x1, .f32⟩
  | .hbm, ⟨37, _⟩ => ⟨S2048x1, .f32⟩
  | .hbm, ⟨38, _⟩ => ⟨S_, .f32⟩
  | .hbm, ⟨39, _⟩ => ⟨S2048, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Out.lean ====
abbrev S2048x1024 : Shape := ⟨2, ![2048, 1024]⟩
abbrev S2048x512 : Shape := ⟨2, ![2048, 512]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x1024, .bf16⟩
  | .local _ .vmem, ⟨5, _⟩ => ⟨S512x1024, .bf16⟩
  | .local _ .vmem, ⟨6, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c2_i32 : BitVec 32 := 2#32
  let v1 : BitVec 1 := Scalar.cmpi .slt arg0 c2_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c2_i32_1 : BitVec 32 := 2#32
  let v5 : BitVec 1 := Scalar.cmpi .sge arg0 c2_i32_1
  let c4_i32 : BitVec 32 := 4#32
  let v6 : BitVec 1 := Scalar.cmpi .slt arg0 c4_i32
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutReferenceIdeal.lean ====
abbrev S2048x1024 : Shape := ⟨2, ![2048, 1024]⟩
abbrev S_ : Shape := ⟨0, ![]⟩
abbrev S2048x2048 : Shape := ⟨2, ![2048, 2048]⟩
abbrev S1024x2048 : Shape := ⟨2, ![1024, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x2048, .f32⟩
  | .hbm, ⟨9, _⟩ => ⟨S2048x1024, .f32⟩
  | .hbm, ⟨10, _⟩ => ⟨S1024x2048, .f32⟩
  | .hbm, ⟨11, _⟩ => ⟨S2048x1024, .f32⟩
  | .hbm, ⟨12, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Weight.lean ====
abbrev S2048x1024 : Shape := ⟨2, ![2048, 1024]⟩
abbrev S2048x1536 : Shape := ⟨2, ![2048, 1536]⟩
abbrev S2048x768 : Shape := ⟨2, ![2048, 768]⟩
abbrev S2048x128 : Shape := ⟨2, ![2048, 128]⟩
abbrev S2048x16 : Shape := ⟨2, ![2048, 16]⟩
abbrev S2048x672 : Shape := ⟨2, ![2048, 672]⟩
abbrev S_ : Shape := ⟨0, ![]⟩
abbrev S2048x336 : Shape := ⟨2, ![2048, 336]⟩
abbrev S3248x1024 : Shape := ⟨2, ![3248, 1024]⟩
abbrev S2048x512 : Shape := ⟨2, ![2048, 512]⟩
abbrev S512x1024 : Shape := ⟨2, ![512, 1024]⟩

abbrev nBuf : Space → Nat
  | .hbm => 13
  | .vmem => 9
  | .smem => 0
  | _ => 0

abbrev bufTy : (tb : Table) → Fin (tcTables nBuf tb) → BufTy
  | .hbm, ⟨0, _⟩ => ⟨S2048x1024, .bf16⟩
  | .hbm, ⟨1, _⟩ => ⟨S2048x1536, .bf16⟩
  | .hbm, ⟨2, _⟩ => ⟨S2048x768, .bf16⟩
  | .hbm, ⟨3, _⟩ => ⟨S2048x128, .f32⟩
  | .hbm, ⟨4, _⟩ => ⟨S2048x1024, .f32⟩
  | .hbm, ⟨5, _⟩ => ⟨S2048x16, .f32⟩
  | .hbm, ⟨6, _⟩ => ⟨S2048x16, .bf16⟩
  | .hbm, ⟨7, _⟩ => ⟨S2048x672, .bf16⟩
  | .hbm, ⟨8, _⟩ => ⟨S_, .bf16⟩
  | .hbm, ⟨9, _⟩ => ⟨S2048x336, .bf16⟩
  | .hbm, ⟨10, _⟩ => ⟨S2048x1024, .bf16⟩
  | .hbm, ⟨11, _⟩ => ⟨S2048x1024, .bf16⟩
  | .hbm, ⟨12, _⟩ => ⟨S3248x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x1024, .bf16⟩
  | .local _ .vmem, ⟨7, _⟩ => ⟨S512x1024, .bf16⟩
  | .local _ .vmem, ⟨8, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![7], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c2_i32 : BitVec 32 := 2#32
  let v1 : BitVec 1 := Scalar.cmpi .slt arg0 c2_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c2_i32_1 : BitVec 32 := 2#32
  let v5 : BitVec 1 := Scalar.cmpi .sge arg0 c2_i32_1
  let c5_i32 : BitVec 32 := 5#32
  let v6 : BitVec 1 := Scalar.cmpi .slt arg0 c5_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg0 : BitVec 32 := BitVec.ofNat 32 (i 0).val
  let c5_i32_3 : BitVec 32 := 5#32
  let v10 : BitVec 1 := Scalar.cmpi .sge arg0 c5_i32_3
  let c7_i32 : BitVec 32 := 7#32
  let v11 : BitVec 1 := Scalar.cmpi .slt arg0 c7_i32
  let v12 : BitVec 1 := Scalar.andi v10 v11
  let v13 : BitVec 32 := Scalar.extui v12
  let c0_i32_4 : BitVec 32 := 0#32
  let v14 : BitVec 1 := Scalar.cmpi .ne v13 c0_i32_4
  v14

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c2_i32_0 : BitVec 32 := 2#32
  let v1 : BitVec 32 := Scalar.maxsi c0_i32 v0
  let v2 : BitVec 32 := Scalar.minsi c2_i32_0 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let c5_i32 : BitVec 32 := 5#32
  let v0 : BitVec 32 := Scalar.subi arg0 c5_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== WeightReferenceIdeal.lean ====
abbrev S2048x1024 : Shape := ⟨2, ![2048, 1024]⟩
abbrev S2048x1536 : Shape := ⟨2, ![2048, 1536]⟩
abbrev S2048x768 : Shape := ⟨2, ![2048, 768]⟩
abbrev S2048x128 : Shape := ⟨2, ![2048, 128]⟩
abbrev S2048x16 : Shape := ⟨2, ![2048, 16]⟩
abbrev S2048x384 : Shape := ⟨2, ![2048, 384]⟩
abbrev S2048x256 : Shape := ⟨2, ![2048, 256]⟩
abbrev S2048x32 : Shape := ⟨2, ![2048, 32]⟩
abbrev S_ : Shape := ⟨0, ![]⟩
abbrev S1024x3248 : Shape := ⟨2, ![1024, 3248]⟩
abbrev S2048x3248 : Shape := ⟨2, ![2048, 3248]⟩
abbrev S3248x1024 : Shape := ⟨2, ![3248, 1024]⟩

abbrev nBuf : Space → Nat
  | .hbm => 29
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1536, .bf16⟩
  | .hbm, ⟨2, _⟩ => ⟨S2048x768, .bf16⟩
  | .hbm, ⟨3, _⟩ => ⟨S2048x128, .f32⟩
  | .hbm, ⟨4, _⟩ => ⟨S2048x1024, .f32⟩
  | .hbm, ⟨5, _⟩ => ⟨S2048x1024, .f32⟩
  | .hbm, ⟨6, _⟩ => ⟨S2048x1536, .f32⟩
  | .hbm, ⟨7, _⟩ => ⟨S2048x768, .f32⟩
  | .hbm, ⟨8, _⟩ => ⟨S2048x16, .f32⟩
  | .hbm, ⟨9, _⟩ => ⟨S2048x384, .f32⟩
  | .hbm, ⟨10, _⟩ => ⟨S2048x256, .f32⟩
  | .hbm, ⟨11, _⟩ => ⟨S2048x32, .f32⟩
  | .hbm, ⟨12, _⟩ => ⟨S_, .f32⟩
  | .hbm, ⟨13, _⟩ => ⟨S1024x3248, .f32⟩
  | .hbm, ⟨14, _⟩ => ⟨S2048x3248, .f32⟩
  | .hbm, ⟨15, _⟩ => ⟨S2048x1024, .f32⟩
  | .hbm, ⟨16, _⟩ => ⟨S2048x1536, .f32⟩
  | .hbm, ⟨17, _⟩ => ⟨S2048x16, .f32⟩
  | .hbm, ⟨18, _⟩ => ⟨S2048x384, .f32⟩
  | .hbm, ⟨19, _⟩ => ⟨S2048x256, .f32⟩
  | .hbm, ⟨20, _⟩ => ⟨S2048x32, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S2048x3248, .f32⟩
  | .hbm, ⟨25, _⟩ => ⟨S3248x1024, .f32⟩
  | .hbm, ⟨26, _⟩ => ⟨S1024x3248, .f32⟩
  | .hbm, ⟨27, _⟩ => ⟨S3248x1024, .f32⟩
  | .hbm, ⟨28, _⟩ => ⟨S3248x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Low.lean ====
abbrev S2048x384 : Shape := ⟨2, ![2048, 384]⟩
abbrev S2048x2048 : Shape := ⟨2, ![2048, 2048]⟩
abbrev S2048x256 : Shape := ⟨2, ![2048, 256]⟩
abbrev S2048x1024 : Shape := ⟨2, ![2048, 1024]⟩
abbrev S384x2048 : Shape := ⟨2, ![384, 2048]⟩
abbrev S256x2048 : Shape := ⟨2, ![256, 2048]⟩
abbrev S256x1024 : Shape := ⟨2, ![256, 1024]⟩
abbrev S384x16x128 : Shape := ⟨3, ![384, 16, 128]⟩
abbrev S384x16x96 : Shape := ⟨3, ![384, 16, 96]⟩
abbrev S384x1536 : Shape := ⟨2, ![384, 1536]⟩
abbrev S256x16x128 : Shape := ⟨3, ![256, 16, 128]⟩
abbrev S256x16x64 : Shape := ⟨3, ![256, 16, 64]⟩

abbrev nBuf : Space → Nat
  | .hbm => 19
  | .vmem => 12
  | .smem => 0
  | _ => 0

abbrev bufTy : (tb : Table) → Fin (tcTables nBuf tb) → BufTy
  | .hbm, ⟨0, _⟩ => ⟨S2048x384, .bf16⟩
  | .hbm, ⟨1, _⟩ => ⟨S2048x2048, .bf16⟩
  | .hbm, ⟨2, _⟩ => ⟨S2048x256, .bf16⟩
  | .hbm, ⟨3, _⟩ => ⟨S2048x2048, .bf16⟩
  | .hbm, ⟨4, _⟩ => ⟨S2048x1024, .bf16⟩
  | .hbm, ⟨5, _⟩ => ⟨S2048x256, .bf16⟩
  | .hbm, ⟨6, _⟩ => ⟨S2048x1024, .bf16⟩
  | .hbm, ⟨7, _⟩ => ⟨S384x2048, .bf16⟩
  | .hbm, ⟨8, _⟩ => ⟨S256x2048, .bf16⟩
  | .hbm, ⟨9, _⟩ => ⟨S256x1024, .bf16⟩
  | .hbm, ⟨10, _⟩ => ⟨S256x1024, .bf16⟩
  | .hbm, ⟨11, _⟩ => ⟨S384x16x128, .bf16⟩
  | .hbm, ⟨12, _⟩ => ⟨S384x16x96, .bf16⟩
  | .hbm, ⟨13, _⟩ => ⟨S384x1536, .bf16⟩
  | .hbm, ⟨14, _⟩ => ⟨S256x16x128, .bf16⟩
  | .hbm, ⟨15, _⟩ => ⟨S256x16x64, .bf16⟩
  | .hbm, ⟨16, _⟩ => ⟨S256x16x64, .bf16⟩
  | .hbm, ⟨17, _⟩ => ⟨S256x16x128, .bf16⟩
  | .hbm, ⟨18, _⟩ => ⟨S256x2048, .bf16⟩
  | .local _ .vmem, ⟨0, _⟩ => ⟨S2048x384, .bf16⟩
  | .local _ .vmem, ⟨1, _⟩ => ⟨S2048x2048, .bf16⟩
  | .local _ .vmem, ⟨2, _⟩ => ⟨S384x2048, .bf16⟩
  | .local _ .vmem, ⟨3, _⟩ => ⟨S2048x256, .bf16⟩
  | .local _ .vmem, ⟨4, _⟩ => ⟨S2048x2048, .bf16⟩
  | .local _ .vmem, ⟨5, _⟩ => ⟨S256x2048, .bf16⟩
  | .local _ .vmem, ⟨6, _⟩ => ⟨S2048x256, .bf16⟩
  | .local _ .vmem, ⟨7, _⟩ => ⟨S2048x1024, .bf16⟩
  | .local _ .vmem, ⟨8, _⟩ => ⟨S256x1024, .bf16⟩
  | .local _ .vmem, ⟨9, _⟩ => ⟨S2048x256, .bf16⟩
  | .local _ .vmem, ⟨10, _⟩ => ⟨S2048x1024, .bf16⟩
  | .local _ .vmem, ⟨11, _⟩ => ⟨S256x1024, .bf16⟩
  | _, _ => ⟨S2048x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc3_stg0_0 : Ref sig .tc := ⟨.vmem, 9, rfl⟩
abbrev cc3_stg1_0 : Ref sig .tc := ⟨.vmem, 10, rfl⟩
abbrev cc3_stg2_0 : Ref sig .tc := ⟨.vmem, 11, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc2_sem0_0 : DmaSem sig := 6
abbrev cc2_sem1_0 : DmaSem sig := 7
abbrev cc2_sem2_0 : DmaSem sig := 8
abbrev cc3_sem0_0 : DmaSem sig := 9
abbrev cc3_sem1_0 : DmaSem sig := 10
abbrev cc3_sem2_0 : DmaSem sig := 11

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 1 → Memref sig .tc .vmem S384x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev grid1 : Pipeline.Grid := ⟨3, ![1, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S2048x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, false]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, false]

abbrev stage1_2 : Fin 1 → Memref sig .tc .vmem S256x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true, false]

abbrev grid2 : Pipeline.Grid := ⟨3, ![1, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S2048x256 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, false]

abbrev stage2_1 : Fin 1 → Memref sig .tc .vmem S2048x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, false]

abbrev stage2_2 : Fin 1 → Memref sig .tc .vmem S256x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true, false]

abbrev grid3 : Pipeline.Grid := ⟨3, ![1, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S2048x256 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, false]

abbrev stage3_1 : Fin 1 → Memref sig .tc .vmem S2048x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, false]

abbrev stage3_2 : Fin 1 → Memref sig .tc .vmem S256x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true, false]
-- ==== LowReferenceIdeal.lean ====
abbrev S2048x384 : Shape := ⟨2, ![2048, 384]⟩
abbrev S2048x2048 : Shape := ⟨2, ![2048, 2048]⟩
abbrev S2048x256 : Shape := ⟨2, ![2048, 256]⟩
abbrev S2048x1024 : Shape := ⟨2, ![2048, 1024]⟩
abbrev S2048x16x128 : Shape := ⟨3, ![2048, 16, 128]⟩
abbrev S2048x16x96 : Shape := ⟨3, ![2048, 16, 96]⟩
abbrev S2048x1536 : Shape := ⟨2, ![2048, 1536]⟩
abbrev S2048x16x64 : Shape := ⟨3, ![2048, 16, 64]⟩
abbrev S_ : Shape := ⟨0, ![]⟩
abbrev S384x1536 : Shape := ⟨2, ![384, 1536]⟩
abbrev S256x2048 : Shape := ⟨2, ![256, 2048]⟩
abbrev S256x1024 : Shape := ⟨2, ![256, 1024]⟩
abbrev S1024x256 : Shape := ⟨2, ![1024, 256]⟩
abbrev S1536x384 : Shape := ⟨2, ![1536, 384]⟩

abbrev nBuf : Space → Nat
  | .hbm => 40
  | .vmem => 0
  | .smem => 0
  | _ => 0

abbrev bufTy : (tb : Table) → Fin (tcTables nBuf tb) → BufTy
  | .hbm, ⟨0, _⟩ => ⟨S2048x384, .bf16⟩
  | .hbm, ⟨1, _⟩ => ⟨S2048x2048, .bf16⟩
  | .hbm, ⟨2, _⟩ => ⟨S2048x256, .bf16⟩
  | .hbm, ⟨3, _⟩ => ⟨S2048x2048, .bf16⟩
  | .hbm, ⟨4, _⟩ => ⟨S2048x1024, .bf16⟩
  | .hbm, ⟨5, _⟩ => ⟨S2048x256, .bf16⟩
  | .hbm, ⟨6, _⟩ => ⟨S2048x1024, .bf16⟩
  | .hbm, ⟨7, _⟩ => ⟨S2048x384, .f32⟩
  | .hbm, ⟨8, _⟩ => ⟨S2048x256, .f32⟩
  | .hbm, ⟨9, _⟩ => ⟨S2048x256, .f32⟩
  | .hbm, ⟨10, _⟩ => ⟨S2048x2048, .f32⟩
  | .hbm, ⟨11, _⟩ => ⟨S2048x16x128, .f32⟩
  | .hbm, ⟨12, _⟩ => ⟨S2048x16x96, .f32⟩
  | .hbm, ⟨13, _⟩ => ⟨S2048x1536, .f32⟩
  | .hbm, ⟨14, _⟩ => ⟨S2048x2048, .f32⟩
  | .hbm, ⟨15, _⟩ => ⟨S2048x16x128, .f32⟩
  | .hbm, ⟨16, _⟩ => ⟨S2048x16x64, .f32⟩
  | .hbm, ⟨17, _⟩ => ⟨S2048x1024, .f32⟩
  | .hbm, ⟨18, _⟩ => ⟨S2048x16x64, .f32⟩
  | .hbm, ⟨19, _⟩ => ⟨S2048x16x128, .f32⟩
  | .hbm, ⟨20, _⟩ => ⟨S2048x2048, .f32⟩
  | .hbm, ⟨21, _⟩ => ⟨S_, .f32⟩
  | .hbm, ⟨22, _⟩ => ⟨S384x1536, .f32⟩
  | .hbm, ⟨23, _⟩ => ⟨S_, .f32⟩
  | .hbm, ⟨24, _⟩ => ⟨S256x2048, .f32⟩
  | .hbm, ⟨25, _⟩ => ⟨S_, .f32⟩
  | .hbm, ⟨26, _⟩ => ⟨S256x1024, .f32⟩
  | .hbm, ⟨27, _⟩ => ⟨S2048x1536, .f32⟩
  | .hbm, ⟨28, _⟩ => ⟨S2048x2048, .f32⟩
  | .hbm, ⟨29, _⟩ => ⟨S2048x1024, .f32⟩
  | .hbm, ⟨30, _⟩ => ⟨S2048x1024, .f32⟩
  | .hbm, ⟨31, _⟩ => ⟨S1024x256, .f32⟩
  | .hbm, ⟨32, _⟩ => ⟨S256x1024, .f32⟩
  | .hbm, ⟨33, _⟩ => ⟨S2048x256, .f32⟩
  | .hbm, ⟨34, _⟩ => ⟨S256x2048, .f32⟩
  | .hbm, ⟨35, _⟩ => ⟨S1536x384, .f32⟩
  | .hbm, ⟨36, _⟩ => ⟨S384x1536, .f32⟩
  | .hbm, ⟨37, _⟩ => ⟨S384x1536, .bf16⟩
  | .hbm, ⟨38, _⟩ => ⟨S256x2048, .bf16⟩
  | .hbm, ⟨39, _⟩ => ⟨S256x1024, .bf16⟩
  | _, _ => ⟨S2048x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Lay.lean ====
abbrev S2048x1024 : Shape := ⟨2, ![2048, 1024]⟩
abbrev S1x1024 : Shape := ⟨2, ![1, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 10
  | .vmem => 15
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S1x1024, .f32⟩
  | .hbm, ⟨6, _⟩ => ⟨S2048x1024, .bf16⟩
  | .hbm, ⟨7, _⟩ => ⟨S2048x1024, .f32⟩
  | .hbm, ⟨8, _⟩ => ⟨S2048x1024, .f32⟩
  | .hbm, ⟨9, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== LayReferenceIdeal.lean ====
abbrev S2048x1024 : Shape := ⟨2, ![2048, 1024]⟩
abbrev S1x1024 : Shape := ⟨2, ![1, 1024]⟩
abbrev S2048x2048 : Shape := ⟨2, ![2048, 2048]⟩
abbrev S_ : Shape := ⟨0, ![]⟩
abbrev S2048 : Shape := ⟨1, ![2048]⟩
abbrev S2048x1 : Shape := ⟨2, ![2048, 1]⟩

abbrev nBuf : Space → Nat
  | .hbm => 40
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S1x1024, .f32⟩
  | .hbm, ⟨6, _⟩ => ⟨S2048x1024, .f32⟩
  | .hbm, ⟨7, _⟩ => ⟨S2048x1024, .f32⟩
  | .hbm, ⟨8, _⟩ => ⟨S2048x2048, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Proof.Pay.lean ====
module

public import proofs.«01_k».proof.Proof.Gen.KernelIdeal.Skeleton
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.KernelIdeal.Att

open Cert.KernelIdeal Cert.KernelIdeal.Gen

/-- The first loop makes one trip for every block of queries from the point's key block on. -/
theorem trips1 (i : grid0.Coords) : (k0_t1_loop i).trips = 8 - (i 1).val := by
  have h : ∀ n : Fin 8, Scf.trips (BitVec.ofNat 32 n.val) (Scalar.addi (BitVec.ofNat 32 n.val) (Scalar.muli (Scalar.divsi (Scalar.subi 8#32 (BitVec.ofNat 32 n.val)) 1#32) 1#32)) 1#32 = 8 - n.val := by decide +kernel
  exact h (i 1)

/-- The second loop makes no trip. -/
theorem trips2 (i : grid0.Coords) : (k0_t2_loop i).trips = 0 := by
  have h : ∀ n : Fin 8, Scf.trips (Scalar.addi (BitVec.ofNat 32 n.val) (Scalar.muli (Scalar.divsi (Scalar.subi 8#32 (BitVec.ofNat 32 n.val)) 1#32) 1#32)) (Scalar.addi (BitVec.ofNat 32 n.val) (Scalar.subi 8#32 (BitVec.ofNat 32 n.val))) 1#32 = 0 := by decide +kernel
  exact h (i 1)

/-- The first query of the block a trip takes. -/
theorem ivAt : ∀ n k : Fin 8, n.val + k.val < 8 → (Scalar.indexCast (Scalar.muli (Scf.iv (BitVec.ofNat 32 n.val) 1#32 k.val) 256#32)).toNat = 256 * (n.val + k.val) := by
  decide +kernel

/-- The block of queries a trip takes lies within the eight. -/
theorem trip_lt (i : grid0.Coords) (k : Fin (k0_t1_loop i).trips) : (i 1).val + k.val < 8 := by
  have h : k.val < 8 - (i 1).val := lt_of_lt_of_eq k.isLt (trips1 i)
  omega

theorem off_at (i : grid0.Coords) (k : Fin (k0_t1_loop i).trips) :
    (Scalar.indexCast (Scalar.muli (Scf.iv (BitVec.ofNat 32 (i 1).val) 1#32 k.val) 256#32)).toNat = 256 * ((i 1).val + k.val) :=
  ivAt (i 1) ⟨k.val, by have := trip_lt i k; omega⟩ (trip_lt i k)

/-- The distance the mask of trip `k` compares with is `-256 k`. -/
theorem maskAt : ∀ n k : Fin 8, Scalar.muli (Scalar.subi (BitVec.ofNat 32 n.val) (Scf.iv (BitVec.ofNat 32 n.val) 1#32 k.val)) 256#32 = BitVec.ofInt 32 (-(256 * (k.val : ℤ))) := by
  decide +kernel

/-- The mask of a trip: key `r` of the key block is at or before query `c` of the query block `k` blocks on. -/
theorem mask_iff (k : Fin 8) (r c : Fin 256) :
    IntOp.cmpi .sge (IntOp.subi (BitVec.ofNat 32 c.val) (BitVec.ofNat 32 r.val)) (BitVec.ofInt 32 (-(256 * (k.val : ℤ))))
      = BitVec.ofBool (decide (r.val ≤ 256 * k.val + c.val)) := by
  have e1 : (IntOp.subi (BitVec.ofNat 32 c.val) (BitVec.ofNat 32 r.val)).toInt = (c.val : ℤ) - r.val := by
    show (BitVec.ofNat 32 c.val - BitVec.ofNat 32 r.val).toInt = _
    rw [BitVec.toInt_sub, BitVec.toInt_ofNat', BitVec.toInt_ofNat']
    have := c.isLt; have := r.isLt
    simp only [Int.bmod]; omega
  have e2 : (BitVec.ofInt 32 (-(256 * (k.val : ℤ)))).toInt = -(256 * (k.val : ℤ)) := by
    rw [BitVec.toInt_ofInt]
    have := k.isLt
    simp only [Int.bmod]; omega
  unfold IntOp.cmpi
  simp only [BitVec.sle, e1, e2]
  congr 1
  simp only [decide_eq_decide]
  omega

/-- Lane `l` of head `x` of the pair a point works on. -/
abbrev hd (x : Fin 2) (l : Fin 128) : Fin 256 := ⟨128 * x.val + l.val, by omega⟩

/-- The scale over the logarithm of two, as the kernel's named constant. -/
def sl2 : EReal := Named.named (F := Ideal) (φ := .f32) κ "scale_log2" 0x3E16C740#32
/-- What a masked score is set to, as the kernel's named constant. -/
def ngi : EReal := Named.named (F := Ideal) (φ := .f32) κ "neg" 0xF149F2CA#32
/-- The scale. -/
def scl : EReal := Ideal.ofBits .f32 0x3DD105EC#32

/-- The kernel's weight of key `r` of the block for query `c` of the query block `k` blocks on, head `x` of the pair. -/
def pT (k : ℕ) (K Q : FVec Ideal S256x256 .bf16) (R : FVec Ideal S1x8x256 .f32) (x : Fin 2) (r c : Fin 256) : EReal :=
  FloatOps.exp2 (F := Ideal) (φ := .f32) ((if r.val ≤ 256 * k + c.val then (∑ l : Fin 128, K (ix2 r (hd x l)) * Q (ix2 c (hd x l))) * sl2 else ngi) - R (ix3 0 ⟨x.val, by omega⟩ c))

/-- The lanes of head `x` of a pair of heads of 64 values, the others zero. -/
def half (x : Fin 2) (l : Fin 128) (v : EReal) : EReal := if (l.val < 64 ↔ x = 0) then v else 0

/-- The gradient of the score of key `r` and query `c`, scaled. -/
def dsT (k : ℕ) (K Q : FVec Ideal S256x256 .bf16) (V : FVec Ideal S256x128 .bf16) (D : FVec Ideal S256x128 .f32) (R : FVec Ideal S1x8x256 .f32) (x : Fin 2) (r c : Fin 256) : EReal :=
  pT k K Q R x r c * ((∑ l : Fin 128, half x l (V (ix2 r l) * D (ix2 c l))) - R (ix3 0 ⟨2 + x.val, by omega⟩ c)) * scl

theorem pay15 (i : grid0.Coords) (k : Fin (k0_t1_loop i).trips) (r c : Fin 256) :
    k0_pay15 i (BitVec.ofNat 32 (i 1).val) k0_pay3 1#32 k (ix2 r c) = BitVec.ofBool (decide (r.val ≤ 256 * k.val + c.val)) := by
  pointwise [k0_pay15, k0_pay3]
  have h := trip_lt i k
  rw [show Scalar.muli (Scalar.subi (BitVec.ofNat 32 (i 1).val) (Scf.iv (BitVec.ofNat 32 (i 1).val) 1#32 k.val)) 256#32 = _ from maskAt (i 1) ⟨k.val, by omega⟩]
  exact mask_iff ⟨k.val, by omega⟩ r c

theorem pay17 (i : grid0.Coords) (k : Fin (k0_t1_loop i).trips) (K Q : Vec Ideal S256x256 .bf16) (R : Vec Ideal S1x8x256 .f32) (r c : Fin 256) :
    k0_pay17 (F := Ideal) i (BitVec.ofNat 32 (i 1).val) k0_pay3 (k0_pay5 K) 1#32 k Q R (ix2 r c) = pT k.val K Q R 0 r c := by
  pointwise [k0_pay17, k0_pay5, k0_pay12, k0_pay14, k0_pay16]
  rw [pay15]
  unfold pT sl2 ngi
  rw [Scalar.select_ofBool]
  simp only [decide_eq_true_eq]
  have e : ∀ l : Fin 128, hd 0 l = ⟨l.val, by omega⟩ := fun l => Fin.ext (by simp)
  simp only [e]
  rfl

theorem pay26 (i : grid0.Coords) (k : Fin (k0_t1_loop i).trips) (K Q : Vec Ideal S256x256 .bf16) (R : Vec Ideal S1x8x256 .f32) (r c : Fin 256) :
    k0_pay26 (F := Ideal) (k0_pay5 K) (k0_pay12 Q) (k0_pay14 R) (k0_pay15 i (BitVec.ofNat 32 (i 1).val) k0_pay3 1#32 k) (ix2 r c) = pT k.val K Q R 1 r c := by
  pointwise [k0_pay26, k0_pay5, k0_pay12, k0_pay14, k0_pay25]
  rw [pay15]
  unfold pT sl2 ngi
  rw [Scalar.select_ofBool]
  simp only [decide_eq_true_eq]
  rfl

theorem sel0 (r : Fin 256) (l : Fin 128) (v : EReal) :
    Scalar.select (k0_pay2 (ix2 r l)) v 0 = half 0 l v := by
  pointwise [k0_pay2]
  word_cmp
  unfold half
  simp

theorem sel1 (r : Fin 256) (l : Fin 128) (v : EReal) :
    Scalar.select (k0_pay24 k0_pay2 (ix2 r l)) v 0 = half 1 l v := by
  have e : k0_pay24 k0_pay2 (ix2 r l) = IntOp.xori (k0_pay2 (ix2 r l)) 1#1 := rfl
  have e2 : k0_pay2 (ix2 r l) = BitVec.ofBool (decide (l.val < 64)) := by
    pointwise [k0_pay2]
    word_cmp
  rw [e, e2]
  unfold half
  by_cases h : l.val < 64 <;> simp [h, Scalar.select, IntOp.xori]

theorem zero_bf16 : Scalar.sitofp (F := Ideal) .bf16 0#32 = (0 : EReal) := by
  show (((0#32 : BitVec 32).toInt : ℝ) : EReal) = 0
  simp

theorem pay18 (i : grid0.Coords) (k : Fin (k0_t1_loop i).trips) (K Q : Vec Ideal S256x256 .bf16) (V : Vec Ideal S256x128 .bf16) (D : Vec Ideal S256x128 .f32) (R : Vec Ideal S1x8x256 .f32) (r c : Fin 256) :
    k0_pay18 (F := Ideal) i (BitVec.ofNat 32 (i 1).val) k0_pay2 k0_pay3 (k0_pay4 V) (k0_pay5 K) 1#32 k Q D R (ix2 r c) = dsT k.val K Q V D R 0 r c := by
  pointwise [k0_pay18, k0_pay4, k0_pay13, k0_pay14, zero_bf16]
  rw [pay17]
  unfold dsT scl
  simp only [sel0]
  rfl

theorem pay27 (i : grid0.Coords) (k : Fin (k0_t1_loop i).trips) (K Q : Vec Ideal S256x256 .bf16) (V : Vec Ideal S256x128 .bf16) (D : Vec Ideal S256x128 .f32) (R : Vec Ideal S1x8x256 .f32) (r c : Fin 256) :
    k0_pay27 (F := Ideal) k0_pay2 (k0_pay4 V) (k0_pay5 K) (k0_pay12 Q) (k0_pay13 D) (k0_pay14 R) (k0_pay15 i (BitVec.ofNat 32 (i 1).val) k0_pay3 1#32 k) (ix2 r c) = dsT k.val K Q V D R 1 r c := by
  pointwise [k0_pay27, k0_pay4, k0_pay13, k0_pay14, zero_bf16]
  have e := pay26 i k K Q R r c
  pointwise [k0_pay14] at e
  rw [e]
  unfold dsT scl
  simp only [sel1]
  rfl

theorem pay19 (i : grid0.Coords) (k : Fin (k0_t1_loop i).trips) (A : FVec Ideal S256x128 .f32) (K Q : Vec Ideal S256x256 .bf16) (V : Vec Ideal S256x128 .bf16) (D : Vec Ideal S256x128 .f32) (R : Vec Ideal S1x8x256 .f32) (r : Fin 256) (l : Fin 128) :
    k0_pay19 (F := Ideal) i (BitVec.ofNat 32 (i 1).val) k0_pay2 k0_pay3 (k0_pay4 V) (k0_pay5 K) 1#32 k A Q D R (ix2 r l)
      = A (ix2 r l) + ∑ c : Fin 256, dsT k.val K Q V D R 0 r c * Q (ix2 c (hd 0 l)) := by
  pointwise [k0_pay19, k0_pay16, k0_pay12]
  simp only [pay18]
  have e : ∀ l : Fin 128, hd 0 l = ⟨l.val, by omega⟩ := fun l => Fin.ext (by simp)
  simp only [e]

theorem pay28 (i : grid0.Coords) (k : Fin (k0_t1_loop i).trips) (A : FVec Ideal S256x128 .f32) (K Q : Vec Ideal S256x256 .bf16) (V : Vec Ideal S256x128 .bf16) (D : Vec Ideal S256x128 .f32) (R : Vec Ideal S1x8x256 .f32) (r : Fin 256) (l : Fin 128) :
    k0_pay28 (F := Ideal) k0_pay2 (k0_pay4 V) (k0_pay5 K) A (k0_pay12 Q) (k0_pay13 D) (k0_pay14 R) (k0_pay15 i (BitVec.ofNat 32 (i 1).val) k0_pay3 1#32 k) (ix2 r l)
      = A (ix2 r l) + ∑ c : Fin 256, dsT k.val K Q V D R 1 r c * Q (ix2 c (hd 1 l)) := by
  unfold k0_pay28
  pointwise [k0_pay25]
  simp only [pay27]
  pointwise [k0_pay12]
  rfl

theorem pay22 (i : grid0.Coords) (k : Fin (k0_t1_loop i).trips) (K Q : Vec Ideal S256x256 .bf16) (D : Vec Ideal S256x128 .f32) (R : Vec Ideal S1x8x256 .f32) (r : Fin 256) (l : Fin 128) :
    k0_pay22 (F := Ideal) (k0_pay20 k0_pay2 D) (k0_pay21 i (BitVec.ofNat 32 (i 1).val) k0_pay3 (k0_pay5 K) 1#32 k Q R) (constant S256x128 .f32 0x00000000#32) (ix2 r l)
      = ∑ c : Fin 256, half 0 l (pT k.val K Q R 0 r c * D (ix2 c l)) := by
  pointwise [k0_pay22, k0_pay20, k0_pay21, k0_pay13, zero_bf16]
  simp only [pay17, sel0]

theorem pay29 (i : grid0.Coords) (k : Fin (k0_t1_loop i).trips) (K Q : Vec Ideal S256x256 .bf16) (D : Vec Ideal S256x128 .f32) (R : Vec Ideal S1x8x256 .f32) (r : Fin 256) (l : Fin 128) :
    k0_pay29 (F := Ideal) k0_pay2 (k0_pay5 K) (k0_pay12 Q) (k0_pay13 D) (k0_pay14 R) (k0_pay15 i (BitVec.ofNat 32 (i 1).val) k0_pay3 1#32 k) (ix2 r l)
      = ∑ c : Fin 256, half 1 l (pT k.val K Q R 1 r c * D (ix2 c l)) := by
  unfold k0_pay29
  pointwise [zero_bf16]
  simp only [pay26, sel1]
  pointwise [k0_pay13]

/-- What a trip adds to the gradient of the values: both heads of the pair, each on its own lanes. -/
theorem pay8 (i : grid0.Coords) (k : Fin (k0_t1_loop i).trips) (A : FVec Ideal S256x128 .f32) (K Q : Vec Ideal S256x256 .bf16) (D : Vec Ideal S256x128 .f32) (R : Vec Ideal S1x8x256 .f32) (r : Fin 256) (l : Fin 128) :
    k0_pay8 (F := Ideal) A
      (k0_pay22 (F := Ideal) (k0_pay20 k0_pay2 D) (k0_pay21 i (BitVec.ofNat 32 (i 1).val) k0_pay3 (k0_pay5 K) 1#32 k Q R) (constant S256x128 .f32 0x00000000#32))
      (k0_pay29 (F := Ideal) k0_pay2 (k0_pay5 K) (k0_pay12 Q) (k0_pay13 D) (k0_pay14 R) (k0_pay15 i (BitVec.ofNat 32 (i 1).val) k0_pay3 1#32 k)) (ix2 r l)
      = A (ix2 r l) + ∑ c : Fin 256, (half 0 l (pT k.val K Q R 0 r c * D (ix2 c l)) + half 1 l (pT k.val K Q R 1 r c * D (ix2 c l))) := by
  pointwise [k0_pay8]
  rw [pay22, pay29, Finset.sum_add_distrib, add_assoc]

/-- What a trip leaves in the upper rows of its block of the queries' gradient. -/
theorem pay23 (i : grid0.Coords) (k : Fin (k0_t1_loop i).trips) (A : Vec Ideal S128x256 .f32) (T : Vec Ideal S128x256 .bf16) (K Q : Vec Ideal S256x256 .bf16) (V : Vec Ideal S256x128 .bf16) (D : Vec Ideal S256x128 .f32) (R : Vec Ideal S1x8x256 .f32) (l : Fin 128) (c : Fin 256) :
    k0_pay23 (F := Ideal) (k0_pay18 (F := Ideal) i (BitVec.ofNat 32 (i 1).val) k0_pay2 k0_pay3 (k0_pay4 V) (k0_pay5 K) 1#32 k Q D R) A T (ix2 l c)
      = A (ix2 l c) + ∑ r : Fin 256, T (ix2 l r) * dsT k.val K Q V D R 0 r c := by
  pointwise [k0_pay23]
  simp only [pay18]

/-- And in the lower rows. -/
theorem pay7 (i : grid0.Coords) (k : Fin (k0_t1_loop i).trips) (A : Vec Ideal S128x256 .f32) (T : Vec Ideal S128x256 .bf16) (K Q : Vec Ideal S256x256 .bf16) (V : Vec Ideal S256x128 .bf16) (D : Vec Ideal S256x128 .f32) (R : Vec Ideal S1x8x256 .f32) (l : Fin 128) (c : Fin 256) :
    k0_pay7 (F := Ideal) (k0_pay27 (F := Ideal) k0_pay2 (k0_pay4 V) (k0_pay5 K) (k0_pay12 Q) (k0_pay13 D) (k0_pay14 R) (k0_pay15 i (BitVec.ofNat 32 (i 1).val) k0_pay3 1#32 k)) (k0_pay30 A) T (ix2 l c)
      = A (ix2 l c) + ∑ r : Fin 256, T (ix2 l r) * dsT k.val K Q V D R 1 r c := by
  unfold k0_pay7
  pointwise [k0_pay30]
  simp only [pay27]

end Cert.KernelIdeal.Att
-- ==== Proof.Trip.lean ====
module

public import proofs.«01_k».proof.Proof.Pay
public import proofs.«01_k».proof.Proof.Gen.KernelIdeal.Loops

@[expose] public section

set_option maxRecDepth 16384

noncomputable section

open Idealize.ShloMosaic Idealize.ShloMosaic.TcCoe Idealize.SL.Sem

namespace Cert.KernelIdeal.Att

open Cert.KernelIdeal Cert.KernelIdeal.Gen

variable (𝒱 : Variants) (c : Dev nD) (bd : Option 𝒱.V) (i : grid0.Coords) (arg2 : Memref sig .tc .vmem S2048x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S256x128 .bf16) (harg5 : arg5.IsWhole) (arg6 : Memref sig .tc .vmem S2048x128 .f32) (harg6 : arg6.IsWhole) (arg7 : Memref sig .tc .vmem S1x8x2048 .f32) (harg7 : arg7.IsWhole) (arg8 : Memref sig .tc .vmem S256x2048 .f32) (harg8 : arg8.IsWhole) (arg9 : Memref sig .tc .vmem S256x256 .f32) (harg9 : arg9.IsWhole) (arg10 : Memref sig .tc .vmem S256x128 .bf16) (harg10 : arg10.IsWhole)
variable (V : Vec Ideal S256x128 .bf16) (K : Vec Ideal S256x256 .bf16) (Q : Vec Ideal S2048x256 .bf16) (T : Vec Ideal S256x256 .bf16) (D : Vec Ideal S2048x128 .f32) (R : Vec Ideal S1x8x2048 .f32)

/-- The rows of block `n` of an array of 2048 rows. -/
def rowsQ (n : ℕ) (h : n < 8) : FVec Ideal S256x256 .bf16 := fun j => Q (ix2 ⟨256 * n + (j 0).val, by have : (j 0).val < 256 := (j 0).isLt; omega⟩ (j 1))
/-- The rows of block `n`, of an array of 128 columns. -/
def rowsD (n : ℕ) (h : n < 8) : FVec Ideal S256x128 .f32 := fun j => D (ix2 ⟨256 * n + (j 0).val, by have : (j 0).val < 256 := (j 0).isLt; omega⟩ (j 1))
/-- The columns of block `n` of the rows a point reads. -/
def colsR (n : ℕ) (h : n < 8) : FVec Ideal S1x8x256 .f32 := fun j => R (ix3 0 (j 1) ⟨256 * n + (j 2).val, by have : (j 2).val < 256 := (j 2).isLt; omega⟩)

theorem off1_eq (k : Fin (k0_t1_loop i).trips) : k0_off1 i k = ![256 * ((i 1).val + k.val), 0] := by
  show ![_, 0] = _; rw [off_at i k]
theorem off2_eq (k : Fin (k0_t1_loop i).trips) : k0_off2 i k = ![256 * ((i 1).val + k.val), 0] := by
  show ![_, 0] = _; rw [off_at i k]
theorem off3_eq (k : Fin (k0_t1_loop i).trips) : k0_off3 i k = ![0, 0, 256 * ((i 1).val + k.val)] := by
  show ![0, 0, _] = _; rw [off_at i k]
theorem off4_eq (k : Fin (k0_t1_loop i).trips) : k0_off4 i k = ![0, 256 * ((i 1).val + k.val)] := by
  show ![0, _] = _; rw [off_at i k]
theorem off5_eq (k : Fin (k0_t1_loop i).trips) : k0_off5 i k = ![128, 256 * ((i 1).val + k.val)] := by
  show ![128, _] = _; rw [off_at i k]

/-- What a trip loads of the queries. -/
theorem rd1 (k : Fin (k0_t1_loop i).trips) :
    View.readAt (Elt Ideal) arg2.view (Rect.unit (s := S2048x256) (k0_off1 i k) S256x256.size (k0_off1_inb i k)).toLoadRect (harg2.unread Q)
      = rowsQ Q ((i 1).val + k.val) (trip_lt i k) := by
  rw [View.readAt_eq_ld, harg2.read_unread]
  funext j
  idx_vars j
  pointwise [off1_eq i k]
  rfl

/-- What a trip loads of the cotangent. -/
theorem rd2 (k : Fin (k0_t1_loop i).trips) :
    View.readAt (Elt Ideal) arg6.view (Rect.unit (s := S2048x128) (k0_off2 i k) S256x128.size (k0_off2_inb i k)).toLoadRect (harg6.unread D)
      = rowsD D ((i 1).val + k.val) (trip_lt i k) := by
  rw [View.readAt_eq_ld, harg6.read_unread]
  funext j
  idx_vars j
  pointwise [off2_eq i k]
  rfl

/-- What a trip loads of the rows. -/
theorem rd3 (k : Fin (k0_t1_loop i).trips) :
    View.readAt (Elt Ideal) arg7.view (Rect.unit (s := S1x8x2048) (k0_off3 i k) S1x8x256.size (k0_off3_inb i k)).toLoadRect (harg7.unread R)
      = colsR R ((i 1).val + k.val) (trip_lt i k) := by
  rw [View.readAt_eq_ld, harg7.read_unread]
  funext j
  idx_vars j
  pointwise [off3_eq i k]
  rfl

/-- A trip's new carried values. -/
theorem trip_result (k : Fin (k0_t1_loop i).trips) (acc : FVec Ideal S256x128 .f32 × FVec Ideal S256x128 .f32 × FVec Ideal S256x128 .f32) (f : BufTy.Contents (Elt Ideal) arg8.view.ty) :
    tripR_k0_t1 (F := Ideal) 𝒱 c bd i arg2 harg2 arg3 harg3 arg4 harg4 arg5 harg5 arg6 harg6 arg7 harg7 arg8 harg8 arg9 harg9 arg10 harg10 (BitVec.ofNat 32 (i 1).val) V K (harg2.unread Q) (harg4.unread T) (harg6.unread D) (harg7.unread R) k acc f
      = (k0_pay19 (F := Ideal) i (BitVec.ofNat 32 (i 1).val) k0_pay2 k0_pay3 (k0_pay4 V) (k0_pay5 K) 1#32 k acc.1 (rowsQ Q _ (trip_lt i k)) (rowsD D _ (trip_lt i k)) (colsR R _ (trip_lt i k)),
         k0_pay28 (F := Ideal) k0_pay2 (k0_pay4 V) (k0_pay5 K) acc.2.1 (k0_pay12 (rowsQ Q _ (trip_lt i k))) (k0_pay13 (rowsD D _ (trip_lt i k))) (k0_pay14 (colsR R _ (trip_lt i k))) (k0_pay15 i (BitVec.ofNat 32 (i 1).val) k0_pay3 1#32 k),
         k0_pay8 (F := Ideal) acc.2.2
          (k0_pay22 (F := Ideal) (k0_pay20 k0_pay2 (rowsD D _ (trip_lt i k))) (k0_pay21 i (BitVec.ofNat 32 (i 1).val) k0_pay3 (k0_pay5 K) 1#32 k (rowsQ Q _ (trip_lt i k)) (colsR R _ (trip_lt i k))) (constant S256x128 .f32 0x00000000#32))
          (k0_pay29 (F := Ideal) k0_pay2 (k0_pay5 K) (k0_pay12 (rowsQ Q _ (trip_lt i k))) (k0_pay13 (rowsD D _ (trip_lt i k))) (k0_pay14 (colsR R _ (trip_lt i k))) (k0_pay15 i (BitVec.ofNat 32 (i 1).val) k0_pay3 1#32 k))) := by
  rw [← rd1 i arg2 harg2 Q k, ← rd2 i arg6 harg6 D k, ← rd3 i arg7 harg7 R k]
  unfold tripR_k0_t1 trip_k0_t1
  dsimp only
  rfl

/-- The two pieces a trip writes into the queries' gradient. -/
theorem trip_pieces (k : Fin (k0_t1_loop i).trips) (acc : FVec Ideal S256x128 .f32 × FVec Ideal S256x128 .f32 × FVec Ideal S256x128 .f32) (f : BufTy.Contents (Elt Ideal) arg8.view.ty) :
    tripL_k0_t1 (F := Ideal) 𝒱 c bd i arg2 harg2 arg3 harg3 arg4 harg4 arg5 harg5 arg6 harg6 arg7 harg7 arg8 harg8 arg9 harg9 arg10 harg10 (BitVec.ofNat 32 (i 1).val) V K (harg2.unread Q) (harg4.unread T) (harg6.unread D) (harg7.unread R) k acc f
      = [⟨Rect.unit (s := S256x2048) (k0_off5 i k) S128x256.size (k0_off5_inb i k),
          k0_pay7 (F := Ideal) (k0_pay27 (F := Ideal) k0_pay2 (k0_pay4 V) (k0_pay5 K) (k0_pay12 (rowsQ Q _ (trip_lt i k))) (k0_pay13 (rowsD D _ (trip_lt i k))) (k0_pay14 (colsR R _ (trip_lt i k))) (k0_pay15 i (BitVec.ofNat 32 (i 1).val) k0_pay3 1#32 k))
            (k0_pay30 (View.readAt (Elt Ideal) arg8.view (Rect.unit (s := S256x2048) (k0_off5 i k) S128x256.size (k0_off5_inb i k)).toLoadRect f))
            (View.readAt (Elt Ideal) arg4.view (Rect.unit (s := S256x256) ![128, 0] S128x256.size inb_S256x256_S128x256_128_0).toLoadRect (harg4.unread T))⟩,
         ⟨Rect.unit (s := S256x2048) (k0_off4 i k) S128x256.size (k0_off4_inb i k),
          k0_pay23 (F := Ideal) (k0_pay18 (F := Ideal) i (BitVec.ofNat 32 (i 1).val) k0_pay2 k0_pay3 (k0_pay4 V) (k0_pay5 K) 1#32 k (rowsQ Q _ (trip_lt i k)) (rowsD D _ (trip_lt i k)) (colsR R _ (trip_lt i k)))
            (View.readAt (Elt Ideal) arg8.view (Rect.unit (s := S256x2048) (k0_off4 i k) S128x256.size (k0_off4_inb i k)).toLoadRect f)
            (View.readAt (Elt Ideal) arg4.view (Rect.unit (s := S256x256) ![0, 0] S128x256.size inb_S256x256_S128x256_0_0).toLoadRect (harg4.unread T))⟩] := by
  rw [← rd1 i arg2 harg2 Q k, ← rd2 i arg6 harg6 D k, ← rd3 i arg7 harg7 R k]
  unfold tripL_k0_t1 trip_k0_t1
  dsimp only
  rfl

/-! ## The same, in the numbers of the whole sequence -/

/-- The weight of key `r` of key block `kb` for query `q`, head `x` of the pair. -/
def pG (kb : ℕ) (K : Vec Ideal S256x256 .bf16) (Q : Vec Ideal S2048x256 .bf16) (R : Vec Ideal S1x8x2048 .f32) (x : Fin 2) (r : Fin 256) (q : Fin 2048) : EReal :=
  FloatOps.exp2 (F := Ideal) (φ := .f32) ((if 256 * kb + r.val ≤ q.val then (∑ l : Fin 128, (show EReal from K (ix2 r (hd x l))) * (show EReal from Q (ix2 q (hd x l)))) * sl2 else ngi) - (show EReal from R (ix3 0 ⟨x.val, by omega⟩ q)))

/-- The scaled gradient of the score of key `r` of key block `kb` and query `q`, head `x` of the pair. -/
def dsG (kb : ℕ) (V : Vec Ideal S256x128 .bf16) (K : Vec Ideal S256x256 .bf16) (Q : Vec Ideal S2048x256 .bf16) (D : Vec Ideal S2048x128 .f32) (R : Vec Ideal S1x8x2048 .f32) (x : Fin 2) (r : Fin 256) (q : Fin 2048) : EReal :=
  pG kb K Q R x r q * ((∑ l : Fin 128, half x l ((show EReal from V (ix2 r l)) * (show EReal from D (ix2 q l)))) - (show EReal from R (ix3 0 ⟨2 + x.val, by omega⟩ q))) * scl

/-- Column `c` of block `n`. -/
abbrev col (n : ℕ) (h : n < 8) (c : Fin 256) : Fin 2048 := ⟨256 * n + c.val, by omega⟩

theorem pT_eq (kb k : ℕ) (h : kb + k < 8) (x : Fin 2) (r c : Fin 256) :
    pT k K (rowsQ Q _ h) (colsR R _ h) x r c = pG kb K Q R x r (col _ h c) := by
  unfold pT pG
  have e : (r.val ≤ 256 * k + c.val) ↔ (256 * kb + r.val ≤ (col _ h c).val) := by
    show _ ↔ 256 * kb + r.val ≤ 256 * (kb + k) + c.val
    omega
  simp only [e]
  rfl

theorem dsT_eq (kb k : ℕ) (h : kb + k < 8) (x : Fin 2) (r c : Fin 256) :
    dsT k K (rowsQ Q _ h) V (rowsD D _ h) (colsR R _ h) x r c = dsG kb V K Q D R x r (col _ h c) := by
  unfold dsT dsG
  rw [pT_eq]
  rfl

/-- The sum over the queries of the blocks `kb` to `kb + n - 1`. -/
def upto (kb n : ℕ) (F : Fin 2048 → EReal) : EReal := ∑ q : Fin 2048, if 256 * kb ≤ q.val ∧ q.val < 256 * (kb + n) then F q else 0

theorem upto_zero (kb : ℕ) (F : Fin 2048 → EReal) : upto kb 0 F = 0 := by
  unfold upto
  exact Finset.sum_eq_zero fun q _ => if_neg (by omega)

theorem block_sum (n : ℕ) (h : n < 8) (F : Fin 2048 → EReal) :
    ∑ q : Fin 2048, (if 256 * n ≤ q.val ∧ q.val < 256 * (n + 1) then F q else 0) = ∑ c : Fin 256, F (col n h c) := by
  rw [← Finset.sum_filter]
  refine (Finset.sum_bij (fun c _ => col n h c) ?_ ?_ ?_ ?_).symm
  · intro c _
    simp only [Finset.mem_filter, Finset.mem_univ, true_and]
    omega
  · intro a _ b _ e
    have := congrArg Fin.val e
    exact Fin.ext (by simpa using this)
  · intro q hq
    simp only [Finset.mem_filter, Finset.mem_univ, true_and] at hq
    exact ⟨⟨q.val - 256 * n, by omega⟩, Finset.mem_univ _, Fin.ext (by simp; omega)⟩
  · intro c _; rfl

theorem upto_succ (kb n : ℕ) (h : kb + n < 8) (F : Fin 2048 → EReal) :
    upto kb (n + 1) F = upto kb n F + ∑ c : Fin 256, F (col (kb + n) h c) := by
  rw [← block_sum (kb + n) h F]
  unfold upto
  rw [← Finset.sum_add_distrib]
  refine Finset.sum_congr rfl fun q _ => ?_
  by_cases h1 : 256 * kb ≤ q.val ∧ q.val < 256 * (kb + n)
  · rw [if_pos h1, if_pos ⟨h1.1, by omega⟩, if_neg (by omega), add_zero]
  · by_cases h2 : 256 * (kb + n) ≤ q.val ∧ q.val < 256 * (kb + n + 1)
    · rw [if_neg h1, if_pos h2, if_pos ⟨by omega, by omega⟩, zero_add]
    · rw [if_neg h1, if_neg h2, if_neg (by omega), zero_add]

end Cert.KernelIdeal.Att
-- ==== Proof.State.lean ====
module

public import proofs.«01_k».proof.Proof.Trip
public import Idealize.ShloMosaic.Lib.WritesUnit

@[expose] public section

set_option maxRecDepth 16384

noncomputable section

open Idealize.ShloMosaic Idealize.ShloMosaic.TcCoe Idealize.SL.Sem

namespace Cert.KernelIdeal.Att

open Cert.KernelIdeal Cert.KernelIdeal.Gen

variable (𝒱 : Variants) (c : Dev nD) (bd : Option 𝒱.V) (i : grid0.Coords) (arg2 : Memref sig .tc .vmem S2048x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S256x128 .bf16) (harg5 : arg5.IsWhole) (arg6 : Memref sig .tc .vmem S2048x128 .f32) (harg6 : arg6.IsWhole) (arg7 : Memref sig .tc .vmem S1x8x2048 .f32) (harg7 : arg7.IsWhole) (arg8 : Memref sig .tc .vmem S256x2048 .f32) (harg8 : arg8.IsWhole) (arg9 : Memref sig .tc .vmem S256x256 .f32) (harg9 : arg9.IsWhole) (arg10 : Memref sig .tc .vmem S256x128 .bf16) (harg10 : arg10.IsWhole)
variable (V : Vec Ideal S256x128 .bf16) (K : Vec Ideal S256x256 .bf16) (Q : Vec Ideal S2048x256 .bf16) (T : Vec Ideal S256x256 .bf16) (D : Vec Ideal S2048x128 .f32) (R : Vec Ideal S1x8x2048 .f32)

/-- The pieces of trip `k` add its part of `kᵀ·dS` on the columns of its block. -/
theorem trip_effect (k : Fin (k0_t1_loop i).trips) (acc : FVec Ideal S256x128 .f32 × FVec Ideal S256x128 .f32 × FVec Ideal S256x128 .f32) (f : BufTy.Contents (Elt Ideal) arg8.view.ty) (x : Fin 2) (l : Fin 128) (q : Fin 2048)
    (L : List (View.Piece (Elt Ideal) S256x2048 .f32)) (G : BufTy.Contents (Elt Ideal) arg8.view.ty) (hf : f = arg8.view.writes (Elt Ideal) G L) :
    arg8.view.read (Elt Ideal) (arg8.view.writes (Elt Ideal) G ((tripL_k0_t1 (F := Ideal) 𝒱 c bd i arg2 harg2 arg3 harg3 arg4 harg4 arg5 harg5 arg6 harg6 arg7 harg7 arg8 harg8 arg9 harg9 arg10 harg10 (BitVec.ofNat 32 (i 1).val) V K (harg2.unread Q) (harg4.unread T) (harg6.unread D) (harg7.unread R) k acc f) ++ L)) (ix2 (hd x l) q)
      = (show EReal from arg8.view.read (Elt Ideal) (arg8.view.writes (Elt Ideal) G L) (ix2 (hd x l) q))
        + if 256 * ((i 1).val + k.val) ≤ q.val ∧ q.val < 256 * ((i 1).val + (k.val + 1)) then ∑ r : Fin 256, (show EReal from T (ix2 (hd x l) r)) * dsG (i 1).val V K Q D R x r q else 0 := by
  subst hf
  rw [trip_pieces]
  by_cases hq : 256 * ((i 1).val + k.val) ≤ q.val ∧ q.val < 256 * ((i 1).val + (k.val + 1))
  · rw [if_pos hq]
    obtain ⟨cc, rfl⟩ : ∃ cc : Fin 256, q = col _ (trip_lt i k) cc := ⟨⟨q.val - 256 * ((i 1).val + k.val), by omega⟩, Fin.ext (by simp; omega)⟩
    match x with
    | 0 =>
      rw [List.cons_append, View.read_writes_cons_unit_of_not_mem _ _ _ _ _ _ (off5_eq i k) 0 (Or.inl (by simp [hd])),
        List.cons_append, List.nil_append,
        View.read_writes_cons_unit_of_mem _ _ _ _ _ _ (ix2 l cc) (off4_eq i k) (by intro a; fin_cases a <;> simp [hd, col])]
      refine (pay23 i k _ _ K _ V _ _ l cc).trans ?_
      congr 1
      · rw [View.readAt_eq_ld]
        pointwise [off4_eq i k]
        refine congrArg _ (funext fun a => ?_)
        fin_cases a <;> first | rfl | (apply Fin.ext; simp [hd, col, ix2])
      · refine Finset.sum_congr rfl fun r _ => ?_
        rw [dsT_eq, View.readAt_eq_ld, harg4.read_unread]
        refine congrArg (· * _) ?_
        pointwise []
        refine congrArg _ (funext fun a => ?_)
        fin_cases a <;> first | rfl | (apply Fin.ext; simp [hd, col, ix2])
    | 1 =>
      rw [List.cons_append,
        View.read_writes_cons_unit_of_mem _ _ _ _ _ _ (ix2 l cc) (off5_eq i k) (by intro a; fin_cases a <;> simp [hd, col])]
      refine (pay7 i k _ _ K _ V _ _ l cc).trans ?_
      congr 1
      · rw [View.readAt_eq_ld]
        pointwise [off5_eq i k]
        refine congrArg _ (funext fun a => ?_)
        fin_cases a <;> first | rfl | (apply Fin.ext; simp [hd, col, ix2])
      · refine Finset.sum_congr rfl fun r _ => ?_
        rw [dsT_eq, View.readAt_eq_ld, harg4.read_unread]
        refine congrArg (· * _) ?_
        pointwise []
        refine congrArg _ (funext fun a => ?_)
        fin_cases a <;> first | rfl | (apply Fin.ext; simp [hd, col, ix2])
  · rw [if_neg hq, add_zero, List.cons_append, View.read_writes_cons_unit_of_not_mem _ _ _ _ _ _ (off5_eq i k) 1 (by show q.val < 256 * ((i 1).val + k.val) ∨ 256 * ((i 1).val + k.val) + 256 ≤ q.val; omega),
        List.cons_append, List.nil_append, View.read_writes_cons_unit_of_not_mem _ _ _ _ _ _ (off4_eq i k) 1 (by show q.val < 256 * ((i 1).val + k.val) ∨ 256 * ((i 1).val + k.val) + 256 ≤ q.val; omega)]

/-- The carried values and the pieces before trip `n`. -/
abbrev stN (G : BufTy.Contents (Elt Ideal) arg8.view.ty) (init : FVec Ideal S256x128 .f32 × FVec Ideal S256x128 .f32 × FVec Ideal S256x128 .f32) (n : ℕ) :=
  st_k0_t1 (F := Ideal) 𝒱 c bd i arg2 harg2 arg3 harg3 arg4 harg4 arg5 harg5 arg6 harg6 arg7 harg7 arg8 harg8 arg9 harg9 arg10 harg10 (BitVec.ofNat 32 (i 1).val) V K (harg2.unread Q) (harg4.unread T) (harg6.unread D) (harg7.unread R) G init n

/-- What the loop has computed before trip `n`: the gradients of the block's keys and values summed over the queries of
the blocks passed, and on those queries' columns the block's part of the queries' gradient. -/
theorem state_eq (G : BufTy.Contents (Elt Ideal) arg8.view.ty) (n : ℕ) (hn : (i 1).val + n ≤ 8) :
    (∀ (r : Fin 256) (l : Fin 128), (stN 𝒱 c bd i arg2 harg2 arg3 harg3 arg4 harg4 arg5 harg5 arg6 harg6 arg7 harg7 arg8 harg8 arg9 harg9 arg10 harg10 V K Q T D R G (k0_pay6, k0_pay6, k0_pay6) n).1.1 (ix2 r l)
        = upto (i 1).val n fun q => dsG (i 1).val V K Q D R 0 r q * (show EReal from Q (ix2 q (hd 0 l)))) ∧
    (∀ (r : Fin 256) (l : Fin 128), (stN 𝒱 c bd i arg2 harg2 arg3 harg3 arg4 harg4 arg5 harg5 arg6 harg6 arg7 harg7 arg8 harg8 arg9 harg9 arg10 harg10 V K Q T D R G (k0_pay6, k0_pay6, k0_pay6) n).1.2.1 (ix2 r l)
        = upto (i 1).val n fun q => dsG (i 1).val V K Q D R 1 r q * (show EReal from Q (ix2 q (hd 1 l)))) ∧
    (∀ (r : Fin 256) (l : Fin 128), (stN 𝒱 c bd i arg2 harg2 arg3 harg3 arg4 harg4 arg5 harg5 arg6 harg6 arg7 harg7 arg8 harg8 arg9 harg9 arg10 harg10 V K Q T D R G (k0_pay6, k0_pay6, k0_pay6) n).1.2.2 (ix2 r l)
        = upto (i 1).val n fun q => half 0 l (pG (i 1).val K Q R 0 r q * (show EReal from D (ix2 q l))) + half 1 l (pG (i 1).val K Q R 1 r q * (show EReal from D (ix2 q l)))) ∧
    (∀ (x : Fin 2) (l : Fin 128) (q : Fin 2048),
      arg8.view.read (Elt Ideal) (arg8.view.writes (Elt Ideal) G (stN 𝒱 c bd i arg2 harg2 arg3 harg3 arg4 harg4 arg5 harg5 arg6 harg6 arg7 harg7 arg8 harg8 arg9 harg9 arg10 harg10 V K Q T D R G (k0_pay6, k0_pay6, k0_pay6) n).2) (ix2 (hd x l) q)
        = (show EReal from arg8.view.read (Elt Ideal) G (ix2 (hd x l) q))
          + if 256 * (i 1).val ≤ q.val ∧ q.val < 256 * ((i 1).val + n) then ∑ r : Fin 256, (show EReal from T (ix2 (hd x l) r)) * dsG (i 1).val V K Q D R x r q else 0) := by
  induction n with
  | zero =>
    have e6 : ∀ (r : Fin 256) (l : Fin 128), (k0_pay6 (F := Ideal)) (ix2 r l) = (0 : EReal) := fun r l => by pointwise [k0_pay6]
    refine ⟨fun r l => ?_, fun r l => ?_, fun r l => ?_, fun x l q => ?_⟩
    · rw [upto_zero]; exact e6 r l
    · rw [upto_zero]; exact e6 r l
    · rw [upto_zero]; exact e6 r l
    · rw [if_neg (by omega), add_zero]; rfl
  | succ n ih =>
    obtain ⟨h1, h2, h3, h4⟩ := ih (by omega)
    have ht : n < (k0_t1_loop i).trips := lt_of_lt_of_eq (by omega : n < 8 - (i 1).val) (trips1 i).symm
    have hs : stN 𝒱 c bd i arg2 harg2 arg3 harg3 arg4 harg4 arg5 harg5 arg6 harg6 arg7 harg7 arg8 harg8 arg9 harg9 arg10 harg10 V K Q T D R G (k0_pay6, k0_pay6, k0_pay6) (n + 1) = _ := st_k0_t1_succ (F := Ideal) 𝒱 c bd i arg2 harg2 arg3 harg3 arg4 harg4 arg5 harg5 arg6 harg6 arg7 harg7 arg8 harg8 arg9 harg9 arg10 harg10 (BitVec.ofNat 32 (i 1).val) V K (harg2.unread Q) (harg4.unread T) (harg6.unread D) (harg7.unread R) G (k0_pay6, k0_pay6, k0_pay6) ⟨n, ht⟩
    rw [hs]
    have hb : (i 1).val + n < 8 := by omega
    refine ⟨fun r l => ?_, fun r l => ?_, fun r l => ?_, fun x l q => ?_⟩
    · rw [upto_succ _ _ hb, ← h1 r l, trip_result]
      refine (pay19 i ⟨n, ht⟩ _ K _ V _ _ r l).trans ?_
      congr 1
      refine Finset.sum_congr rfl fun cc _ => ?_
      rw [dsT_eq]
      rfl
    · rw [upto_succ _ _ hb, ← h2 r l, trip_result]
      refine (pay28 i ⟨n, ht⟩ _ K _ V _ _ r l).trans ?_
      congr 1
      refine Finset.sum_congr rfl fun cc _ => ?_
      rw [dsT_eq]
      rfl
    · rw [upto_succ _ _ hb, ← h3 r l, trip_result]
      refine (pay8 i ⟨n, ht⟩ _ K _ _ _ r l).trans ?_
      congr 1
      refine Finset.sum_congr rfl fun cc _ => ?_
      rw [pT_eq, pT_eq]
      rfl
    · refine (trip_effect 𝒱 c bd i arg2 harg2 arg3 harg3 arg4 harg4 arg5 harg5 arg6 harg6 arg7 harg7 arg8 harg8 arg9 harg9 arg10 harg10 V K Q T D R ⟨n, ht⟩ _ _ x l q _ G rfl).trans ?_
      refine (congrArg (· + _) (h4 x l q)).trans ?_
      rw [add_assoc]
      congr 1
      by_cases a1 : 256 * (i 1).val ≤ q.val ∧ q.val < 256 * ((i 1).val + n)
      · rw [if_pos a1, if_neg (by show ¬ (256 * ((i 1).val + n) ≤ _ ∧ _); omega), if_pos (by omega), add_zero]
      · by_cases a2 : 256 * ((i 1).val + n) ≤ q.val ∧ q.val < 256 * ((i 1).val + (n + 1))
        · rw [if_neg a1, if_pos a2, if_pos (by omega), zero_add]
        · rw [if_neg a1, if_neg a2, if_neg (by omega), add_zero]

end Cert.KernelIdeal.Att
-- ==== Proof.Point.lean ====
module

public import proofs.«01_k».proof.Proof.State
public import proofs.«01_k».proof.Proof.Gen.KernelIdeal.Frame
public import Idealize.ShloMosaic.Lib.Tactic

@[expose] public section

set_option maxRecDepth 16384

noncomputable section

open Idealize.ShloMosaic Idealize.ShloMosaic.TcCoe Idealize.SL.Sem

namespace Cert.KernelIdeal.Att

open Cert.KernelIdeal Cert.KernelIdeal.Gen

variable (c : Dev nD) (i : grid0.Coords) (arg2 : Memref sig .tc .vmem S2048x256 .bf16) (harg2 : arg2.IsWhole) (arg3 : Memref sig .tc .vmem S256x256 .bf16) (harg3 : arg3.IsWhole) (arg4 : Memref sig .tc .vmem S256x256 .bf16) (harg4 : arg4.IsWhole) (arg5 : Memref sig .tc .vmem S256x128 .bf16) (harg5 : arg5.IsWhole) (arg6 : Memref sig .tc .vmem S2048x128 .f32) (harg6 : arg6.IsWhole) (arg7 : Memref sig .tc .vmem S1x8x2048 .f32) (harg7 : arg7.IsWhole) (arg8 : Memref sig .tc .vmem S256x2048 .f32) (harg8 : arg8.IsWhole) (arg9 : Memref sig .tc .vmem S256x256 .f32) (harg9 : arg9.IsWhole) (arg10 : Memref sig .tc .vmem S256x128 .bf16) (harg10 : arg10.IsWhole)
variable (V : Vec Ideal S256x128 .bf16) (K : Vec Ideal S256x256 .bf16) (Q : Vec Ideal S2048x256 .bf16) (T : Vec Ideal S256x256 .bf16) (D : Vec Ideal S2048x128 .f32) (R : Vec Ideal S1x8x2048 .f32)

theorem hz2 : (![0, 0] : Fin 2 → Nat) = fun _ => 0 := funext fun a => by fin_cases a <;> rfl

theorem nt1 : Scf.trips (BitVec.ofNat 32 (i 1).val) (Scalar.addi (BitVec.ofNat 32 (i 1).val) (Scalar.muli (Scalar.divsi (Scalar.subi 8#32 (BitVec.ofNat 32 (i 1).val)) 1#32) 1#32)) 1#32 = 8 - (i 1).val := trips1 i
theorem nt2 : Scf.trips (Scalar.addi (BitVec.ofNat 32 (i 1).val) (Scalar.muli (Scalar.divsi (Scalar.subi 8#32 (BitVec.ofNat 32 (i 1).val)) 1#32) 1#32)) (Scalar.addi (BitVec.ofNat 32 (i 1).val) (Scalar.subi 8#32 (BitVec.ofNat 32 (i 1).val))) 1#32 = 0 := trips2 i

/-- The sum over the queries from the first of block `kb` on. -/
def aft (kb : ℕ) (F : Fin 2048 → EReal) : EReal := ∑ q : Fin 2048, if 256 * kb ≤ q.val then F q else 0

theorem upto_all (F : Fin 2048 → EReal) : upto (i 1).val (8 - (i 1).val) F = aft (i 1).val F := by
  have h : (i 1).val < 8 := (i 1).isLt
  unfold upto aft
  refine Finset.sum_congr rfl fun q _ => ?_
  have := q.isLt
  by_cases a1 : 256 * (i 1).val ≤ q.val
  · rw [if_pos a1, if_pos ⟨a1, by omega⟩]
  · rw [if_neg a1, if_neg (by omega)]

/-- A point's gradient of its block of keys, head `x` of the pair. -/
def dkP (kb : ℕ) (x : Fin 2) (r : Fin 256) (l : Fin 128) : EReal := aft kb fun q => dsG kb V K Q D R x r q * (show EReal from Q (ix2 q (hd x l)))
/-- A point's gradient of its block of values, both heads. -/
def dvP (kb : ℕ) (r : Fin 256) (l : Fin 128) : EReal := aft kb fun q => half 0 l (pG kb K Q R 0 r q * (show EReal from D (ix2 q l))) + half 1 l (pG kb K Q R 1 r q * (show EReal from D (ix2 q l)))
/-- What a point adds to the gradient of the queries, head `x` of the pair. -/
def dqP (kb : ℕ) (x : Fin 2) (l : Fin 128) (q : Fin 2048) : EReal := if 256 * kb ≤ q.val then ∑ r : Fin 256, (show EReal from T (ix2 (hd x l) r)) * dsG kb V K Q D R x r q else 0

theorem dqP_eq (x : Fin 2) (l : Fin 128) (q : Fin 2048) :
    (if 256 * (i 1).val ≤ q.val ∧ q.val < 256 * ((i 1).val + (8 - (i 1).val)) then ∑ r : Fin 256, (show EReal from T (ix2 (hd x l) r)) * dsG (i 1).val V K Q D R x r q else 0)
      = dqP V K Q T D R (i 1).val x l q := by
  have h : (i 1).val < 8 := (i 1).isLt
  have := q.isLt
  unfold dqP
  by_cases a1 : 256 * (i 1).val ≤ q.val
  · rw [if_pos a1, if_pos ⟨a1, by omega⟩]
  · rw [if_neg a1, if_neg (by omega)]

/-- The keys' gradient a point writes. -/
theorem outA7 (hc : cond0_0 i) (r : Fin 256) (x : Fin 2) (l : Fin 128) :
    out0_A_7 (F := Ideal) c i arg2 harg2 arg3 harg3 arg4 harg4 arg5 harg5 arg6 harg6 arg7 harg7 arg8 harg8 arg9 harg9 arg10 harg10 hc Q K T V D R (ix2 r (hd x l)) = dkP V K Q D R (i 1).val x r l := by
  unfold out0_A_7 kernelRun0_A
  dsimp only
  sl_unfold_words
  rw [nt1, nt2]
  simp only [View.readAt_eq_ld, harg5.read_unread, harg3.read_unread, View.ld_unit_zero (S := S256x128) hz2, View.ld_unit_zero (S := S256x256) hz2, st_k0_t2, List.nil_append]
  obtain ⟨h1, h2, -, -⟩ := state_eq Variants.none c none i arg2 harg2 arg3 harg3 arg4 harg4 arg5 harg5 arg6 harg6 arg7 harg7 arg8 harg8 arg9 harg9 arg10 harg10 V K Q T D R (arg8.view.writes (Elt Ideal) arg8.view.junk [⟨Rect.unit (s := S256x2048) ![0, 0] ![256, 2048] inb_S256x2048_S256x2048_0_0, k0_pay1 (F := Ideal)⟩]) (8 - (i 1).val) (by have : (i 1).val < 8 := (i 1).isLt; omega)
  unfold dkP
  match x with
  | 0 =>
    rw [View.read_writes_cons_unit_of_not_mem _ _ _ _ _ _ rfl 1 (Or.inl (by simp [hd])),
      View.read_writes_cons_unit_of_mem _ _ _ _ _ _ (ix2 r l) rfl (by intro a; fin_cases a <;> simp [hd])]
    exact (h1 r l).trans (upto_all i _)
  | 1 =>
    rw [View.read_writes_cons_unit_of_mem _ _ _ _ _ _ (ix2 r l) rfl (by intro a; fin_cases a <;> simp [hd])]
    exact (h2 r l).trans (upto_all i _)

/-- The values' gradient a point writes. -/
theorem outA8 (hc : cond0_0 i) (r : Fin 256) (l : Fin 128) :
    out0_A_8 (F := Ideal) c i arg2 harg2 arg3 harg3 arg4 harg4 arg5 harg5 arg6 harg6 arg7 harg7 arg8 harg8 arg9 harg9 arg10 harg10 hc Q K T V D R (ix2 r l) = dvP K Q D R (i 1).val r l := by
  unfold out0_A_8 kernelRun0_A
  dsimp only
  sl_unfold_words
  rw [nt1, nt2]
  simp only [View.readAt_eq_ld, harg5.read_unread, harg3.read_unread, View.ld_unit_zero (S := S256x128) hz2, View.ld_unit_zero (S := S256x256) hz2, st_k0_t2, List.nil_append]
  obtain ⟨-, -, h3, -⟩ := state_eq Variants.none c none i arg2 harg2 arg3 harg3 arg4 harg4 arg5 harg5 arg6 harg6 arg7 harg7 arg8 harg8 arg9 harg9 arg10 harg10 V K Q T D R (arg8.view.writes (Elt Ideal) arg8.view.junk [⟨Rect.unit (s := S256x2048) ![0, 0] ![256, 2048] inb_S256x2048_S256x2048_0_0, k0_pay1 (F := Ideal)⟩]) (8 - (i 1).val) (by have : (i 1).val < 8 := (i 1).isLt; omega)
  unfold dvP
  rw [View.read_writes_cons_unit_of_mem _ _ _ _ _ _ (ix2 r l) rfl (by intro a; fin_cases a <;> simp)]
  refine Eq.trans ?_ ((h3 r l).trans (upto_all i _))
  pointwise [k0_pay11]

/-- The keys' gradient a point writes. -/
theorem outB7 (hc : ¬cond0_0 i) (r : Fin 256) (x : Fin 2) (l : Fin 128) (w : Vec Ideal S256x2048 .f32) :
    out0_B_7 (F := Ideal) c i arg2 harg2 arg3 harg3 arg4 harg4 arg5 harg5 arg6 harg6 arg7 harg7 arg8 harg8 arg9 harg9 arg10 harg10 hc Q K T V D R w (ix2 r (hd x l)) = dkP V K Q D R (i 1).val x r l := by
  unfold out0_B_7 kernelRun0_B
  dsimp only
  sl_unfold_words
  rw [nt1, nt2]
  simp only [View.readAt_eq_ld, harg5.read_unread, harg3.read_unread, View.ld_unit_zero (S := S256x128) hz2, View.ld_unit_zero (S := S256x256) hz2, st_k0_t2, List.nil_append]
  obtain ⟨h1, h2, -, -⟩ := state_eq Variants.none c none i arg2 harg2 arg3 harg3 arg4 harg4 arg5 harg5 arg6 harg6 arg7 harg7 arg8 harg8 arg9 harg9 arg10 harg10 V K Q T D R (harg8.unread w) (8 - (i 1).val) (by have : (i 1).val < 8 := (i 1).isLt; omega)
  unfold dkP
  match x with
  | 0 =>
    rw [View.read_writes_cons_unit_of_not_mem _ _ _ _ _ _ rfl 1 (Or.inl (by simp [hd])),
      View.read_writes_cons_unit_of_mem _ _ _ _ _ _ (ix2 r l) rfl (by intro a; fin_cases a <;> simp [hd])]
    exact (h1 r l).trans (upto_all i _)
  | 1 =>
    rw [View.read_writes_cons_unit_of_mem _ _ _ _ _ _ (ix2 r l) rfl (by intro a; fin_cases a <;> simp [hd])]
    exact (h2 r l).trans (upto_all i _)

/-- The values' gradient a point writes. -/
theorem outB8 (hc : ¬cond0_0 i) (r : Fin 256) (l : Fin 128) (w : Vec Ideal S256x2048 .f32) :
    out0_B_8 (F := Ideal) c i arg2 harg2 arg3 harg3 arg4 harg4 arg5 harg5 arg6 harg6 arg7 harg7 arg8 harg8 arg9 harg9 arg10 harg10 hc Q K T V D R w (ix2 r l) = dvP K Q D R (i 1).val r l := by
  unfold out0_B_8 kernelRun0_B
  dsimp only
  sl_unfold_words
  rw [nt1, nt2]
  simp only [View.readAt_eq_ld, harg5.read_unread, harg3.read_unread, View.ld_unit_zero (S := S256x128) hz2, View.ld_unit_zero (S := S256x256) hz2, st_k0_t2, List.nil_append]
  obtain ⟨-, -, h3, -⟩ := state_eq Variants.none c none i arg2 harg2 arg3 harg3 arg4 harg4 arg5 harg5 arg6 harg6 arg7 harg7 arg8 harg8 arg9 harg9 arg10 harg10 V K Q T D R (harg8.unread w) (8 - (i 1).val) (by have : (i 1).val < 8 := (i 1).isLt; omega)
  unfold dvP
  rw [View.read_writes_cons_unit_of_mem _ _ _ _ _ _ (ix2 r l) rfl (by intro a; fin_cases a <;> simp)]
  refine Eq.trans ?_ ((h3 r l).trans (upto_all i _))
  pointwise [k0_pay11]

/-- At a point that resets it, the queries' gradient holds the point's part. -/
theorem outA6 (hc : cond0_0 i) (x : Fin 2) (l : Fin 128) (q : Fin 2048) :
    out0_A_6 (F := Ideal) c i arg2 harg2 arg3 harg3 arg4 harg4 arg5 harg5 arg6 harg6 arg7 harg7 arg8 harg8 arg9 harg9 arg10 harg10 hc Q K T V D R (ix2 (hd x l) q) = dqP V K Q T D R (i 1).val x l q := by
  have hcov := cover0_A_6 (F := Ideal) c i arg2 harg2 arg3 harg3 arg4 harg4 arg5 harg5 arg6 harg6 arg7 harg7 arg8 harg8 arg9 harg9 arg10 harg10 hc Q K T V D R
  unfold out0_A_6
  rw [View.read_writes_eq_canon _ _ _ hcov, ← View.read_writes_eq_canon arg8.view arg8.view.junk _ hcov]
  unfold kernelRun0_A
  dsimp only
  sl_unfold_words
  rw [nt1, nt2]
  simp only [View.readAt_eq_ld, harg5.read_unread, harg3.read_unread, View.ld_unit_zero (S := S256x128) hz2, View.ld_unit_zero (S := S256x256) hz2, st_k0_t2, List.nil_append]
  obtain ⟨-, -, -, h4⟩ := state_eq Variants.none c none i arg2 harg2 arg3 harg3 arg4 harg4 arg5 harg5 arg6 harg6 arg7 harg7 arg8 harg8 arg9 harg9 arg10 harg10 V K Q T D R (arg8.view.writes (Elt Ideal) arg8.view.junk [⟨Rect.unit (s := S256x2048) ![0, 0] ![256, 2048] inb_S256x2048_S256x2048_0_0, k0_pay1 (F := Ideal)⟩]) (8 - (i 1).val) (by have : (i 1).val < 8 := (i 1).isLt; omega)
  rw [View.writes_append]
  refine (h4 x l q).trans ?_
  rw [dqP_eq, View.read_writes_cons_unit_of_mem _ _ _ _ _ _ (ix2 (hd x l) q) rfl (by intro a; fin_cases a <;> simp)]
  pointwise [k0_pay1]

/-- At the other points the point's part is added. -/
theorem outB6 (hc : ¬cond0_0 i) (x : Fin 2) (l : Fin 128) (q : Fin 2048) (xo : Vec Ideal S256x2048 .f32) :
    out0_B_6 (F := Ideal) c i arg2 harg2 arg3 harg3 arg4 harg4 arg5 harg5 arg6 harg6 arg7 harg7 arg8 harg8 arg9 harg9 arg10 harg10 hc Q K T V D R xo (ix2 (hd x l) q) = (show EReal from xo (ix2 (hd x l) q)) + dqP V K Q T D R (i 1).val x l q := by
  unfold out0_B_6 kernelRun0_B
  dsimp only
  sl_unfold_words
  rw [nt1, nt2]
  simp only [View.readAt_eq_ld, harg5.read_unread, harg3.read_unread, View.ld_unit_zero (S := S256x128) hz2, View.ld_unit_zero (S := S256x256) hz2, st_k0_t2, List.nil_append]
  obtain ⟨-, -, -, h4⟩ := state_eq Variants.none c none i arg2 harg2 arg3 harg3 arg4 harg4 arg5 harg5 arg6 harg6 arg7 harg7 arg8 harg8 arg9 harg9 arg10 harg10 V K Q T D R (harg8.unread xo) (8 - (i 1).val) (by have : (i 1).val < 8 := (i 1).isLt; omega)
  refine (h4 x l q).trans ?_
  rw [dqP_eq, harg8.read_unread]

end Cert.KernelIdeal.Att
-- ==== Proof.Final.lean ====
module

public import proofs.«01_k».proof.Proof.Point
public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Att

open Cert.KernelIdeal Cert.KernelIdeal.Gen

variable (m : (ℓ : Loc nD τ sig) → Buf (Elt Ideal) ℓ) (c : Dev nD)

/-- The column of lane `l` of head `x` of pair `j`. -/
abbrev hcol (j : Fin 8) (x : Fin 2) (l : Fin 128) : Fin 2048 := ⟨256 * j.val + 128 * x.val + l.val, by omega⟩
/-- The column of lane `l` of pair `j`, the pair's two heads of 64 values side by side. -/
abbrev pcol (j : Fin 8) (l : Fin 128) : Fin 1024 := ⟨128 * j.val + l.val, by omega⟩

/-! The call's arguments at an element. -/
def QA (q : Fin 2048) (j : Fin 8) (x : Fin 2) (l : Fin 128) : EReal := (V m c main_v36 : S2048x2048.Idx → EReal) (ix2 q (hcol j x l))
def KA (s : Fin 2048) (j : Fin 8) (x : Fin 2) (l : Fin 128) : EReal := (V m c main_v39 : S2048x2048.Idx → EReal) (ix2 s (hcol j x l))
def TA (j : Fin 8) (x : Fin 2) (l : Fin 128) (s : Fin 2048) : EReal := (V m c main_v40 : S2048x2048.Idx → EReal) (ix2 (hcol j x l) s)
def VA (s : Fin 2048) (j : Fin 8) (l : Fin 128) : EReal := (V m c main_v42 : S2048x1024.Idx → EReal) (ix2 s (pcol j l))
def DA (q : Fin 2048) (j : Fin 8) (l : Fin 128) : EReal := (V m c main_v43 : S2048x1024.Idx → EReal) (ix2 q (pcol j l))
def RA (j n : Fin 8) (q : Fin 2048) : EReal := (V m c main_v33 : S8x8x2048.Idx → EReal) (ix3 j n q)

/-- The weight of key `s` for query `q`, head `x` of pair `j`. -/
def pA (j : Fin 8) (x : Fin 2) (s q : Fin 2048) : EReal :=
  FloatOps.exp2 (F := Ideal) (φ := .f32) ((if s.val ≤ q.val then (∑ l : Fin 128, KA m c s j x l * QA m c q j x l) * sl2 else ngi) - RA m c j ⟨x.val, by omega⟩ q)
/-- The scaled gradient of the score of key `s` and query `q`, head `x` of pair `j`. -/
def dsA (j : Fin 8) (x : Fin 2) (s q : Fin 2048) : EReal :=
  pA m c j x s q * ((∑ l : Fin 128, half x l (VA m c s j l * DA m c q j l)) - RA m c j ⟨2 + x.val, by omega⟩ q) * scl

/-- The keys' gradient, at key `s`. -/
def dkA (j : Fin 8) (x : Fin 2) (s : Fin 2048) (l : Fin 128) : EReal := aft (s.val / 256) fun q => dsA m c j x s q * QA m c q j x l
/-- The values' gradient, at key `s`. -/
def dvA (j : Fin 8) (s : Fin 2048) (l : Fin 128) : EReal := aft (s.val / 256) fun q => half 0 l (pA m c j 0 s q * DA m c q j l) + half 1 l (pA m c j 1 s q * DA m c q j l)
/-- What the keys of block `kb` add to the queries' gradient, at query `q`. -/
def dqA (j : Fin 8) (x : Fin 2) (l : Fin 128) (q : Fin 2048) (kb : Fin 8) : EReal :=
  if 256 * kb.val ≤ q.val then ∑ r : Fin 256, TA m c j x l (col kb.val kb.isLt r) * dsA m c j x (col kb.val kb.isLt r) q else 0

theorem idx : ∀ t : Fin cfg0.N, win0_0.index t = ![0, t.val / 8] ∧ win0_1.index t = ![t.val % 8, t.val / 8] ∧ win0_2.index t = ![t.val / 8, t.val % 8]
    ∧ win0_3.index t = ![t.val % 8, t.val / 8] ∧ win0_4.index t = ![0, t.val / 8] ∧ win0_5.index t = ![t.val / 8, 0, 0]
    ∧ win0_6.index t = ![t.val / 8, 0] ∧ win0_7.index t = ![t.val % 8, t.val / 8] ∧ win0_8.index t = ![t.val % 8, t.val / 8] :=
  (by decide +kernel : ∀ t : Fin grid0.N, _)

/-- The pair of a point. -/
def jt (t : Fin cfg0.N) : Fin 8 := ⟨t.val / 8, by have : t.val < 64 := lt_of_lt_of_eq t.isLt N_0; omega⟩
/-- The block of keys of a point. -/
def kt (t : Fin cfg0.N) : Fin 8 := ⟨t.val % 8, by omega⟩

theorem kt_val (t : Fin cfg0.N) : (kt t).val = t.val % 8 := rfl
theorem jt_val (t : Fin cfg0.N) : (jt t).val = t.val / 8 := rfl
theorem kt_eq (t : Fin cfg0.N) : (grid0.coords t 1).val = (kt t).val := by
  have e1 : (grid0.coords t 1).val = t.val / 1 % 8 := Pipeline.Grid.coords_val t 1 (by decide) rfl
  rw [e1, Nat.div_one, kt_val]

theorem blk0 (t : Fin cfg0.N) (q : Fin 2048) (x : Fin 2) (l : Fin 128) : (iblk m c 0 t : S2048x256.Idx → EReal) (ix2 q (hd x l)) = QA m c q (jt t) x l := by
  unfold QA; blk_ext [iblk, idx t, jt, kt]
theorem blk1 (t : Fin cfg0.N) (r : Fin 256) (x : Fin 2) (l : Fin 128) : (iblk m c 1 t : S256x256.Idx → EReal) (ix2 r (hd x l)) = KA m c (col (kt t).val (kt t).isLt r) (jt t) x l := by
  unfold KA; blk_ext [iblk, idx t, jt, kt]
theorem blk2 (t : Fin cfg0.N) (r : Fin 256) (x : Fin 2) (l : Fin 128) : (iblk m c 2 t : S256x256.Idx → EReal) (ix2 (hd x l) r) = TA m c (jt t) x l (col (kt t).val (kt t).isLt r) := by
  unfold TA; blk_ext [iblk, idx t, jt, kt]
theorem blk3 (t : Fin cfg0.N) (r : Fin 256) (l : Fin 128) : (iblk m c 3 t : S256x128.Idx → EReal) (ix2 r l) = VA m c (col (kt t).val (kt t).isLt r) (jt t) l := by
  unfold VA; blk_ext [iblk, idx t, jt, kt]
theorem blk4 (t : Fin cfg0.N) (q : Fin 2048) (l : Fin 128) : (iblk m c 4 t : S2048x128.Idx → EReal) (ix2 q l) = DA m c q (jt t) l := by
  unfold DA; blk_ext [iblk, idx t, jt, kt]
theorem blk5 (t : Fin cfg0.N) (n : Fin 8) (q : Fin 2048) : (iblk m c 5 t : S1x8x2048.Idx → EReal) (ix3 0 n q) = RA m c (jt t) n q := by
  unfold RA; blk_ext [iblk, idx t, jt, kt]

theorem pG_at (t : Fin cfg0.N) (x : Fin 2) (r : Fin 256) (q : Fin 2048) :
    pG (kt t).val (iblk m c 1 t) (iblk m c 0 t) (iblk m c 5 t) x r q = pA m c (jt t) x (col (kt t).val (kt t).isLt r) q := by
  unfold pG pA
  simp only [blk0, blk1, blk5]

theorem dsG_at (t : Fin cfg0.N) (x : Fin 2) (r : Fin 256) (q : Fin 2048) :
    dsG (kt t).val (iblk m c 3 t) (iblk m c 1 t) (iblk m c 0 t) (iblk m c 4 t) (iblk m c 5 t) x r q = dsA m c (jt t) x (col (kt t).val (kt t).isLt r) q := by
  unfold dsG dsA
  simp only [pG_at, blk3, blk4, blk5]

theorem colblk (t : Fin cfg0.N) (r : Fin 256) : (col (kt t).val (kt t).isLt r).val / 256 = (kt t).val := by
  show (256 * (kt t).val + r.val) / 256 = (kt t).val
  omega

theorem dk_at (t : Fin cfg0.N) (x : Fin 2) (r : Fin 256) (l : Fin 128) :
    dkP (iblk m c 3 t) (iblk m c 1 t) (iblk m c 0 t) (iblk m c 4 t) (iblk m c 5 t) (kt t).val x r l = dkA m c (jt t) x (col (kt t).val (kt t).isLt r) l := by
  unfold dkP dkA
  rw [colblk]
  simp only [dsG_at, blk0]

theorem dv_at (t : Fin cfg0.N) (r : Fin 256) (l : Fin 128) :
    dvP (iblk m c 1 t) (iblk m c 0 t) (iblk m c 4 t) (iblk m c 5 t) (kt t).val r l = dvA m c (jt t) (col (kt t).val (kt t).isLt r) l := by
  unfold dvP dvA
  rw [colblk]
  simp only [pG_at, blk4]

theorem dq_at (t : Fin cfg0.N) (x : Fin 2) (l : Fin 128) (q : Fin 2048) :
    dqP (iblk m c 3 t) (iblk m c 1 t) (iblk m c 0 t) (iblk m c 2 t) (iblk m c 4 t) (iblk m c 5 t) (kt t).val x l q = dqA m c (jt t) x l q (kt t) := by
  unfold dqP dqA
  simp only [dsG_at, blk2]

/-- The keys' gradient the call returns. -/
def G7 : S2048x2048.Idx → EReal := fun y =>
  dkA m c ⟨(y 1).val / 256, by have : (y 1).val < 2048 := (y 1).isLt; omega⟩ ⟨(y 1).val % 256 / 128, by omega⟩ (y 0) ⟨(y 1).val % 128, by omega⟩
/-- The values' gradient the call returns. -/
def G8 : S2048x1024.Idx → EReal := fun y =>
  dvA m c ⟨(y 1).val / 128, by have : (y 1).val < 1024 := (y 1).isLt; omega⟩ (y 0) ⟨(y 1).val % 128, by omega⟩
/-- The queries' gradient the call returns, transposed. -/
def G6 : S2048x2048.Idx → EReal := fun y =>
  ∑ kb : Fin 8, dqA m c ⟨(y 0).val / 256, by have : (y 0).val < 2048 := (y 0).isLt; omega⟩ ⟨(y 0).val % 256 / 128, by omega⟩ ⟨(y 0).val % 128, by omega⟩ (y 1) kb

theorem outs7 (t : Fin cfg0.N) (r : Fin 256) (x : Fin 2) (l : Fin 128) :
    ((outsAt0 m c t.val t.isLt).2.1 : S256x256.Idx → EReal) (ix2 r (hd x l)) = dkA m c (jt t) x (col (kt t).val (kt t).isLt r) l := by
  rw [← dk_at, ← kt_eq]
  by_cases h0 : t.val % 8 = 0
  · rw [outsAt0_A m c t h0]
    exact outA7 (hc := (hcond0_0 t).mpr h0) ..
  · rw [outsAt0_B m c t h0]
    exact outB7 (hc := fun h => h0 ((hcond0_0 t).mp h)) ..

theorem outs8 (t : Fin cfg0.N) (r : Fin 256) (l : Fin 128) :
    ((outsAt0 m c t.val t.isLt).2.2 : S256x128.Idx → EReal) (ix2 r l) = dvA m c (jt t) (col (kt t).val (kt t).isLt r) l := by
  rw [← dv_at, ← kt_eq]
  by_cases h0 : t.val % 8 = 0
  · rw [outsAt0_A m c t h0]
    exact outA8 (hc := (hcond0_0 t).mpr h0) ..
  · rw [outsAt0_B m c t h0]
    exact outB8 (hc := fun h => h0 ((hcond0_0 t).mp h)) ..

theorem split_hd (y : Fin 256) : ∃ (x : Fin 2) (l : Fin 128), y = hd x l :=
  ⟨⟨y.val / 128, by omega⟩, ⟨y.val % 128, by omega⟩, Fin.ext (by show y.val = 128 * (y.val / 128) + y.val % 128; omega)⟩

theorem G7_at (j : Fin 8) (x : Fin 2) (s : Fin 2048) (l : Fin 128) : G7 m c (ix2 s (hcol j x l)) = dkA m c j x s l := by
  have a : ∀ (J : Fin 8) (X : Fin 2) (L : Fin 128), J = j → X = x → L = l → dkA m c J X s L = dkA m c j x s l := by
    rintro _ _ _ rfl rfl rfl; rfl
  exact a _ _ _ (Fin.ext (by show (256 * j.val + 128 * x.val + l.val) / 256 = _; omega)) (Fin.ext (by show (256 * j.val + 128 * x.val + l.val) % 256 / 128 = _; omega))
    (Fin.ext (by show (256 * j.val + 128 * x.val + l.val) % 128 = _; omega))

theorem G8_at (j : Fin 8) (s : Fin 2048) (l : Fin 128) : G8 m c (ix2 s (pcol j l)) = dvA m c j s l := by
  have a : ∀ (J : Fin 8) (L : Fin 128), J = j → L = l → dvA m c J s L = dvA m c j s l := by
    rintro _ _ rfl rfl; rfl
  exact a _ _ (Fin.ext (by show (128 * j.val + l.val) / 128 = _; omega)) (Fin.ext (by show (128 * j.val + l.val) % 128 = _; omega))

theorem G6_at (j : Fin 8) (x : Fin 2) (l : Fin 128) (q : Fin 2048) : G6 m c (ix2 (hcol j x l) q) = ∑ kb : Fin 8, dqA m c j x l q kb := by
  have a : ∀ (J : Fin 8) (X : Fin 2) (L : Fin 128), J = j → X = x → L = l → ∑ kb : Fin 8, dqA m c J X L q kb = ∑ kb : Fin 8, dqA m c j x l q kb := by
    rintro _ _ _ rfl rfl rfl; rfl
  exact a _ _ _ (Fin.ext (by show (256 * j.val + 128 * x.val + l.val) / 256 = _; omega)) (Fin.ext (by show (256 * j.val + 128 * x.val + l.val) % 256 / 128 = _; omega))
    (Fin.ext (by show (256 * j.val + 128 * x.val + l.val) % 128 = _; omega))

/-- The keys' gradient after the run. -/
theorem final7 : (dats m 0 c).arrAt 7 cfg0.N = G7 m c := by
  refine (dats m 0 c).arrAt_eq_of_covers 7 _ (by decide +kernel) fun t _ y => ?_
  blk_simp
  rw [after0_7]
  idx_vars y
  obtain ⟨x, l, rfl⟩ := split_hd y1
  refine (outs7 m c t y0 x l).trans ((G7_at m c _ _ _ _).symm.trans (congrArg (G7 m c) ?_))
  blk_ext [idx t, jt, kt]

/-- The values' gradient after the run. -/
theorem final8 : (dats m 0 c).arrAt 8 cfg0.N = G8 m c := by
  refine (dats m 0 c).arrAt_eq_of_covers 8 _ (by decide +kernel) fun t _ y => ?_
  blk_simp
  rw [after0_8]
  idx_vars y
  refine (outs8 m c t y0 y1).trans ((G8_at m c _ _ _).symm.trans (congrArg (G8 m c) ?_))
  blk_ext [idx t, jt, kt]

/-- What a point adds to the block of the queries' gradient, at an index of the block. -/
def dqB (p : Fin cfg0.N) (j : S256x2048.Idx) : EReal :=
  dqA m c (jt p) ⟨(j 0).val / 128, by have : (j 0).val < 256 := (j 0).isLt; omega⟩ ⟨(j 0).val % 128, by omega⟩ (j 1) (kt p)

theorem dqB_at (p : Fin cfg0.N) (x : Fin 2) (l : Fin 128) (q : Fin 2048) : dqB m c p (ix2 (hd x l) q) = dqA m c (jt p) x l q (kt p) := by
  have a : ∀ (X : Fin 2) (L : Fin 128), X = x → L = l → dqA m c (jt p) X L q (kt p) = dqA m c (jt p) x l q (kt p) := by
    rintro _ _ rfl rfl; rfl
  exact a _ _ (Fin.ext (by show (128 * x.val + l.val) / 128 = _; omega)) (Fin.ext (by show (128 * x.val + l.val) % 128 = _; omega))

/-- The queries' gradient after the run. -/
theorem final6 : (dats m 0 c).arrAt 6 cfg0.N = G6 m c := by
  refine (dats m 0 c).arrAt_eq_of_covers 6 _ (by decide +kernel) fun t hf y => ?_
  blk_simp
  rw [after0_6]
  idx_vars y
  obtain ⟨x, l, rfl⟩ := split_hd y0
  have key := Pipeline.eq_sum_fin_of_reset_step_apply_of_flush (N := cfg0.N) (fun n h => ((outsAt0 m c n h).1 : S256x2048.Idx → EReal)) 8 (fun _ => 0) (dqB m c)
    (fun t h j => by
      idx_vars j
      obtain ⟨x, l, rfl⟩ := split_hd j0
      rw [outsAt0_A m c t h, dqB_at, ← dq_at, ← kt_eq, zero_add]
      exact outA6 (hc := (hcond0_0 t).mpr h) ..)
    (fun t h j => by
      idx_vars j
      obtain ⟨x, l, rfl⟩ := split_hd j0
      rw [outsAt0_B m c t h, dqB_at, ← dq_at, ← kt_eq]
      exact outB6 (hc := fun h' => h ((hcond0_0 t).mp h')) ..)
    t ((flush0_6 t).mp hf) (ix2 (hd x l) y1)
  refine key.trans (Eq.trans ?_ ((G6_at m c (jt t) x l y1).symm.trans (congrArg (G6 m c) ?_)))
  · rw [zero_add]
    refine Finset.sum_congr rfl fun s _ => ?_
    rw [dqB_at]
    have hs := s.isLt
    have e1 : ∀ h, jt ⟨8 * (t.val / 8) + s.val, h⟩ = jt t := fun h => Fin.ext (by rw [jt_val, jt_val]; show (8 * (t.val / 8) + s.val) / 8 = _; omega)
    have e2 : ∀ h, kt ⟨8 * (t.val / 8) + s.val, h⟩ = s := fun h => Fin.ext (by rw [kt_val]; show (8 * (t.val / 8) + s.val) % 8 = _; omega)
    rw [e1, e2]
  · blk_ext [idx t, jt, kt]

end Cert.KernelIdeal.Att
-- ==== Proof.Num.lean ====
module

public import Idealize.ShloMosaic.Lib.Pointwise
public import Idealize.ShloMosaic.Lib.WordCmp
public import Idealize.ShloMosaic.PureOps.Ideal

@[expose] public section

set_option maxRecDepth 16384

noncomputable section

open Idealize.ShloMosaic

namespace Att.Num

/-! ## Extended reals -/

/-- A finite sum of reals, read in the extended reals. -/
theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- The quotient by a nonzero real. -/
theorem div_coe (a b : ℝ) (h : b ≠ 0) : Ideal.div (a : EReal) (b : EReal) = ((a / b : ℝ) : EReal) := by
  rw [Ideal.div_coe h, ← EReal.coe_mul, mul_one_div]

/-- A maximum from minus infinity of values none of which is plus infinity, one of them a real, is a real. -/
theorem fold_max_coe {ι : Type*} [Fintype ι] (f : ι → EReal) (h : ∀ i, f i ≠ ⊤) (i₀ : ι) (h₀ : f i₀ ≠ ⊥) :
    Finset.univ.fold max ⊥ f = (((Finset.univ.fold max ⊥ f).toReal : ℝ) : EReal) := by
  refine (EReal.coe_toReal ?_ ?_).symm
  · refine ne_of_lt ?_
    rw [Finset.fold_max_lt]
    exact ⟨bot_lt_top, fun i _ => lt_top_iff_ne_top.2 (h i)⟩
  · refine ne_of_gt ?_
    rw [Finset.lt_fold_max]
    exact .inr ⟨i₀, Finset.mem_univ _, bot_lt_iff_ne_bot.2 h₀⟩

/-- The maximum along the last axis of three, from one initial value. -/
theorem reduce_max_r3 {n0 n1 n2 : ℕ} {u : Shape} (x : FVec Ideal ⟨3, ![n0, n1, n2]⟩ .f32) (init : FVec Ideal u .f32)
    (h : (⟨3, ![n0, n1, n2]⟩ : Shape).ReducesTo [2] ⟨2, ![n0, n1]⟩) (hu : 0 < u.numel) (a : Fin n0) (b : Fin n1) (e : EReal) (he : ∀ i, init i = e) :
    Host.reduce (FloatOps.maximumf (F := Ideal) (φ := .f32)) x init h hu (ix2 a b) = (Finset.univ : Finset (Fin n2)).fold (max : EReal → EReal → EReal) e fun k => x (ix3 a b k) := by
  rw [Host.reduce_eq_fold, he]
  exact Shape.ReducesTo.fold_fiber_r3_a2 h (ix2 a b) (FloatOps.maximumf (F := Ideal) (φ := .f32)) e x

/-- A row of 96 entries, zero past its end. -/
def ext96 (f : Fin 96 → ℝ) (l : ℕ) : ℝ := if h : l < 96 then f ⟨l, h⟩ else 0
theorem ext96_pos (f : Fin 96 → ℝ) {l : ℕ} (h : l < 96) : ext96 f l = f ⟨l, h⟩ := dif_pos h
theorem ext96_neg (f : Fin 96 → ℝ) {l : ℕ} (h : ¬ l < 96) : ext96 f l = 0 := dif_neg h

/-- The product of two such rows over 128 entries. -/
theorem ext96_dot (f g : Fin 96 → ℝ) : (∑ l : Fin 128, ext96 f l * ext96 g l) = ∑ e, f e * g e := by
  rw [show (∑ l : Fin 128, ext96 f l * ext96 g l) = ∑ l : Fin (96 + 32), ext96 f l * ext96 g l from rfl, Fin.sum_univ_add]
  rw [Finset.sum_eq_zero (s := (Finset.univ : Finset (Fin 32))) (fun l _ => ?_), add_zero]
  · refine Finset.sum_congr rfl fun e _ => ?_
    rw [ext96_pos f (l := (Fin.castAdd 32 e).val) e.isLt, ext96_pos g (l := (Fin.castAdd 32 e).val) e.isLt]
    rfl
  · rw [ext96_neg f (l := (Fin.natAdd 96 l).val) (by simp), zero_mul]

/-! ## Constants -/

/-- The scores' scale, the f32 nearest to one over the root of 96. -/
def sc : ℝ := 3424635 / 33554432

theorem ofBits_sc : Ideal.ofBits .f32 0x3DD105EC#32 = (sc : EReal) := by
  unfold sc
  simp [Ideal.ofBits, Ideal.ieee, -EReal.coe_mul]; norm_num
theorem ofBits_ninf : Ideal.ofBits .f32 0xFF800000#32 = ⊥ := by simp [Ideal.ofBits, Ideal.ieee]
theorem ofBits_inf : Ideal.ofBits .f32 0x7F800000#32 = ⊤ := by simp [Ideal.ofBits, Ideal.ieee]
theorem ofBits_two : Ideal.ofBits .f32 0x40000000#32 = ((2 : ℝ) : EReal) := by
  simp [Ideal.ofBits, Ideal.ieee, -EReal.coe_mul]; norm_num

/-- The comparison of two positions as words. -/
theorem sge_iff (i s : Fin 2048) : IntOp.cmpi .sge (BitVec.ofNat 32 i.val) (BitVec.ofNat 32 s.val) = BitVec.ofBool (decide (s.val ≤ i.val)) := by
  word_cmp

/-! ## Softmax attention and its gradient over the reals -/

variable (q k : Fin 2048 → Fin 16 → Fin 96 → ℝ) (v d : Fin 2048 → Fin 16 → Fin 64 → ℝ)

/-- The score of query `i` and key `s`. -/
def sR (h : Fin 16) (i s : Fin 2048) : ℝ := (∑ e, q i h e * k s h e) * sc
/-- The masked score. -/
def sM (h : Fin 16) (i s : Fin 2048) : EReal := if s.val ≤ i.val then (sR q k h i s : EReal) else ⊥
/-- A query's largest score. -/
def mR (h : Fin 16) (i : Fin 2048) : ℝ := (Finset.univ.fold max ⊥ (sM q k h i)).toReal
/-- The exponentials. -/
def xR (h : Fin 16) (i s : Fin 2048) : ℝ := if s.val ≤ i.val then Real.exp (sR q k h i s - mR q k h i) else 0
/-- Their sum. -/
def lR (h : Fin 16) (i : Fin 2048) : ℝ := ∑ s, xR q k h i s
/-- The weights. -/
def pR (h : Fin 16) (i s : Fin 2048) : ℝ := xR q k h i s / lR q k h i
/-- The products of the result's gradient and the values. -/
def dpR (h : Fin 16) (i s : Fin 2048) : ℝ := ∑ e, d i h e * v s h e
/-- A query's weighted sum of them. -/
def delR (h : Fin 16) (i : Fin 2048) : ℝ := ∑ s, pR q k h i s * dpR v d h i s
/-- The gradient of the products of queries and keys. -/
def gR (h : Fin 16) (i s : Fin 2048) : ℝ := pR q k h i s * (dpR v d h i s - delR q k v d h i) * sc
/-- The gradients of the queries, the keys and the values. -/
def dqR (i : Fin 2048) (h : Fin 16) (e : Fin 96) : ℝ := ∑ s, gR q k v d h i s * k s h e
def dkR (s : Fin 2048) (h : Fin 16) (e : Fin 96) : ℝ := ∑ i, gR q k v d h i s * q i h e
def dvR (s : Fin 2048) (h : Fin 16) (e : Fin 64) : ℝ := ∑ i, d i h e * pR q k h i s

theorem max_coe (h : Fin 16) (i : Fin 2048) : Finset.univ.fold max ⊥ (sM q k h i) = (mR q k h i : EReal) :=
  fold_max_coe _ (fun s => by unfold sM; split_ifs <;> simp) i (by unfold sM; simp)

theorem lR_pos (h : Fin 16) (i : Fin 2048) : 0 < lR q k h i := by
  refine Finset.sum_pos' (fun s _ => ?_) ⟨i, Finset.mem_univ _, ?_⟩
  · unfold xR; split_ifs <;> positivity
  · unfold xR; rw [if_pos le_rfl]; positivity

/-- An exponential of a masked score less the row's maximum. -/
theorem exp_coe (h : Fin 16) (i s : Fin 2048) : Ideal.exp (sM q k h i s - (mR q k h i : EReal)) = (xR q k h i s : EReal) := by
  unfold sM xR
  split_ifs with hs
  · rw [← EReal.coe_sub, Ideal.exp_coe]
  · rw [EReal.bot_sub, Ideal.exp_bot, EReal.coe_zero]

/-- A weight as a power of two of the score over the logarithm of two less the row's logarithm over that of two. -/
theorem exp2_coe (h : Fin 16) (i s : Fin 2048) :
    Ideal.exp2 ((if s.val ≤ i.val then ((∑ e, q i h e * k s h e : ℝ) : EReal) * ((sc * (Real.log 2)⁻¹ : ℝ) : EReal) else ⊥)
      - (((mR q k h i + Real.log (lR q k h i)) / Real.log 2 : ℝ) : EReal)) = (pR q k h i s : EReal) := by
  have h2 : Real.log 2 ≠ 0 := (Real.log_pos one_lt_two).ne'
  unfold pR xR
  split_ifs with hs
  · rw [← EReal.coe_mul, ← EReal.coe_sub, Ideal.exp2_coe]
    refine congrArg _ ?_
    rw [Real.rpow_eq_pow, Real.rpow_def_of_pos two_pos, show Real.log 2 * ((∑ e, q i h e * k s h e) * (sc * (Real.log 2)⁻¹) - (mR q k h i + Real.log (lR q k h i)) / Real.log 2)
      = (sR q k h i s - mR q k h i) - Real.log (lR q k h i) from by unfold sR; field_simp; ring, Real.exp_sub, Real.exp_log (lR_pos q k h i)]
  · rw [EReal.bot_sub, Ideal.exp2_bot, zero_div, EReal.coe_zero]

/-- The reference's gradient of a score is the weights' form. -/
theorem ds_ref (h : Fin 16) (i s : Fin 2048) :
    (if s.val ≤ i.val then (dpR v d h i s / lR q k h i + -∑ t, dpR v d h i t * (1 / (lR q k h i * lR q k h i)) * xR q k h i t) * xR q k h i s * sc else 0)
      = gR q k v d h i s := by
  have hl := (lR_pos q k h i).ne'
  have hd : (∑ t, dpR v d h i t * (1 / (lR q k h i * lR q k h i)) * xR q k h i t) = delR q k v d h i / lR q k h i := by
    unfold delR pR
    rw [Finset.sum_div]
    refine Finset.sum_congr rfl fun t _ => ?_
    field_simp
  rw [hd]
  unfold gR pR
  split_ifs with hs
  · field_simp; ring
  · unfold xR; rw [if_neg hs]; simp

/-- Off the mask the weights and the scores' gradients are zero. -/
theorem pR_off (h : Fin 16) (i s : Fin 2048) (hs : ¬ s.val ≤ i.val) : pR q k h i s = 0 := by
  unfold pR xR; rw [if_neg hs, zero_div]
theorem gR_off (h : Fin 16) (i s : Fin 2048) (hs : ¬ s.val ≤ i.val) : gR q k v d h i s = 0 := by
  unfold gR; rw [pR_off q k h i s hs]; simp

/-- The product of a query's result with its gradient is the weighted sum. -/
theorem del_out (h : Fin 16) (i : Fin 2048) : (∑ e, (∑ s, v s h e * pR q k h i s) * d i h e) = delR q k v d h i := by
  unfold delR dpR
  simp only [Finset.sum_mul, Finset.mul_sum]
  rw [Finset.sum_comm]
  refine Finset.sum_congr rfl fun s _ => Finset.sum_congr rfl fun e _ => ?_
  ring

end Att.Num

end
-- ==== Proof.Ref.lean ====
module

public import proofs.«01_k».proof.Proof.Gen.ReferenceIdeal.Run
public import proofs.«01_k».proof.Proof.Num

@[expose] public section

set_option maxRecDepth 16384

noncomputable section

open Idealize.ShloMosaic Idealize.ShloMosaic.TcCoe Idealize.SL.Sem

namespace Cert.ReferenceIdeal.Att

open Cert.ReferenceIdeal Cert.ReferenceIdeal.Gen

/-! The reference's terms, in stages over arrays. -/

/-- One for a query at or after its key. -/
def keepT : IVec S16x2048x2048 1 :=
  broadcastInDim S16x2048x2048 ![1, 2] bcast_S2048x2048_S16x2048x2048_1_2 (cmpi .sge (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))
/-- The masked scores. -/
def sT (a0 a1 : FVec Ideal S2048x16x96 .f32) : FVec Ideal S16x2048x2048 .f32 :=
  select keepT (mulf (Host.dotGeneral dot_S2048x16x96_S2048x16x96_S16x2048x2048_2_2_0_0_1_1 none a0 a1) (broadcastInDim S16x2048x2048 ![] bcast_S_S16x2048x2048 (constant S_ .f32 0x3DD105EC#32))) (broadcastInDim S16x2048x2048 ![] bcast_S_S16x2048x2048 (id (constant S_ .f32 0xFF800000#32)))
/-- Each row's largest score. -/
def mxT (S : FVec Ideal S16x2048x2048 .f32) : FVec Ideal S16x2048 .f32 :=
  Host.reduce FloatOps.maximumf S (constant S_ .f32 0xFF800000#32) reducesTo_S16x2048x2048_S16x2048_d2 h_S_
/-- The same, once more against minus infinity. -/
def mxT' (S : FVec Ideal S16x2048x2048 .f32) : FVec Ideal S16x2048 .f32 :=
  maximumf (broadcastInDim S16x2048 ![] bcast_S_S16x2048 (constant S_ .f32 0xFF800000#32)) (mxT S)
/-- A value for each row, at each of its entries. -/
def rowT (x : FVec Ideal S16x2048 .f32) : FVec Ideal S16x2048x2048 .f32 :=
  broadcastInDim S16x2048x2048 ![0, 1, 2] bcast_S16x2048x1_S16x2048x2048_0_1_2 (broadcastInDim S16x2048x1 ![0, 1] bcast_S16x2048_S16x2048x1_0_1 x)
/-- The exponentials. -/
def eT (S : FVec Ideal S16x2048x2048 .f32) (M : FVec Ideal S16x2048 .f32) : FVec Ideal S16x2048x2048 .f32 :=
  Host.exp (subf S (rowT M))
/-- Each row's sum. -/
def lT (E : FVec Ideal S16x2048x2048 .f32) : FVec Ideal S16x2048 .f32 :=
  Host.reduceAdd E (constant S_ .f32 0x00000000#32) reducesTo_S16x2048x2048_S16x2048_d2 h_S_
/-- The products of the values and the result's gradient. -/
def dpT (a2 a3 : FVec Ideal S2048x16x64 .f32) : FVec Ideal S16x2048x2048 .f32 :=
  Host.dotGeneral dot_S16x64x2048_S2048x16x64_S16x2048x2048_1_2_2_0_0_1 none (transpose S16x64x2048 [1, 2, 0] a3 transposes_S2048x16x64_S16x64x2048_1_2_0) a2
/-- The gradient of a row's sum. -/
def gT (DP E : FVec Ideal S16x2048x2048 .f32) (L : FVec Ideal S16x2048 .f32) : FVec Ideal S16x2048 .f32 :=
  Host.reduceAdd (Host.negf (shapeCast _ (Host.reduceAdd (mulf (mulf DP (broadcastInDim S16x2048x2048 ![0, 1, 2] bcast_S16x2048x1_S16x2048x2048_0_1_2 (Host.divf (broadcastInDim S16x2048x1 ![] bcast_S_S16x2048x1 (constant S_ .f32 0x3F800000#32)) (mulf (broadcastInDim S16x2048x1 ![0, 1] bcast_S16x2048_S16x2048x1_0_1 L) (broadcastInDim S16x2048x1 ![0, 1] bcast_S16x2048_S16x2048x1_0_1 L))))) E) (constant S_ .f32 0x00000000#32) reducesTo_S16x2048x2048_S16x2048_d2 h_S_) shapeCasts_S16x2048_S16x2048x1)) (constant S_ .f32 0x00000000#32) reducesTo_S16x2048x1_S16x2048_d2 h_S_
/-- The gradient of the products of queries and keys. -/
def dsT (DP E : FVec Ideal S16x2048x2048 .f32) (L G : FVec Ideal S16x2048 .f32) : FVec Ideal S16x2048x2048 .f32 :=
  mulf (select keepT (mulf (addf (Host.divf DP (rowT L)) (broadcastInDim S16x2048x2048 ![0, 1] bcast_S16x2048_S16x2048x2048_0_1 G)) E) (broadcastInDim S16x2048x2048 ![] bcast_S_S16x2048x2048 (constant S_ .f32 0x00000000#32))) (broadcastInDim S16x2048x2048 ![] bcast_S_S16x2048x2048 (constant S_ .f32 0x3DD105EC#32))
/-- The queries' gradient, transposed. -/
def dqT (D : FVec Ideal S16x2048x2048 .f32) (a1 : FVec Ideal S2048x16x96 .f32) : FVec Ideal S2048x2048 .f32 :=
  transpose S2048x2048 [1, 0] (shapeCast S2048x2048 (pad S2048x16x128 ![0, 0, 0] ![0, 0, 32] ![0, 0, 0] (transpose S2048x16x96 [1, 0, 2] (Host.dotGeneral dot_S16x2048x2048_S2048x16x96_S16x2048x96_2_0_1_2_0_1 none D a1) transposes_S16x2048x96_S2048x16x96_1_0_2) (sitofp .f32 (constantI S_ 32 0#32)) pads_S2048x16x96_S2048x16x128_000_000_0320 h_S_) shapeCasts_S2048x16x128_S2048x2048) transposes_S2048x2048_S2048x2048_1_0
/-- The keys' gradient. -/
def dkT (D : FVec Ideal S16x2048x2048 .f32) (a0 : FVec Ideal S2048x16x96 .f32) : FVec Ideal S2048x2048 .f32 :=
  shapeCast S2048x2048 (pad S2048x16x128 ![0, 0, 0] ![0, 0, 32] ![0, 0, 0] (transpose S2048x16x96 [1, 0, 2] (Host.dotGeneral dot_S16x2048x2048_S2048x16x96_S16x2048x96_1_0_2_2_0_1 none D a0) transposes_S16x2048x96_S2048x16x96_1_0_2) (sitofp .f32 (constantI S_ 32 0#32)) pads_S2048x16x96_S2048x16x128_000_000_0320 h_S_) shapeCasts_S2048x16x128_S2048x2048
/-- The values' gradient. -/
def dvT (E : FVec Ideal S16x2048x2048 .f32) (L : FVec Ideal S16x2048 .f32) (a3 : FVec Ideal S2048x16x64 .f32) : FVec Ideal S2048x1024 .bf16 :=
  truncf .bf16 (shapeCast S2048x1024 (transpose S2048x16x64 [2, 0, 1] (Host.dotGeneral dot_S16x64x2048_S16x2048x2048_S16x64x2048_2_1_1_2_0_0 none (transpose S16x64x2048 [1, 2, 0] a3 transposes_S2048x16x64_S16x64x2048_1_2_0) (Host.divf E (rowT L))) transposes_S16x64x2048_S2048x16x64_2_0_1) shapeCasts_S2048x16x64_S2048x1024) bitsLt_bf16_f32

variable (m : (ℓ : Loc nD τ sig) → Buf (Elt Ideal) ℓ) (c : Dev nD)

/-- The four arguments. -/
abbrev A0 : FVec Ideal S2048x16x96 .f32 := m ((c.tc : Thread nD τ).loc main_arg0)
abbrev A1 : FVec Ideal S2048x16x96 .f32 := m ((c.tc : Thread nD τ).loc main_arg1)
abbrev A2 : FVec Ideal S2048x16x64 .f32 := m ((c.tc : Thread nD τ).loc main_arg2)
abbrev A3 : FVec Ideal S2048x16x64 .f32 := m ((c.tc : Thread nD τ).loc main_arg3)

/-- The exponentials and the scores' gradient of arrays. -/
def eR (a0 a1 : FVec Ideal S2048x16x96 .f32) : FVec Ideal S16x2048x2048 .f32 := eT (sT a0 a1) (mxT' (sT a0 a1))
def dsR (a0 a1 : FVec Ideal S2048x16x96 .f32) (a2 a3 : FVec Ideal S2048x16x64 .f32) : FVec Ideal S16x2048x2048 .f32 :=
  dsT (dpT a2 a3) (eR a0 a1) (lT (eR a0 a1)) (gT (dpT a2 a3) (eR a0 a1) (lT (eR a0 a1)))

/-- The reference's three results, from the stages. -/
theorem res68 : Value.res_main_v68 (F := Ideal) m c = dqT (dsR (A0 m c) (A1 m c) (A2 m c) (A3 m c)) (A1 m c) := rfl
theorem res67 : Value.res_main_v67 (F := Ideal) m c = dkT (dsR (A0 m c) (A1 m c) (A2 m c) (A3 m c)) (A0 m c) := rfl
theorem res70 : Value.res_main_v70 (F := Ideal) m c = dvT (eR (A0 m c) (A1 m c)) (lT (eR (A0 m c) (A1 m c))) (A3 m c) := rfl

/-! The stages at an element, for arguments that are reals. -/
section
open Att.Num

variable {q k : Fin 2048 → Fin 16 → Fin 96 → ℝ} {v d : Fin 2048 → Fin 16 → Fin 64 → ℝ} {a0 a1 : FVec Ideal S2048x16x96 .f32} {a2 a3 : FVec Ideal S2048x16x64 .f32}
  (h0 : ∀ i h e, a0 (ix3 i h e) = (q i h e : EReal)) (h1 : ∀ i h e, a1 (ix3 i h e) = (k i h e : EReal))
  (h2 : ∀ i h e, a2 (ix3 i h e) = (v i h e : EReal)) (h3 : ∀ i h e, a3 (ix3 i h e) = (d i h e : EReal))

include h0 h1 in
theorem sT_at (h : Fin 16) (i s : Fin 2048) : sT a0 a1 (ix3 h i s) = sM q k h i s := by
  pointwise [sT, keepT]
  rw [sge_iff, Scalar.select_ofBool, ofBits_sc]
  simp only [h0, h1, ← EReal.coe_mul, ← coe_sum, decide_eq_true_eq]
  unfold sM sR
  split_ifs with hs
  · rfl
  · exact ofBits_ninf

include h0 h1 in
theorem mxT_at (h : Fin 16) (i : Fin 2048) : mxT (sT a0 a1) (ix2 h i) = (mR q k h i : EReal) := by
  refine (reduce_max_r3 (sT a0 a1) (constant S_ .f32 0xFF800000#32) _ _ h i ⊥ (fun _ => ofBits_ninf)).trans ?_
  rw [← max_coe]
  exact congrArg (fun f => Finset.univ.fold max ⊥ f) (funext fun s => sT_at h0 h1 h i s)

theorem max_ninf_at (y : FVec Ideal S16x2048 .f32) (j : S16x2048.Idx) :
    maximumf (broadcastInDim S16x2048 ![] bcast_S_S16x2048 (constant S_ .f32 0xFF800000#32)) y j = y j := by
  show max (Ideal.ofBits .f32 0xFF800000#32) (y j) = _
  rw [ofBits_ninf, max_eq_right bot_le]

include h0 h1 in
theorem mxT'_at (h : Fin 16) (i : Fin 2048) : mxT' (sT a0 a1) (ix2 h i) = (mR q k h i : EReal) := by
  rw [mxT', max_ninf_at, mxT_at h0 h1 h i]

theorem eT_at (S : FVec Ideal S16x2048x2048 .f32) (M : FVec Ideal S16x2048 .f32) (h : Fin 16) (i s : Fin 2048) :
    eT S M (ix3 h i s) = Ideal.exp (S (ix3 h i s) - M (ix2 h i)) := by
  pointwise [eT, rowT]

include h0 h1 in
/-- The exponentials, from row maxima `M`. -/
theorem e_at (M : FVec Ideal S16x2048 .f32) (hM : ∀ h i, M (ix2 h i) = (mR q k h i : EReal)) (h : Fin 16) (i s : Fin 2048) :
    eT (sT a0 a1) M (ix3 h i s) = (xR q k h i s : EReal) := by
  rw [eT_at, sT_at h0 h1, hM, Att.Num.exp_coe]

section
variable {E D : FVec Ideal S16x2048x2048 .f32} {L G : FVec Ideal S16x2048 .f32} (hE : ∀ h i s, E (ix3 h i s) = (xR q k h i s : EReal))
  (hL : ∀ h i, L (ix2 h i) = (lR q k h i : EReal))

include hE in
theorem lT_at (h : Fin 16) (i : Fin 2048) : lT E (ix2 h i) = (lR q k h i : EReal) := by
  pointwise [lT]
  simp only [hE, ← coe_sum]
  rfl

include hE hL in
theorem p_at (h : Fin 16) (i s : Fin 2048) : Host.divf E (rowT L) (ix3 h i s) = (pR q k h i s : EReal) := by
  pointwise [rowT]
  rw [hE, hL, Att.Num.div_coe _ _ (lR_pos q k h i).ne']
  rfl

include h2 h3 in
theorem dpT_at (h : Fin 16) (i s : Fin 2048) : dpT a2 a3 (ix3 h i s) = (dpR v d h i s : EReal) := by
  pointwise [dpT]
  simp only [h2, h3, ← EReal.coe_mul, ← coe_sum]
  rfl

include hE hL in
theorem gT_at (hD : ∀ h i s, D (ix3 h i s) = (dpR v d h i s : EReal)) (h : Fin 16) (i : Fin 2048) :
    gT D E L (ix2 h i) = ((-∑ t, dpR v d h i t * (1 / (lR q k h i * lR q k h i)) * xR q k h i t : ℝ) : EReal) := by
  pointwise [gT]
  have hl := lR_pos q k h i
  simp only [hE, hL, hD, ← EReal.coe_one, ← EReal.coe_mul, Att.Num.div_coe _ _ (mul_pos hl hl).ne', ← coe_sum, ← EReal.coe_neg]
  simp only [Finset.univ_unique, Finset.sum_singleton]

include hE hL in
theorem dsT_at (hD : ∀ h i s, D (ix3 h i s) = (dpR v d h i s : EReal)) (h : Fin 16) (i s : Fin 2048) :
    dsT D E L (gT D E L) (ix3 h i s) = (gR q k v d h i s : EReal) := by
  have e : gT D E L (ix2 h i) = _ := gT_at hE hL hD h i
  revert e
  generalize gT D E L = G
  intro e
  pointwise [dsT, rowT, keepT]
  rw [sge_iff, Scalar.select_ofBool, ofBits_sc, hE, hL, hD, e, Att.Num.div_coe _ _ (lR_pos q k h i).ne', ← ds_ref]
  simp only [← EReal.coe_mul, ← EReal.coe_add, decide_eq_true_eq]
  split_ifs
  · rfl
  · rfl

include h1 in
theorem dqT_at (hD : ∀ h i s, D (ix3 h i s) = (gR q k v d h i s : EReal)) (n i : Fin 2048) :
    dqT D a1 (ix2 n i) = (ext96 (dqR q k v d i ⟨n.val / 128, by omega⟩) (n.val % 128) : EReal) := by
  pointwise [dqT]
  simp only [h1, hD, ← EReal.coe_mul, ← coe_sum]
  by_cases h : n.val % 128 < 96
  · exact (dif_pos ⟨by omega, h⟩).trans (congrArg Real.toEReal (ext96_pos (dqR q k v d i ⟨n.val / 128, by omega⟩) h).symm)
  · exact (dif_neg fun hh => h hh.2).trans ((by simp [FloatOps.sitofp] : FloatOps.sitofp (F := Ideal) .f32 0#32 = ((0 : ℝ) : EReal)).trans (congrArg Real.toEReal (ext96_neg _ h).symm))

include h0 in
theorem dkT_at (hD : ∀ h i s, D (ix3 h i s) = (gR q k v d h i s : EReal)) (s n : Fin 2048) :
    dkT D a0 (ix2 s n) = (ext96 (dkR q k v d s ⟨n.val / 128, by omega⟩) (n.val % 128) : EReal) := by
  pointwise [dkT]
  simp only [h0, hD, ← EReal.coe_mul, ← coe_sum]
  by_cases h : n.val % 128 < 96
  · exact (dif_pos ⟨by omega, h⟩).trans (congrArg Real.toEReal (ext96_pos (dkR q k v d s ⟨n.val / 128, by omega⟩) h).symm)
  · exact (dif_neg fun hh => h hh.2).trans ((by simp [FloatOps.sitofp] : FloatOps.sitofp (F := Ideal) .f32 0#32 = ((0 : ℝ) : EReal)).trans (congrArg Real.toEReal (ext96_neg _ h).symm))

include h3 hE hL in
theorem dvT_at (s : Fin 2048) (n : Fin 1024) :
    dvT E L a3 (ix2 s n) = (dvR q k d s ⟨n.val / 64, by omega⟩ ⟨n.val % 64, by omega⟩ : EReal) := by
  pointwise [dvT, rowT]
  have hl : ∀ h i, lR q k h i ≠ 0 := fun h i => (lR_pos q k h i).ne'
  simp only [h3, hE, hL, Att.Num.div_coe _ _ (hl _ _), ← EReal.coe_mul, ← coe_sum]
  rfl
end

include h0 h1 in
theorem eR_at (h : Fin 16) (i s : Fin 2048) : eR a0 a1 (ix3 h i s) = (xR q k h i s : EReal) := e_at h0 h1 _ (mxT'_at h0 h1) h i s

include h0 h1 h2 h3 in
theorem dsR_at (h : Fin 16) (i s : Fin 2048) : dsR a0 a1 a2 a3 (ix3 h i s) = (gR q k v d h i s : EReal) :=
  dsT_at (eR_at h0 h1) (lT_at (eR_at h0 h1)) (dpT_at h2 h3) h i s

end

end Cert.ReferenceIdeal.Att

end
-- ==== Proof.Host.lean ====
module

public import proofs.«01_k».proof.Proof.Final
public import proofs.«01_k».proof.Proof.Ref

@[expose] public section

set_option maxRecDepth 16384

noncomputable section

open Idealize.ShloMosaic Idealize.ShloMosaic.TcCoe Idealize.SL.Sem Idealize.ShloMosaic.StableHlo

namespace Cert.KernelIdeal.Att

open Cert.KernelIdeal Cert.KernelIdeal.Gen
open Cert.ReferenceIdeal.Att (sT mxT eT lT rowT)

/-! The host's lines before the call, in stages over arrays; the scores, maxima, exponentials and sums are the reference's stages. -/

/-- Each row's logarithm of its sum of exponentials, over the logarithm of two. -/
def lseT (M L : FVec Ideal S16x2048 .f32) : FVec Ideal S16x2048 .f32 :=
  Host.divf (addf M (Host.log L)) (broadcastInDim S16x2048 ![] bcast_S_S16x2048 (Host.log (constant S_ .f32 0x40000000#32)))
/-- The attention's result. -/
def oT (P : FVec Ideal S16x2048x2048 .f32) (a2 : FVec Ideal S2048x16x64 .f32) : FVec Ideal S2048x16x64 .f32 :=
  transpose S2048x16x64 [2, 0, 1] (Host.dotGeneral dot_S2048x16x64_S16x2048x2048_S16x64x2048_0_2_2_1_1_0 none a2 P) transposes_S16x64x2048_S2048x16x64_2_0_1
/-- Its products with its gradient, summed over each head. -/
def delT (O a3 : FVec Ideal S2048x16x64 .f32) : FVec Ideal S16x2048 .f32 :=
  transpose S16x2048 [1, 0] (Host.reduceAdd (mulf O a3) (constant S_ .f32 0x00000000#32) reducesTo_S2048x16x64_S2048x16_d2 h_S_) transposes_S2048x16_S16x2048_1_0
/-- The rows the call reads. -/
def rowsT (X D : FVec Ideal S16x2048 .f32) : FVec Ideal S8x8x2048 .f32 :=
  concatenate S8x8x2048 1 [⟨S8x2x2048, shapeCast S8x2x2048 X shapeCasts_S16x2048_S8x2x2048⟩, ⟨S8x2x2048, shapeCast S8x2x2048 D shapeCasts_S16x2048_S8x2x2048⟩, ⟨S8x4x2048, broadcastInDim S8x4x2048 ![] bcast_S_S8x4x2048 (constant S_ .f32 0x00000000#32)⟩] concatenates_S8x2x2048_S8x2x2048_S8x4x2048_S8x8x2048_d1
/-- An array's heads padded to 128 lanes and laid side by side. -/
def lanesT (a : FVec Ideal S2048x16x96 .f32) : FVec Ideal S2048x2048 .bf16 :=
  truncf .bf16 (shapeCast S2048x2048 (pad S2048x16x128 ![0, 0, 0] ![0, 0, 32] ![0, 0, 0] a (sitofp .f32 (constantI S_ 32 0#32)) pads_S2048x16x96_S2048x16x128_000_000_0320 h_S_) shapeCasts_S2048x16x128_S2048x2048) bitsLt_bf16_f32

variable (m : (ℓ : Loc nD τ sig) → Buf (Elt Ideal) ℓ) (c : Dev nD)

abbrev B0 : FVec Ideal S2048x16x96 .f32 := m ((c.tc : Thread nD τ).loc main_arg0)
abbrev B1 : FVec Ideal S2048x16x96 .f32 := m ((c.tc : Thread nD τ).loc main_arg1)
abbrev B2 : FVec Ideal S2048x16x64 .f32 := m ((c.tc : Thread nD τ).loc main_arg2)
abbrev B3 : FVec Ideal S2048x16x64 .f32 := m ((c.tc : Thread nD τ).loc main_arg3)

theorem V36 : V m c main_v36 = lanesT (B0 m c) := by
  entry_read; rfl
theorem V39 : V m c main_v39 = lanesT (B1 m c) := by
  entry_read; rfl
theorem V40 : V m c main_v40 = transpose S2048x2048 [1, 0] (lanesT (B1 m c)) transposes_S2048x2048_S2048x2048_1_0 := by
  entry_read; rfl
theorem V42 : V m c main_v42 = truncf .bf16 (shapeCast S2048x1024 (B2 m c) shapeCasts_S2048x16x64_S2048x1024) bitsLt_bf16_f32 := by
  entry_read; rfl
theorem V43 : V m c main_v43 = shapeCast S2048x1024 (B3 m c) shapeCasts_S2048x16x64_S2048x1024 := by
  entry_read; rfl
/-- The exponentials the host computes. -/
def eK (a0 a1 : FVec Ideal S2048x16x96 .f32) : FVec Ideal S16x2048x2048 .f32 := eT (sT a0 a1) (mxT (sT a0 a1))
theorem V33 : V m c main_v33 = rowsT (lseT (mxT (sT (B0 m c) (B1 m c))) (lT (eK (B0 m c) (B1 m c))))
    (delT (oT (Host.divf (eK (B0 m c) (B1 m c)) (rowT (lT (eK (B0 m c) (B1 m c))))) (B2 m c)) (B3 m c)) := by
  unfold V
  simp only [List.flatten_cons, List.flatten_nil, hostOps0, hostOps0_1, hostOps0_2, hostOps0_3, hostOps0_4, hostOps0_5, hostOps0_6, List.cons_append, List.nil_append, List.append_nil]
  after_results
  beta_reduce
  dsimp only [Matrix.cons_val]
  after_results_loop
  rfl

/-! The stages at an element, for arguments that are reals. -/
section
open Att.Num
open Cert.ReferenceIdeal.Att (mxT_at e_at lT_at p_at)

variable {q k : Fin 2048 → Fin 16 → Fin 96 → ℝ} {v d : Fin 2048 → Fin 16 → Fin 64 → ℝ}

theorem lanesT_at {a : FVec Ideal S2048x16x96 .f32} (h0 : ∀ i h e, a (ix3 i h e) = (q i h e : EReal)) (i n : Fin 2048) :
    lanesT a (ix2 i n) = (ext96 (q i ⟨n.val / 128, by omega⟩) (n.val % 128) : EReal) := by
  pointwise [lanesT]
  simp only [h0]
  by_cases h : n.val % 128 < 96
  · exact (dif_pos ⟨by omega, h⟩).trans (congrArg Real.toEReal (ext96_pos (q i ⟨n.val / 128, by omega⟩) h).symm)
  · exact (dif_neg fun hh => h hh.2).trans ((by simp [FloatOps.sitofp] : FloatOps.sitofp (F := Ideal) .f32 0#32 = ((0 : ℝ) : EReal)).trans (congrArg Real.toEReal (ext96_neg _ h).symm))

theorem tr_at (x : FVec Ideal S2048x2048 .bf16) (n s : Fin 2048) : transpose S2048x2048 [1, 0] x transposes_S2048x2048_S2048x2048_1_0 (ix2 n s) = x (ix2 s n) := by
  pointwise

theorem flat_at {a : FVec Ideal S2048x16x64 .f32} (h2 : ∀ i h e, a (ix3 i h e) = (v i h e : EReal)) (i : Fin 2048) (n : Fin 1024) :
    shapeCast S2048x1024 a shapeCasts_S2048x16x64_S2048x1024 (ix2 i n) = (v i ⟨n.val / 64, by omega⟩ ⟨n.val % 64, by omega⟩ : EReal) := by
  pointwise
  exact h2 _ _ _

theorem log_two : Ideal.log (Ideal.ofBits .f32 0x40000000#32) = ((Real.log 2 : ℝ) : EReal) := by
  rw [ofBits_two, Ideal.log_coe, if_neg (by norm_num)]

theorem lseT_at {M L : FVec Ideal S16x2048 .f32} (hM : ∀ h i, M (ix2 h i) = (mR q k h i : EReal)) (hL : ∀ h i, L (ix2 h i) = (lR q k h i : EReal))
    (h : Fin 16) (i : Fin 2048) : lseT M L (ix2 h i) = (((mR q k h i + Real.log (lR q k h i)) / Real.log 2 : ℝ) : EReal) := by
  pointwise [lseT]
  have e : Ideal.log (L (ix2 h i)) = ((Real.log (lR q k h i) : ℝ) : EReal) := by
    rw [hL, Ideal.log_coe, if_neg (not_le.2 (lR_pos q k h i))]
  rw [log_two, hM, e, ← EReal.coe_add, Att.Num.div_coe _ _ (Real.log_pos one_lt_two).ne']

theorem delT_at {P : FVec Ideal S16x2048x2048 .f32} {a2 a3 : FVec Ideal S2048x16x64 .f32} (hP : ∀ h i s, P (ix3 h i s) = (pR q k h i s : EReal))
    (h2 : ∀ i h e, a2 (ix3 i h e) = (v i h e : EReal)) (h3 : ∀ i h e, a3 (ix3 i h e) = (d i h e : EReal)) (h : Fin 16) (i : Fin 2048) :
    delT (oT P a2) a3 (ix2 h i) = (delR q k v d h i : EReal) := by
  pointwise [delT, oT]
  simp only [hP, h2, h3, ← EReal.coe_mul, ← coe_sum]
  exact congrArg _ (del_out q k v d h i)

theorem rowsT_lo (X D : FVec Ideal S16x2048 .f32) (j : Fin 8) (x : Fin 2) (i : Fin 2048) :
    rowsT X D (ix3 j ⟨x.val, by omega⟩ i) = X (ix2 ⟨2 * j.val + x.val, by omega⟩ i) := by
  pointwise [rowsT]
  exact congrArg (fun h => X (ix2 h i)) (Fin.ext (congrArg (· + x.val) (Nat.mul_comm _ _)))

theorem rowsT_hi (X D : FVec Ideal S16x2048 .f32) (j : Fin 8) (x : Fin 2) (i : Fin 2048) :
    rowsT X D (ix3 j ⟨2 + x.val, by omega⟩ i) = D (ix2 ⟨2 * j.val + x.val, by omega⟩ i) := by
  pointwise [rowsT]
  exact congrArg (fun h => D (ix2 h i)) (Fin.ext (congrArg (· + x.val) (Nat.mul_comm _ _)))

end

end Cert.KernelIdeal.Att

end
-- ==== Proof.Grad.lean ====
module

public import proofs.«01_k».proof.Proof.Host

@[expose] public section

set_option maxRecDepth 16384

noncomputable section

open Idealize.ShloMosaic Idealize.ShloMosaic.TcCoe Idealize.SL.Sem

namespace Cert.KernelIdeal.Att

open Cert.KernelIdeal Cert.KernelIdeal.Gen Att.Num
open Cert.ReferenceIdeal.Att (mxT_at e_at lT_at p_at)

/-- The head `x` of pair `j`. -/
abbrev hd16 (j : Fin 8) (x : Fin 2) : Fin 16 := ⟨2 * j.val + x.val, by omega⟩
/-- The head of a pair's lane `l` of 128, and the lane in its head of 64. -/
abbrev vhd (l : Fin 128) : Fin 2 := ⟨l.val / 64, by omega⟩
abbrev vln (l : Fin 128) : Fin 64 := ⟨l.val % 64, by omega⟩

theorem hcol_hd (j : Fin 8) (x : Fin 2) (l : Fin 128) : (⟨(hcol j x l).val / 128, by omega⟩ : Fin 16) = hd16 j x := Fin.ext (by simp only [hcol]; omega)
theorem hcol_ln (j : Fin 8) (x : Fin 2) (l : Fin 128) : (hcol j x l).val % 128 = l.val := by simp only [hcol]; omega
theorem pcol_hd (j : Fin 8) (l : Fin 128) : (⟨(pcol j l).val / 64, by omega⟩ : Fin 16) = hd16 j (vhd l) := Fin.ext (by simp only [pcol]; omega)
theorem pcol_ln (j : Fin 8) (l : Fin 128) : (⟨(pcol j l).val % 64, by omega⟩ : Fin 64) = vln l := Fin.ext (by simp only [pcol]; omega)

theorem sl2_eq : sl2 = ((sc * (Real.log 2)⁻¹ : ℝ) : EReal) := rfl
theorem ngi_eq : ngi = ⊥ := rfl

variable {m : (ℓ : Loc nD τ sig) → Buf (Elt Ideal) ℓ} {c : Dev nD}
variable {q k : Fin 2048 → Fin 16 → Fin 96 → ℝ} {v d : Fin 2048 → Fin 16 → Fin 64 → ℝ}
  (h0 : ∀ i h e, B0 m c (ix3 i h e) = (q i h e : EReal)) (h1 : ∀ i h e, B1 m c (ix3 i h e) = (k i h e : EReal))
  (h2 : ∀ i h e, B2 m c (ix3 i h e) = (v i h e : EReal)) (h3 : ∀ i h e, B3 m c (ix3 i h e) = (d i h e : EReal))

/-! The call's arguments at an element. -/
include h0 in
theorem QA_at (i : Fin 2048) (j : Fin 8) (x : Fin 2) (l : Fin 128) : QA m c i j x l = (ext96 (q i (hd16 j x)) l.val : EReal) := by
  rw [QA, V36, lanesT_at h0, hcol_hd, hcol_ln]
include h1 in
theorem KA_at (s : Fin 2048) (j : Fin 8) (x : Fin 2) (l : Fin 128) : KA m c s j x l = (ext96 (k s (hd16 j x)) l.val : EReal) := by
  rw [KA, V39, lanesT_at h1, hcol_hd, hcol_ln]
include h1 in
theorem TA_at (s : Fin 2048) (j : Fin 8) (x : Fin 2) (l : Fin 128) : TA m c j x l s = (ext96 (k s (hd16 j x)) l.val : EReal) := by
  rw [TA, V40, tr_at, lanesT_at h1, hcol_hd, hcol_ln]
include h2 in
theorem VA_at (s : Fin 2048) (j : Fin 8) (l : Fin 128) : VA m c s j l = (v s (hd16 j (vhd l)) (vln l) : EReal) := by
  rw [VA, V42]
  refine (flat_at h2 s (pcol j l)).trans ?_
  rw [pcol_hd, pcol_ln]
include h3 in
theorem DA_at (i : Fin 2048) (j : Fin 8) (l : Fin 128) : DA m c i j l = (d i (hd16 j (vhd l)) (vln l) : EReal) := by
  rw [DA, V43, flat_at h3, pcol_hd, pcol_ln]
include h0 h1 in
theorem eK_at (h : Fin 16) (i s : Fin 2048) : eK (B0 m c) (B1 m c) (ix3 h i s) = (xR q k h i s : EReal) := e_at h0 h1 _ (mxT_at h0 h1) h i s
include h0 h1 in
theorem RA_lo (j : Fin 8) (x : Fin 2) (i : Fin 2048) :
    RA m c j ⟨x.val, by omega⟩ i = (((mR q k (hd16 j x) i + Real.log (lR q k (hd16 j x) i)) / Real.log 2 : ℝ) : EReal) := by
  rw [RA, V33, rowsT_lo]
  exact lseT_at (mxT_at h0 h1) (lT_at (eK_at h0 h1)) _ _
include h0 h1 h2 h3 in
theorem RA_hi (j : Fin 8) (x : Fin 2) (i : Fin 2048) : RA m c j ⟨2 + x.val, by omega⟩ i = (delR q k v d (hd16 j x) i : EReal) := by
  rw [RA, V33, rowsT_hi]
  exact delT_at (p_at (eK_at h0 h1) (lT_at (eK_at h0 h1))) h2 h3 _ _

/-! The weights, the scores' gradients and the three results. -/
include h0 h1 in
theorem pA_at (j : Fin 8) (x : Fin 2) (s i : Fin 2048) : pA m c j x s i = (pR q k (hd16 j x) i s : EReal) := by
  have e : (∑ l : Fin 128, KA m c s j x l * QA m c i j x l) = ((∑ e, q i (hd16 j x) e * k s (hd16 j x) e : ℝ) : EReal) := by
    rw [← ext96_dot, coe_sum]
    exact Finset.sum_congr rfl fun l _ => by rw [KA_at h1, QA_at h0, ← EReal.coe_mul, mul_comm]
  rw [pA, e, RA_lo h0 h1, sl2_eq, ngi_eq]
  exact Att.Num.exp2_coe q k (hd16 j x) i s

theorem half_sum (x : Fin 2) (f : Fin 2 → Fin 64 → ℝ) : (∑ l : Fin 128, half x l ((f (vhd l) (vln l) : ℝ) : EReal)) = ((∑ e, f x e : ℝ) : EReal) := by
  have e : ∀ l : Fin 128, half x l ((f (vhd l) (vln l) : ℝ) : EReal) = ((if vhd l = x then f (vhd l) (vln l) else 0 : ℝ) : EReal) := fun l => by
    unfold half
    have : (l.val < 64 ↔ x = 0) ↔ vhd l = x := by
      rw [Fin.ext_iff, Fin.ext_iff]; simp only [Fin.val_zero]; omega
    by_cases h : vhd l = x
    · rw [if_pos (this.2 h), if_pos h]
    · rw [if_neg (fun hh => h (this.1 hh)), if_neg h, EReal.coe_zero]
  simp only [e, ← coe_sum]
  refine congrArg _ ?_
  rw [Fin.sum_univ_tiles 2 64 rfl (fun l : Fin 128 => if vhd l = x then f (vhd l) (vln l) else 0)]
  have e2 : ∀ (a : Fin 2) (b : Fin 64), vhd ⟨a.val * 64 + b.val, by omega⟩ = a ∧ vln ⟨a.val * 64 + b.val, by omega⟩ = b := fun a b =>
    ⟨Fin.ext (by simp only [vhd]; omega), Fin.ext (by simp only [vln]; omega)⟩
  simp only [(e2 _ _).1, (e2 _ _).2]
  rw [Finset.sum_eq_single x (fun a _ ha => by simp [ha]) (by simp)]
  simp

include h0 h1 h2 h3 in
theorem dsA_at (j : Fin 8) (x : Fin 2) (s i : Fin 2048) : dsA m c j x s i = (gR q k v d (hd16 j x) i s : EReal) := by
  have e : (∑ l : Fin 128, half x l (VA m c s j l * DA m c i j l)) = (dpR v d (hd16 j x) i s : EReal) := by
    simp only [VA_at h2, DA_at h3, ← EReal.coe_mul]
    exact (half_sum x fun y e => v s (hd16 j y) e * d i (hd16 j y) e).trans (congrArg Real.toEReal (Finset.sum_congr rfl fun e _ => mul_comm _ _))
  rw [dsA, pA_at h0 h1, e, RA_hi h0 h1 h2 h3, scl, ofBits_sc, ← EReal.coe_sub, ← EReal.coe_mul, ← EReal.coe_mul]
  rfl

/-- A sum over the queries from a block of keys on, of terms that are zero before the key. -/
theorem aft_coe (s : Fin 2048) (f : Fin 2048 → ℝ) (hf : ∀ i : Fin 2048, ¬ s.val ≤ i.val → f i = 0) : aft (s.val / 256) (fun i => (f i : EReal)) = ((∑ i, f i : ℝ) : EReal) := by
  rw [aft, coe_sum]
  refine Finset.sum_congr rfl fun i _ => ?_
  split_ifs with h
  · rfl
  · rw [hf i (by omega), EReal.coe_zero]

include h0 h1 h2 h3 in
theorem dkA_at (j : Fin 8) (x : Fin 2) (s : Fin 2048) (l : Fin 128) : dkA m c j x s l = (ext96 (dkR q k v d s (hd16 j x)) l.val : EReal) := by
  rw [dkA]
  simp only [dsA_at h0 h1 h2 h3, QA_at h0, ← EReal.coe_mul]
  rw [aft_coe s _ (fun i hi => by rw [gR_off q k v d _ i s hi, zero_mul])]
  refine congrArg _ ?_
  by_cases h : l.val < 96
  · simp only [ext96_pos _ h]; rfl
  · simp only [ext96_neg _ h, mul_zero, Finset.sum_const_zero]

include h0 h1 h3 in
theorem dvA_at (j : Fin 8) (s : Fin 2048) (l : Fin 128) : dvA m c j s l = (dvR q k d s (hd16 j (vhd l)) (vln l) : EReal) := by
  have e : ∀ i, half 0 l (pA m c j 0 s i * DA m c i j l) + half 1 l (pA m c j 1 s i * DA m c i j l)
      = ((d i (hd16 j (vhd l)) (vln l) * pR q k (hd16 j (vhd l)) i s : ℝ) : EReal) := fun i => by
    rw [pA_at h0 h1, pA_at h0 h1, DA_at h3]
    unfold half
    by_cases h : l.val < 64
    · have hx : vhd l = 0 := Fin.ext (by simp only [vhd, Fin.val_zero]; omega)
      rw [if_pos (by simp [h]), if_neg (by simp [h]), hx, add_zero, ← EReal.coe_mul, mul_comm]
    · have hx : vhd l = 1 := Fin.ext (by simp only [vhd, Fin.val_one]; omega)
      rw [if_neg (by simp [h]), if_pos (by simp [h]), hx, zero_add, ← EReal.coe_mul, mul_comm]
  rw [dvA]
  simp only [e]
  exact aft_coe s _ (fun i hi => by rw [pR_off q k _ i s hi, mul_zero])

include h0 h1 h2 h3 in
theorem dqA_at (j : Fin 8) (x : Fin 2) (l : Fin 128) (i : Fin 2048) : (∑ kb : Fin 8, dqA m c j x l i kb) = (ext96 (dqR q k v d i (hd16 j x)) l.val : EReal) := by
  have e : ∀ kb : Fin 8, dqA m c j x l i kb = ((∑ r : Fin 256, gR q k v d (hd16 j x) i (col kb.val kb.isLt r) * ext96 (k (col kb.val kb.isLt r) (hd16 j x)) l.val : ℝ) : EReal) := fun kb => by
    rw [dqA]
    simp only [dsA_at h0 h1 h2 h3, TA_at h1, ← EReal.coe_mul, ← coe_sum]
    split_ifs with h
    · exact congrArg _ (Finset.sum_congr rfl fun r _ => mul_comm _ _)
    · rw [Finset.sum_eq_zero fun r _ => ?_, EReal.coe_zero]
      rw [gR_off q k v d _ i _ (by simp only [col]; omega), zero_mul]
  simp only [e, ← coe_sum]
  refine congrArg _ ?_
  have e2 : (∑ kb : Fin 8, ∑ r : Fin 256, gR q k v d (hd16 j x) i (col kb.val kb.isLt r) * ext96 (k (col kb.val kb.isLt r) (hd16 j x)) l.val)
      = ∑ s : Fin 2048, gR q k v d (hd16 j x) i s * ext96 (k s (hd16 j x)) l.val := by
    rw [Fin.sum_univ_tiles 8 256 rfl (fun s : Fin 2048 => gR q k v d (hd16 j x) i s * ext96 (k s (hd16 j x)) l.val)]
    have e3 : ∀ (kb : Fin 8) (r : Fin 256), col kb.val kb.isLt r = ⟨kb.val * 256 + r.val, by omega⟩ := fun kb r => Fin.ext (by simp only [col]; omega)
    simp only [e3]
  rw [e2]
  by_cases h : l.val < 96
  · simp only [ext96_pos _ h]; rfl
  · simp only [ext96_neg _ h, mul_zero, Finset.sum_const_zero]

/-! ## The results are the reference's -/

theorem split_hcol (n : Fin 2048) : ∃ j x l, n = hcol j x l := ⟨⟨n.val / 256, by omega⟩, ⟨n.val / 128 % 2, by omega⟩, ⟨n.val % 128, by omega⟩, Fin.ext (by simp only [hcol]; omega)⟩
theorem split_pcol (n : Fin 1024) : ∃ j l, n = pcol j l := ⟨⟨n.val / 128, by omega⟩, ⟨n.val % 128, by omega⟩, Fin.ext (by simp only [pcol]; omega)⟩

open Cert.ReferenceIdeal.Att (dqT dkT dvT dsR eR dsR_at eR_at dqT_at dkT_at dvT_at)

include h0 h1 h2 h3 in
/-- The queries' gradient, transposed. -/
theorem G6_ref : G6 m c = dqT (dsR (B0 m c) (B1 m c) (B2 m c) (B3 m c)) (B1 m c) := by
  funext t
  idx_vars t
  obtain ⟨j, x, l, rfl⟩ := split_hcol t0
  rw [G6_at, dqA_at h0 h1 h2 h3]
  refine Eq.trans ?_ (dqT_at h1 (dsR_at h0 h1 h2 h3) _ _).symm
  rw [hcol_hd, hcol_ln]

include h0 h1 h2 h3 in
/-- The keys' gradient. -/
theorem G7_ref : G7 m c = dkT (dsR (B0 m c) (B1 m c) (B2 m c) (B3 m c)) (B0 m c) := by
  funext t
  idx_vars t
  obtain ⟨j, x, l, rfl⟩ := split_hcol t1
  rw [G7_at, dkA_at h0 h1 h2 h3]
  refine Eq.trans ?_ (dkT_at h0 (dsR_at h0 h1 h2 h3) _ _).symm
  rw [hcol_hd, hcol_ln]

include h0 h1 h2 h3 in
/-- The values' gradient. -/
theorem G8_ref : G8 m c = dvT (eR (B0 m c) (B1 m c)) (Cert.ReferenceIdeal.Att.lT (eR (B0 m c) (B1 m c))) (B3 m c) := by
  funext t
  idx_vars t
  obtain ⟨j, l, rfl⟩ := split_pcol t1
  rw [G8_at, dvA_at h0 h1 h3]
  refine Eq.trans ?_ (dvT_at h3 (eR_at h0 h1) (lT_at (eR_at h0 h1)) _ _).symm
  rw [pcol_hd, pcol_ln]

end Cert.KernelIdeal.Att

end
-- ==== Proof.AttnClaims.lean ====
module

public import proofs.«01_k».proof.Defs
public import proofs.«01_k».proof.Proof.Gen.Pre_finite
public import proofs.«01_k».proof.Proof.Gen.Kernel.Frame
public import proofs.«01_k».proof.Proof.Grad
public import Idealize.ShloMosaic.Lib.ReduceAll
public import Idealize.ShloMosaic.Lib.KernelVsHost
public import Idealize.ShloMosaic.Lib.Quiescent

@[expose] public section

set_option maxRecDepth 16384

noncomputable section

open Idealize.ShloMosaic Idealize.ShloMosaic.TcCoe Idealize.SL.Sem

namespace Cert.AttnClaims

/-- An extended real whose magnitude compares below plus infinity is a real. -/
theorem real_of_lt (x : EReal) (h : FloatOps.cmpf .olt (FloatOps.hostAbsf (F := Ideal) (φ := .f32) x) (FloatOps.ofBits (F := Ideal) .f32 0x7F800000#32) = 1#1) :
    ((x.toReal : ℝ) : EReal) = x := by
  rw [← Ideal.xori_weird_eq_hostAbsf_olt_inf] at h
  have h' : IntOp.xori (BitVec.ofBool (decide (x = ⊤ ∨ x = ⊥))) 1#1 = 1#1 := h
  by_cases hx : x = ⊤ ∨ x = ⊥
  · rw [decide_eq_true hx] at h'; exact absurd h' (by decide)
  · push Not at hx
    exact EReal.coe_toReal hx.1 hx.2

section
open Cert.Pre_finite Cert.Pre_finite.Facts

theorem sub0 : Subsingleton S_.Idx := ⟨fun a b => funext fun i => i.elim0⟩

/-- The precondition says that every entry of the four arrays is a real. -/
theorem finite_real [Cert.Pre_finite.Facts] (a0 a1 : FVec Ideal S2048x16x96 .f32) (a2 a3 : FVec Ideal S2048x16x64 .f32)
    (h : Cert.Pre_finite.fn (F := Ideal) a0 a1 a2 a3 = fun _ => 1#1) :
    (∀ i, (((a0 i : EReal).toReal : ℝ) : EReal) = a0 i) ∧ (∀ i, (((a1 i : EReal).toReal : ℝ) : EReal) = a1 i)
      ∧ (∀ i, (((a2 i : EReal).toReal : ℝ) : EReal) = a2 i) ∧ (∀ i, (((a3 i : EReal).toReal : ℝ) : EReal) = a3 i) := by
  have e := congrFun h ix0
  unfold Cert.Pre_finite.fn Cert.Pre_finite.fn_part1 at e
  have := sub0
  obtain ⟨e, e3⟩ := IntOp.andi_eq_one.1 e
  obtain ⟨e, e2⟩ := IntOp.andi_eq_one.1 e
  obtain ⟨e0, e1⟩ := IntOp.andi_eq_one.1 e
  exact ⟨fun i => real_of_lt _ (Host.reduce_andi_all _ _ _ _ _ e0 i), fun i => real_of_lt _ (Host.reduce_andi_all _ _ _ _ _ e1 i),
    fun i => real_of_lt _ (Host.reduce_andi_all _ _ _ _ _ e2 i), fun i => real_of_lt _ (Host.reduce_andi_all _ _ _ _ _ e3 i)⟩

end

theorem frame_p : Cert.quiescent_Kernel := fun m ρ _ => Cert.Kernel.Gen.frame m ρ
theorem frame_pi : Cert.quiescent_KernelIdeal := fun m ρ _ => Cert.KernelIdeal.Gen.frame m ρ
theorem frame_pi_finite : Cert.quiescent_KernelIdeal_pre_finite (hPre_finite := Cert.Pre_finite.Gen.facts) := fun m ρ _ => Cert.KernelIdeal.Gen.frame m ρ
theorem frame_ri : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)
theorem frame_ri_finite : Cert.quiescent_ReferenceIdeal_pre_finite (hPre_finite := Cert.Pre_finite.Gen.facts) := fun m ρ _ => frame_ri m ρ trivial

/-- The two named constants are what the table says. -/
theorem preserves : Cert.preserves_Kernel_KernelIdeal :=
  ⟨IdealRules.named_const.statement Cert.KernelIdeal.κ "scale_log2" .f32 0x3E16C740#32 _ rfl,
    IdealRules.named_const.statement Cert.KernelIdeal.κ "neg" .f32 0xF149F2CA#32 _ rfl⟩

/-- For finite arguments the kernel's three arrays are the derivative of softmax attention. -/
theorem algebraic : Cert.algebraic_KernelIdeal_ReferenceIdeal_pre_finite (hPre_finite := Cert.Pre_finite.Gen.facts) := by
  intro m ρ m' ρ' hpre hagree
  have key : ∀ c : Dev Cert.KernelIdeal.nD,
      Cert.ReferenceIdeal.Value.res_main_v68 (F := Ideal) m' c = (Cert.KernelIdeal.Gen.dats m 0 c).arrAt 6 Cert.KernelIdeal.cfg0.N
      ∧ Cert.ReferenceIdeal.Value.res_main_v67 (F := Ideal) m' c = (Cert.KernelIdeal.Gen.dats m 0 c).arrAt 7 Cert.KernelIdeal.cfg0.N
      ∧ Cert.ReferenceIdeal.Value.res_main_v70 (F := Ideal) m' c = (Cert.KernelIdeal.Gen.dats m 0 c).arrAt 8 Cert.KernelIdeal.cfg0.N := fun c => by
    obtain ⟨h0, h1, h2, h3⟩ := finite_real _ _ _ _ (hpre c)
    obtain ⟨g0, g1, g2, g3⟩ := hagree c
    have k0 := fun i h e => (h0 (ix3 i h e)).symm
    have k1 := fun i h e => (h1 (ix3 i h e)).symm
    have k2 := fun i h e => (h2 (ix3 i h e)).symm
    have k3 := fun i h e => (h3 (ix3 i h e)).symm
    rw [Cert.KernelIdeal.Att.final6, Cert.KernelIdeal.Att.final7, Cert.KernelIdeal.Att.final8, Cert.ReferenceIdeal.Att.res68, Cert.ReferenceIdeal.Att.res67, Cert.ReferenceIdeal.Att.res70]
    have e0 : Cert.ReferenceIdeal.Att.A0 m' c = Cert.KernelIdeal.Att.B0 m c := g0
    have e1 : Cert.ReferenceIdeal.Att.A1 m' c = Cert.KernelIdeal.Att.B1 m c := g1
    have e2 : Cert.ReferenceIdeal.Att.A2 m' c = Cert.KernelIdeal.Att.B2 m c := g2
    have e3 : Cert.ReferenceIdeal.Att.A3 m' c = Cert.KernelIdeal.Att.B3 m c := g3
    rw [e0, e1, e2, e3]
    exact ⟨(Cert.KernelIdeal.Att.G6_ref k0 k1 k2 k3).symm, (Cert.KernelIdeal.Att.G7_ref k0 k1 k2 k3).symm, (Cert.KernelIdeal.Att.G8_ref k0 k1 k2 k3).symm⟩
  refine ⟨_, _, _, Cert.KernelIdeal.Value.run_blocks m ρ, ?_⟩
  exact (θ_run Cert.ReferenceIdeal.defs _ _).mono (fun _ h c => ⟨(h c).1.trans (key c).1, (h c).2.1.trans (key c).2.1, (h c).2.2.1.trans (key c).2.2, (h c).2.2.2⟩)
    (Cert.ReferenceIdeal.Value.run (F := Ideal) m' ρ')

end Cert.AttnClaims

end
-- ==== Proof.FeedVal.lean ====
module

public import proofs.«01_k».proof.Proof.Gen.FeedIdeal.Frame
public import Idealize.ShloMosaic.Lib.Pipeline.ValueKit
public import Idealize.ShloMosaic.Lib.Pointwise
public import Idealize.ShloMosaic.PureOps.Ideal

@[expose] public section

set_option maxRecDepth 16384

noncomputable section

open Idealize.ShloMosaic Idealize.ShloMosaic.TcCoe Idealize.SL.Sem
open Idealize.ShloMosaic.Pipeline (Dat)

namespace Cert.FeedIdeal.Att

open Cert.FeedIdeal Cert.FeedIdeal.Gen

/-! What the six calls compute, as arrays of the arrays they read. -/

/-- The logistic function. -/
def sg (x : EReal) : EReal := Ideal.div 1 (1 + Ideal.exp (0 - x))
/-- The products of rows with the columns of the four parts. -/
def partsT (x : S2048x1024.Idx → EReal) (w : S4x704x1024.Idx → EReal) (n : Fin 4) (s : Fin 2048) (l : Fin 704) : EReal :=
  ∑ k : Fin 1024, x (ix2 s k) * w (ix3 n l k)
/-- An array from its entries. -/
abbrev arr3 {a b d : ℕ} (f : Fin a → Fin b → Fin d → EReal) : (⟨3, ![a, b, d]⟩ : Shape).Idx → EReal := fun y => f (y 0) (y 1) (y 2)
/-- The gated product of two such arrays. -/
def actT (x : S2048x1024.Idx → EReal) (w v : S4x704x1024.Idx → EReal) (n : Fin 4) (s : Fin 2048) (l : Fin 704) : EReal :=
  partsT x w n s l * sg (partsT x w n s l) * partsT x v n s l
/-- The gradient of the gate, from the gradient `e` of the gated product. -/
def dgateT (e g u : EReal) : EReal := e * u * (sg g * (1 + g * (1 - sg g)))
/-- The gradients of the gate and of the other product, from the gradient of the result, the weights down, the gate and the other product. -/
def dgT (d : S2048x1024.Idx → EReal) (w : S4x704x1024.Idx → EReal) (g u : S4x2048x704.Idx → EReal) (n : Fin 4) (s : Fin 2048) (l : Fin 704) : EReal :=
  dgateT (partsT d w n s l) (g (ix3 n s l)) (u (ix3 n s l))
def duT (d : S2048x1024.Idx → EReal) (w : S4x704x1024.Idx → EReal) (g : S4x2048x704.Idx → EReal) (n : Fin 4) (s : Fin 2048) (l : Fin 704) : EReal :=
  partsT d w n s l * g (ix3 n s l) * sg (g (ix3 n s l))
/-- The products of the columns of two arrays. -/
def colsT (x y : S2048x1024.Idx → EReal) (a b : Fin 1024) : EReal := ∑ s : Fin 2048, x (ix2 s a) * y (ix2 s b)
/-- The same, of an array of four parts. -/
def pcolsT (x : S4x2048x704.Idx → EReal) (y : S2048x1024.Idx → EReal) (n : Fin 4) (l : Fin 704) (b : Fin 1024) : EReal :=
  ∑ s : Fin 2048, x (ix3 n s l) * y (ix2 s b)

theorem hz2 : (![0, 0] : Fin 2 → Nat) = fun _ => 0 := funext fun a => by fin_cases a <;> rfl
theorem hz3 : (![0, 0, 0] : Fin 3 → Nat) = fun _ => 0 := funext fun a => by fin_cases a <;> rfl

theorem pay2_at (v0 : Vec Ideal S1024x1024 .bf16) (v2 : Vec Ideal S1x704x1024 .bf16) (r : Fin 1024) (l : Fin 704) :
    k0_pay2 v0 v2 (ix2 r l) = ∑ k : Fin 1024, (v0 (ix2 r k) : EReal) * v2 (ix3 0 l k) := by
  pointwise [k0_pay2, k0_pay1]
theorem pay4_at (v0 : Vec Ideal S1024x1024 .bf16) (v2 : Vec Ideal S1x704x1024 .bf16) (r : Fin 1024) (l : Fin 704) :
    k0_pay4 v0 v2 (ix3 0 r l) = ∑ k : Fin 1024, (v0 (ix2 r k) : EReal) * v2 (ix3 0 l k) := by
  pointwise [k0_pay4, k0_pay2, k0_pay1]
theorem pay5_at (v0 : Vec Ideal S1024x1024 .bf16) (v2 : Vec Ideal S1x704x1024 .bf16) (r : Fin 1024) (l : Fin 704) :
    k0_pay5 v0 v2 (ix3 0 r l) = ∑ k : Fin 1024, (v0 (ix2 r k) : EReal) * v2 (ix3 0 l k) := by
  pointwise [k0_pay5, k0_pay3, k0_pay1]
theorem pay6_at (v0 : Vec Ideal S1024x1024 .bf16) (v2 v5 : Vec Ideal S1x704x1024 .bf16) (r : Fin 1024) (l : Fin 704) :
    k0_pay6 v0 v2 v5 (ix3 0 r l) = (∑ k : Fin 1024, (v0 (ix2 r k) : EReal) * v2 (ix3 0 l k)) * sg (∑ k : Fin 1024, (v0 (ix2 r k) : EReal) * v2 (ix3 0 l k))
      * ∑ k : Fin 1024, (v0 (ix2 r k) : EReal) * v5 (ix3 0 l k) := by
  unfold sg
  pointwise [k0_pay6, k0_pay2, k0_pay3, k0_pay1]

theorem k1_at (v0 v2 : Vec Ideal S2048x1024 .bf16) (a b : Fin 1024) : k1_pay1 v0 v2 (ix2 a b) = colsT v0 v2 a b := by
  unfold colsT
  pointwise [k1_pay1]
theorem k2_at (v0 : Vec Ideal S1x2048x704 .bf16) (v2 : Vec Ideal S2048x1024 .bf16) (l : Fin 704) (b : Fin 1024) :
    k2_pay1 v0 v2 (ix3 0 l b) = ∑ s : Fin 2048, (v0 (ix3 0 s l) : EReal) * v2 (ix2 s b) := by
  pointwise [k2_pay1]
theorem k3_pay5_at (v0 : Vec Ideal S1024x1024 .bf16) (v2 : Vec Ideal S1x704x1024 .bf16) (g u : Vec Ideal S1x1024x704 .bf16) (r : Fin 1024) (l : Fin 704) :
    k3_pay5 v0 v2 g u (ix3 0 r l) = dgateT (∑ k : Fin 1024, (v0 (ix2 r k) : EReal) * v2 (ix3 0 l k)) (g (ix3 0 r l)) (u (ix3 0 r l)) := by
  unfold dgateT sg
  pointwise [k3_pay5, k3_pay2, k3_pay3, k3_pay4]
theorem k3_pay6_at (v0 : Vec Ideal S1024x1024 .bf16) (v2 : Vec Ideal S1x704x1024 .bf16) (g : Vec Ideal S1x1024x704 .bf16) (r : Fin 1024) (l : Fin 704) :
    k3_pay1 (k3_pay6 v0 v2 g) (ix3 0 r l) = (∑ k : Fin 1024, (v0 (ix2 r k) : EReal) * v2 (ix3 0 l k)) * g (ix3 0 r l) * sg (g (ix3 0 r l)) := by
  unfold sg
  pointwise [k3_pay1, k3_pay6, k3_pay2, k3_pay3, k3_pay4]

section
variable (V : (c : Dev nD) → (b : Ref sig .tc) → Buf (Elt Ideal) ((c : Thread nD τ).loc b)) (c : Dev nD)

theorem idx0 : ∀ t : Fin cfg0.N, win0_0.index t = ![t.val / 4, 0] ∧ win0_1.index t = ![t.val % 4, 0, 0] ∧ win0_2.index t = ![t.val % 4, 0, 0]
    ∧ win0_3.index t = ![t.val % 4, t.val / 4, 0] ∧ win0_4.index t = ![t.val % 4, t.val / 4, 0] ∧ win0_5.index t = ![t.val % 4, t.val / 4, 0] :=
  (by decide +kernel : ∀ t : Fin grid0.N, _)

/-- The part and the block of rows of a point. -/
def nt (t : Fin cfg0.N) : Fin 4 := ⟨t.val % 4, by omega⟩
def rt (t : Fin cfg0.N) (r : Fin 1024) : Fin 2048 := ⟨1024 * (t.val / 4) + r.val, by have : t.val < 8 := lt_of_lt_of_eq t.isLt N_0; omega⟩

theorem iblk0_0 (t : Fin cfg0.N) (r k : Fin 1024) : (iblk0 V c 0 t : S1024x1024.Idx → EReal) (ix2 r k) = (V c main_v0 : S2048x1024.Idx → EReal) (ix2 (rt t r) k) := by
  blk_ext [iblk0, idx0 t, rt, nt]
theorem iblk0_1 (t : Fin cfg0.N) (l : Fin 704) (k : Fin 1024) : (iblk0 V c 1 t : S1x704x1024.Idx → EReal) (ix3 0 l k) = (V c main_v5 : S4x704x1024.Idx → EReal) (ix3 (nt t) l k) := by
  blk_ext [iblk0, idx0 t, rt, nt]
theorem iblk0_2 (t : Fin cfg0.N) (l : Fin 704) (k : Fin 1024) : (iblk0 V c 2 t : S1x704x1024.Idx → EReal) (ix3 0 l k) = (V c main_v8 : S4x704x1024.Idx → EReal) (ix3 (nt t) l k) := by
  blk_ext [iblk0, idx0 t, rt, nt]

theorem final0_3 : (dat0 V c).arrAt 3 cfg0.N = arr3 (partsT (V c main_v0) (V c main_v5)) := by
  refine (dat0 V c).arrAt_eq_of_covers 3 _ (by decide +kernel) fun t _ y => ?_
  blk_simp
  rw [after0_3]
  idx_vars y
  unfold out0_3
  rw [View.canon_unit_zero hz3, View.ld_unit_zero hz2, View.ld_unit_zero hz3]
  obtain rfl : y0 = 0 := Subsingleton.elim _ _
  refine (pay4_at _ _ y1 y2).trans (Eq.trans (b := (partsT (V c main_v0) (V c main_v5)) (nt t) (rt t y1) y2) ?_ (congrArg (arr3 (partsT (V c main_v0) (V c main_v5))) (?_ : ix3 (nt t) (rt t y1) y2 = _)))
  · simp only [iblk0_0, iblk0_1]; rfl
  · blk_ext [idx0 t, rt, nt]

theorem final0_4 : (dat0 V c).arrAt 4 cfg0.N = arr3 (partsT (V c main_v0) (V c main_v8)) := by
  refine (dat0 V c).arrAt_eq_of_covers 4 _ (by decide +kernel) fun t _ y => ?_
  blk_simp
  rw [after0_4]
  idx_vars y
  unfold out0_4
  rw [View.canon_unit_zero hz3, View.ld_unit_zero hz2, View.ld_unit_zero hz3]
  obtain rfl : y0 = 0 := Subsingleton.elim _ _
  refine (pay5_at _ _ y1 y2).trans (Eq.trans (b := (partsT (V c main_v0) (V c main_v8)) (nt t) (rt t y1) y2) ?_ (congrArg (arr3 (partsT (V c main_v0) (V c main_v8))) (?_ : ix3 (nt t) (rt t y1) y2 = _)))
  · simp only [iblk0_0, iblk0_2]; rfl
  · blk_ext [idx0 t, rt, nt]

theorem final0_5 : (dat0 V c).arrAt 5 cfg0.N = arr3 (actT (V c main_v0) (V c main_v5) (V c main_v8)) := by
  refine (dat0 V c).arrAt_eq_of_covers 5 _ (by decide +kernel) fun t _ y => ?_
  blk_simp
  rw [after0_5]
  idx_vars y
  unfold out0_5
  rw [View.canon_unit_zero hz3, View.ld_unit_zero hz2, View.ld_unit_zero hz3, View.ld_unit_zero hz3]
  obtain rfl : y0 = 0 := Subsingleton.elim _ _
  refine (pay6_at _ _ _ y1 y2).trans (Eq.trans (b := (actT (V c main_v0) (V c main_v5) (V c main_v8)) (nt t) (rt t y1) y2) ?_ (congrArg (arr3 (actT (V c main_v0) (V c main_v5) (V c main_v8))) (?_ : ix3 (nt t) (rt t y1) y2 = _)))
  · simp only [iblk0_0, iblk0_1, iblk0_2]; rfl
  · blk_ext [idx0 t, rt, nt]

theorem idx1 : ∀ t : Fin cfg1.N, win1_0.index t = ![0, 0] ∧ win1_1.index t = ![0, 0] ∧ win1_2.index t = ![0, 0] :=
  (by decide +kernel : ∀ t : Fin grid1.N, _)
theorem iblk1_0 (t : Fin cfg1.N) (r : Fin 2048) (k : Fin 1024) : (iblk1 V c 0 t : S2048x1024.Idx → EReal) (ix2 r k) = (V c main_v0 : S2048x1024.Idx → EReal) (ix2 r k) := by
  blk_ext [iblk1, idx1 t]
theorem iblk1_1 (t : Fin cfg1.N) (r : Fin 2048) (k : Fin 1024) : (iblk1 V c 1 t : S2048x1024.Idx → EReal) (ix2 r k) = (V c main_v2 : S2048x1024.Idx → EReal) (ix2 r k) := by
  blk_ext [iblk1, idx1 t]
theorem final1_2 : (dat1 V c).arrAt 2 cfg1.N = fun y : S1024x1024.Idx => colsT (V c main_v0) (V c main_v2) (y 0) (y 1) := by
  refine (dat1 V c).arrAt_eq_of_covers 2 _ (by decide +kernel) fun t _ y => ?_
  blk_simp
  rw [after1_2]
  idx_vars y
  unfold out1_2
  rw [View.canon_unit_zero hz2, View.ld_unit_zero hz2, View.ld_unit_zero hz2]
  refine (k1_at _ _ y0 y1).trans (Eq.trans (b := colsT (V c main_v0) (V c main_v2) y0 y1) ?_ (congrArg (fun y : S1024x1024.Idx => colsT (V c main_v0) (V c main_v2) (y 0) (y 1)) (?_ : ix2 y0 y1 = _)))
  · unfold colsT; simp only [iblk1_0, iblk1_1]
  · blk_ext [idx1 t]

theorem idx2 : ∀ t : Fin cfg2.N, win2_0.index t = ![t.val, 0, 0] ∧ win2_1.index t = ![0, 0] ∧ win2_2.index t = ![t.val, 0, 0] :=
  (by decide +kernel : ∀ t : Fin grid2.N, _)
def nt2 (t : Fin cfg2.N) : Fin 4 := ⟨t.val, lt_of_lt_of_eq t.isLt N_2⟩
theorem iblk2_0 (t : Fin cfg2.N) (s : Fin 2048) (l : Fin 704) : (iblk2 V c 0 t : S1x2048x704.Idx → EReal) (ix3 0 s l) = (V c main_v11_2 : S4x2048x704.Idx → EReal) (ix3 (nt2 t) s l) := by
  blk_ext [iblk2, idx2 t, nt2]
theorem iblk2_1 (t : Fin cfg2.N) (r : Fin 2048) (k : Fin 1024) : (iblk2 V c 1 t : S2048x1024.Idx → EReal) (ix2 r k) = (V c main_v1 : S2048x1024.Idx → EReal) (ix2 r k) := by
  blk_ext [iblk2, idx2 t, nt2]
theorem final2_2 : (dat2 V c).arrAt 2 cfg2.N = arr3 (pcolsT (V c main_v11_2) (V c main_v1)) := by
  refine (dat2 V c).arrAt_eq_of_covers 2 _ (by decide +kernel) fun t _ y => ?_
  blk_simp
  rw [after2_2]
  idx_vars y
  unfold out2_2
  rw [View.canon_unit_zero hz3, View.ld_unit_zero hz3, View.ld_unit_zero hz2]
  obtain rfl : y0 = 0 := Subsingleton.elim _ _
  refine (k2_at _ _ y1 y2).trans (Eq.trans (b := (pcolsT (V c main_v11_2) (V c main_v1)) (nt2 t) y1 y2) ?_ (congrArg (arr3 (pcolsT (V c main_v11_2) (V c main_v1))) (?_ : ix3 (nt2 t) y1 y2 = _)))
  · simp only [iblk2_0, iblk2_1]; rfl
  · blk_ext [idx2 t, nt2]

theorem idx4 : ∀ t : Fin cfg4.N, win4_0.index t = ![t.val, 0, 0] ∧ win4_1.index t = ![0, 0] ∧ win4_2.index t = ![t.val, 0, 0] :=
  (by decide +kernel : ∀ t : Fin grid4.N, _)
def nt4 (t : Fin cfg4.N) : Fin 4 := ⟨t.val, lt_of_lt_of_eq t.isLt N_4⟩
theorem iblk4_0 (t : Fin cfg4.N) (s : Fin 2048) (l : Fin 704) : (iblk4 V c 0 t : S1x2048x704.Idx → EReal) (ix3 0 s l) = (V c main_v14_0 : S4x2048x704.Idx → EReal) (ix3 (nt4 t) s l) := by
  blk_ext [iblk4, idx4 t, nt4]
theorem iblk4_1 (t : Fin cfg4.N) (r : Fin 2048) (k : Fin 1024) : (iblk4 V c 1 t : S2048x1024.Idx → EReal) (ix2 r k) = (V c main_v0 : S2048x1024.Idx → EReal) (ix2 r k) := by
  blk_ext [iblk4, idx4 t, nt4]
theorem final4_2 : (dat4 V c).arrAt 2 cfg4.N = arr3 (pcolsT (V c main_v14_0) (V c main_v0)) := by
  refine (dat4 V c).arrAt_eq_of_covers 2 _ (by decide +kernel) fun t _ y => ?_
  blk_simp
  rw [after4_2]
  idx_vars y
  unfold out4_2
  rw [View.canon_unit_zero hz3, View.ld_unit_zero hz3, View.ld_unit_zero hz2]
  obtain rfl : y0 = 0 := Subsingleton.elim _ _
  refine (k2_at _ _ y1 y2).trans (Eq.trans (b := (pcolsT (V c main_v14_0) (V c main_v0)) (nt4 t) y1 y2) ?_ (congrArg (arr3 (pcolsT (V c main_v14_0) (V c main_v0))) (?_ : ix3 (nt4 t) y1 y2 = _)))
  · simp only [iblk4_0, iblk4_1]; rfl
  · blk_ext [idx4 t, nt4]

theorem idx5 : ∀ t : Fin cfg5.N, win5_0.index t = ![t.val, 0, 0] ∧ win5_1.index t = ![0, 0] ∧ win5_2.index t = ![t.val, 0, 0] :=
  (by decide +kernel : ∀ t : Fin grid5.N, _)
def nt5 (t : Fin cfg5.N) : Fin 4 := ⟨t.val, lt_of_lt_of_eq t.isLt N_5⟩
theorem iblk5_0 (t : Fin cfg5.N) (s : Fin 2048) (l : Fin 704) : (iblk5 V c 0 t : S1x2048x704.Idx → EReal) (ix3 0 s l) = (V c main_v14_1 : S4x2048x704.Idx → EReal) (ix3 (nt5 t) s l) := by
  blk_ext [iblk5, idx5 t, nt5]
theorem iblk5_1 (t : Fin cfg5.N) (r : Fin 2048) (k : Fin 1024) : (iblk5 V c 1 t : S2048x1024.Idx → EReal) (ix2 r k) = (V c main_v0 : S2048x1024.Idx → EReal) (ix2 r k) := by
  blk_ext [iblk5, idx5 t, nt5]
theorem final5_2 : (dat5 V c).arrAt 2 cfg5.N = arr3 (pcolsT (V c main_v14_1) (V c main_v0)) := by
  refine (dat5 V c).arrAt_eq_of_covers 2 _ (by decide +kernel) fun t _ y => ?_
  blk_simp
  rw [after5_2]
  idx_vars y
  unfold out5_2
  rw [View.canon_unit_zero hz3, View.ld_unit_zero hz3, View.ld_unit_zero hz2]
  obtain rfl : y0 = 0 := Subsingleton.elim _ _
  refine (k2_at _ _ y1 y2).trans (Eq.trans (b := (pcolsT (V c main_v14_1) (V c main_v0)) (nt5 t) y1 y2) ?_ (congrArg (arr3 (pcolsT (V c main_v14_1) (V c main_v0))) (?_ : ix3 (nt5 t) y1 y2 = _)))
  · simp only [iblk5_0, iblk5_1]; rfl
  · blk_ext [idx5 t, nt5]

theorem idx3 : ∀ t : Fin cfg3.N, win3_0.index t = ![t.val / 4, 0] ∧ win3_1.index t = ![t.val % 4, 0, 0] ∧ win3_2.index t = ![t.val % 4, t.val / 4, 0]
    ∧ win3_3.index t = ![t.val % 4, t.val / 4, 0] ∧ win3_4.index t = ![t.val % 4, t.val / 4, 0] ∧ win3_5.index t = ![t.val % 4, t.val / 4, 0] :=
  (by decide +kernel : ∀ t : Fin grid3.N, _)
def nt3 (t : Fin cfg3.N) : Fin 4 := ⟨t.val % 4, by omega⟩
def rt3 (t : Fin cfg3.N) (r : Fin 1024) : Fin 2048 := ⟨1024 * (t.val / 4) + r.val, by have : t.val < 8 := lt_of_lt_of_eq t.isLt N_3; omega⟩
theorem iblk3_0 (t : Fin cfg3.N) (r k : Fin 1024) : (iblk3 V c 0 t : S1024x1024.Idx → EReal) (ix2 r k) = (V c main_v1 : S2048x1024.Idx → EReal) (ix2 (rt3 t r) k) := by
  blk_ext [iblk3, idx3 t, rt3, nt3]
theorem iblk3_1 (t : Fin cfg3.N) (l : Fin 704) (k : Fin 1024) : (iblk3 V c 1 t : S1x704x1024.Idx → EReal) (ix3 0 l k) = (V c main_v10 : S4x704x1024.Idx → EReal) (ix3 (nt3 t) l k) := by
  blk_ext [iblk3, idx3 t, rt3, nt3]
theorem iblk3_2 (t : Fin cfg3.N) (r : Fin 1024) (l : Fin 704) : (iblk3 V c 2 t : S1x1024x704.Idx → EReal) (ix3 0 r l) = (V c main_v11_0 : S4x2048x704.Idx → EReal) (ix3 (nt3 t) (rt3 t r) l) := by
  blk_ext [iblk3, idx3 t, rt3, nt3]
theorem iblk3_3 (t : Fin cfg3.N) (r : Fin 1024) (l : Fin 704) : (iblk3 V c 3 t : S1x1024x704.Idx → EReal) (ix3 0 r l) = (V c main_v11_1 : S4x2048x704.Idx → EReal) (ix3 (nt3 t) (rt3 t r) l) := by
  blk_ext [iblk3, idx3 t, rt3, nt3]

theorem final3_4 : (dat3 V c).arrAt 4 cfg3.N = arr3 (dgT (V c main_v1) (V c main_v10) (V c main_v11_0) (V c main_v11_1)) := by
  refine (dat3 V c).arrAt_eq_of_covers 4 _ (by decide +kernel) fun t _ y => ?_
  blk_simp
  rw [after3_4]
  idx_vars y
  unfold out3_4
  rw [View.canon_unit_zero hz3, View.ld_unit_zero hz2, View.ld_unit_zero hz3, View.ld_unit_zero hz3, View.ld_unit_zero hz3]
  obtain rfl : y0 = 0 := Subsingleton.elim _ _
  refine (k3_pay5_at _ _ _ _ y1 y2).trans (Eq.trans (b := (dgT (V c main_v1) (V c main_v10) (V c main_v11_0) (V c main_v11_1)) (nt3 t) (rt3 t y1) y2) ?_ (congrArg (arr3 (dgT (V c main_v1) (V c main_v10) (V c main_v11_0) (V c main_v11_1))) (?_ : ix3 (nt3 t) (rt3 t y1) y2 = _)))
  · simp only [iblk3_0, iblk3_1, iblk3_2, iblk3_3]; rfl
  · blk_ext [idx3 t, rt3, nt3]

theorem final3_5 : (dat3 V c).arrAt 5 cfg3.N = arr3 (duT (V c main_v1) (V c main_v10) (V c main_v11_0)) := by
  refine (dat3 V c).arrAt_eq_of_covers 5 _ (by decide +kernel) fun t _ y => ?_
  blk_simp
  rw [after3_5]
  idx_vars y
  unfold out3_5
  rw [View.canon_unit_zero hz3, View.ld_unit_zero hz2, View.ld_unit_zero hz3, View.ld_unit_zero hz3]
  obtain rfl : y0 = 0 := Subsingleton.elim _ _
  refine (k3_pay6_at _ _ _ y1 y2).trans (Eq.trans (b := (duT (V c main_v1) (V c main_v10) (V c main_v11_0)) (nt3 t) (rt3 t y1) y2) ?_ (congrArg (arr3 (duT (V c main_v1) (V c main_v10) (V c main_v11_0))) (?_ : ix3 (nt3 t) (rt3 t y1) y2 = _)))
  · simp only [iblk3_0, iblk3_1, iblk3_2]; rfl
  · blk_ext [idx3 t, rt3, nt3]

end

end Cert.FeedIdeal.Att

end
-- ==== Proof.FeedRun.lean ====
module

public import proofs.«01_k».proof.Proof.FeedVal

@[expose] public section

set_option maxRecDepth 16384

noncomputable section

open Idealize.ShloMosaic Idealize.ShloMosaic.TcCoe Idealize.ShloMosaic.Tactic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

namespace Cert.FeedIdeal.Att

open Cert.FeedIdeal Cert.FeedIdeal.Gen

variable (m : (ℓ : Loc nD τ sig) → Buf (Elt Ideal) ℓ) (ρ : Dev nD → PrngReg) (c : Dev nD)

abbrev A0 : S2048x1024.Idx → EReal := m ((c.tc : Thread nD τ).loc main_arg0)
abbrev A1 : S1024x2816.Idx → EReal := m ((c.tc : Thread nD τ).loc main_arg1)
abbrev A2 : S1024x2816.Idx → EReal := m ((c.tc : Thread nD τ).loc main_arg2)
abbrev A3 : S2816x1024.Idx → EReal := m ((c.tc : Thread nD τ).loc main_arg3)
abbrev A4 : S2048x1024.Idx → EReal := m ((c.tc : Thread nD τ).loc main_arg4)
abbrev A5 : S2048x1024.Idx → EReal := m ((c.tc : Thread nD τ).loc main_arg5)

/-- The column of entry `l` of part `n`. -/
abbrev jcol (n : Fin 4) (l : Fin 704) : Fin 2816 := ⟨704 * n.val + l.val, by omega⟩
/-- The four parts of a matrix's columns, and of its rows. -/
def cutC (a : S1024x2816.Idx → EReal) : S4x704x1024.Idx → EReal := fun y => a (ix2 (y 2) (jcol (y 0) (y 1)))
def cutR (a : S2816x1024.Idx → EReal) : S4x704x1024.Idx → EReal := fun y => a (ix2 (jcol (y 0) (y 1)) (y 2))

theorem e0 : V1 m ρ c main_v0 = A0 m c := by
  show StableHlo.after hostOps0 (W0 m ρ c) _ = _
  after_results
  rfl
theorem e1 : V1 m ρ c main_v1 = A4 m c := by
  show StableHlo.after hostOps0 (W0 m ρ c) _ = _
  after_results
  rfl
theorem e2 : V1 m ρ c main_v2 = A5 m c := by
  show StableHlo.after hostOps0 (W0 m ρ c) _ = _
  after_results
  rfl
theorem cutC_eq (a : FVec Ideal S1024x2816 .f32) :
    shapeCast S4x704x1024 (truncf .bf16 (transpose S2816x1024 [1, 0] a transposes_S1024x2816_S2816x1024_1_0) bitsLt_bf16_f32) shapeCasts_S2816x1024_S4x704x1024 = cutC a := by
  funext y
  idx_vars y
  unfold cutC
  pointwise
  exact congrArg (fun j => a (ix2 y2 j)) (Fin.ext (congrArg (· + y1.val) (Nat.mul_comm _ _)))
theorem cutR_eq (a : FVec Ideal S2816x1024 .f32) :
    shapeCast S4x704x1024 (truncf .bf16 a bitsLt_bf16_f32) shapeCasts_S2816x1024_S4x704x1024 = cutR a := by
  funext y
  idx_vars y
  unfold cutR
  pointwise
  exact congrArg (fun j => a (ix2 j y2)) (Fin.ext (congrArg (· + y1.val) (Nat.mul_comm _ _)))
theorem e5 : V1 m ρ c main_v5 = cutC (A1 m c) := by
  rw [← cutC_eq]
  show StableHlo.after hostOps0 (W0 m ρ c) _ = _
  after_results
  rfl
theorem e8 : V1 m ρ c main_v8 = cutC (A2 m c) := by
  rw [← cutC_eq]
  show StableHlo.after hostOps0 (W0 m ρ c) _ = _
  after_results
  rfl
theorem e10 : V1 m ρ c main_v10 = cutR (A3 m c) := by
  rw [← cutR_eq]
  show StableHlo.after hostOps0 (W0 m ρ c) _ = _
  after_results
  rfl

/-! The arrays each call reads and leaves. -/

/-- The gate's array, and the other product's. -/
abbrev gateA : S4x2048x704.Idx → EReal := arr3 (partsT (A0 m c) (cutC (A1 m c)))
abbrev upA : S4x2048x704.Idx → EReal := arr3 (partsT (A0 m c) (cutC (A2 m c)))
abbrev actA : S4x2048x704.Idx → EReal := arr3 (actT (A0 m c) (cutC (A1 m c)) (cutC (A2 m c)))
abbrev dgateA : S4x2048x704.Idx → EReal := arr3 (dgT (A4 m c) (cutR (A3 m c)) (gateA m c) (upA m c))
abbrev dupA : S4x2048x704.Idx → EReal := arr3 (duT (A4 m c) (cutR (A3 m c)) (gateA m c))

theorem w_gate : V2 m ρ c main_v11_0 = gateA m c := by
  refine (W2_arr m ρ c 3).trans ((final0_3 (V1 m ρ) c).trans ?_)
  rw [e0, e5]
theorem w_up : V2 m ρ c main_v11_1 = upA m c := by
  refine (W2_arr m ρ c 4).trans ((final0_4 (V1 m ρ) c).trans ?_)
  rw [e0, e8]
theorem w_act : V2 m ρ c main_v11_2 = actA m c := by
  refine (W2_arr m ρ c 5).trans ((final0_5 (V1 m ρ) c).trans ?_)
  rw [e0, e5, e8]
theorem e0_2 : V2 m ρ c main_v0 = A0 m c :=
  (W2_of m ρ c main_v0 (by decide +kernel)).trans (e0 m ρ c)
theorem e2_2 : V2 m ρ c main_v2 = A5 m c :=
  (W2_of m ρ c main_v2 (by decide +kernel)).trans (e2 m ρ c)
/-- The flat product's gradient. -/
abbrev dpgA : S1024x1024.Idx → EReal := fun y => colsT (A0 m c) (A5 m c) (y 0) (y 1)
theorem w_dpg : V3 m ρ c main_v12 = dpgA m c := by
  refine (W3_arr m ρ c 2).trans ((final1_2 (V2 m ρ) c).trans ?_)
  rw [e0_2, e2_2]
theorem act_3 : V3 m ρ c main_v11_2 = actA m c :=
  (W3_of m ρ c main_v11_2 (by decide +kernel)).trans (w_act m ρ c)
theorem e1_3 : V3 m ρ c main_v1 = A4 m c :=
  ((W3_of m ρ c main_v1 (by decide +kernel)).trans (W2_of m ρ c main_v1 (by decide +kernel))).trans (e1 m ρ c)
/-- The gradient of the weights down. -/
abbrev ddownA : S4x704x1024.Idx → EReal := arr3 (pcolsT (actA m c) (A4 m c))
theorem w_ddown : V4 m ρ c main_v13 = ddownA m c := by
  refine (W4_arr m ρ c 2).trans ((final2_2 (V3 m ρ) c).trans ?_)
  rw [act_3, e1_3]
theorem gate_4 : V4 m ρ c main_v11_0 = gateA m c :=
  ((W4_of m ρ c main_v11_0 (by decide +kernel)).trans (W3_of m ρ c main_v11_0 (by decide +kernel))).trans (w_gate m ρ c)
theorem up_4 : V4 m ρ c main_v11_1 = upA m c :=
  ((W4_of m ρ c main_v11_1 (by decide +kernel)).trans (W3_of m ρ c main_v11_1 (by decide +kernel))).trans (w_up m ρ c)
theorem e1_4 : V4 m ρ c main_v1 = A4 m c :=
  (((W4_of m ρ c main_v1 (by decide +kernel)).trans (W3_of m ρ c main_v1 (by decide +kernel))).trans (W2_of m ρ c main_v1 (by decide +kernel))).trans (e1 m ρ c)
theorem e10_4 : V4 m ρ c main_v10 = cutR (A3 m c) :=
  (((W4_of m ρ c main_v10 (by decide +kernel)).trans (W3_of m ρ c main_v10 (by decide +kernel))).trans (W2_of m ρ c main_v10 (by decide +kernel))).trans (e10 m ρ c)
theorem w_dgate : V5 m ρ c main_v14_0 = dgateA m c := by
  refine (W5_arr m ρ c 4).trans ((final3_4 (V4 m ρ) c).trans ?_)
  rw [gate_4, up_4, e1_4, e10_4]
theorem w_dup : V5 m ρ c main_v14_1 = dupA m c := by
  refine (W5_arr m ρ c 5).trans ((final3_5 (V4 m ρ) c).trans ?_)
  rw [gate_4, e1_4, e10_4]
theorem e0_5 : V5 m ρ c main_v0 = A0 m c :=
  ((((W5_of m ρ c main_v0 (by decide +kernel)).trans (W4_of m ρ c main_v0 (by decide +kernel))).trans (W3_of m ρ c main_v0 (by decide +kernel))).trans (W2_of m ρ c main_v0 (by decide +kernel))).trans (e0 m ρ c)
/-- The gradients of the weights of the gate and of the other product. -/
abbrev dwgA : S4x704x1024.Idx → EReal := arr3 (pcolsT (dgateA m c) (A0 m c))
abbrev dwuA : S4x704x1024.Idx → EReal := arr3 (pcolsT (dupA m c) (A0 m c))
theorem w_dwg : V6 m ρ c main_v15 = dwgA m c := by
  refine (W6_arr m ρ c 2).trans ((final4_2 (V5 m ρ) c).trans ?_)
  rw [w_dgate, e0_5]
theorem e0_6 : V6 m ρ c main_v0 = A0 m c :=
  (((((W6_of m ρ c main_v0 (by decide +kernel)).trans (W5_of m ρ c main_v0 (by decide +kernel))).trans (W4_of m ρ c main_v0 (by decide +kernel))).trans (W3_of m ρ c main_v0 (by decide +kernel))).trans (W2_of m ρ c main_v0 (by decide +kernel))).trans (e0 m ρ c)
theorem dup_6 : V6 m ρ c main_v14_1 = dupA m c :=
  (W6_of m ρ c main_v14_1 (by decide +kernel)).trans (w_dup m ρ c)
theorem r_dwu : V7 m ρ c main_v16 = dwuA m c := by
  refine (W7_arr m ρ c 2).trans ((final5_2 (V6 m ρ) c).trans ?_)
  rw [dup_6, e0_6]
theorem r_dpg : V7 m ρ c main_v12 = dpgA m c :=
  ((((W7_of m ρ c main_v12 (by decide +kernel)).trans (W6_of m ρ c main_v12 (by decide +kernel))).trans (W5_of m ρ c main_v12 (by decide +kernel))).trans (W4_of m ρ c main_v12 (by decide +kernel))).trans (w_dpg m ρ c)
theorem r_ddown : V7 m ρ c main_v13 = ddownA m c :=
  (((W7_of m ρ c main_v13 (by decide +kernel)).trans (W6_of m ρ c main_v13 (by decide +kernel))).trans (W5_of m ρ c main_v13 (by decide +kernel))).trans (w_ddown m ρ c)
theorem r_dgate : V7 m ρ c main_v14_0 = dgateA m c :=
  ((W7_of m ρ c main_v14_0 (by decide +kernel)).trans (W6_of m ρ c main_v14_0 (by decide +kernel))).trans (w_dgate m ρ c)
theorem r_dup : V7 m ρ c main_v14_1 = dupA m c :=
  ((W7_of m ρ c main_v14_1 (by decide +kernel)).trans (W6_of m ρ c main_v14_1 (by decide +kernel))).trans (w_dup m ρ c)
theorem r_dwg : V7 m ρ c main_v15 = dwgA m c :=
  (W7_of m ρ c main_v15 (by decide +kernel)).trans (w_dwg m ρ c)
local notation "𝕄" => MT nD τ sig Unit (Elt Ideal) ℕ (UR sig nD τ) ℕ

set_option backward.isDefEq.respectTransparency.types false in
/-- The program's results, and its arguments unchanged. -/
theorem run : θ_run defs (onTc (τ := τ) (main (F := Ideal))) ⟨m, fun _ => 0, ρ⟩ (fun r => ∀ c : Dev nD,
      r.2.mem ((c.tc : Thread nD τ).loc main_v12) = dpgA m c
      ∧ r.2.mem ((c.tc : Thread nD τ).loc main_v13) = ddownA m c
      ∧ r.2.mem ((c.tc : Thread nD τ).loc main_v14_0) = dgateA m c
      ∧ r.2.mem ((c.tc : Thread nD τ).loc main_v14_1) = dupA m c
      ∧ r.2.mem ((c.tc : Thread nD τ).loc main_v15) = dwgA m c
      ∧ r.2.mem ((c.tc : Thread nD τ).loc main_v16) = dwuA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz c =>
      ⟨(h c _ (mem_uc main_v12 (by decide))).trans (r_dpg m ρ c),
       (h c _ (mem_uc main_v13 (by decide))).trans (r_ddown m ρ c),
       (h c _ (mem_uc main_v14_0 (by decide))).trans (r_dgate m ρ c),
       (h c _ (mem_uc main_v14_1 (by decide))).trans (r_dup m ρ c),
       (h c _ (mem_uc main_v15 (by decide))).trans (r_dwg m ρ c),
       (h c _ (mem_uc main_v16 (by decide))).trans (r_dwu m ρ c),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.FeedIdeal.Att

end
-- ==== Proof.FeedRef.lean ====
module

public import proofs.«01_k».proof.Proof.Gen.FeedReferenceIdeal.Run
public import proofs.«01_k».proof.Proof.FeedRun
public import proofs.«01_k».proof.Proof.Num

@[expose] public section

set_option maxRecDepth 16384

noncomputable section

open Idealize.ShloMosaic Idealize.ShloMosaic.TcCoe Idealize.SL.Sem

/-! ## Real mathematics -/

namespace Cert.FeedIdeal.Att

open Cert.FeedIdeal

/-- The logistic function of a real. -/
theorem sg_coe (g : ℝ) : sg (g : EReal) = ((1 / (1 + Real.exp (-g)) : ℝ) : EReal) := by
  have h : (1 + Real.exp (-g) : ℝ) ≠ 0 := by positivity
  unfold sg
  rw [zero_sub, ← EReal.coe_neg, Ideal.exp_coe, ← EReal.coe_one, ← EReal.coe_add, Att.Num.div_coe _ _ h]

/-- The logistic function at the two infinities. -/
theorem sg_top : sg ⊤ = 1 := by
  unfold sg
  rw [zero_sub, EReal.neg_top, Ideal.exp_bot, add_zero, ← EReal.coe_one, Att.Num.div_coe _ _ one_ne_zero, div_one]
theorem sg_bot : sg ⊥ = 0 := by
  unfold sg
  rw [zero_sub, EReal.neg_bot, Ideal.exp_top, show (1 : EReal) + ⊤ = ⊤ from EReal.coe_add_top 1, Ideal.div, if_neg (by simp), EReal.inv_top, mul_zero]
theorem one_sub_one : (1 : EReal) - 1 = 0 := by
  rw [← EReal.coe_one, ← EReal.coe_sub, sub_self, EReal.coe_zero]

/-- For a real gradient, the derivative of the silu by the chain rule is the one written through `1 + a (1 - sg a)`. -/
theorem sil_any (d : ℝ) (a : EReal) : (d : EReal) * sg a + a * d * (sg a * (1 - sg a)) = d * (sg a * (1 + a * (1 - sg a))) := by
  induction a using EReal.rec with
  | bot => rw [sg_bot, zero_mul, zero_mul, mul_zero, mul_zero, add_zero]
  | top => rw [sg_top, one_sub_one, mul_zero, mul_zero, mul_zero, add_zero, add_zero, mul_one, mul_one, mul_one]
  | coe a =>
    rw [sg_coe, ← EReal.coe_one]
    simp only [← EReal.coe_mul, ← EReal.coe_sub, ← EReal.coe_add]
    exact congrArg _ (by ring)
theorem dgate_real (e u : ℝ) (g : EReal) :
    (e : EReal) * u * sg g + g * (e * u) * (sg g * (1 - sg g)) = dgateT e g u := by
  unfold dgateT
  rw [← EReal.coe_mul]
  exact sil_any (e * u) g

/-- An array of reals. -/
abbrev AllReal {S : Shape} (x : S.Idx → EReal) : Prop := ∀ i, ∃ r : ℝ, x i = r

theorem partsT_real {x : S2048x1024.Idx → EReal} {w : S4x704x1024.Idx → EReal} (hx : AllReal x) (hw : AllReal w)
    (n : Fin 4) (s : Fin 2048) (l : Fin 704) : ∃ r : ℝ, partsT x w n s l = r := by
  choose fx ex using hx
  choose fw ew using hw
  refine ⟨∑ k, fx (ix2 s k) * fw (ix3 n l k), ?_⟩
  rw [Att.Num.coe_sum]
  exact Finset.sum_congr rfl fun k _ => by rw [ex, ew, EReal.coe_mul]

end Cert.FeedIdeal.Att

namespace Cert.FeedReferenceIdeal.Att

open Cert.FeedReferenceIdeal Cert.FeedReferenceIdeal.Gen
open Cert.FeedIdeal.Att (sg partsT arr3 actT dgateT dgT duT colsT pcolsT jcol cutC cutR AllReal partsT_real dgate_real)

/-! ## The reference's terms, in stages over arrays -/

/-- The products with the gate's weights (and with the other ones). -/
def gS (x : FVec Ideal S2048x1024 .f32) (w : FVec Ideal S1024x2816 .f32) : FVec Ideal S2048x2816 .f32 :=
  Host.dotGeneral dot_S2048x1024_S1024x2816_S2048x2816_1_0_0_1_n_n none x w
/-- The result's gradient carried back through the weights down. -/
def eS (d : FVec Ideal S2048x1024 .f32) (w : FVec Ideal S2816x1024 .f32) : FVec Ideal S2048x2816 .f32 :=
  Host.dotGeneral dot_S2048x1024_S2816x1024_S2048x2816_1_1_0_0_n_n none d w
def oneS : FVec Ideal S2048x2816 .f32 := broadcastInDim S2048x2816 ![] bcast_S_S2048x2816 (constant S_ .f32 0x3F800000#32)
/-- The logistic function of every entry. -/
def sigS (g : FVec Ideal S2048x2816 .f32) : FVec Ideal S2048x2816 .f32 := Host.divf oneS (addf oneS (Host.exp (Host.negf g)))
def actS (g u : FVec Ideal S2048x2816 .f32) : FVec Ideal S2048x2816 .f32 := mulf (mulf g (sigS g)) u
/-- The gradients of the two products. -/
def daS (e g u : FVec Ideal S2048x2816 .f32) : FVec Ideal S2048x2816 .f32 :=
  addf (mulf (mulf e u) (sigS g)) (mulf (mulf g (mulf e u)) (mulf (sigS g) (subf oneS (sigS g))))
def dbS (e g : FVec Ideal S2048x2816 .f32) : FVec Ideal S2048x2816 .f32 := mulf (mulf g (sigS g)) e
/-- The flat product's gradient. -/
def flatS (a0 a5 : FVec Ideal S2048x1024 .f32) : FVec Ideal S1024x1024 .bf16 :=
  truncf .bf16 (transpose S1024x1024 [1, 0] (Host.dotGeneral dot_S2048x1024_S2048x1024_S1024x1024_0_0_1_1_n_n none a5 a0) transposes_S1024x1024_S1024x1024_1_0) bitsLt_bf16_f32
/-- The gradient of the weights down. -/
def downS (a4 : FVec Ideal S2048x1024 .f32) (z : FVec Ideal S2048x2816 .f32) : FVec Ideal S4x704x1024 .bf16 :=
  truncf .bf16 (shapeCast S4x704x1024 (transpose S2816x1024 [1, 0] (Host.dotGeneral dot_S2048x1024_S2048x2816_S1024x2816_0_0_1_1_n_n none a4 z) transposes_S1024x2816_S2816x1024_1_0) shapeCasts_S2816x1024_S4x704x1024) bitsLt_bf16_f32
/-- A gradient in four parts. -/
def cutS (z : FVec Ideal S2048x2816 .f32) : FVec Ideal S4x2048x704 .bf16 :=
  truncf .bf16 (transpose S4x2048x704 [1, 0, 2] (shapeCast S2048x4x704 z shapeCasts_S2048x2816_S2048x4x704) transposes_S2048x4x704_S4x2048x704_1_0_2) bitsLt_bf16_f32
/-- The gradient of the weights of one of the two products. -/
def weightS (z : FVec Ideal S2048x2816 .f32) (a0 : FVec Ideal S2048x1024 .f32) : FVec Ideal S4x704x1024 .bf16 :=
  truncf .bf16 (shapeCast S4x704x1024 (transpose S2816x1024 [1, 0] (transpose S1024x2816 [1, 0] (Host.dotGeneral dot_S2048x2816_S2048x1024_S2816x1024_0_0_1_1_n_n none z a0) transposes_S2816x1024_S1024x2816_1_0) transposes_S1024x2816_S2816x1024_1_0) shapeCasts_S2816x1024_S4x704x1024) bitsLt_bf16_f32

/-! ## Their entries -/

theorem gS_at (x : FVec Ideal S2048x1024 .f32) (w : FVec Ideal S1024x2816 .f32) (n : Fin 4) (s : Fin 2048) (l : Fin 704) :
    gS x w (ix2 s (jcol n l)) = partsT x (cutC w) n s l := by
  pointwise [gS]
  rfl
theorem eS_at (d : FVec Ideal S2048x1024 .f32) (w : FVec Ideal S2816x1024 .f32) (n : Fin 4) (s : Fin 2048) (l : Fin 704) :
    eS d w (ix2 s (jcol n l)) = partsT d (cutR w) n s l := by
  pointwise [eS]
  rfl
theorem sigS_at (g : FVec Ideal S2048x2816 .f32) (s : Fin 2048) (j : Fin 2816) : sigS g (ix2 s j) = sg (g (ix2 s j)) := by
  unfold sg
  rw [zero_sub]
  pointwise [sigS, oneS]
theorem actS_at (g u : FVec Ideal S2048x2816 .f32) (s : Fin 2048) (j : Fin 2816) :
    actS g u (ix2 s j) = g (ix2 s j) * sg (g (ix2 s j)) * u (ix2 s j) := by
  rw [← sigS_at]
  pointwise [actS]
theorem dbS_at (e g : FVec Ideal S2048x2816 .f32) (s : Fin 2048) (j : Fin 2816) :
    dbS e g (ix2 s j) = g (ix2 s j) * sg (g (ix2 s j)) * e (ix2 s j) := by
  rw [← sigS_at]
  pointwise [dbS]
theorem daS_at (e g u : FVec Ideal S2048x2816 .f32) (s : Fin 2048) (j : Fin 2816) :
    daS e g u (ix2 s j) = e (ix2 s j) * u (ix2 s j) * sg (g (ix2 s j)) + g (ix2 s j) * (e (ix2 s j) * u (ix2 s j)) * (sg (g (ix2 s j)) * (1 - sg (g (ix2 s j)))) := by
  rw [← sigS_at]
  pointwise [daS, oneS]

theorem flatS_eq (a0 a5 : FVec Ideal S2048x1024 .f32) : flatS a0 a5 = fun y => colsT a0 a5 (y 0) (y 1) := by
  funext y
  idx_vars y
  unfold colsT
  pointwise [flatS]
  exact Finset.sum_congr rfl fun s _ => mul_comm _ _

theorem downS_eq (a4 : FVec Ideal S2048x1024 .f32) (z : FVec Ideal S2048x2816 .f32) (f : Fin 4 → Fin 2048 → Fin 704 → EReal)
    (h : ∀ n s l, z (ix2 s (jcol n l)) = f n s l) : downS a4 z = arr3 (pcolsT (arr3 f) a4) := by
  funext y
  idx_vars y
  unfold pcolsT
  pointwise [downS]
  refine Finset.sum_congr rfl fun s _ => (mul_comm _ _).trans (congrArg (· * a4 (ix2 s y2)) ?_)
  exact (congrArg (fun j => z (ix2 s j)) (Fin.ext (congrArg (· + y1.val) (Nat.mul_comm _ _)))).trans (h y0 s y1)

theorem cutS_eq (z : FVec Ideal S2048x2816 .f32) (f : Fin 4 → Fin 2048 → Fin 704 → EReal)
    (h : ∀ n s l, z (ix2 s (jcol n l)) = f n s l) : cutS z = arr3 f := by
  funext y
  idx_vars y
  refine Eq.trans ?_ (h y0 y1 y2)
  pointwise [cutS]
  exact congrArg (fun j => z (ix2 y1 j)) (Fin.ext (congrArg (· + y2.val) (Nat.mul_comm _ _)))

theorem weightS_eq (z : FVec Ideal S2048x2816 .f32) (a0 : FVec Ideal S2048x1024 .f32) (f : Fin 4 → Fin 2048 → Fin 704 → EReal)
    (h : ∀ n s l, z (ix2 s (jcol n l)) = f n s l) : weightS z a0 = arr3 (pcolsT (arr3 f) a0) := by
  funext y
  idx_vars y
  unfold pcolsT
  pointwise [weightS]
  refine Finset.sum_congr rfl fun s _ => congrArg (· * a0 (ix2 s y2)) ?_
  exact (congrArg (fun j => z (ix2 s j)) (Fin.ext (congrArg (· + y1.val) (Nat.mul_comm _ _)))).trans (h y0 s y1)

/-! ## The gradients, part by part -/

section
variable (a0 a4 : FVec Ideal S2048x1024 .f32) (a1 a2 : FVec Ideal S1024x2816 .f32) (a3 : FVec Ideal S2816x1024 .f32)

theorem act_parts (n : Fin 4) (s : Fin 2048) (l : Fin 704) :
    actS (gS a0 a1) (gS a0 a2) (ix2 s (jcol n l)) = actT a0 (cutC a1) (cutC a2) n s l := by
  rw [actS_at, gS_at, gS_at]
  rfl
theorem db_parts (n : Fin 4) (s : Fin 2048) (l : Fin 704) :
    dbS (eS a4 a3) (gS a0 a1) (ix2 s (jcol n l)) = duT a4 (cutR a3) (arr3 (partsT a0 (cutC a1))) n s l := by
  rw [dbS_at, gS_at, eS_at, mul_comm, ← mul_assoc]
  rfl
variable {a0 a4 a1 a2 a3}
/-- Where every entry but the gate's weights is a real, the chain rule's two terms are the kernel's product. -/
theorem da_parts (h0 : AllReal a0) (h2 : AllReal a2) (h3 : AllReal a3) (h4 : AllReal a4) (n : Fin 4) (s : Fin 2048) (l : Fin 704) :
    daS (eS a4 a3) (gS a0 a1) (gS a0 a2) (ix2 s (jcol n l)) = dgT a4 (cutR a3) (arr3 (partsT a0 (cutC a1))) (arr3 (partsT a0 (cutC a2))) n s l := by
  rw [daS_at, gS_at, gS_at, eS_at]
  obtain ⟨e, he⟩ := partsT_real h4 (w := cutR a3) (fun i => h3 _) n s l
  obtain ⟨u, hu⟩ := partsT_real h0 (w := cutC a2) (fun i => h2 _) n s l
  refine Eq.trans ?_ (show dgateT (partsT a4 (cutR a3) n s l) (partsT a0 (cutC a1) n s l) (partsT a0 (cutC a2) n s l) = _ from rfl)
  rw [he, hu]
  exact dgate_real e u _
end

end Cert.FeedReferenceIdeal.Att

end
-- ==== Proof.FeedClaims.lean ====
module

public import proofs.«01_k».proof.Defs
public import proofs.«01_k».proof.Proof.Gen.Pre_finite2
public import proofs.«01_k».proof.Proof.Gen.Feed.Frame
public import proofs.«01_k».proof.Proof.FeedRef
public import proofs.«01_k».proof.Proof.AttnClaims

@[expose] public section

set_option maxRecDepth 16384

noncomputable section

open Idealize.ShloMosaic Idealize.ShloMosaic.TcCoe Idealize.SL.Sem

namespace Cert.FeedClaims

open Cert.FeedIdeal.Att (AllReal)

section
open Cert.Pre_finite2 Cert.Pre_finite2.Facts

theorem sub0 : Subsingleton S_.Idx := ⟨fun a b => funext fun i => i.elim0⟩

/-- The precondition says that every entry of the input, the other product's weights, the weights down and the result's gradient is a real. -/
theorem finite_real [Cert.Pre_finite2.Facts] (a0 a4 a5 : FVec Ideal S2048x1024 .f32) (a1 a2 : FVec Ideal S1024x2816 .f32) (a3 : FVec Ideal S2816x1024 .f32)
    (h : Cert.Pre_finite2.fn (F := Ideal) a0 a1 a2 a3 a4 a5 = fun _ => 1#1) : AllReal a0 ∧ AllReal a2 ∧ AllReal a3 ∧ AllReal a4 := by
  have e := congrFun h ix0
  unfold Cert.Pre_finite2.fn Cert.Pre_finite2.fn_part1 at e
  have := sub0
  obtain ⟨e, e4⟩ := IntOp.andi_eq_one.1 e
  obtain ⟨e, e3⟩ := IntOp.andi_eq_one.1 e
  obtain ⟨e0, e2⟩ := IntOp.andi_eq_one.1 e
  exact ⟨fun i => ⟨_, (AttnClaims.real_of_lt _ (Host.reduce_andi_all _ _ _ _ _ e0 i)).symm⟩,
    fun i => ⟨_, (AttnClaims.real_of_lt _ (Host.reduce_andi_all _ _ _ _ _ e2 i)).symm⟩, fun i => ⟨_, (AttnClaims.real_of_lt _ (Host.reduce_andi_all _ _ _ _ _ e3 i)).symm⟩,
    fun i => ⟨_, (AttnClaims.real_of_lt _ (Host.reduce_andi_all _ _ _ _ _ e4 i)).symm⟩⟩

end

theorem frame_p : Cert.quiescent_Feed := fun m ρ _ => Cert.Feed.Gen.frame m ρ
theorem frame_pi : Cert.quiescent_FeedIdeal := fun m ρ _ => Cert.FeedIdeal.Gen.frame m ρ
theorem frame_pi_finite : Cert.quiescent_FeedIdeal_pre_finite2 (hPre_finite2 := Cert.Pre_finite2.Gen.facts) := fun m ρ _ => Cert.FeedIdeal.Gen.frame m ρ
theorem frame_ri : Cert.quiescent_FeedReferenceIdeal := fun m ρ _ =>
  (θ_run Cert.FeedReferenceIdeal.defs _ _).mono (fun r h => ⟨fun c => (h c).2.2.2.2.2.2, sem_eq_zero_of_no_sems (by decide) r.2⟩)
    (Cert.FeedReferenceIdeal.Value.run (F := Ideal) m ρ)
theorem frame_ri_finite : Cert.quiescent_FeedReferenceIdeal_pre_finite2 (hPre_finite2 := Cert.Pre_finite2.Gen.facts) := fun m ρ _ => frame_ri m ρ trivial

/-- No operation is replaced. -/
theorem preserves : Cert.preserves_Feed_FeedIdeal := trivial

section
open Cert.FeedReferenceIdeal Cert.FeedReferenceIdeal.Att

variable (m : (ℓ : Loc nD τ sig) → Buf (Elt Ideal) ℓ) (c : Dev nD)

abbrev B0 : FVec Ideal S2048x1024 .f32 := m ((c.tc : Thread nD τ).loc main_arg0)
abbrev B1 : FVec Ideal S1024x2816 .f32 := m ((c.tc : Thread nD τ).loc main_arg1)
abbrev B2 : FVec Ideal S1024x2816 .f32 := m ((c.tc : Thread nD τ).loc main_arg2)
abbrev B3 : FVec Ideal S2816x1024 .f32 := m ((c.tc : Thread nD τ).loc main_arg3)
abbrev B4 : FVec Ideal S2048x1024 .f32 := m ((c.tc : Thread nD τ).loc main_arg4)
abbrev B5 : FVec Ideal S2048x1024 .f32 := m ((c.tc : Thread nD τ).loc main_arg5)

/-- The reference's gradients of the gate and of the other product, uncut. -/
abbrev daB : FVec Ideal S2048x2816 .f32 := daS (eS (B4 m c) (B3 m c)) (gS (B0 m c) (B1 m c)) (gS (B0 m c) (B2 m c))
abbrev dbB : FVec Ideal S2048x2816 .f32 := dbS (eS (B4 m c) (B3 m c)) (gS (B0 m c) (B1 m c))
end

/-- For finite arguments the kernel's six arrays are the derivative of the gated layer and of the flat product. -/
theorem algebraic : Cert.algebraic_FeedIdeal_FeedReferenceIdeal_pre_finite2 (hPre_finite2 := Cert.Pre_finite2.Gen.facts) := by
  intro m ρ m' ρ' hpre hagree
  have key : ∀ c : Dev Cert.FeedIdeal.nD,
      Cert.FeedReferenceIdeal.Att.flatS (B0 m' c) (B5 m' c) = Cert.FeedIdeal.Att.dpgA m c
      ∧ Cert.FeedReferenceIdeal.Att.downS (B4 m' c) (Cert.FeedReferenceIdeal.Att.actS (Cert.FeedReferenceIdeal.Att.gS (B0 m' c) (B1 m' c)) (Cert.FeedReferenceIdeal.Att.gS (B0 m' c) (B2 m' c))) = Cert.FeedIdeal.Att.ddownA m c
      ∧ Cert.FeedReferenceIdeal.Att.cutS (daB m' c) = Cert.FeedIdeal.Att.dgateA m c
      ∧ Cert.FeedReferenceIdeal.Att.cutS (dbB m' c) = Cert.FeedIdeal.Att.dupA m c
      ∧ Cert.FeedReferenceIdeal.Att.weightS (daB m' c) (B0 m' c) = Cert.FeedIdeal.Att.dwgA m c
      ∧ Cert.FeedReferenceIdeal.Att.weightS (dbB m' c) (B0 m' c) = Cert.FeedIdeal.Att.dwuA m c := fun c => by
    obtain ⟨h0, h2, h3, h4⟩ := finite_real _ _ _ _ _ _ (hpre c)
    obtain ⟨g0, g1, g2, g3, g4, g5⟩ := hagree c
    have e0 : B0 m' c = Cert.FeedIdeal.Att.A0 m c := g0
    have e1 : B1 m' c = Cert.FeedIdeal.Att.A1 m c := g1
    have e2 : B2 m' c = Cert.FeedIdeal.Att.A2 m c := g2
    have e3 : B3 m' c = Cert.FeedIdeal.Att.A3 m c := g3
    have e4 : B4 m' c = Cert.FeedIdeal.Att.A4 m c := g4
    have e5 : B5 m' c = Cert.FeedIdeal.Att.A5 m c := g5
    unfold daB dbB
    rw [e0, e1, e2, e3, e4, e5]
    have da := Cert.FeedReferenceIdeal.Att.da_parts (a1 := Cert.FeedIdeal.Att.A1 m c) h0 h2 h3 h4
    have db := Cert.FeedReferenceIdeal.Att.db_parts (Cert.FeedIdeal.Att.A0 m c) (Cert.FeedIdeal.Att.A4 m c) (Cert.FeedIdeal.Att.A1 m c) (Cert.FeedIdeal.Att.A3 m c)
    exact ⟨Cert.FeedReferenceIdeal.Att.flatS_eq _ _,
      Cert.FeedReferenceIdeal.Att.downS_eq _ _ _ (Cert.FeedReferenceIdeal.Att.act_parts _ _ _),
      Cert.FeedReferenceIdeal.Att.cutS_eq _ _ da, Cert.FeedReferenceIdeal.Att.cutS_eq _ _ db,
      Cert.FeedReferenceIdeal.Att.weightS_eq _ _ _ da, Cert.FeedReferenceIdeal.Att.weightS_eq _ _ _ db⟩
  refine ⟨_, _, _, _, _, _, Cert.FeedIdeal.Att.run m ρ, ?_⟩
  exact (θ_run Cert.FeedReferenceIdeal.defs _ _).mono (fun _ h c => ⟨(h c).1.trans (key c).1, (h c).2.1.trans (key c).2.1, (h c).2.2.1.trans (key c).2.2.1,
      (h c).2.2.2.1.trans (key c).2.2.2.1, (h c).2.2.2.2.1.trans (key c).2.2.2.2.1, (h c).2.2.2.2.2.1.trans (key c).2.2.2.2.2, (h c).2.2.2.2.2.2⟩)
    (Cert.FeedReferenceIdeal.Value.run (F := Ideal) m' ρ')

end Cert.FeedClaims

end
-- ==== Proof.JointVal.lean ====
module

public import proofs.«01_k».proof.Proof.Gen.JointIdeal.Value
public import proofs.«01_k».proof.Proof.Gen.JointReferenceIdeal.Run
public import Idealize.ShloMosaic.Lib.Pipeline.ValueKit
public import Idealize.ShloMosaic.Lib.Pointwise
public import Idealize.ShloMosaic.Lib.Tactic
public import Idealize.ShloMosaic.Lib.WritesUnit
public import Idealize.ShloMosaic.PureOps.Ideal

@[expose] public section

set_option maxRecDepth 16384

noncomputable section

open Idealize.ShloMosaic Idealize.ShloMosaic.TcCoe Idealize.SL.Sem
open Idealize.ShloMosaic.Pipeline (Dat)

namespace Cert.JointIdeal.Att

open Cert.JointIdeal Cert.JointIdeal.Gen

/-! ## A point's arrays -/

/-- The scale of the gradient that is added. -/
abbrev al : EReal := FloatOps.ofBits (F := Ideal) .f32 0x3F9837F0#32

theorem hz2 : (![0, 0] : Fin 2 → Nat) = fun _ => 0 := funext fun a => by fin_cases a <;> rfl
theorem hz3 : (![0, 0, 0] : Fin 3 → Nat) = fun _ => 0 := funext fun a => by fin_cases a <;> rfl

/-- The products of one part of the two gradients with its weights. -/
def partP (g : Vec Ideal S1x1024x704 .bf16) (w : Vec Ideal S1x704x1024 .bf16) (u : Vec Ideal S1x1024x704 .bf16) (v : Vec Ideal S1x704x1024 .bf16) (r k : Fin 1024) : EReal :=
  (∑ l : Fin 704, (g (ix3 0 r l) : EReal) * w (ix3 0 l k)) + ∑ l : Fin 704, (u (ix3 0 r l) : EReal) * v (ix3 0 l k)
/-- The flat product and the scaled gradient, added once. -/
def onceP (d q : Vec Ideal S1024x1024 .bf16) (p : Vec Ideal S1024x1024 .f32) (r k : Fin 1024) : EReal :=
  (∑ l : Fin 1024, (d (ix2 r l) : EReal) * q (ix2 l k)) + al * p (ix2 r k)

theorem pay1_at (g : Vec Ideal S1x1024x704 .bf16) (w : Vec Ideal S1x704x1024 .bf16) (u : Vec Ideal S1x1024x704 .bf16) (v : Vec Ideal S1x704x1024 .bf16) (r k : Fin 1024) :
    k0_pay1 g w u v (ix2 r k) = partP g w u v r k := by
  unfold partP
  pointwise [k0_pay1]
theorem pay2_at (g : Vec Ideal S1x1024x704 .bf16) (w : Vec Ideal S1x704x1024 .bf16) (u : Vec Ideal S1x1024x704 .bf16) (v : Vec Ideal S1x704x1024 .bf16)
    (d q : Vec Ideal S1024x1024 .bf16) (p : Vec Ideal S1024x1024 .f32) (r k : Fin 1024) :
    k0_pay2 g w u v d q p (ix2 r k) = partP g w u v r k + onceP d q p r k := by
  rw [← pay1_at, onceP, ← add_assoc]
  pointwise [k0_pay2]
theorem pay3_at (g : Vec Ideal S1x1024x704 .bf16) (w : Vec Ideal S1x704x1024 .bf16) (u : Vec Ideal S1x1024x704 .bf16) (v : Vec Ideal S1x704x1024 .bf16)
    (x : Vec Ideal S1024x1024 .f32) (r k : Fin 1024) :
    k0_pay3 g w u v x (ix2 r k) = (x (ix2 r k) : EReal) + partP g w u v r k := by
  rw [← pay1_at]
  pointwise [k0_pay3]

section
variable (c : Dev nD) (i : grid0.Coords) (arg3 : Memref sig .tc .vmem S1x1024x704 .bf16) (harg3 : arg3.IsWhole) (arg4 : Memref sig .tc .vmem S1x704x1024 .bf16) (harg4 : arg4.IsWhole) (arg5 : Memref sig .tc .vmem S1x1024x704 .bf16) (harg5 : arg5.IsWhole) (arg6 : Memref sig .tc .vmem S1x704x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .f32) (harg9 : arg9.IsWhole) (arg10 : Memref sig .tc .vmem S1024x1024 .f32) (harg10 : arg10.IsWhole)
  (x0 : Vec Ideal S1x1024x704 .bf16) (x1 : Vec Ideal S1x704x1024 .bf16) (x2 : Vec Ideal S1x1024x704 .bf16) (x3 : Vec Ideal S1x704x1024 .bf16) (x4 x5 : Vec Ideal S1024x1024 .bf16) (x6 xo : Vec Ideal S1024x1024 .f32)

/-- What the first part's point leaves. -/
theorem outA (hc0 : cond0_0 i) (hc1 : ¬cond0_1 i) (r k : Fin 1024) :
    out0_A_7 (F := Ideal) c i arg3 harg3 arg4 harg4 arg5 harg5 arg6 harg6 arg7 harg7 arg8 harg8 arg9 harg9 arg10 harg10 hc0 hc1 x0 x1 x2 x3 x4 x5 x6 (ix2 r k)
      = partP x0 x1 x2 x3 r k + onceP x4 x5 x6 r k := by
  unfold out0_A_7 kernelRun0_A
  dsimp only
  sl_unfold_words
  simp only [View.readAt_eq_ld, harg3.read_unread, harg4.read_unread, harg5.read_unread, harg6.read_unread, harg7.read_unread, harg8.read_unread, harg9.read_unread, View.ld_unit_zero (S := S1024x1024) hz2, View.ld_unit_zero (S := S1x1024x704) hz3, View.ld_unit_zero (S := S1x704x1024) hz3]
  rw [View.read_writes_cons_unit_of_mem _ _ _ _ _ _ (ix2 r k) rfl (by intro a; fin_cases a <;> simp)]
  exact pay2_at ..
/-- What another part's point leaves, over what the one before left. -/
theorem outB (hc0 : ¬cond0_0 i) (hc1 : cond0_1 i) (r k : Fin 1024) :
    out0_B_7 (F := Ideal) c i arg3 harg3 arg4 harg4 arg5 harg5 arg6 harg6 arg7 harg7 arg8 harg8 arg9 harg9 arg10 harg10 hc0 hc1 x0 x1 x2 x3 x4 x5 x6 xo (ix2 r k)
      = (xo (ix2 r k) : EReal) + partP x0 x1 x2 x3 r k := by
  unfold out0_B_7 kernelRun0_B
  dsimp only
  sl_unfold_words
  simp only [View.readAt_eq_ld, harg3.read_unread, harg4.read_unread, harg5.read_unread, harg6.read_unread, harg10.read_unread, View.ld_unit_zero (S := S1024x1024) hz2, View.ld_unit_zero (S := S1x1024x704) hz3, View.ld_unit_zero (S := S1x704x1024) hz3]
  rw [View.read_writes_cons_unit_of_mem _ _ _ _ _ _ (ix2 r k) rfl (by intro a; fin_cases a <;> simp)]
  exact pay3_at ..
end

/-! ## The array after the run -/

/-- The products of part `n` of the two gradients with its weights, at row `i` and column `k`. -/
def partT (g : S4x2048x704.Idx → EReal) (w : S4x704x1024.Idx → EReal) (u : S4x2048x704.Idx → EReal) (v : S4x704x1024.Idx → EReal) (n : Fin 4) (i : Fin 2048) (k : Fin 1024) : EReal :=
  (∑ l : Fin 704, g (ix3 n i l) * w (ix3 n l k)) + ∑ l : Fin 704, u (ix3 n i l) * v (ix3 n l k)
/-- The flat product and the scaled gradient. -/
def onceT (d : S2048x1024.Idx → EReal) (q : S1024x1024.Idx → EReal) (p : S2048x1024.Idx → EReal) (i : Fin 2048) (k : Fin 1024) : EReal :=
  (∑ l : Fin 1024, d (ix2 i l) * q (ix2 l k)) + al * p (ix2 i k)

variable (m : (ℓ : Loc nD τ sig) → Buf (Elt Ideal) ℓ) (c : Dev nD)

theorem idx : ∀ t : Fin cfg0.N, win0_0.index t = ![t.val % 4, t.val / 4, 0] ∧ win0_1.index t = ![t.val % 4, 0, 0] ∧ win0_2.index t = ![t.val % 4, t.val / 4, 0]
    ∧ win0_3.index t = ![t.val % 4, 0, 0] ∧ win0_4.index t = ![t.val / 4, 0] ∧ win0_5.index t = ![0, 0] ∧ win0_6.index t = ![t.val / 4, 0] ∧ win0_7.index t = ![t.val / 4, 0] :=
  (by decide +kernel : ∀ t : Fin grid0.N, _)

/-- The part and the block of rows of a point. -/
def nt (t : Fin cfg0.N) : Fin 4 := ⟨t.val % 4, by omega⟩
def rt (t : Fin cfg0.N) (r : Fin 1024) : Fin 2048 := ⟨1024 * (t.val / 4) + r.val, by have : t.val < 8 := lt_of_lt_of_eq t.isLt N_0; omega⟩

theorem blk0 (t : Fin cfg0.N) (r : Fin 1024) (l : Fin 704) : (iblk m c 0 t : S1x1024x704.Idx → EReal) (ix3 0 r l) = (V m c main_arg0 : S4x2048x704.Idx → EReal) (ix3 (nt t) (rt t r) l) := by
  blk_ext [iblk, idx t, rt, nt]
theorem blk1 (t : Fin cfg0.N) (l : Fin 704) (k : Fin 1024) : (iblk m c 1 t : S1x704x1024.Idx → EReal) (ix3 0 l k) = (V m c main_v2 : S4x704x1024.Idx → EReal) (ix3 (nt t) l k) := by
  blk_ext [iblk, idx t, rt, nt]
theorem blk2 (t : Fin cfg0.N) (r : Fin 1024) (l : Fin 704) : (iblk m c 2 t : S1x1024x704.Idx → EReal) (ix3 0 r l) = (V m c main_arg1 : S4x2048x704.Idx → EReal) (ix3 (nt t) (rt t r) l) := by
  blk_ext [iblk, idx t, rt, nt]
theorem blk3 (t : Fin cfg0.N) (l : Fin 704) (k : Fin 1024) : (iblk m c 3 t : S1x704x1024.Idx → EReal) (ix3 0 l k) = (V m c main_v5 : S4x704x1024.Idx → EReal) (ix3 (nt t) l k) := by
  blk_ext [iblk, idx t, rt, nt]
theorem blk4 (t : Fin cfg0.N) (r l : Fin 1024) : (iblk m c 4 t : S1024x1024.Idx → EReal) (ix2 r l) = (V m c main_v6 : S2048x1024.Idx → EReal) (ix2 (rt t r) l) := by
  blk_ext [iblk, idx t, rt, nt]
theorem blk5 (t : Fin cfg0.N) (l k : Fin 1024) : (iblk m c 5 t : S1024x1024.Idx → EReal) (ix2 l k) = (V m c main_v8 : S1024x1024.Idx → EReal) (ix2 l k) := by
  blk_ext [iblk, idx t, rt, nt]
theorem blk6 (t : Fin cfg0.N) (r k : Fin 1024) : (iblk m c 6 t : S1024x1024.Idx → EReal) (ix2 r k) = (V m c main_arg5 : S2048x1024.Idx → EReal) (ix2 (rt t r) k) := by
  blk_ext [iblk, idx t, rt, nt]

/-- A part's products, and what is added once, of the arrays the call reads. -/
abbrev partM : Fin 4 → Fin 2048 → Fin 1024 → EReal := partT (V m c main_arg0) (V m c main_v2) (V m c main_arg1) (V m c main_v5)
abbrev onceM : Fin 2048 → Fin 1024 → EReal := onceT (V m c main_v6) (V m c main_v8) (V m c main_arg5)

theorem part_at (t : Fin cfg0.N) (r k : Fin 1024) : partP (iblk m c 0 t) (iblk m c 1 t) (iblk m c 2 t) (iblk m c 3 t) r k = partM m c (nt t) (rt t r) k := by
  unfold partP partM partT
  simp only [blk0, blk1, blk2, blk3]
theorem once_at (t : Fin cfg0.N) (r k : Fin 1024) : onceP (iblk m c 4 t) (iblk m c 5 t) (iblk m c 6 t) r k = onceM m c (rt t r) k := by
  unfold onceP onceM onceT
  simp only [blk4, blk5, blk6]

/-- What a point adds to its block. -/
def addB (t : Fin cfg0.N) (j : S1024x1024.Idx) : EReal := partM m c (nt t) (rt t (j 0)) (j 1) + if t.val % 4 = 0 then onceM m c (rt t (j 0)) (j 1) else 0

theorem outs_first (t : Fin cfg0.N) (h : t.val % 4 = 0) (r k : Fin 1024) :
    (outsAt0 m c t.val t.isLt : S1024x1024.Idx → EReal) (ix2 r k) = addB m c t (ix2 r k) := by
  have h1 : ¬1 ≤ t.val % 4 := by omega
  have e : addB m c t (ix2 r k) = partM m c (nt t) (rt t r) k + onceM m c (rt t r) k := congrArg (partM m c (nt t) (rt t r) k + ·) (if_pos h)
  rw [outsAt0_A m c t h h1, e, ← part_at, ← once_at]
  exact outA (hc0 := (hcond0_0 t).mpr h) (hc1 := fun h' => h1 ((hcond0_1 t).mp h')) ..
theorem outs_next (t : Fin cfg0.N) (h : ¬t.val % 4 = 0) (r k : Fin 1024) :
    (outsAt0 m c t.val t.isLt : S1024x1024.Idx → EReal) (ix2 r k)
      = (outsAt0 m c (t.val - 1) (Nat.lt_of_le_of_lt (Nat.sub_le _ _) t.isLt) : S1024x1024.Idx → EReal) (ix2 r k) + addB m c t (ix2 r k) := by
  have h1 : 1 ≤ t.val % 4 := by omega
  have e : addB m c t (ix2 r k) = partM m c (nt t) (rt t r) k := (congrArg (partM m c (nt t) (rt t r) k + ·) (if_neg h)).trans (add_zero _)
  rw [outsAt0_B m c t h h1, e, ← part_at]
  exact outB (hc0 := fun h' => h ((hcond0_0 t).mp h')) (hc1 := (hcond0_1 t).mpr h1) ..

/-- What the four points of a block of rows add together. -/
theorem addB_sum (t : Fin cfg0.N) (h : ∀ s : Fin 4, 4 * (t.val / 4) + s.val < cfg0.N) (r k : Fin 1024) :
    ∑ s : Fin 4, addB m c ⟨4 * (t.val / 4) + s.val, h s⟩ (ix2 r k) = (∑ n : Fin 4, partM m c n (rt t r) k) + onceM m c (rt t r) k := by
  have e : ∀ s : Fin 4, addB m c ⟨4 * (t.val / 4) + s.val, h s⟩ (ix2 r k) = partM m c s (rt t r) k + if s = 0 then onceM m c (rt t r) k else 0 := fun s => by
    have hs := s.isLt
    have e1 : rt ⟨4 * (t.val / 4) + s.val, h s⟩ r = rt t r := Fin.ext (by show 1024 * ((4 * (t.val / 4) + s.val) / 4) + r.val = 1024 * (t.val / 4) + r.val; omega)
    have e2 : nt ⟨4 * (t.val / 4) + s.val, h s⟩ = s := Fin.ext (by show (4 * (t.val / 4) + s.val) % 4 = s.val; omega)
    have e3 : (4 * (t.val / 4) + s.val) % 4 = 0 ↔ s = 0 := ⟨fun h => Fin.ext (by show s.val = 0; omega), fun h => by subst h; show (4 * (t.val / 4) + 0) % 4 = 0; omega⟩
    show partM m c (nt ⟨4 * (t.val / 4) + s.val, h s⟩) (rt ⟨4 * (t.val / 4) + s.val, h s⟩ r) k + (if (4 * (t.val / 4) + s.val) % 4 = 0 then onceM m c (rt ⟨4 * (t.val / 4) + s.val, h s⟩ r) k else 0) = _
    rw [e1, e2, if_congr e3 rfl rfl]
  rw [Finset.sum_congr rfl fun s _ => e s, Finset.sum_add_distrib, Finset.sum_ite_eq' Finset.univ (0 : Fin 4), if_pos (Finset.mem_univ _)]

/-- The array the call returns. -/
def G7 : S2048x1024.Idx → EReal := fun y => (∑ n : Fin 4, partM m c n (y 0) (y 1)) + onceM m c (y 0) (y 1)

theorem G7_at (i : Fin 2048) (k : Fin 1024) : G7 m c (ix2 i k) = (∑ n : Fin 4, partM m c n i k) + onceM m c i k := rfl

theorem outs_last (t : Fin cfg0.N) (hf : t.val % 4 = 4 - 1) (r k : Fin 1024) :
    (outsAt0 m c t.val t.isLt : S1024x1024.Idx → EReal) (ix2 r k) = G7 m c (ix2 (rt t r) k) := by
  refine (Pipeline.eq_sum_fin_of_reset_step_apply_of_flush (N := cfg0.N) (fun n h => (outsAt0 m c n h : S1024x1024.Idx → EReal)) 4 (fun _ => 0) (addB m c)
    (fun t h j => ?_) (fun t h j => ?_) t hf (ix2 r k)).trans ?_
  · idx_vars j
    exact (outs_first m c t h j0 j1).trans (zero_add _).symm
  · idx_vars j
    exact outs_next m c t h j0 j1
  · rw [zero_add, G7_at, ← addB_sum m c t (Pipeline.run_point_lt_of_flush t hf)]

theorem final7 : (dats m 0 c).arrAt 7 cfg0.N = G7 m c := by
  refine (dats m 0 c).arrAt_eq_of_covers 7 _ (by decide +kernel) fun t hf y => ?_
  blk_simp
  rw [after0_7]
  idx_vars y
  refine (outs_last m c t ((flush0_7 t).mp hf) y0 y1).trans (congrArg (G7 m c) ?_)
  blk_ext [idx t, rt, nt]

/-! ## The arrays the call reads -/

abbrev A0 : S4x2048x704.Idx → EReal := m ((c.tc : Thread nD τ).loc main_arg0)
abbrev A1 : S4x2048x704.Idx → EReal := m ((c.tc : Thread nD τ).loc main_arg1)
abbrev A2 : S1024x2816.Idx → EReal := m ((c.tc : Thread nD τ).loc main_arg2)
abbrev A3 : S1024x2816.Idx → EReal := m ((c.tc : Thread nD τ).loc main_arg3)
abbrev A4 : S1024x1024.Idx → EReal := m ((c.tc : Thread nD τ).loc main_arg4)
abbrev A5 : S2048x1024.Idx → EReal := m ((c.tc : Thread nD τ).loc main_arg5)
abbrev A6 : S2048x1024.Idx → EReal := m ((c.tc : Thread nD τ).loc main_arg6)

/-- The column of entry `l` of part `n`. -/
abbrev jcol (n : Fin 4) (l : Fin 704) : Fin 2816 := ⟨n.val * 704 + l.val, by omega⟩
/-- The four parts of a matrix's columns. -/
def cutC (a : S1024x2816.Idx → EReal) : S4x704x1024.Idx → EReal := fun y => a (ix2 (y 2) (jcol (y 0) (y 1)))
/-- The joint gradient, of the arguments. -/
def jointT (a0 a1 : S4x2048x704.Idx → EReal) (a2 a3 : S1024x2816.Idx → EReal) (a4 : S1024x1024.Idx → EReal) (a5 a6 : S2048x1024.Idx → EReal) : S2048x1024.Idx → EReal := fun y =>
  (∑ n : Fin 4, partT a0 (cutC a2) a1 (cutC a3) n (y 0) (y 1)) + onceT a6 (fun z => a4 (ix2 (z 1) (z 0))) a5 (y 0) (y 1)

theorem cutC_eq (a : FVec Ideal S1024x2816 .f32) :
    shapeCast S4x704x1024 (truncf .bf16 (transpose S2816x1024 [1, 0] a transposes_S1024x2816_S2816x1024_1_0) bitsLt_bf16_f32) shapeCasts_S2816x1024_S4x704x1024 = cutC a := by
  funext y
  idx_vars y
  unfold cutC
  pointwise
theorem flip_eq (a : FVec Ideal S1024x1024 .f32) :
    transpose S1024x1024 [1, 0] (truncf .bf16 a bitsLt_bf16_f32) transposes_S1024x1024_S1024x1024_1_0 = (fun z => a (ix2 (z 1) (z 0)) : S1024x1024.Idx → EReal) := by
  funext y
  idx_vars y
  pointwise

theorem V2 : V m c main_v2 = cutC (A2 m c) := by
  rw [← cutC_eq]
  entry_read; rfl
theorem V5 : V m c main_v5 = cutC (A3 m c) := by
  rw [← cutC_eq]
  entry_read; rfl
theorem V6 : V m c main_v6 = A6 m c := by
  entry_read; rfl
theorem V8 : V m c main_v8 = fun z => A4 m c (ix2 (z 1) (z 0)) := by
  refine Eq.trans ?_ (flip_eq (A4 m c))
  entry_read; rfl

theorem G7_eq : G7 m c = jointT (A0 m c) (A1 m c) (A2 m c) (A3 m c) (A4 m c) (A5 m c) (A6 m c) := by
  unfold G7 partM onceM jointT
  rw [V2, V5, V6, V8, V_main_arg0, V_main_arg1, V_main_arg5]
  rfl

end Cert.JointIdeal.Att

namespace Cert.JointReferenceIdeal.Att

open Cert.JointReferenceIdeal Cert.JointReferenceIdeal.Gen
open Cert.JointIdeal.Att (al partT onceT jcol cutC jointT)

/-! ## The reference's term -/

/-- A gradient's four parts side by side. -/
def wholeS (a : FVec Ideal S4x2048x704 .bf16) : FVec Ideal S2048x2816 .f32 :=
  shapeCast S2048x2816 (transpose S2048x4x704 [1, 0, 2] (extf .f32 a bitsLt_bf16_f32) transposes_S4x2048x704_S2048x4x704_1_0_2) shapeCasts_S2048x4x704_S2048x2816
/-- A gradient carried back through its weights. -/
def backS (x : FVec Ideal S2048x2816 .f32) (w : FVec Ideal S1024x2816 .f32) : FVec Ideal S2048x1024 .f32 :=
  Host.dotGeneral dot_S2048x2816_S1024x2816_S2048x1024_1_1_0_0_n_n none x w
/-- The joint gradient. -/
def jointS (a0 a1 : FVec Ideal S4x2048x704 .bf16) (a2 a3 : FVec Ideal S1024x2816 .f32) (a4 : FVec Ideal S1024x1024 .f32) (a5 a6 : FVec Ideal S2048x1024 .f32) : FVec Ideal S2048x1024 .f32 :=
  addf (addf (addf (Host.dotGeneral dot_S2048x1024_S1024x1024_S2048x1024_1_1_0_0_n_n none a6 a4) (backS (wholeS a1) a3)) (backS (wholeS a0) a2))
    (mulf (broadcastInDim S2048x1024 ![] bcast_S_S2048x1024 (constant S_ .f32 0x3F9837F0#32)) a5)

theorem wholeS_at (a : FVec Ideal S4x2048x704 .bf16) (n : Fin 4) (i : Fin 2048) (l : Fin 704) : wholeS a (ix2 i (jcol n l)) = (a (ix3 n i l) : EReal) := by
  pointwise [wholeS]
  exact congrArg₂ (fun n l => a (ix3 n i l)) (Fin.ext (by show (n.val * 704 + l.val) / 704 = n.val; omega)) (Fin.ext (by show (n.val * 704 + l.val) % 704 = l.val; omega))
theorem backS_at (a : FVec Ideal S4x2048x704 .bf16) (w : FVec Ideal S1024x2816 .f32) (i : Fin 2048) (k : Fin 1024) :
    backS (wholeS a) w (ix2 i k) = ∑ n : Fin 4, ∑ l : Fin 704, (a (ix3 n i l) : EReal) * cutC w (ix3 n l k) := by
  refine Eq.trans (b := ∑ j : Fin 2816, (wholeS a (ix2 i j) : EReal) * w (ix2 k j)) (by pointwise [backS]) ?_
  rw [Fin.sum_univ_tiles 4 704 rfl]
  exact Finset.sum_congr rfl fun n _ => Finset.sum_congr rfl fun l _ => congrArg (· * (w (ix2 k (jcol n l)) : EReal)) (wholeS_at a n i l)

theorem jointS_eq (a0 a1 : FVec Ideal S4x2048x704 .bf16) (a2 a3 : FVec Ideal S1024x2816 .f32) (a4 : FVec Ideal S1024x1024 .f32) (a5 a6 : FVec Ideal S2048x1024 .f32) :
    jointS a0 a1 a2 a3 a4 a5 a6 = jointT a0 a1 a2 a3 a4 a5 a6 := by
  funext y
  idx_vars y
  unfold jointT partT onceT
  refine Eq.trans (b := (((∑ l : Fin 1024, (a6 (ix2 y0 l) : EReal) * a4 (ix2 y1 l)) + backS (wholeS a1) a3 (ix2 y0 y1)) + backS (wholeS a0) a2 (ix2 y0 y1)) + al * a5 (ix2 y0 y1)) (by pointwise [jointS]) ?_
  rw [backS_at, backS_at, Finset.sum_add_distrib, add_comm (∑ l : Fin 1024, _), add_assoc _ (∑ l : Fin 1024, _), add_comm (∑ l : Fin 1024, _), ← add_assoc, add_assoc, add_comm (∑ n : Fin 4, ∑ l : Fin 704, (a1 _ : EReal) * _)]
  rfl

end Cert.JointReferenceIdeal.Att

end
-- ==== Proof.JointClaims.lean ====
module

public import proofs.«01_k».proof.Defs
public import proofs.«01_k».proof.Proof.Gen.Joint.Frame
public import proofs.«01_k».proof.Proof.JointVal
public import Idealize.ShloMosaic.Lib.Quiescent

@[expose] public section

set_option maxRecDepth 16384

noncomputable section

open Idealize.ShloMosaic Idealize.ShloMosaic.TcCoe Idealize.SL.Sem

namespace Cert.JointClaims

theorem frame_p : Cert.quiescent_Joint := fun m ρ _ => Cert.Joint.Gen.frame m ρ
theorem frame_pi : Cert.quiescent_JointIdeal := fun m ρ _ => Cert.JointIdeal.Gen.frame m ρ
theorem frame_ri : Cert.quiescent_JointReferenceIdeal := fun m ρ _ =>
  (θ_run Cert.JointReferenceIdeal.defs _ _).mono (fun r h => ⟨fun c => (h c).2, sem_eq_zero_of_no_sems (by decide) r.2⟩)
    (Cert.JointReferenceIdeal.Value.run (F := Ideal) m ρ)

/-- No operation is replaced. -/
theorem preserves : Cert.preserves_Joint_JointIdeal := trivial

section
open Cert.JointReferenceIdeal

variable (m : (ℓ : Loc nD τ sig) → Buf (Elt Ideal) ℓ) (c : Dev nD)

abbrev B0 : FVec Ideal S4x2048x704 .bf16 := m ((c.tc : Thread nD τ).loc main_arg0)
abbrev B1 : FVec Ideal S4x2048x704 .bf16 := m ((c.tc : Thread nD τ).loc main_arg1)
abbrev B2 : FVec Ideal S1024x2816 .f32 := m ((c.tc : Thread nD τ).loc main_arg2)
abbrev B3 : FVec Ideal S1024x2816 .f32 := m ((c.tc : Thread nD τ).loc main_arg3)
abbrev B4 : FVec Ideal S1024x1024 .f32 := m ((c.tc : Thread nD τ).loc main_arg4)
abbrev B5 : FVec Ideal S2048x1024 .f32 := m ((c.tc : Thread nD τ).loc main_arg5)
abbrev B6 : FVec Ideal S2048x1024 .f32 := m ((c.tc : Thread nD τ).loc main_arg6)
end

/-- The kernel's array is the derivative of the three products and the scaled copy with respect to what they share. -/
theorem algebraic : Cert.algebraic_JointIdeal_JointReferenceIdeal := by
  intro m ρ m' ρ' _ hagree
  have key : ∀ c : Dev Cert.JointIdeal.nD,
      Cert.JointReferenceIdeal.Att.jointS (B0 m' c) (B1 m' c) (B2 m' c) (B3 m' c) (B4 m' c) (B5 m' c) (B6 m' c) = (Cert.JointIdeal.Gen.dats m 0 c).arrAt 7 Cert.JointIdeal.cfg0.N := fun c => by
    obtain ⟨g0, g1, g2, g3, g4, g5, g6⟩ := hagree c
    have e0 : B0 m' c = Cert.JointIdeal.Att.A0 m c := g0
    have e1 : B1 m' c = Cert.JointIdeal.Att.A1 m c := g1
    have e2 : B2 m' c = Cert.JointIdeal.Att.A2 m c := g2
    have e3 : B3 m' c = Cert.JointIdeal.Att.A3 m c := g3
    have e4 : B4 m' c = Cert.JointIdeal.Att.A4 m c := g4
    have e5 : B5 m' c = Cert.JointIdeal.Att.A5 m c := g5
    have e6 : B6 m' c = Cert.JointIdeal.Att.A6 m c := g6
    rw [e0, e1, e2, e3, e4, e5, e6, Cert.JointIdeal.Att.final7, Cert.JointIdeal.Att.G7_eq]
    exact Cert.JointReferenceIdeal.Att.jointS_eq _ _ _ _ _ _ _
  refine ⟨_, Cert.JointIdeal.Value.run_blocks m ρ, ?_⟩
  exact (θ_run Cert.JointReferenceIdeal.defs _ _).mono (fun _ h c => ⟨(h c).1.trans (key c), (h c).2⟩)
    (Cert.JointReferenceIdeal.Value.run (F := Ideal) m' ρ')

end Cert.JointClaims

end
-- ==== Proof.ConvVal.lean ====
module

public import proofs.«01_k».proof.Proof.Gen.ConvIdeal.Value
public import proofs.«01_k».proof.Proof.FeedVal
public import Idealize.ShloMosaic.Lib.Pipeline.ValueKit
public import Idealize.ShloMosaic.Lib.Pointwise
public import Idealize.ShloMosaic.Lib.Tactic
public import Idealize.ShloMosaic.PureOps.Ideal

@[expose] public section

set_option maxRecDepth 16384

noncomputable section

open Idealize.ShloMosaic Idealize.ShloMosaic.TcCoe Idealize.SL.Sem
open Idealize.ShloMosaic.Pipeline (Dat)

namespace Cert.ConvIdeal.Att

open Cert.ConvIdeal Cert.ConvIdeal.Gen
open Cert.FeedIdeal.Att (sg)

/-! ## One channel: its entries over the positions -/

/-- The entry `k` positions earlier, and zero before the first. -/
def back (k : ℕ) (x : Fin 2048 → EReal) (s : Fin 2048) : EReal := if h : k ≤ s.val then x ⟨s.val - k, by omega⟩ else 0
/-- The entry `k` positions later, and zero after the last. -/
def ahead (k : ℕ) (x : Fin 2048 → EReal) (s : Fin 2048) : EReal := if h : s.val + k < 2048 then x ⟨s.val + k, h⟩ else 0
/-- The convolution with its bias. -/
def accC (w : Fin 4 → EReal) (b : EReal) (x : Fin 2048 → EReal) (s : Fin 2048) : EReal :=
  b + w 0 * back 3 x s + w 1 * back 2 x s + w 2 * back 1 x s + w 3 * x s
/-- The convolution's gradient from that of its silu. -/
def daccC (w : Fin 4 → EReal) (b : EReal) (x d : Fin 2048 → EReal) (s : Fin 2048) : EReal :=
  d s * (sg (accC w b x s) * (1 + accC w b x s * (1 - sg (accC w b x s))))
/-- The input's gradient from the convolution's. -/
def duC (w : Fin 4 → EReal) (e : Fin 2048 → EReal) (s : Fin 2048) : EReal :=
  w 3 * e s + w 0 * ahead 3 e s + w 1 * ahead 2 e s + w 2 * ahead 1 e s

theorem hz2 : (![0, 0] : Fin 2 → Nat) = fun _ => 0 := funext fun a => by fin_cases a <;> rfl

theorem N_0 : cfg0.N = 6 := by decide +kernel

/-- A column of an array with 2048 rows. -/
abbrev colB (x : S2048x256.Idx → EReal) (j : Fin 256) : Fin 2048 → EReal := fun s => x (ix2 s j)
/-- A channel's four taps. -/
abbrev tapB (x : S4x256.Idx → EReal) (j : Fin 256) : Fin 4 → EReal := fun k => x (ix2 k j)
abbrev colA (x : S2048x1536.Idx → EReal) (j : Fin 1536) : Fin 2048 → EReal := fun s => x (ix2 s j)
abbrev tapA (x : S4x1536.Idx → EReal) (j : Fin 1536) : Fin 4 → EReal := fun k => x (ix2 k j)

/-- A rotation by `k` rows masked to the rows from `k` on reads `k` rows earlier. -/
theorem back_eq (k : ℕ) (hk : k ≤ 3) (x : Fin 2048 → EReal) (s : Fin 2048) (q : Fin 2048) (hq : q.val = (s.val + 2048 - k) % 2048) :
    Scalar.select (IntOp.cmpi CmpIPredicate.sge (BitVec.ofNat 32 s.val) (BitVec.ofNat 32 k)) (x q) 0 = back k x s := by
  have hs := s.isLt
  rw [WordCmp.cmpi_sge_ofNat (by omega) (by omega), WordCmp.select_decide]
  unfold back
  by_cases h : k ≤ s.val
  · rw [if_pos h, dif_pos h]
    exact congrArg x (Fin.ext (by show q.val = s.val - k; omega))
  · rw [if_neg h, dif_neg h]
/-- A rotation by `2048 - k` rows masked to the rows before that reads `k` rows later. -/
theorem ahead_eq (k n : ℕ) (hk : k ≤ 3) (hn : n = 2048 - k) (hk1 : 1 ≤ k) (x : Fin 2048 → EReal) (s : Fin 2048) (q : Fin 2048) (hq : q.val = (s.val + 2048 - n) % 2048) :
    Scalar.select (IntOp.cmpi CmpIPredicate.slt (BitVec.ofNat 32 s.val) (BitVec.ofNat 32 n)) (x q) 0 = ahead k x s := by
  have hs := s.isLt
  rw [WordCmp.cmpi_slt_ofNat (by omega) (by omega), WordCmp.select_decide]
  unfold ahead
  by_cases h : s.val + k < 2048
  · rw [if_pos (by omega), dif_pos h]
    exact congrArg x (Fin.ext (by show q.val = s.val + k; omega))
  · rw [if_neg (by omega), dif_neg h]

theorem pay7_at (v : Vec Ideal S2048x256 .f32) (s : Fin 2048) (j : Fin 256) : k0_pay7 v (ix2 s j) = back 3 (colB v j) s := by
  pointwise [k0_pay7]
  exact back_eq 3 (by omega) (colB v j) s _ rfl
theorem pay8_at (v : Vec Ideal S2048x256 .f32) (s : Fin 2048) (j : Fin 256) : k0_pay8 v (ix2 s j) = back 2 (colB v j) s := by
  pointwise [k0_pay8]
  exact back_eq 2 (by omega) (colB v j) s _ rfl
theorem pay9_at (v : Vec Ideal S2048x256 .f32) (s : Fin 2048) (j : Fin 256) : k0_pay9 v (ix2 s j) = back 1 (colB v j) s := by
  pointwise [k0_pay9]
  exact back_eq 1 (by omega) (colB v j) s _ rfl

section
variable (x0 x3 : Vec Ideal S2048x256 .f32) (x1 : Vec Ideal S4x256 .f32) (x2 : Vec Ideal S1x256 .f32)

theorem ld2_at (j : Fin 256) : (View.ld x1 r0_2 : S1x256.Idx → EReal) (ix2 0 j) = tapB x1 j 0 :=
  congrArg x1 (funext fun a => Fin.ext (by fin_cases a <;> simp [Rect.unit]))
theorem ld3_at (j : Fin 256) : (View.ld x1 r0_3 : S1x256.Idx → EReal) (ix2 0 j) = tapB x1 j 1 :=
  congrArg x1 (funext fun a => Fin.ext (by fin_cases a <;> simp [Rect.unit]))
theorem ld4_at (j : Fin 256) : (View.ld x1 r0_4 : S1x256.Idx → EReal) (ix2 0 j) = tapB x1 j 2 :=
  congrArg x1 (funext fun a => Fin.ext (by fin_cases a <;> simp [Rect.unit]))
theorem ld5_at (j : Fin 256) : (View.ld x1 r0_5 : S1x256.Idx → EReal) (ix2 0 j) = tapB x1 j 3 :=
  congrArg x1 (funext fun a => Fin.ext (by fin_cases a <;> simp [Rect.unit]))

/-- The convolution at an entry. -/
theorem acc_at (s : Fin 2048) (j : Fin 256) : k0_pay17 x0 x1 x2 x3 (ix2 s j) = accC (tapB x1 j) (x2 (ix2 0 j)) (colB x0 j) s := by
  unfold k0_pay17 accC
  rw [View.ld_unit_zero (S := S2048x256) hz2, View.ld_unit_zero (S := S1x256) hz2]
  rw [← ld2_at, ← ld3_at, ← ld4_at, ← ld5_at, ← pay7_at, ← pay8_at, ← pay9_at]
  pointwise [k0_pay10]
/-- Its gradient at an entry. -/
theorem dacc_at (s : Fin 2048) (j : Fin 256) : k0_pay19 x0 x1 x2 x3 (ix2 s j) = daccC (tapB x1 j) (x2 (ix2 0 j)) (colB x0 j) (colB x3 j) s := by
  unfold daccC sg
  rw [← acc_at x0 x3]
  unfold k0_pay19 k0_pay18
  rw [View.ld_unit_zero (S := S2048x256) hz2 (X := x3)]
  have e : k0_pay11 (View.ld x0 r0_0) (View.ld x2 r0_1) (View.ld x1 r0_2) (View.ld x1 r0_3) (View.ld x1 r0_4) (View.ld x1 r0_5) (ix2 s j) = (0 : EReal) - k0_pay17 x0 x1 x2 x3 (ix2 s j) := by
    unfold k0_pay17; pointwise [k0_pay11]
  rw [← e]
  pointwise [k0_pay12]
theorem dacc_col (j : Fin 256) : colB (k0_pay19 x0 x1 x2 x3) j = daccC (tapB x1 j) (x2 (ix2 0 j)) (colB x0 j) (colB x3 j) := funext fun s => dacc_at ..

abbrev rot (s : Fin 2048) (n : ℕ) : Fin 2048 := ⟨(s.val + 2048 - n) % 2048, Nat.mod_lt _ (by omega)⟩

theorem out4_at (s : Fin 2048) (j : Fin 256) :
    (out0_4 x0 x1 x2 x3 : S2048x256.Idx → EReal) (ix2 s j) = duC (tapB x1 j) (daccC (tapB x1 j) (x2 (ix2 0 j)) (colB x0 j) (colB x3 j)) s := by
  unfold out0_4 duC
  rw [View.canon_unit_zero hz2, ← dacc_col, ← ahead_eq 3 2045 (by omega) rfl (by omega) (colB (k0_pay19 x0 x1 x2 x3) j) s (rot s 2045) rfl, ← ahead_eq 2 2046 (by omega) rfl (by omega) (colB (k0_pay19 x0 x1 x2 x3) j) s (rot s 2046) rfl,
    ← ahead_eq 1 2047 (by omega) rfl (by omega) (colB (k0_pay19 x0 x1 x2 x3) j) s (rot s 2047) rfl, ← ld2_at, ← ld3_at, ← ld4_at, ← ld5_at]
  unfold k0_pay15 k0_pay14 k0_pay16
  pointwise [k0_pay1, k0_pay13]
  rfl
theorem tap2_at (v d : Vec Ideal S2048x256 .f32) (j : Fin 256) : (k0_pay2 (F := Ideal) v d (ix2 0 j) : EReal) = ∑ s : Fin 2048, (d (ix2 s j) : EReal) * v (ix2 s j) := by
  pointwise [k0_pay2]
theorem sum6_at (d : Vec Ideal S2048x256 .f32) (j : Fin 256) : (k0_pay6 (F := Ideal) d (ix2 0 j) : EReal) = ∑ s : Fin 2048, (d (ix2 s j) : EReal) := by
  pointwise [k0_pay6]

theorem out6_at (j : Fin 256) :
    (out0_6 x0 x1 x2 x3 : S1x256.Idx → EReal) (ix2 0 j) = ∑ s : Fin 2048, daccC (tapB x1 j) (x2 (ix2 0 j)) (colB x0 j) (colB x3 j) s := by
  unfold out0_6
  rw [View.canon_unit_zero hz2, sum6_at]
  exact Finset.sum_congr rfl fun s _ => dacc_at ..

/-- A tap's gradient: the convolution's gradient against the input as the tap sees it. -/
def dwC (e x : Fin 2048 → EReal) (k : Fin 4) : EReal := ∑ s : Fin 2048, e s * back (3 - k.val) x s

theorem back_zero (x : Fin 2048 → EReal) (s : Fin 2048) : back 0 x s = x s := dif_pos (Nat.zero_le _)

/-- The four taps' gradients of a block. -/
abbrev rowsB : S4x256.Idx → EReal := fun y => dwC (daccC (tapB x1 (y 1)) (x2 (ix2 0 (y 1))) (colB x0 (y 1)) (colB x3 (y 1))) (colB x0 (y 1)) (y 0)

theorem row_at (k : Fin 4) (v : Vec Ideal S2048x256 .f32) (j : Fin 256) (y : S4x256.Idx) (hy : y = ix2 k j)
    (hv : ∀ s : Fin 2048, (v (ix2 s j) : EReal) = back (3 - k.val) (colB x0 j) s) :
    (k0_pay2 (F := Ideal) v (k0_pay19 x0 x1 x2 x3) (ix2 0 j) : EReal) = rowsB x0 x3 x1 x2 y := by
  subst hy
  rw [tap2_at]
  exact Finset.sum_congr rfl fun s _ => by rw [hv]; exact congrArg (· * _) (dacc_at ..)

theorem emb_at (o : Fin 4) (h : ∀ a, (![o.val, 0] : Fin 2 → Nat) a + S1x256.size a ≤ S4x256.size a) (j : Fin 256) :
    (Rect.unit (s := S4x256) ![o.val, 0] S1x256.size h).emb (ix2 0 j) = ix2 o j :=
  funext fun a => Fin.ext (by
    fin_cases a
    · show o.val + 1 * 0 = o.val
      omega
    · show 0 + 1 * j.val = j.val
      omega)

theorem out5_at (y : S4x256.Idx) : (out0_5 x0 x1 x2 x3 : S4x256.Idx → EReal) y = rowsB x0 x3 x1 x2 y := by
  unfold out0_5
  rw [View.ld_unit_zero (S := S2048x256) hz2]
  refine View.canon_apply_of_pieces (Val := Elt Ideal) (rowsB x0 x3 x1 x2) _ ?_ y (cover0_5 (F := Ideal) _ _ _ _ y)
  have key : ∀ z : S1x256.Idx, ∃ j : Fin 256, z = ix2 0 j := fun z => by
    idx_vars z
    obtain rfl : z0 = 0 := Subsingleton.elim _ _
    exact ⟨z1, rfl⟩
  intro pc hpc
  rcases List.mem_cons.mp hpc with rfl | hpc
  · intro z
    obtain ⟨j, rfl⟩ := key z
    exact row_at x0 x3 x1 x2 3 x0 j _ (emb_at 3 inb_S4x256_S1x256_3_0 j) (fun s => (back_zero (colB x0 j) s).symm)
  rcases List.mem_cons.mp hpc with rfl | hpc
  · intro z
    obtain ⟨j, rfl⟩ := key z
    exact row_at x0 x3 x1 x2 2 _ j _ (emb_at 2 inb_S4x256_S1x256_2_0 j) (fun s => pay9_at x0 s j)
  rcases List.mem_cons.mp hpc with rfl | hpc
  · intro z
    obtain ⟨j, rfl⟩ := key z
    exact row_at x0 x3 x1 x2 1 _ j _ (emb_at 1 inb_S4x256_S1x256_1_0 j) (fun s => pay8_at x0 s j)
  rcases List.mem_cons.mp hpc with rfl | hpc
  · intro z
    obtain ⟨j, rfl⟩ := key z
    exact row_at x0 x3 x1 x2 0 _ j _ (emb_at 0 inb_S4x256_S1x256_0_0 j) (fun s => pay7_at x0 s j)
  nomatch hpc
end

section
variable (m : (ℓ : Loc nD τ sig) → Buf (Elt Ideal) ℓ) (c : Dev nD)

theorem idx : ∀ t : Fin cfg0.N, win0_0.index t = ![0, t.val] ∧ win0_1.index t = ![0, t.val] ∧ win0_2.index t = ![0, t.val] ∧ win0_3.index t = ![0, t.val]
    ∧ win0_4.index t = ![0, t.val] ∧ win0_5.index t = ![0, t.val] ∧ win0_6.index t = ![0, t.val] :=
  (by decide +kernel : ∀ t : Fin grid0.N, _)

/-- The channel that is a point's `j`-th. -/
def ct (t : Fin cfg0.N) (j : Fin 256) : Fin 1536 := ⟨256 * t.val + j.val, by have := t.isLt; have := N_0; omega⟩

theorem blk0 (t : Fin cfg0.N) (s : Fin 2048) (j : Fin 256) : (iblk m c 0 t : S2048x256.Idx → EReal) (ix2 s j) = (V m c main_arg0 : S2048x1536.Idx → EReal) (ix2 s (ct t j)) := by
  blk_ext [iblk, idx t, ct]
theorem blk1 (t : Fin cfg0.N) (k : Fin 4) (j : Fin 256) : (iblk m c 1 t : S4x256.Idx → EReal) (ix2 k j) = (V m c main_arg1 : S4x1536.Idx → EReal) (ix2 k (ct t j)) := by
  blk_ext [iblk, idx t, ct]
theorem blk2 (t : Fin cfg0.N) (k : Fin 1) (j : Fin 256) : (iblk m c 2 t : S1x256.Idx → EReal) (ix2 k j) = (V m c main_arg2 : S1x1536.Idx → EReal) (ix2 k (ct t j)) := by
  blk_ext [iblk, idx t, ct]
theorem blk3 (t : Fin cfg0.N) (s : Fin 2048) (j : Fin 256) : (iblk m c 3 t : S2048x256.Idx → EReal) (ix2 s j) = (V m c main_arg3 : S2048x1536.Idx → EReal) (ix2 s (ct t j)) := by
  blk_ext [iblk, idx t, ct]

/-- The four arguments. -/
abbrev A0 : S2048x1536.Idx → EReal := m ((c.tc : Thread nD τ).loc main_arg0)
abbrev A1 : S4x1536.Idx → EReal := m ((c.tc : Thread nD τ).loc main_arg1)
abbrev A2 : S1x1536.Idx → EReal := m ((c.tc : Thread nD τ).loc main_arg2)
abbrev A3 : S2048x1536.Idx → EReal := m ((c.tc : Thread nD τ).loc main_arg3)

/-- The convolution's gradient in a channel. -/
abbrev eA (u : S2048x1536.Idx → EReal) (w : S4x1536.Idx → EReal) (b : S1x1536.Idx → EReal) (d : S2048x1536.Idx → EReal) (j : Fin 1536) : Fin 2048 → EReal :=
  daccC (tapA w j) (b (ix2 0 j)) (colA u j) (colA d j)
/-- The kernel's three arrays. -/
abbrev duA (u : S2048x1536.Idx → EReal) (w : S4x1536.Idx → EReal) (b : S1x1536.Idx → EReal) (d : S2048x1536.Idx → EReal) : S2048x1536.Idx → EReal :=
  fun y => duC (tapA w (y 1)) (eA u w b d (y 1)) (y 0)
abbrev dwA (u : S2048x1536.Idx → EReal) (w : S4x1536.Idx → EReal) (b : S1x1536.Idx → EReal) (d : S2048x1536.Idx → EReal) : S4x1536.Idx → EReal :=
  fun y => dwC (eA u w b d (y 1)) (colA u (y 1)) (y 0)
abbrev dbA (u : S2048x1536.Idx → EReal) (w : S4x1536.Idx → EReal) (b : S1x1536.Idx → EReal) (d : S2048x1536.Idx → EReal) : S1x1536.Idx → EReal :=
  fun y => ∑ s : Fin 2048, eA u w b d (y 1) s

theorem col0 (t : Fin cfg0.N) (j : Fin 256) : colB (iblk m c 0 t) j = colA (A0 m c) (ct t j) := funext fun s => blk0 m c t s j
theorem col3 (t : Fin cfg0.N) (j : Fin 256) : colB (iblk m c 3 t) j = colA (A3 m c) (ct t j) := funext fun s => blk3 m c t s j
theorem tap1 (t : Fin cfg0.N) (j : Fin 256) : tapB (iblk m c 1 t) j = tapA (A1 m c) (ct t j) := funext fun s => blk1 m c t s j
theorem e_blk (t : Fin cfg0.N) (j : Fin 256) :
    daccC (tapB (iblk m c 1 t) j) ((iblk m c 2 t : S1x256.Idx → EReal) (ix2 0 j)) (colB (iblk m c 0 t) j) (colB (iblk m c 3 t) j)
      = eA (A0 m c) (A1 m c) (A2 m c) (A3 m c) (ct t j) := by
  rw [col0, col3, tap1, blk2]
theorem du_blk (t : Fin cfg0.N) (s : Fin 2048) (j : Fin 256) :
    (out0_4 (iblk m c 0 t) (iblk m c 1 t) (iblk m c 2 t) (iblk m c 3 t) : S2048x256.Idx → EReal) (ix2 s j) = duA (A0 m c) (A1 m c) (A2 m c) (A3 m c) (ix2 s (ct t j)) := by
  rw [out4_at, e_blk, tap1]
  rfl
theorem dw_blk (t : Fin cfg0.N) (k : Fin 4) (j : Fin 256) :
    (out0_5 (iblk m c 0 t) (iblk m c 1 t) (iblk m c 2 t) (iblk m c 3 t) : S4x256.Idx → EReal) (ix2 k j) = dwA (A0 m c) (A1 m c) (A2 m c) (A3 m c) (ix2 k (ct t j)) := by
  rw [out5_at]
  exact congrArg₂ (fun e x => dwC e x k) (e_blk m c t j) (col0 m c t j)
theorem db_blk (t : Fin cfg0.N) (j : Fin 256) :
    (out0_6 (iblk m c 0 t) (iblk m c 1 t) (iblk m c 2 t) (iblk m c 3 t) : S1x256.Idx → EReal) (ix2 0 j) = dbA (A0 m c) (A1 m c) (A2 m c) (A3 m c) (ix2 0 (ct t j)) := by
  rw [out6_at, e_blk]
  rfl

theorem final4 : (dats m 0 c).arrAt 4 cfg0.N = duA (A0 m c) (A1 m c) (A2 m c) (A3 m c) := by
  refine (dats m 0 c).arrAt_eq_of_covers 4 _ (by decide +kernel) fun t _ y => ?_
  blk_simp
  rw [after0_4]
  idx_vars y
  refine (du_blk m c t y0 y1).trans (congrArg (duA (A0 m c) (A1 m c) (A2 m c) (A3 m c)) (?_ : ix2 y0 (ct t y1) = _))
  blk_ext [idx t, ct]
theorem final5 : (dats m 0 c).arrAt 5 cfg0.N = dwA (A0 m c) (A1 m c) (A2 m c) (A3 m c) := by
  refine (dats m 0 c).arrAt_eq_of_covers 5 _ (by decide +kernel) fun t _ y => ?_
  blk_simp
  rw [after0_5]
  idx_vars y
  refine (dw_blk m c t y0 y1).trans (congrArg (dwA (A0 m c) (A1 m c) (A2 m c) (A3 m c)) (?_ : ix2 y0 (ct t y1) = _))
  blk_ext [idx t, ct]
theorem final6 : (dats m 0 c).arrAt 6 cfg0.N = dbA (A0 m c) (A1 m c) (A2 m c) (A3 m c) := by
  refine (dats m 0 c).arrAt_eq_of_covers 6 _ (by decide +kernel) fun t _ y => ?_
  blk_simp
  rw [after0_6]
  idx_vars y
  obtain rfl : y0 = 0 := Subsingleton.elim _ _
  refine (db_blk m c t y1).trans (congrArg (dbA (A0 m c) (A1 m c) (A2 m c) (A3 m c)) (?_ : ix2 0 (ct t y1) = _))
  blk_ext [idx t, ct]
end

end Cert.ConvIdeal.Att

end
-- ==== Proof.ConvRef.lean ====
module

public import proofs.«01_k».proof.Proof.ConvVal
public import proofs.«01_k».proof.Proof.FeedRef
public import proofs.«01_k».proof.Proof.Gen.ConvReferenceIdeal.Run

@[expose] public section

set_option maxRecDepth 16384

noncomputable section

open Idealize.ShloMosaic Idealize.ShloMosaic.TcCoe Idealize.SL.Sem

namespace Cert.ConvReferenceIdeal.Att

open Cert.ConvReferenceIdeal Cert.ConvReferenceIdeal.Gen
open Cert.FeedIdeal.Att (sg AllReal sil_any)
open Cert.ConvIdeal.Att (back ahead accC daccC duC dwC colA tapA eA duA dwA dbA)

/-! ## The reference's arrays, stage by stage -/

abbrev Big := FVec Ideal S2048x1536 .f32

def zeroS : FVec Ideal S_ .f32 := constant S_ .f32 0x00000000#32
def oneS : Big := broadcastInDim S2048x1536 ![] bcast_S_S2048x1536 (constant S_ .f32 0x3F800000#32)
def nilS : Big := broadcastInDim S2048x1536 ![] bcast_S_S2048x1536 zeroS
/-- A tap on every row. -/
def w0S (w : FVec Ideal S4x1536 .f32) : Big := broadcastInDim S2048x1536 ![0, 1] bcast_S1x1536_S2048x1536_0_1 (extractStridedSlice S1x1536 ![0, 0] w slices_S4x1536_S1x1536_0_0)
def w1S (w : FVec Ideal S4x1536 .f32) : Big := broadcastInDim S2048x1536 ![0, 1] bcast_S1x1536_S2048x1536_0_1 (extractStridedSlice S1x1536 ![1, 0] w slices_S4x1536_S1x1536_1_0)
def w2S (w : FVec Ideal S4x1536 .f32) : Big := broadcastInDim S2048x1536 ![0, 1] bcast_S1x1536_S2048x1536_0_1 (extractStridedSlice S1x1536 ![2, 0] w slices_S4x1536_S1x1536_2_0)
def w3S (w : FVec Ideal S4x1536 .f32) : Big := broadcastInDim S2048x1536 ![0, 1] bcast_S1x1536_S2048x1536_0_1 (extractStridedSlice S1x1536 ![3, 0] w slices_S4x1536_S1x1536_3_0)
/-- The input under three rows of zeros. -/
def padS (u : Big) : FVec Ideal S2051x1536 .f32 :=
  concatenate S2051x1536 0 [⟨S3x1536, broadcastInDim S3x1536 ![] bcast_S_S3x1536 zeroS⟩, ⟨S2048x1536, u⟩] concatenates_S3x1536_S2048x1536_S2051x1536_d0
def u0S (u : Big) : Big := extractStridedSlice S2048x1536 ![0, 0] (padS u) slices_S2051x1536_S2048x1536_0_0
def u1S (u : Big) : Big := extractStridedSlice S2048x1536 ![1, 0] (padS u) slices_S2051x1536_S2048x1536_1_0
def u2S (u : Big) : Big := extractStridedSlice S2048x1536 ![2, 0] (padS u) slices_S2051x1536_S2048x1536_2_0
def u3S (u : Big) : Big := extractStridedSlice S2048x1536 ![3, 0] (padS u) slices_S2051x1536_S2048x1536_3_0
/-- The convolution with its bias. -/
def accS (u : Big) (w : FVec Ideal S4x1536 .f32) (b : FVec Ideal S1x1536 .f32) : Big :=
  addf (addf (addf (addf (addf nilS (mulf (w0S w) (u0S u))) (mulf (w1S w) (u1S u))) (mulf (w2S w) (u2S u))) (mulf (w3S w) (u3S u))) (broadcastInDim S2048x1536 ![0, 1] bcast_S1x1536_S2048x1536_0_1 b)
def sigS (a : Big) : Big := Host.divf oneS (addf oneS (Host.exp (Host.negf a)))
/-- The gradient through the silu. -/
def silS (a d : Big) : Big := addf (mulf d (sigS a)) (mulf (mulf a d) (mulf (sigS a) (subf oneS (sigS a))))
def sumS (x : Big) : FVec Ideal S1x1536 .f32 := shapeCast _ (Host.reduceAdd x zeroS reducesTo_S2048x1536_S1536_d0 h_S_) shapeCasts_S1536_S1x1536
/-- The taps' gradients, from the convolution's gradient. -/
def dwS (u e : Big) : FVec Ideal S4x1536 .f32 :=
  addf (addf (addf (pad S4x1536 ![3, 0] ![0, 0] ![0, 0] (sumS (mulf e (u3S u))) zeroS pads_S1x1536_S4x1536_300_000 h_S_)
    (pad S4x1536 ![2, 0] ![1, 0] ![0, 0] (sumS (mulf e (u2S u))) zeroS pads_S1x1536_S4x1536_210_000 h_S_))
    (pad S4x1536 ![1, 0] ![2, 0] ![0, 0] (sumS (mulf e (u1S u))) zeroS pads_S1x1536_S4x1536_120_000 h_S_))
    (pad S4x1536 ![0, 0] ![3, 0] ![0, 0] (sumS (mulf e (u0S u))) zeroS pads_S1x1536_S4x1536_030_000 h_S_)
/-- The input's gradient, from the convolution's. -/
def duS (w : FVec Ideal S4x1536 .f32) (e : Big) : FVec Ideal S2048x1536 .bf16 :=
  truncf .bf16 (extractStridedSlice S2048x1536 ![3, 0] (addf (addf (addf (pad S2051x1536 ![3, 0] ![0, 0] ![0, 0] (mulf (w3S w) e) zeroS pads_S2048x1536_S2051x1536_300_000 h_S_)
    (pad S2051x1536 ![2, 0] ![1, 0] ![0, 0] (mulf (w2S w) e) zeroS pads_S2048x1536_S2051x1536_210_000 h_S_))
    (pad S2051x1536 ![1, 0] ![2, 0] ![0, 0] (mulf (w1S w) e) zeroS pads_S2048x1536_S2051x1536_120_000 h_S_))
    (pad S2051x1536 ![0, 0] ![3, 0] ![0, 0] (mulf (w0S w) e) zeroS pads_S2048x1536_S2051x1536_030_000 h_S_)) slices_S2051x1536_S2048x1536_3_0) bitsLt_bf16_f32

theorem w0S_at (w : FVec Ideal S4x1536 .f32) (s : Fin 2048) (j : Fin 1536) : (w0S w (ix2 s j) : EReal) = tapA w j 0 := by
  pointwise [w0S]
theorem w1S_at (w : FVec Ideal S4x1536 .f32) (s : Fin 2048) (j : Fin 1536) : (w1S w (ix2 s j) : EReal) = tapA w j 1 := by
  pointwise [w1S]
theorem w2S_at (w : FVec Ideal S4x1536 .f32) (s : Fin 2048) (j : Fin 1536) : (w2S w (ix2 s j) : EReal) = tapA w j 2 := by
  pointwise [w2S]
theorem w3S_at (w : FVec Ideal S4x1536 .f32) (s : Fin 2048) (j : Fin 1536) : (w3S w (ix2 s j) : EReal) = tapA w j 3 := by
  pointwise [w3S]

/-- Row `o + s` of the padded input is the input `3 - o` rows before `s`. -/
theorem back_of (o : ℕ) (ho : o ≤ 3) (x : Fin 2048 → EReal) (s : Fin 2048) (h0 : ¬ o + s.val < 3 → o + s.val - 3 < 2048) :
    (if h : o + s.val < 3 then (0 : EReal) else x ⟨o + s.val - 3, h0 h⟩) = back (3 - o) x s := by
  unfold back
  by_cases h : o + s.val < 3
  · rw [dif_pos h, dif_neg (by omega)]
  · rw [dif_neg h, dif_pos (by omega)]
    exact congrArg x (Fin.ext (by show o + s.val - 3 = s.val - (3 - o); omega))

theorem u0S_at (u : Big) (s : Fin 2048) (j : Fin 1536) : (u0S u (ix2 s j) : EReal) = back 3 (colA u j) s := by
  refine Eq.trans ?_ (back_of 0 (by omega) (colA u j) s (by omega))
  pointwise [u0S, padS, zeroS]
theorem u1S_at (u : Big) (s : Fin 2048) (j : Fin 1536) : (u1S u (ix2 s j) : EReal) = back 2 (colA u j) s := by
  refine Eq.trans ?_ (back_of 1 (by omega) (colA u j) s (by omega))
  pointwise [u1S, padS, zeroS]
theorem u2S_at (u : Big) (s : Fin 2048) (j : Fin 1536) : (u2S u (ix2 s j) : EReal) = back 1 (colA u j) s := by
  refine Eq.trans ?_ (back_of 2 (by omega) (colA u j) s (by omega))
  pointwise [u2S, padS, zeroS]
theorem u3S_at (u : Big) (s : Fin 2048) (j : Fin 1536) : (u3S u (ix2 s j) : EReal) = back 0 (colA u j) s := by
  refine Eq.trans ?_ (back_of 3 (by omega) (colA u j) s (by omega))
  pointwise [u3S, padS, zeroS]

theorem sumS_at (x : Big) (j : Fin 1536) : (sumS x (ix2 0 j) : EReal) = ∑ s : Fin 2048, (x (ix2 s j) : EReal) := by
  pointwise [sumS, zeroS]
theorem accS_at (u : Big) (w : FVec Ideal S4x1536 .f32) (b : FVec Ideal S1x1536 .f32) (s : Fin 2048) (j : Fin 1536) :
    (accS u w b (ix2 s j) : EReal) = accC (tapA w j) (b (ix2 0 j)) (colA u j) s := by
  have e : (accS u w b (ix2 s j) : EReal) = (((w0S w (ix2 s j) : EReal) * u0S u (ix2 s j) + (w1S w (ix2 s j) : EReal) * u1S u (ix2 s j)) + (w2S w (ix2 s j) : EReal) * u2S u (ix2 s j)) + (w3S w (ix2 s j) : EReal) * u3S u (ix2 s j) + b (ix2 0 j) := by
    pointwise [accS, nilS, zeroS]
  rw [e, w0S_at, w1S_at, w2S_at, w3S_at, u0S_at, u1S_at, u2S_at, u3S_at, Cert.ConvIdeal.Att.back_zero, accC]
  abel
theorem silS_at (a d : Big) (s : Fin 2048) (j : Fin 1536) :
    (silS a d (ix2 s j) : EReal) = d (ix2 s j) * sg (a (ix2 s j)) + a (ix2 s j) * d (ix2 s j) * (sg (a (ix2 s j)) * (1 - sg (a (ix2 s j)))) := by
  unfold sg
  rw [zero_sub]
  pointwise [silS, sigS, oneS]
/-- The reference's gradient of the convolution. -/
abbrev eS (u : Big) (w : FVec Ideal S4x1536 .f32) (b : FVec Ideal S1x1536 .f32) (d : Big) : Big := silS (accS u w b) d

/-- For a real gradient it is the kernel's. -/
theorem eS_at {u : Big} {w : FVec Ideal S4x1536 .f32} {b : FVec Ideal S1x1536 .f32} {d : Big} (hd : AllReal d)
    (s : Fin 2048) (j : Fin 1536) : (eS u w b d (ix2 s j) : EReal) = eA u w b d j s := by
  refine (silS_at _ _ s j).trans ?_
  rw [accS_at]
  obtain ⟨r, er⟩ := hd (ix2 s j)
  unfold eA daccC colA
  rw [er]
  exact sil_any r _

theorem dwS_at (u e : Big) (k : Fin 4) (j : Fin 1536) : (dwS u e (ix2 k j) : EReal) = dwC (colA e j) (colA u j) k := by
  have z (h : 0 < S_.numel) : (zeroS (Shape.Idx.first h) : EReal) = 0 := by pointwise [zeroS]
  pointwise [dwS]
  fin_cases k <;> simp [z, dwC]
  · exact (sumS_at _ j).trans (Finset.sum_congr rfl fun s _ => congrArg (colA e j s * ·) (u0S_at u s j))
  · exact (sumS_at _ j).trans (Finset.sum_congr rfl fun s _ => congrArg (colA e j s * ·) (u1S_at u s j))
  · exact (sumS_at _ j).trans (Finset.sum_congr rfl fun s _ => congrArg (colA e j s * ·) (u2S_at u s j))
  · exact (sumS_at _ j).trans (Finset.sum_congr rfl fun s _ => congrArg (colA e j s * ·) (u3S_at u s j))

/-- A padded product read at row `3 + s`. -/
theorem ahead_of (k : ℕ) (hk : k ≤ 3) (w : EReal) (x : Fin 2048 → EReal) (s : Fin 2048) (P : Prop) [Decidable P] (hP : P ↔ s.val + (3 - k) < 2048) (q : P → Fin 2048) (hq : ∀ h, (q h).val = 3 + s.val - k) :
    (if h : P then w * x (q h) else 0) = w * ahead (3 - k) x s := by
  unfold ahead
  by_cases h : P
  · rw [dif_pos h, dif_pos (hP.1 h)]
    exact congrArg (fun i => w * x i) (Fin.ext (by rw [hq]; show 3 + s.val - k = s.val + (3 - k); omega))
  · rw [dif_neg h, dif_neg (fun g => h (hP.2 g)), mul_zero]

theorem duS_at (w : FVec Ideal S4x1536 .f32) (e : Big) (s : Fin 2048) (j : Fin 1536) : (duS w e (ix2 s j) : EReal) = duC (tapA w j) (colA e j) s := by
  have z (h : 0 < S_.numel) : (zeroS (Shape.Idx.first h) : EReal) = 0 := by pointwise [zeroS]
  refine Eq.trans (b := tapA w j 3 * colA e j s + tapA w j 2 * ahead 1 (colA e j) s + tapA w j 1 * ahead 2 (colA e j) s + tapA w j 0 * ahead 3 (colA e j) s) ?_ ?_
  · pointwise [duS]
    simp only [z, w0S_at, w1S_at, w2S_at, w3S_at]
    refine congrArg₂ _ (congrArg₂ _ (congrArg₂ _ rfl ?_) ?_) ?_
    · refine ahead_of 2 (by omega) _ (colA e j) s _ ?_ _ ?_
      · omega
      · intro h
        rfl
    · refine ahead_of 1 (by omega) _ (colA e j) s _ ?_ _ ?_
      · omega
      · intro h
        rfl
    · refine ahead_of 0 (by omega) _ (colA e j) s _ ?_ _ ?_
      · omega
      · intro h
        rfl
  · unfold duC
    abel

section
variable {u : Big} {w : FVec Ideal S4x1536 .f32} {b : FVec Ideal S1x1536 .f32} {d : Big} (hd : AllReal d)
include hd

theorem eS_col (j : Fin 1536) : colA (eS u w b d) j = eA u w b d j := funext fun s => eS_at hd s j

/-- For a real gradient the reference's three arrays are the kernel's. -/
theorem du_eq : duS w (eS u w b d) = duA u w b d := by
  funext y
  idx_vars y
  refine (duS_at w _ y0 y1).trans ?_
  rw [eS_col hd]
  rfl
theorem dw_eq : dwS u (eS u w b d) = dwA u w b d := by
  funext y
  idx_vars y
  refine (dwS_at u _ y0 y1).trans ?_
  rw [eS_col hd]
  rfl
theorem db_eq : sumS (eS u w b d) = dbA u w b d := by
  funext y
  idx_vars y
  obtain rfl : y0 = 0 := Subsingleton.elim _ _
  refine (sumS_at _ y1).trans ?_
  exact Finset.sum_congr rfl fun s _ => eS_at hd s y1
end

end Cert.ConvReferenceIdeal.Att

end
-- ==== Proof.ConvClaims.lean ====
module

public import proofs.«01_k».proof.Defs
public import proofs.«01_k».proof.Proof.Gen.Pre_finite4
public import proofs.«01_k».proof.Proof.Gen.Conv.Frame
public import proofs.«01_k».proof.Proof.ConvRef
public import proofs.«01_k».proof.Proof.AttnClaims

@[expose] public section

set_option maxRecDepth 16384

noncomputable section

open Idealize.ShloMosaic Idealize.ShloMosaic.TcCoe Idealize.SL.Sem

namespace Cert.ConvClaims

open Cert.FeedIdeal.Att (AllReal)

section
open Cert.Pre_finite4 Cert.Pre_finite4.Facts

theorem sub0 : Subsingleton S_.Idx := ⟨fun a b => funext fun i => i.elim0⟩

/-- The precondition says that every entry of the result's gradient is a real. -/
theorem finite_real [Cert.Pre_finite4.Facts] (a0 a3 : FVec Ideal S2048x1536 .f32) (a1 : FVec Ideal S4x1536 .f32) (a2 : FVec Ideal S1x1536 .f32)
    (h : Cert.Pre_finite4.fn (F := Ideal) a0 a1 a2 a3 = fun _ => 1#1) : AllReal a3 := by
  have e := congrFun h ix0
  unfold Cert.Pre_finite4.fn at e
  have := sub0
  exact fun i => ⟨_, (AttnClaims.real_of_lt _ (Host.reduce_andi_all _ _ _ _ _ e i)).symm⟩

end

theorem frame_p : Cert.quiescent_Conv := fun m ρ _ => Cert.Conv.Gen.frame m ρ
theorem frame_pi : Cert.quiescent_ConvIdeal := fun m ρ _ => Cert.ConvIdeal.Gen.frame m ρ
theorem frame_pi_finite : Cert.quiescent_ConvIdeal_pre_finite4 (hPre_finite4 := Cert.Pre_finite4.Gen.facts) := fun m ρ _ => Cert.ConvIdeal.Gen.frame m ρ
theorem frame_ri : Cert.quiescent_ConvReferenceIdeal := fun m ρ _ =>
  (θ_run Cert.ConvReferenceIdeal.defs _ _).mono (fun r h => ⟨fun c => (h c).2.2.2, sem_eq_zero_of_no_sems (by decide) r.2⟩)
    (Cert.ConvReferenceIdeal.Value.run (F := Ideal) m ρ)
theorem frame_ri_finite : Cert.quiescent_ConvReferenceIdeal_pre_finite4 (hPre_finite4 := Cert.Pre_finite4.Gen.facts) := fun m ρ _ => frame_ri m ρ trivial

/-- No operation is replaced. -/
theorem preserves : Cert.preserves_Conv_ConvIdeal := trivial

section
open Cert.ConvReferenceIdeal
variable (m : (ℓ : Loc nD τ sig) → Buf (Elt Ideal) ℓ) (c : Dev nD)
abbrev B0 : FVec Ideal S2048x1536 .f32 := m ((c.tc : Thread nD τ).loc main_arg0)
abbrev B1 : FVec Ideal S4x1536 .f32 := m ((c.tc : Thread nD τ).loc main_arg1)
abbrev B2 : FVec Ideal S1x1536 .f32 := m ((c.tc : Thread nD τ).loc main_arg2)
abbrev B3 : FVec Ideal S2048x1536 .f32 := m ((c.tc : Thread nD τ).loc main_arg3)
end

/-- For a finite gradient of the result the kernel's three arrays are the derivative of the convolution and its silu. -/
theorem algebraic : Cert.algebraic_ConvIdeal_ConvReferenceIdeal_pre_finite4 (hPre_finite4 := Cert.Pre_finite4.Gen.facts) := by
  intro m ρ m' ρ' hpre hagree
  have key : ∀ c : Dev Cert.ConvIdeal.nD,
      Cert.ConvReferenceIdeal.Att.duS (B1 m' c) (Cert.ConvReferenceIdeal.Att.eS (B0 m' c) (B1 m' c) (B2 m' c) (B3 m' c)) = (Cert.ConvIdeal.Gen.dats m 0 c).arrAt 4 Cert.ConvIdeal.cfg0.N
      ∧ Cert.ConvReferenceIdeal.Att.dwS (B0 m' c) (Cert.ConvReferenceIdeal.Att.eS (B0 m' c) (B1 m' c) (B2 m' c) (B3 m' c)) = (Cert.ConvIdeal.Gen.dats m 0 c).arrAt 5 Cert.ConvIdeal.cfg0.N
      ∧ Cert.ConvReferenceIdeal.Att.sumS (Cert.ConvReferenceIdeal.Att.eS (B0 m' c) (B1 m' c) (B2 m' c) (B3 m' c)) = (Cert.ConvIdeal.Gen.dats m 0 c).arrAt 6 Cert.ConvIdeal.cfg0.N := fun c => by
    have h3 := finite_real _ _ _ _ (hpre c)
    obtain ⟨g0, g1, g2, g3⟩ := hagree c
    have e0 : B0 m' c = Cert.ConvIdeal.Att.A0 m c := g0
    have e1 : B1 m' c = Cert.ConvIdeal.Att.A1 m c := g1
    have e2 : B2 m' c = Cert.ConvIdeal.Att.A2 m c := g2
    have e3 : B3 m' c = Cert.ConvIdeal.Att.A3 m c := g3
    rw [e0, e1, e2, e3]
    exact ⟨(Cert.ConvReferenceIdeal.Att.du_eq h3).trans (Cert.ConvIdeal.Att.final4 m c).symm,
      (Cert.ConvReferenceIdeal.Att.dw_eq h3).trans (Cert.ConvIdeal.Att.final5 m c).symm,
      (Cert.ConvReferenceIdeal.Att.db_eq h3).trans (Cert.ConvIdeal.Att.final6 m c).symm⟩
  refine ⟨_, _, _, Cert.ConvIdeal.Value.run_blocks m ρ, ?_⟩
  exact (θ_run Cert.ConvReferenceIdeal.defs _ _).mono (fun _ h c => ⟨(h c).1.trans (key c).1, (h c).2.1.trans (key c).2.1, (h c).2.2.1.trans (key c).2.2, (h c).2.2.2⟩)
    (Cert.ConvReferenceIdeal.Value.run (F := Ideal) m' ρ')

end Cert.ConvClaims

end
-- ==== Proof.NormRow.lean ====
module

public import proofs.«01_k».proof.Proof.Num
public import Idealize.ShloMosaic.PureOps.Ideal
public import Idealize.ShloMosaic.Lib.Pointwise

@[expose] public section

set_option maxRecDepth 16384

noncomputable section

open Idealize.ShloMosaic

/-! The root mean square norm of one row and the two forms of its derivative, the kernels' and the reference's. -/

namespace Cert.NormRow

/-- A row: its entries over the channels. -/
abbrev Row := Fin 1024 → EReal

/-- A matrix's rows. -/
abbrev rowOf {a : ℕ} (x : (⟨2, ![a, 1024]⟩ : Shape).Idx → EReal) (i : Fin a) : Row := fun k => x (ix2 i k)

/-- The number of channels, and what the root mean square norms add to the mean square. -/
abbrev wid : EReal := FloatOps.ofBits (F := Ideal) .f32 0x44800000#32
abbrev eps : EReal := FloatOps.ofBits (F := Ideal) .f32 0x358637BD#32
/-- Half, taken off. -/
abbrev half : EReal := FloatOps.ofBits (F := Ideal) .f32 0xBF000000#32

/-- The mean square of a row, with what the norm adds, and its root's reciprocal. -/
def qV (e : EReal) (v : Row) : EReal := Ideal.div (∑ k : Fin 1024, v k * v k) wid + e
def rV (e : EReal) (v : Row) : EReal := Ideal.rsqrt (qV e v)
/-- The row's gradient, in the kernels' form. -/
def dvV (e : EReal) (v w g : Row) (k : Fin 1024) : EReal :=
  rV e v * (g k * w k) - v k * (rV e v * rV e v * rV e v * Ideal.div (∑ l : Fin 1024, g l * w l * v l) wid)
/-- What reaches a row's squares, in the reference. -/
def backV (e : EReal) (v w g : Row) : EReal := Ideal.div ((∑ k : Fin 1024, v k * (g k * w k)) * (half * Ideal.div (rV e v) (qV e v))) wid
/-- The row's gradient, in the reference's form. -/
def dvT (e : EReal) (v w g : Row) (k : Fin 1024) : EReal := g k * w k * rV e v + v k * backV e v w g + backV e v w g * v k

theorem wid_coe : wid = ((1024 : ℝ) : EReal) := by
  show Ideal.ofBits .f32 0x44800000#32 = _
  simp [Ideal.ofBits, Ideal.ieee, -EReal.coe_mul]; norm_num
theorem half_coe : half = ((-(1 / 2) : ℝ) : EReal) := by
  show Ideal.ofBits .f32 0xBF000000#32 = _
  simp [Ideal.ofBits, Ideal.ieee, -EReal.coe_mul]; norm_num
theorem eps_pos : ∃ e : ℝ, 0 < e ∧ eps = (e : EReal) := by
  refine ⟨_, ?_, by show Ideal.ofBits .f32 0x358637BD#32 = _; simp only [Ideal.ofBits, Ideal.ieee]; rfl⟩
  rw [if_neg (by decide)]
  norm_num
  positivity

/-- A sum of squares of extended reals is a real that is not negative, with every entry a real, or is plus infinity. -/
theorem squares (v : Row) : (∃ x : Fin 1024 → ℝ, ∀ k, v k = x k) ∨ ∑ k : Fin 1024, v k * v k = ⊤ := by
  by_cases h : ∀ k, v k ≠ ⊤ ∧ v k ≠ ⊥
  · exact .inl ⟨fun k => (v k).toReal, fun k => (EReal.coe_toReal (h k).1 (h k).2).symm⟩
  · right
    push Not at h
    obtain ⟨k, hk⟩ := h
    have nn : ∀ l, 0 ≤ v l * v l := fun l => by
      rcases le_total 0 (v l) with h | h
      · exact mul_nonneg h h
      · exact EReal.mul_nonneg_iff.2 (.inr ⟨h, h⟩)
    have e : v k * v k = ⊤ := by
      by_cases h : v k = ⊤
      · rw [h]; rfl
      · rw [hk h]; rfl
    exact top_le_iff.1 (e ▸ Finset.single_le_sum (fun l _ => nn l) (Finset.mem_univ k))

section
variable {e : EReal} (he : ∃ x : ℝ, 0 < x ∧ e = (x : EReal))
include he

/-- The reciprocal root of a real row is a real, and over the mean square it is its own cube. -/
theorem r_real {v : Row} {x : Fin 1024 → ℝ} (ev : ∀ k, v k = x k) :
    ∃ r : ℝ, rV e v = r ∧ Ideal.div (rV e v) (qV e v) = ((r * r * r : ℝ) : EReal) := by
  obtain ⟨e', he, ee⟩ := he
  have hs : 0 ≤ ∑ k : Fin 1024, x k * x k := Finset.sum_nonneg fun k _ => mul_self_nonneg _
  have hq : 0 < (∑ k : Fin 1024, x k * x k) / 1024 + e' := by positivity
  have eq : qV e v = (((∑ k : Fin 1024, x k * x k) / 1024 + e' : ℝ) : EReal) := by
    unfold qV
    simp only [ev, ← EReal.coe_mul]
    rw [← Att.Num.coe_sum, wid_coe, Att.Num.div_coe _ _ (by norm_num), ee, ← EReal.coe_add]
  generalize (∑ k : Fin 1024, x k * x k) / 1024 + e' = q at *
  have er : rV e v = (((Real.sqrt q)⁻¹ : ℝ) : EReal) := by
    unfold rV
    rw [eq, Ideal.rsqrt_coe, if_neg (not_lt.2 hq.le), if_neg hq.ne']
  have hr : (Real.sqrt q)⁻¹ / q = (Real.sqrt q)⁻¹ * (Real.sqrt q)⁻¹ * (Real.sqrt q)⁻¹ := by
    have h := Real.mul_self_sqrt hq.le
    rw [div_eq_mul_inv, mul_assoc, ← mul_inv (Real.sqrt q) (Real.sqrt q), h]
  exact ⟨_, er, by rw [er, eq, Att.Num.div_coe _ _ hq.ne', hr]⟩

/-- Where the row is real, its gradient is a real in both forms, for real weights and gradients. -/
theorem dvT_real {v : Row} {x : Fin 1024 → ℝ} (ev : ∀ k, v k = x k) {r : ℝ} (er : rV e v = r) (ed : Ideal.div (rV e v) (qV e v) = ((r * r * r : ℝ) : EReal))
    (w g : Fin 1024 → ℝ) (k : Fin 1024) :
    dvT e v (fun k => w k) (fun k => g k) k = ((r * (g k * w k) - x k * (r * r * r * ((∑ k : Fin 1024, g k * w k * x k) / 1024)) : ℝ) : EReal) := by
  have eb : backV e v (fun k => (w k : EReal)) (fun k => (g k : EReal))
      = (((∑ k : Fin 1024, g k * w k * x k) * (-(1 / 2) * (r * r * r)) / 1024 : ℝ) : EReal) := by
    unfold backV
    rw [ed]
    simp only [ev, ← EReal.coe_mul]
    rw [← Att.Num.coe_sum, wid_coe, half_coe, ← EReal.coe_mul, ← EReal.coe_mul, Att.Num.div_coe _ _ (by norm_num)]
    refine congrArg (fun x : ℝ => ((x * (-(1 / 2) * (r * r * r)) / 1024 : ℝ) : EReal)) (Finset.sum_congr rfl fun k _ => mul_comm _ _)
  unfold dvT
  rw [eb, er, ev]
  simp only [← EReal.coe_mul, ← EReal.coe_add]
  exact congrArg _ (by ring)

/-- Where the row is real, its two gradients are one real, for real weights and gradients. -/
theorem dv_real {v : Row} {x : Fin 1024 → ℝ} (ev : ∀ k, v k = x k) (w g : Fin 1024 → ℝ) (k : Fin 1024) : ∃ d : ℝ,
    dvT e v (fun k => w k) (fun k => g k) k = d ∧ dvV e v (fun k => w k) (fun k => g k) k = d := by
  obtain ⟨r, er, ed⟩ := r_real he ev
  refine ⟨_, dvT_real he ev er ed w g k, ?_⟩
  unfold dvV
  simp only [er, ev, ← EReal.coe_mul]
  rw [← Att.Num.coe_sum, wid_coe, Att.Num.div_coe _ _ (by norm_num)]
  simp only [← EReal.coe_mul, ← EReal.coe_sub]

/-- Where an entry of the row is infinite, the norm divides by infinity. -/
theorem r_zero {v : Row} (h : ∑ k : Fin 1024, v k * v k = ⊤) : qV e v = ⊤ ∧ rV e v = 0 := by
  obtain ⟨e', he, ee⟩ := he
  have eq : qV e v = ⊤ := by
    unfold qV
    rw [h, wid_coe, Ideal.div_coe (by norm_num), EReal.top_mul_coe_of_pos (by norm_num), ee, EReal.top_add_coe]
  exact ⟨eq, by unfold rV; rw [eq, Ideal.rsqrt_top]⟩

/-- Where an entry of the row is infinite both gradients vanish. -/
theorem dv_zero {v : Row} (w g : Row) (h : ∑ k : Fin 1024, v k * v k = ⊤) (k : Fin 1024) : dvT e v w g k = 0 ∧ dvV e v w g k = 0 := by
  obtain ⟨eq, er⟩ := r_zero he h
  have d0 : Ideal.div 0 ⊤ = 0 := by rw [Ideal.div, if_neg (by simp), zero_mul]
  have eb : backV e v w g = 0 := by
    unfold backV
    rw [eq, er, d0, mul_zero, mul_zero, wid_coe, Ideal.div_coe (by norm_num), zero_mul]
  unfold dvT dvV
  rw [eb, er]
  simp
end

end Cert.NormRow

end
-- ==== Proof.GateVal.lean ====
module

public import proofs.«01_k».proof.Proof.Gen.GateIdeal.Value
public import proofs.«01_k».proof.Proof.FeedVal
public import proofs.«01_k».proof.Proof.NormRow
public import Idealize.ShloMosaic.Lib.Pipeline.ValueKit
public import Idealize.ShloMosaic.Lib.Pointwise
public import Idealize.ShloMosaic.Lib.Tactic
public import Idealize.ShloMosaic.Lib.WritesUnit
public import Idealize.ShloMosaic.PureOps.Ideal

@[expose] public section

set_option maxRecDepth 16384

noncomputable section

open Idealize.ShloMosaic Idealize.ShloMosaic.TcCoe Idealize.SL.Sem
open Idealize.ShloMosaic.Pipeline (Dat)

namespace Cert.GateIdeal.Att

open Cert.GateIdeal Cert.GateIdeal.Gen
open Cert.FeedIdeal.Att (sg)
open Cert.NormRow (Row wid eps qV rV dvV)

/-! ## One row -/

/-- The silu. -/
def szE (z : EReal) : EReal := z * sg z
/-- The gated row. -/
def vR (y z : Row) (k : Fin 1024) : EReal := y k * szE (z k)
/-- The reciprocal root of the gated row's mean square. -/
abbrev rR (y z : Row) : EReal := rV eps (vR y z)
/-- The gated row's gradient. -/
abbrev dvR (y z w g : Row) (k : Fin 1024) : EReal := dvV eps (vR y z) w g k
/-- The gradients of the row, of its gate, and what it adds to the weights'. -/
def dyR (y z w g : Row) (k : Fin 1024) : EReal := dvR y z w g k * szE (z k)
def dzR (y z w g : Row) (k : Fin 1024) : EReal := dvR y z w g k * y k * (sg (z k) * (1 + z k * (1 - sg (z k))))
def dwR (y z g : Row) (k : Fin 1024) : EReal := g k * vR y z k * rR y z

theorem hz2 : (![0, 0] : Fin 2 → Nat) = fun _ => 0 := funext fun a => by fin_cases a <;> rfl
theorem N_0 : cfg0.N = 8 := by decide +kernel

abbrev rowB (x : S256x1024.Idx → EReal) (i : Fin 256) : Row := fun k => x (ix2 i k)
abbrev vecB (x : S1x1024.Idx → EReal) : Row := fun k => x (ix2 0 k)
abbrev rowA (x : S2048x1024.Idx → EReal) (i : Fin 2048) : Row := fun k => x (ix2 i k)

section
variable (x0 x1 x3 : Vec Ideal S256x1024 .f32) (x2 : Vec Ideal S1x1024 .f32) (i : Fin 256) (k : Fin 1024)

theorem pay4_at : (k0_pay4 x1 (ix2 i k) : EReal) = sg (x1 (ix2 i k)) := by
  unfold sg
  pointwise [k0_pay4]
theorem pay5_at : (k0_pay5 x1 (ix2 i k) : EReal) = szE (x1 (ix2 i k)) := by
  unfold szE
  rw [← pay4_at]
  pointwise [k0_pay5]
theorem pay6_at : (k0_pay6 x0 x1 (ix2 i k) : EReal) = vR (rowB x0 i) (rowB x1 i) k := by
  unfold vR
  rw [← pay5_at]
  pointwise [k0_pay6]
theorem pay7_at : (k0_pay7 x0 x1 (ix2 i 0) : EReal) = rR (rowB x0 i) (rowB x1 i) := by
  unfold rR rV qV
  simp only [← pay6_at]
  pointwise [k0_pay7]
theorem pay8_at : (k0_pay8 x0 x1 x3 x2 (ix2 i k) : EReal) = dvR (rowB x0 i) (rowB x1 i) (vecB x2) (rowB x3 i) k := by
  unfold dvR dvV
  simp only [← pay6_at, ← pay7_at]
  pointwise [k0_pay8]
theorem pay9_at : (k0_pay9 x0 x1 x3 x2 (ix2 i k) : EReal) = dyR (rowB x0 i) (rowB x1 i) (vecB x2) (rowB x3 i) k := by
  unfold dyR
  rw [← pay8_at, ← pay5_at]
  pointwise [k0_pay9]
theorem pay1_at : (k0_pay1 x1 (k0_pay4 x1) (k0_pay10 x0 x1 x3 x2) (Scalar.ofBits .f32 0x3F800000#32) (ix2 i k) : EReal) = dzR (rowB x0 i) (rowB x1 i) (vecB x2) (rowB x3 i) k := by
  unfold dzR
  rw [← pay8_at, ← pay4_at]
  pointwise [k0_pay1, k0_pay10]
theorem pay2_at : ((k0_pay2 (F := Ideal)) (ix2 0 k) : EReal) = 0 := by
  pointwise [k0_pay2]
theorem pay3_at (xo : Vec Ideal S1x1024 .f32) : (k0_pay3 (k0_pay6 x0 x1) x3 (k0_pay7 x0 x1) xo (ix2 0 k) : EReal) = (xo (ix2 0 k) : EReal) + ∑ i : Fin 256, dwR (rowB x0 i) (rowB x1 i) (rowB x3 i) k := by
  unfold dwR
  simp only [← pay6_at, ← pay7_at]
  pointwise [k0_pay3]
end

/-! ## What a point leaves -/

section
variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .bf16) (harg6 : arg6.IsWhole) (arg7 : Memref sig .tc .vmem S1x1024 .f32) (harg7 : arg7.IsWhole)
  (x0 x1 x3 : Vec Ideal S256x1024 .f32) (x2 xo : Vec Ideal S1x1024 .f32)

theorem outA4 (hc0 : cond0_0 i) (r : Fin 256) (k : Fin 1024) :
    (out0_A_4 (F := Ideal) c i arg1 harg1 arg2 harg2 arg3 harg3 arg4 harg4 arg5 harg5 arg6 harg6 arg7 harg7 hc0 x0 x1 x2 x3 (ix2 r k) : EReal)
      = dyR (rowB x0 r) (rowB x1 r) (vecB x2) (rowB x3 r) k := by
  unfold out0_A_4 kernelRun0_A
  dsimp only
  sl_unfold_words
  simp only [View.readAt_eq_ld, harg1.read_unread, harg2.read_unread, harg3.read_unread, harg4.read_unread, View.ld_unit_zero (S := S256x1024) hz2, View.ld_unit_zero (S := S1x1024) hz2]
  rw [View.read_writes_cons_unit_of_mem _ _ _ _ _ _ (ix2 r k) rfl (by intro a; fin_cases a <;> simp)]
  exact pay9_at ..
theorem outA5 (hc0 : cond0_0 i) (r : Fin 256) (k : Fin 1024) :
    (out0_A_5 (F := Ideal) c i arg1 harg1 arg2 harg2 arg3 harg3 arg4 harg4 arg5 harg5 arg6 harg6 arg7 harg7 hc0 x0 x1 x2 x3 (ix2 r k) : EReal)
      = dzR (rowB x0 r) (rowB x1 r) (vecB x2) (rowB x3 r) k := by
  unfold out0_A_5 kernelRun0_A
  dsimp only
  sl_unfold_words
  simp only [View.readAt_eq_ld, harg1.read_unread, harg2.read_unread, harg3.read_unread, harg4.read_unread, View.ld_unit_zero (S := S256x1024) hz2, View.ld_unit_zero (S := S1x1024) hz2]
  rw [View.read_writes_cons_unit_of_mem _ _ _ _ _ _ (ix2 r k) rfl (by intro a; fin_cases a <;> simp)]
  exact pay1_at ..
theorem outA6 (hc0 : cond0_0 i) (k : Fin 1024) :
    (out0_A_6 (F := Ideal) c i arg1 harg1 arg2 harg2 arg3 harg3 arg4 harg4 arg5 harg5 arg6 harg6 arg7 harg7 hc0 x0 x1 x2 x3 (ix2 0 k) : EReal)
      = ∑ r : Fin 256, dwR (rowB x0 r) (rowB x1 r) (rowB x3 r) k := by
  unfold out0_A_6 kernelRun0_A
  dsimp only
  sl_unfold_words
  simp only [View.readAt_eq_ld, harg1.read_unread, harg2.read_unread, harg3.read_unread, harg4.read_unread, View.ld_unit_zero (S := S256x1024) hz2, View.ld_unit_zero (S := S1x1024) hz2]
  rw [View.read_writes_cons_unit_of_mem _ _ _ _ _ _ (ix2 0 k) rfl (by intro a; fin_cases a <;> simp)]
  refine (pay3_at ..).trans ?_
  rw [View.readCov_unit_zero (S := S1x1024) _ hz2, pay2_at, zero_add]
theorem outB4 (hc0 : ¬cond0_0 i) (r : Fin 256) (k : Fin 1024) :
    (out0_B_4 (F := Ideal) c i arg1 harg1 arg2 harg2 arg3 harg3 arg4 harg4 arg5 harg5 arg6 harg6 arg7 harg7 hc0 x0 x1 x2 x3 xo (ix2 r k) : EReal)
      = dyR (rowB x0 r) (rowB x1 r) (vecB x2) (rowB x3 r) k := by
  unfold out0_B_4 kernelRun0_B
  dsimp only
  sl_unfold_words
  simp only [View.readAt_eq_ld, harg1.read_unread, harg2.read_unread, harg3.read_unread, harg4.read_unread, View.ld_unit_zero (S := S256x1024) hz2, View.ld_unit_zero (S := S1x1024) hz2]
  rw [View.read_writes_cons_unit_of_mem _ _ _ _ _ _ (ix2 r k) rfl (by intro a; fin_cases a <;> simp)]
  exact pay9_at ..
theorem outB5 (hc0 : ¬cond0_0 i) (r : Fin 256) (k : Fin 1024) :
    (out0_B_5 (F := Ideal) c i arg1 harg1 arg2 harg2 arg3 harg3 arg4 harg4 arg5 harg5 arg6 harg6 arg7 harg7 hc0 x0 x1 x2 x3 xo (ix2 r k) : EReal)
      = dzR (rowB x0 r) (rowB x1 r) (vecB x2) (rowB x3 r) k := by
  unfold out0_B_5 kernelRun0_B
  dsimp only
  sl_unfold_words
  simp only [View.readAt_eq_ld, harg1.read_unread, harg2.read_unread, harg3.read_unread, harg4.read_unread, View.ld_unit_zero (S := S256x1024) hz2, View.ld_unit_zero (S := S1x1024) hz2]
  rw [View.read_writes_cons_unit_of_mem _ _ _ _ _ _ (ix2 r k) rfl (by intro a; fin_cases a <;> simp)]
  exact pay1_at ..
theorem outB6 (hc0 : ¬cond0_0 i) (k : Fin 1024) :
    (out0_B_6 (F := Ideal) c i arg1 harg1 arg2 harg2 arg3 harg3 arg4 harg4 arg5 harg5 arg6 harg6 arg7 harg7 hc0 x0 x1 x2 x3 xo (ix2 0 k) : EReal)
      = (xo (ix2 0 k) : EReal) + ∑ r : Fin 256, dwR (rowB x0 r) (rowB x1 r) (rowB x3 r) k := by
  unfold out0_B_6 kernelRun0_B
  dsimp only
  sl_unfold_words
  simp only [View.readAt_eq_ld, harg1.read_unread, harg2.read_unread, harg3.read_unread, harg4.read_unread, harg7.read_unread, View.ld_unit_zero (S := S256x1024) hz2, View.ld_unit_zero (S := S1x1024) hz2]
  rw [View.read_writes_cons_unit_of_mem _ _ _ _ _ _ (ix2 0 k) rfl (by intro a; fin_cases a <;> simp)]
  exact pay3_at ..
end

/-! ## The arrays after the run -/

section
variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0] ∧ win0_3.index t = ![t.val, 0]
    ∧ win0_4.index t = ![t.val, 0] ∧ win0_5.index t = ![t.val, 0] ∧ win0_6.index t = ![0, 0] :=
  (by decide +kernel : ∀ t : Fin grid0.N, _)

/-- The row that is a point's `r`-th. -/
def rt (t : Fin cfg0.N) (r : Fin 256) : Fin 2048 := ⟨256 * t.val + r.val, by have := t.isLt; have := N_0; omega⟩

theorem blk0 (t : Fin cfg0.N) (r : Fin 256) (k : Fin 1024) : (iblk m c 0 t : S256x1024.Idx → EReal) (ix2 r k) = (V m c main_arg0 : S2048x1024.Idx → EReal) (ix2 (rt t r) k) := by
  blk_ext [iblk, idx t, rt]
theorem blk1 (t : Fin cfg0.N) (r : Fin 256) (k : Fin 1024) : (iblk m c 1 t : S256x1024.Idx → EReal) (ix2 r k) = (V m c main_arg1 : S2048x1024.Idx → EReal) (ix2 (rt t r) k) := by
  blk_ext [iblk, idx t, rt]
theorem blk2 (t : Fin cfg0.N) (k : Fin 1024) : (iblk m c 2 t : S1x1024.Idx → EReal) (ix2 0 k) = (V m c main_arg2 : S1x1024.Idx → EReal) (ix2 0 k) := by
  blk_ext [iblk, idx t, rt]
theorem blk3 (t : Fin cfg0.N) (r : Fin 256) (k : Fin 1024) : (iblk m c 3 t : S256x1024.Idx → EReal) (ix2 r k) = (V m c main_arg3 : S2048x1024.Idx → EReal) (ix2 (rt t r) k) := by
  blk_ext [iblk, idx t, rt]

/-- The four arguments. -/
abbrev A0 : S2048x1024.Idx → EReal := m ((c.tc : Thread nD τ).loc main_arg0)
abbrev A1 : S2048x1024.Idx → EReal := m ((c.tc : Thread nD τ).loc main_arg1)
abbrev A2 : S1x1024.Idx → EReal := m ((c.tc : Thread nD τ).loc main_arg2)
abbrev A3 : S2048x1024.Idx → EReal := m ((c.tc : Thread nD τ).loc main_arg3)

/-- The kernel's three arrays. -/
abbrev dyA (y z : S2048x1024.Idx → EReal) (w : S1x1024.Idx → EReal) (g : S2048x1024.Idx → EReal) : S2048x1024.Idx → EReal :=
  fun j => dyR (rowA y (j 0)) (rowA z (j 0)) (vecB w) (rowA g (j 0)) (j 1)
abbrev dzA (y z : S2048x1024.Idx → EReal) (w : S1x1024.Idx → EReal) (g : S2048x1024.Idx → EReal) : S2048x1024.Idx → EReal :=
  fun j => dzR (rowA y (j 0)) (rowA z (j 0)) (vecB w) (rowA g (j 0)) (j 1)
abbrev dwA (y z g : S2048x1024.Idx → EReal) : S1x1024.Idx → EReal :=
  fun j => ∑ i : Fin 2048, dwR (rowA y i) (rowA z i) (rowA g i) (j 1)

theorem row0 (t : Fin cfg0.N) (r : Fin 256) : rowB (iblk m c 0 t) r = rowA (A0 m c) (rt t r) := funext fun k => blk0 m c t r k
theorem row1 (t : Fin cfg0.N) (r : Fin 256) : rowB (iblk m c 1 t) r = rowA (A1 m c) (rt t r) := funext fun k => blk1 m c t r k
theorem vec2 (t : Fin cfg0.N) : vecB (iblk m c 2 t) = vecB (A2 m c) := funext fun k => blk2 m c t k
theorem row3 (t : Fin cfg0.N) (r : Fin 256) : rowB (iblk m c 3 t) r = rowA (A3 m c) (rt t r) := funext fun k => blk3 m c t r k

theorem dy_blk (t : Fin cfg0.N) (r : Fin 256) (k : Fin 1024) :
    ((outsAt0 m c t.val t.isLt).1 : S256x1024.Idx → EReal) (ix2 r k) = dyA (A0 m c) (A1 m c) (A2 m c) (A3 m c) (ix2 (rt t r) k) := by
  have e : dyR (rowB (iblk m c 0 t) r) (rowB (iblk m c 1 t) r) (vecB (iblk m c 2 t)) (rowB (iblk m c 3 t) r) k = dyA (A0 m c) (A1 m c) (A2 m c) (A3 m c) (ix2 (rt t r) k) := by
    rw [row0, row1, vec2, row3]
    rfl
  by_cases h : t.val % 8 = 0
  · rw [outsAt0_A m c t h]
    dsimp only
    rw [← e]
    exact outA4 (hc0 := (hcond0_0 t).mpr h) ..
  · rw [outsAt0_B m c t h]
    dsimp only
    rw [← e]
    exact outB4 (hc0 := fun h' => h ((hcond0_0 t).mp h')) ..
theorem dz_blk (t : Fin cfg0.N) (r : Fin 256) (k : Fin 1024) :
    ((outsAt0 m c t.val t.isLt).2.1 : S256x1024.Idx → EReal) (ix2 r k) = dzA (A0 m c) (A1 m c) (A2 m c) (A3 m c) (ix2 (rt t r) k) := by
  have e : dzR (rowB (iblk m c 0 t) r) (rowB (iblk m c 1 t) r) (vecB (iblk m c 2 t)) (rowB (iblk m c 3 t) r) k = dzA (A0 m c) (A1 m c) (A2 m c) (A3 m c) (ix2 (rt t r) k) := by
    rw [row0, row1, vec2, row3]
    rfl
  by_cases h : t.val % 8 = 0
  · rw [outsAt0_A m c t h]
    dsimp only
    rw [← e]
    exact outA5 (hc0 := (hcond0_0 t).mpr h) ..
  · rw [outsAt0_B m c t h]
    dsimp only
    rw [← e]
    exact outB5 (hc0 := fun h' => h ((hcond0_0 t).mp h')) ..

/-- What a point adds to the weights' gradient. -/
def addB (t : Fin cfg0.N) (j : S1x1024.Idx) : EReal := ∑ r : Fin 256, dwR (rowA (A0 m c) (rt t r)) (rowA (A1 m c) (rt t r)) (rowA (A3 m c) (rt t r)) (j 1)

theorem add_at (t : Fin cfg0.N) (k : Fin 1024) :
    ∑ r : Fin 256, dwR (rowB (iblk m c 0 t) r) (rowB (iblk m c 1 t) r) (rowB (iblk m c 3 t) r) k = addB m c t (ix2 0 k) :=
  Finset.sum_congr rfl fun r _ => by rw [row0, row1, row3]; rfl

theorem outs_first (t : Fin cfg0.N) (h : t.val % 8 = 0) (k : Fin 1024) :
    ((outsAt0 m c t.val t.isLt).2.2 : S1x1024.Idx → EReal) (ix2 0 k) = addB m c t (ix2 0 k) := by
  rw [outsAt0_A m c t h]
  dsimp only
  rw [← add_at]
  exact outA6 (hc0 := (hcond0_0 t).mpr h) ..
theorem outs_next (t : Fin cfg0.N) (h : ¬t.val % 8 = 0) (k : Fin 1024) :
    ((outsAt0 m c t.val t.isLt).2.2 : S1x1024.Idx → EReal) (ix2 0 k)
      = ((outsAt0 m c (t.val - 1) (Nat.lt_of_le_of_lt (Nat.sub_le _ _) t.isLt)).2.2 : S1x1024.Idx → EReal) (ix2 0 k) + addB m c t (ix2 0 k) := by
  rw [outsAt0_B m c t h]
  dsimp only
  rw [← add_at]
  exact outB6 (hc0 := fun h' => h ((hcond0_0 t).mp h')) ..

/-- What the eight points add together. -/
theorem addB_sum (t : Fin cfg0.N) (h : ∀ s : Fin 8, 8 * (t.val / 8) + s.val < cfg0.N) (k : Fin 1024) :
    ∑ s : Fin 8, addB m c ⟨8 * (t.val / 8) + s.val, h s⟩ (ix2 0 k) = dwA (A0 m c) (A1 m c) (A3 m c) (ix2 0 k) := by
  have ht : t.val < 8 := lt_of_lt_of_eq t.isLt N_0
  refine Eq.symm ((Fin.sum_univ_tiles 8 256 rfl _).trans (Finset.sum_congr rfl fun s _ => Finset.sum_congr rfl fun r _ => ?_))
  have e : rt ⟨8 * (t.val / 8) + s.val, h s⟩ r = ⟨s.val * 256 + r.val, by omega⟩ := Fin.ext (by show 256 * (8 * (t.val / 8) + s.val) + r.val = s.val * 256 + r.val; omega)
  rw [e]

theorem outs_last (t : Fin cfg0.N) (hf : t.val % 8 = 8 - 1) (k : Fin 1024) :
    ((outsAt0 m c t.val t.isLt).2.2 : S1x1024.Idx → EReal) (ix2 0 k) = dwA (A0 m c) (A1 m c) (A3 m c) (ix2 0 k) := by
  refine (Pipeline.eq_sum_fin_of_reset_step_apply_of_flush (N := cfg0.N) (fun n h => ((outsAt0 m c n h).2.2 : S1x1024.Idx → EReal)) 8 (fun _ => 0) (addB m c)
    (fun t h j => ?_) (fun t h j => ?_) t hf (ix2 0 k)).trans ?_
  · idx_vars j
    obtain rfl : j0 = 0 := Subsingleton.elim _ _
    exact (outs_first m c t h j1).trans (zero_add _).symm
  · idx_vars j
    obtain rfl : j0 = 0 := Subsingleton.elim _ _
    exact outs_next m c t h j1
  · rw [zero_add, ← addB_sum m c t (Pipeline.run_point_lt_of_flush t hf)]

theorem final4 : (dats m 0 c).arrAt 4 cfg0.N = dyA (A0 m c) (A1 m c) (A2 m c) (A3 m c) := by
  refine (dats m 0 c).arrAt_eq_of_covers 4 _ (by decide +kernel) fun t _ y => ?_
  blk_simp
  rw [after0_4]
  idx_vars y
  refine (dy_blk m c t y0 y1).trans (congrArg (dyA (A0 m c) (A1 m c) (A2 m c) (A3 m c)) (?_ : ix2 (rt t y0) y1 = _))
  blk_ext [idx t, rt]
theorem final5 : (dats m 0 c).arrAt 5 cfg0.N = dzA (A0 m c) (A1 m c) (A2 m c) (A3 m c) := by
  refine (dats m 0 c).arrAt_eq_of_covers 5 _ (by decide +kernel) fun t _ y => ?_
  blk_simp
  rw [after0_5]
  idx_vars y
  refine (dz_blk m c t y0 y1).trans (congrArg (dzA (A0 m c) (A1 m c) (A2 m c) (A3 m c)) (?_ : ix2 (rt t y0) y1 = _))
  blk_ext [idx t, rt]
theorem final6 : (dats m 0 c).arrAt 6 cfg0.N = dwA (A0 m c) (A1 m c) (A3 m c) := by
  refine (dats m 0 c).arrAt_eq_of_covers 6 _ (by decide +kernel) fun t hf y => ?_
  blk_simp
  rw [after0_6]
  idx_vars y
  obtain rfl : y0 = 0 := Subsingleton.elim _ _
  refine (outs_last m c t ((flush0_6 t).mp hf) y1).trans (congrArg (dwA (A0 m c) (A1 m c) (A3 m c)) (?_ : ix2 0 y1 = _))
  blk_ext [idx t, rt]
end

end Cert.GateIdeal.Att

end
-- ==== Proof.GateRef.lean ====
module

public import proofs.«01_k».proof.Proof.GateVal
public import proofs.«01_k».proof.Proof.FeedRef
public import proofs.«01_k».proof.Proof.Gen.GateReferenceIdeal.Run

@[expose] public section

set_option maxRecDepth 16384

noncomputable section

open Idealize.ShloMosaic Idealize.ShloMosaic.TcCoe Idealize.SL.Sem

namespace Cert.GateReferenceIdeal.Att

open Cert.GateReferenceIdeal Cert.GateReferenceIdeal.Gen
open Cert.FeedIdeal.Att (sg AllReal sil_any)
open Cert.NormRow (Row wid eps half qV rV dvV backV dvT eps_pos squares dv_real dv_zero)
open Cert.GateIdeal.Att (szE vR rR dvR dyR dzR dwR rowA vecB dyA dzA dwA)

/-! ## The reference's arrays, stage by stage -/

abbrev Big := FVec Ideal S2048x1024 .f32
abbrev Col := FVec Ideal S2048x1 .f32

def oneS : Big := broadcastInDim S2048x1024 ![] bcast_S_S2048x1024 (constant S_ .f32 0x3F800000#32)
def widS : Col := broadcastInDim S2048x1 ![] bcast_S_S2048x1 (constant S_ .f32 0x44800000#32)
/-- The sum over a row. -/
def sumS (x : Big) : FVec Ideal S2048 .f32 := Host.reduceAdd x (constant S_ .f32 0x00000000#32) reducesTo_S2048x1024_S2048_d1 h_S_
/-- A column's entries along their rows. -/
def alongS (x : Col) : Big := broadcastInDim S2048x1024 ![0, 1] bcast_S2048x1_S2048x1024_0_1 x
def sigS (z : Big) : Big := Host.divf oneS (addf oneS (Host.exp (Host.negf z)))
def siluS (z : Big) : Big := mulf z (sigS z)
def vS (y z : Big) : Big := mulf y (siluS z)
/-- The mean square, with what the norm adds to it. -/
def qS (y z : Big) : Col :=
  addf (Host.divf (broadcastInDim S2048x1 ![0] bcast_S2048_S2048x1_0 (sumS (mulf (vS y z) (vS y z)))) widS) (broadcastInDim S2048x1 ![] bcast_S_S2048x1 (constant S_ .f32 0x358637BD#32))
def rS (y z : Big) : Col := Host.rsqrt (qS y z)
def gwS (w : FVec Ideal S1x1024 .f32) (g : Big) : Big := mulf g (broadcastInDim S2048x1024 ![0, 1] bcast_S1x1024_S2048x1024_0_1 w)
/-- What reaches the square of a row's entry through the norm. -/
def backS (y z : Big) (w : FVec Ideal S1x1024 .f32) (g : Big) : Big :=
  broadcastInDim S2048x1024 ![0] bcast_S2048_S2048x1024_0 (Host.reduceAdd (Host.divf (mulf (shapeCast _ (sumS (mulf (vS y z) (gwS w g))) shapeCasts_S2048_S2048x1)
    (mulf (broadcastInDim S2048x1 ![] bcast_S_S2048x1 (constant S_ .f32 0xBF000000#32)) (Host.divf (rS y z) (qS y z)))) widS)
    (constant S_ .f32 0x00000000#32) reducesTo_S2048x1_S2048_d1 h_S_)
/-- The gated row's gradient. -/
def dvS (y z : Big) (w : FVec Ideal S1x1024 .f32) (g : Big) : Big :=
  addf (addf (mulf (gwS w g) (alongS (rS y z))) (mulf (vS y z) (backS y z w g))) (mulf (backS y z w g) (vS y z))
def dyS (y z : Big) (w : FVec Ideal S1x1024 .f32) (g : Big) : Big := mulf (dvS y z w g) (siluS z)
def dzS (y z : Big) (w : FVec Ideal S1x1024 .f32) (g : Big) : FVec Ideal S2048x1024 .bf16 :=
  truncf .bf16 (addf (mulf (mulf y (dvS y z w g)) (sigS z)) (mulf (mulf z (mulf y (dvS y z w g))) (mulf (sigS z) (subf oneS (sigS z))))) bitsLt_bf16_f32
def dwS (y z g : Big) : FVec Ideal S1x1024 .f32 :=
  shapeCast _ (Host.reduceAdd (mulf (mulf (vS y z) (alongS (rS y z))) g) (constant S_ .f32 0x00000000#32) reducesTo_S2048x1024_S1024_d0 h_S_) shapeCasts_S1024_S1x1024

section
variable (y z g : Big) (w : FVec Ideal S1x1024 .f32) (i : Fin 2048) (k : Fin 1024)

theorem sigS_at : (sigS z (ix2 i k) : EReal) = sg (z (ix2 i k)) := by
  unfold sg
  rw [zero_sub]
  pointwise [sigS, oneS]
theorem siluS_at : (siluS z (ix2 i k) : EReal) = szE (z (ix2 i k)) := by
  unfold szE
  rw [← sigS_at]
  pointwise [siluS]
theorem vS_at : (vS y z (ix2 i k) : EReal) = vR (rowA y i) (rowA z i) k := by
  unfold vR
  rw [← siluS_at]
  pointwise [vS]
theorem qS_at : (qS y z (ix2 i 0) : EReal) = qV eps (vR (rowA y i) (rowA z i)) := by
  unfold qV
  simp only [← vS_at]
  pointwise [qS, widS, sumS]
theorem rS_at : (rS y z (ix2 i 0) : EReal) = rR (rowA y i) (rowA z i) := by
  unfold rR rV
  rw [← qS_at]
  pointwise [rS]

theorem backS_at : (backS y z w g (ix2 i k) : EReal) = backV eps (vR (rowA y i) (rowA z i)) (vecB w) (rowA g i) := by
  unfold backV
  simp only [← vS_at, ← qS_at, ← show rS y z (ix2 i 0) = rV eps (vR (rowA y i) (rowA z i)) from rS_at y z i]
  pointwise [backS, widS, sumS, gwS]
  exact Fin.sum_univ_one _
theorem dvS_at : (dvS y z w g (ix2 i k) : EReal) = g (ix2 i k) * w (ix2 0 k) * rR (rowA y i) (rowA z i)
    + vR (rowA y i) (rowA z i) k * backV eps (vR (rowA y i) (rowA z i)) (vecB w) (rowA g i) + backV eps (vR (rowA y i) (rowA z i)) (vecB w) (rowA g i) * vR (rowA y i) (rowA z i) k := by
  rw [← backS_at y z g w i k, ← vS_at, ← rS_at]
  pointwise [dvS, gwS, alongS]
theorem dyS_at : (dyS y z w g (ix2 i k) : EReal) = dvS y z w g (ix2 i k) * szE (z (ix2 i k)) := by
  rw [← siluS_at]
  pointwise [dyS]
theorem dzS_at : (dzS y z w g (ix2 i k) : EReal) = y (ix2 i k) * dvS y z w g (ix2 i k) * sg (z (ix2 i k))
    + z (ix2 i k) * (y (ix2 i k) * dvS y z w g (ix2 i k)) * (sg (z (ix2 i k)) * (1 - sg (z (ix2 i k)))) := by
  rw [← sigS_at]
  pointwise [dzS, oneS]
theorem dwS_at : (dwS y z g (ix2 0 k) : EReal) = ∑ i : Fin 2048, vR (rowA y i) (rowA z i) k * rR (rowA y i) (rowA z i) * g (ix2 i k) := by
  simp only [← vS_at, ← rS_at]
  pointwise [dwS, alongS]
end

/-! ## The results -/

section
variable {y z g : Big} {w : FVec Ideal S1x1024 .f32} (hw : AllReal w) (hg : AllReal g)
include hw hg

/-- For real weights and gradients the two gradients of the gated row are one real, which is zero unless the gated row is real. -/
theorem dv_at (i : Fin 2048) (k : Fin 1024) : ∃ d : ℝ, (dvS y z w g (ix2 i k) : EReal) = d ∧ dvR (rowA y i) (rowA z i) (vecB w) (rowA g i) k = d
    ∧ (d = 0 ∨ ∃ v : ℝ, vR (rowA y i) (rowA z i) k = v) := by
  choose rw ew using fun k => hw (ix2 0 k)
  choose rg eg using fun k => hg (ix2 i k)
  have fw : vecB w = fun k => (rw k : EReal) := funext ew
  have fg : rowA g i = fun k => (rg k : EReal) := funext eg
  rcases squares (vR (rowA y i) (rowA z i)) with ⟨v, ev⟩ | h
  · have := dv_real eps_pos ev rw rg k
    rw [← fw, ← fg] at this
    obtain ⟨d, h1, h2⟩ := this
    exact ⟨d, (dvS_at y z g w i k).trans h1, h2, .inr ⟨_, ev k⟩⟩
  · obtain ⟨h1, h2⟩ := dv_zero eps_pos (vecB w) (rowA g i) h k
    exact ⟨0, (dvS_at y z g w i k).trans h1, h2, .inl rfl⟩

/-- For real weights and gradients the reference's arrays are the kernel's. -/
theorem dy_eq : dyS y z w g = dyA y z w g := by
  funext j
  idx_vars j
  obtain ⟨d, h1, h2, _⟩ := dv_at (y := y) (z := z) hw hg j0 j1
  refine (dyS_at y z g w j0 j1).trans ?_
  rw [h1, ← h2]
  rfl

omit hw hg in
/-- A real gradient of an entry of the gated row, carried to the gate: the chain rule's two terms are the kernel's product. -/
theorem gate_any (a b : EReal) (d : ℝ) (h : d = 0 ∨ ∃ v : ℝ, a * szE b = v) :
    a * d * sg b + b * (a * d) * (sg b * (1 - sg b)) = d * a * (sg b * (1 + b * (1 - sg b))) := by
  rw [mul_comm (d : EReal) a]
  rcases h with rfl | ⟨v, hv⟩
  · simp
  by_cases ha : a = ⊤ ∨ a = ⊥
  · have h0 : szE b = 0 := by
      by_contra hn
      have : a * szE b = ⊤ ∨ a * szE b = ⊥ := by
        rcases lt_or_gt_of_ne hn with hl | hl <;> rcases ha with rfl | rfl
        · exact .inr (EReal.top_mul_of_neg hl)
        · exact .inl (EReal.bot_mul_of_neg hl)
        · exact .inl (EReal.top_mul_of_pos hl)
        · exact .inr (EReal.bot_mul_of_pos hl)
      rw [hv] at this
      rcases this with h | h
      · exact EReal.coe_ne_top _ h
      · exact EReal.coe_ne_bot _ h
    rcases mul_eq_zero.1 h0 with hb | hb
    · rw [hb]; simp
    · rw [hb]; simp
  · push Not at ha
    obtain ⟨r, rfl⟩ : ∃ r : ℝ, a = r := ⟨a.toReal, (EReal.coe_toReal ha.1 ha.2).symm⟩
    rw [← EReal.coe_mul]
    exact sil_any (r * d) b

theorem dz_eq : dzS y z w g = dzA y z w g := by
  funext j
  idx_vars j
  obtain ⟨d, h1, h2, h3⟩ := dv_at (y := y) (z := z) hw hg j0 j1
  refine (dzS_at y z g w j0 j1).trans ?_
  show _ = dvR (rowA y j0) (rowA z j0) (vecB w) (rowA g j0) j1 * y (ix2 j0 j1) * (sg (z (ix2 j0 j1)) * (1 + z (ix2 j0 j1) * (1 - sg (z (ix2 j0 j1)))))
  rw [h1, h2]
  exact gate_any (y (ix2 j0 j1)) (z (ix2 j0 j1)) d h3
end

/-- The weights' gradient is the kernel's for any entries. -/
theorem dw_eq (y z g : Big) : dwS y z g = dwA y z g := by
  funext j
  idx_vars j
  obtain rfl : j0 = 0 := Subsingleton.elim _ _
  refine (dwS_at y z g j1).trans (Finset.sum_congr rfl fun i _ => ?_)
  unfold dwR
  rw [mul_comm, ← mul_assoc]
  rfl

end Cert.GateReferenceIdeal.Att

end
-- ==== Proof.GateClaims.lean ====
module

public import proofs.«01_k».proof.Defs
public import proofs.«01_k».proof.Proof.Gen.Pre_finite5
public import proofs.«01_k».proof.Proof.Gen.Gate.Frame
public import proofs.«01_k».proof.Proof.GateRef
public import proofs.«01_k».proof.Proof.AttnClaims

@[expose] public section

set_option maxRecDepth 16384

noncomputable section

open Idealize.ShloMosaic Idealize.ShloMosaic.TcCoe Idealize.SL.Sem

namespace Cert.GateClaims

open Cert.FeedIdeal.Att (AllReal)

section
open Cert.Pre_finite5 Cert.Pre_finite5.Facts

theorem sub0 : Subsingleton S_.Idx := ⟨fun a b => funext fun i => i.elim0⟩

/-- The precondition says that every entry of the weights and of the result's gradient is a real. -/
theorem finite_real [Cert.Pre_finite5.Facts] (a0 a1 a3 : FVec Ideal S2048x1024 .f32) (a2 : FVec Ideal S1x1024 .f32)
    (h : Cert.Pre_finite5.fn (F := Ideal) a0 a1 a2 a3 = fun _ => 1#1) : AllReal a2 ∧ AllReal a3 := by
  have e := congrFun h ix0
  unfold Cert.Pre_finite5.fn at e
  have := sub0
  obtain ⟨e2, e3⟩ := IntOp.andi_eq_one.1 e
  exact ⟨fun i => ⟨_, (AttnClaims.real_of_lt _ (Host.reduce_andi_all _ _ _ _ _ e2 i)).symm⟩, fun i => ⟨_, (AttnClaims.real_of_lt _ (Host.reduce_andi_all _ _ _ _ _ e3 i)).symm⟩⟩

end

theorem frame_p : Cert.quiescent_Gate := fun m ρ _ => Cert.Gate.Gen.frame m ρ
theorem frame_pi : Cert.quiescent_GateIdeal := fun m ρ _ => Cert.GateIdeal.Gen.frame m ρ
theorem frame_pi_finite : Cert.quiescent_GateIdeal_pre_finite5 (hPre_finite5 := Cert.Pre_finite5.Gen.facts) := fun m ρ _ => Cert.GateIdeal.Gen.frame m ρ
theorem frame_ri : Cert.quiescent_GateReferenceIdeal := fun m ρ _ =>
  (θ_run Cert.GateReferenceIdeal.defs _ _).mono (fun r h => ⟨fun c => (h c).2.2.2, sem_eq_zero_of_no_sems (by decide) r.2⟩)
    (Cert.GateReferenceIdeal.Value.run (F := Ideal) m ρ)
theorem frame_ri_finite : Cert.quiescent_GateReferenceIdeal_pre_finite5 (hPre_finite5 := Cert.Pre_finite5.Gen.facts) := fun m ρ _ => frame_ri m ρ trivial

/-- No operation is replaced. -/
theorem preserves : Cert.preserves_Gate_GateIdeal := trivial

section
open Cert.GateReferenceIdeal
variable (m : (ℓ : Loc nD τ sig) → Buf (Elt Ideal) ℓ) (c : Dev nD)
abbrev B0 : FVec Ideal S2048x1024 .f32 := m ((c.tc : Thread nD τ).loc main_arg0)
abbrev B1 : FVec Ideal S2048x1024 .f32 := m ((c.tc : Thread nD τ).loc main_arg1)
abbrev B2 : FVec Ideal S1x1024 .f32 := m ((c.tc : Thread nD τ).loc main_arg2)
abbrev B3 : FVec Ideal S2048x1024 .f32 := m ((c.tc : Thread nD τ).loc main_arg3)
end

/-- For finite weights and a finite gradient of the result the kernel's three arrays are the derivative of the gate and its norm. -/
theorem algebraic : Cert.algebraic_GateIdeal_GateReferenceIdeal_pre_finite5 (hPre_finite5 := Cert.Pre_finite5.Gen.facts) := by
  intro m ρ m' ρ' hpre hagree
  have key : ∀ c : Dev Cert.GateIdeal.nD,
      Cert.GateReferenceIdeal.Att.dyS (B0 m' c) (B1 m' c) (B2 m' c) (B3 m' c) = (Cert.GateIdeal.Gen.dats m 0 c).arrAt 4 Cert.GateIdeal.cfg0.N
      ∧ Cert.GateReferenceIdeal.Att.dzS (B0 m' c) (B1 m' c) (B2 m' c) (B3 m' c) = (Cert.GateIdeal.Gen.dats m 0 c).arrAt 5 Cert.GateIdeal.cfg0.N
      ∧ Cert.GateReferenceIdeal.Att.dwS (B0 m' c) (B1 m' c) (B3 m' c) = (Cert.GateIdeal.Gen.dats m 0 c).arrAt 6 Cert.GateIdeal.cfg0.N := fun c => by
    obtain ⟨h2, h3⟩ := finite_real _ _ _ _ (hpre c)
    obtain ⟨g0, g1, g2, g3⟩ := hagree c
    have e0 : B0 m' c = Cert.GateIdeal.Att.A0 m c := g0
    have e1 : B1 m' c = Cert.GateIdeal.Att.A1 m c := g1
    have e2 : B2 m' c = Cert.GateIdeal.Att.A2 m c := g2
    have e3 : B3 m' c = Cert.GateIdeal.Att.A3 m c := g3
    rw [e0, e1, e2, e3]
    exact ⟨(Cert.GateReferenceIdeal.Att.dy_eq h2 h3).trans (Cert.GateIdeal.Att.final4 m c).symm,
      (Cert.GateReferenceIdeal.Att.dz_eq h2 h3).trans (Cert.GateIdeal.Att.final5 m c).symm,
      (Cert.GateReferenceIdeal.Att.dw_eq _ _ _).trans (Cert.GateIdeal.Att.final6 m c).symm⟩
  refine ⟨_, _, _, Cert.GateIdeal.Value.run_blocks m ρ, ?_⟩
  exact (θ_run Cert.GateReferenceIdeal.defs _ _).mono (fun _ h c => ⟨(h c).1.trans (key c).1, (h c).2.1.trans (key c).2.1, (h c).2.2.1.trans (key c).2.2, (h c).2.2.2⟩)
    (Cert.GateReferenceIdeal.Value.run (F := Ideal) m' ρ')

end Cert.GateClaims

end
-- ==== Proof.MixRow.lean ====
module

public import proofs.«01_k».proof.Proof.NormRow

@[expose] public section

set_option maxRecDepth 16384

noncomputable section

open Idealize.ShloMosaic

/-! The layer norm of one row and its gradient: the kernel's form and the reference's are one extended real
    wherever the weights and the gradient of the result are real. -/

namespace Cert.MixRow

open Cert.NormRow

/-- The scale of the residual stream, and what the layer norm adds to the variance. -/
abbrev al : EReal := FloatOps.ofBits (F := Ideal) .f32 0x3F9837F0#32
abbrev e5 : EReal := FloatOps.ofBits (F := Ideal) .f32 0x3727C5AC#32

/-- The row that is normed, and a row less its mean. -/
def preV (x y : Row) : Row := fun k => al * x k + y k
def cenV (p : Row) : Row := fun k => p k - Ideal.div (∑ j : Fin 1024, p j) wid
/-- The normed row of a centred row. -/
def hatV (d : Row) : Row := fun k => d k * rV e5 d
/-- The gradient of the row that is normed, in the kernel's form. -/
def dpV (d w g : Row) (k : Fin 1024) : EReal :=
  rV e5 d * (g k * w k - Ideal.div (∑ j : Fin 1024, g j * w j) wid - hatV d k * Ideal.div (∑ j : Fin 1024, g j * w j * hatV d j) wid)
/-- The same in the reference's form: through the centred row, and through its mean. -/
def dpT (d w g : Row) (k : Fin 1024) : EReal := dvT e5 d w g k + Ideal.div (∑ j : Fin 1024, -dvT e5 d w g j) wid

theorem e5_pos : ∃ e : ℝ, 0 < e ∧ e5 = (e : EReal) := by
  refine ⟨_, ?_, by show Ideal.ofBits .f32 0x3727C5AC#32 = _; simp only [Ideal.ofBits, Ideal.ieee]; rfl⟩
  rw [if_neg (by decide)]
  norm_num
  positivity

/-- A centred row that is real adds up to zero. -/
theorem cen_sum (p : Row) {x : Fin 1024 → ℝ} (ex : ∀ k, cenV p k = x k) : ∑ k : Fin 1024, x k = 0 := by
  have hp : ∀ k, ∃ r : ℝ, p k = r := fun k => by
    have e := ex k
    unfold cenV at e
    induction h : p k with
    | coe r => exact ⟨r, rfl⟩
    | bot => rw [h, sub_eq_add_neg, EReal.bot_add] at e; exact absurd e (EReal.bot_ne_coe _)
    | top =>
      exfalso
      rw [h, sub_eq_add_neg] at e
      generalize -Ideal.div (∑ j : Fin 1024, p j) wid = q at e
      induction q with
      | coe q => rw [EReal.top_add_coe] at e; exact EReal.top_ne_coe _ e
      | bot => rw [EReal.add_bot] at e; exact EReal.bot_ne_coe _ e
      | top => rw [EReal.top_add_top] at e; exact EReal.top_ne_coe _ e
  choose r er using hp
  have e : ∀ k, x k = r k - (∑ j : Fin 1024, r j) / 1024 := fun k => by
    have e := ex k
    unfold cenV at e
    simp only [er] at e
    rw [← Att.Num.coe_sum, wid_coe, Att.Num.div_coe _ _ (by norm_num), ← EReal.coe_sub] at e
    exact (EReal.coe_injective e).symm
  simp only [e, Finset.sum_sub_distrib, Finset.sum_const, Finset.card_univ, Fintype.card_fin, nsmul_eq_mul]
  push_cast
  ring

/-- The two forms of the gradient agree for real weights and gradients of the result. -/
theorem dp_eq (p : Row) (w g : Fin 1024 → ℝ) (k : Fin 1024) :
    dpT (cenV p) (fun k => w k) (fun k => g k) k = dpV (cenV p) (fun k => w k) (fun k => g k) k := by
  rcases squares (cenV p) with ⟨x, ex⟩ | h
  · have h0 := cen_sum p ex
    generalize cenV p = d at ex ⊢
    obtain ⟨r, er, ed⟩ := r_real e5_pos ex
    unfold dpT dpV hatV
    simp only [dvT_real e5_pos ex er ed w g, er, ex, ← EReal.coe_mul, ← EReal.coe_neg]
    rw [← Att.Num.coe_sum, ← Att.Num.coe_sum, ← Att.Num.coe_sum, wid_coe, Att.Num.div_coe _ _ (by norm_num), Att.Num.div_coe _ _ (by norm_num), Att.Num.div_coe _ _ (by norm_num)]
    simp only [← EReal.coe_mul, ← EReal.coe_sub, ← EReal.coe_add]
    refine congrArg _ ?_
    have e1 : ∑ j : Fin 1024, -(r * (g j * w j) - x j * (r * r * r * ((∑ k : Fin 1024, g k * w k * x k) / 1024))) = -(r * ∑ j : Fin 1024, g j * w j) := by
      generalize r * r * r * ((∑ k : Fin 1024, g k * w k * x k) / 1024) = q
      rw [Finset.sum_neg_distrib, Finset.sum_sub_distrib, ← Finset.sum_mul, h0, zero_mul, sub_zero, Finset.mul_sum]
    have e2 : ∑ j : Fin 1024, g j * w j * (x j * r) = (∑ j : Fin 1024, g j * w j * x j) * r := by
      rw [Finset.sum_mul]
      exact Finset.sum_congr rfl fun j _ => by ring
    rw [e1, e2]
    ring
  · have e1 : ∀ k, dvT e5 (cenV p) (fun k => w k) (fun k => g k) k = 0 := fun k => (dv_zero e5_pos _ _ h k).1
    unfold dpT dpV
    simp only [e1, (r_zero e5_pos h).2]
    rw [zero_mul, neg_zero, Finset.sum_const_zero, wid_coe, Ideal.div_coe (by norm_num), zero_mul, add_zero]

end Cert.MixRow

end
-- ==== Proof.MixVal.lean ====
module

public import proofs.«01_k».proof.Proof.Gen.MixIdeal.Value
public import proofs.«01_k».proof.Proof.MixRow
public import Idealize.ShloMosaic.Lib.Pipeline.ValueKit
public import Idealize.ShloMosaic.Lib.Pointwise
public import Idealize.ShloMosaic.Lib.Tactic
public import Idealize.ShloMosaic.Lib.WritesUnit
public import Idealize.ShloMosaic.PureOps.Ideal

@[expose] public section

set_option maxRecDepth 16384

noncomputable section

open Idealize.ShloMosaic Idealize.ShloMosaic.TcCoe Idealize.SL.Sem
open Idealize.ShloMosaic.Pipeline (Dat)

namespace Cert.MixIdeal.Att

open Cert.MixIdeal Cert.MixIdeal.Gen
open Cert.NormRow (Row rowOf wid qV rV)
open Cert.MixRow (al e5 preV cenV hatV dpV)

theorem hz2 : (![0, 0] : Fin 2 → Nat) = fun _ => 0 := funext fun a => by fin_cases a <;> rfl
theorem N_0 : cfg0.N = 4 := by decide +kernel

/-- The centred rows of the stream with the mixers' result added. -/
abbrev dRow {a : ℕ} (x y : (⟨2, ![a, 1024]⟩ : Shape).Idx → EReal) (i : Fin a) : Row := cenV (preV (rowOf x i) (rowOf y i))
/-- The output weights' rows of the one mixer and of the other. -/
def up (k : Fin 1024) : Fin 2048 := ⟨k.val, by omega⟩
def lo (k : Fin 1024) : Fin 2048 := ⟨1024 + k.val, by omega⟩

section
variable (x y g : Vec Ideal S512x1024 .f32) (w : Vec Ideal S1x1024 .f32) (r : Fin 512) (k : Fin 1024)

theorem pay2_at : (k0_pay2 x y (ix2 r k) : EReal) = dRow x y r k := by
  unfold dRow cenV preV
  pointwise [k0_pay2]
theorem pay3_at : (k0_pay3 x y (ix2 r 0) : EReal) = rV e5 (dRow x y r) := by
  unfold rV qV
  simp only [← pay2_at]
  pointwise [k0_pay3]
theorem pay4_at : (k0_pay4 x y (ix2 r k) : EReal) = hatV (dRow x y r) k := by
  unfold hatV
  rw [← pay2_at, ← pay3_at]
  pointwise [k0_pay4]
theorem pay5_at : (k0_pay5 x y g w (ix2 r k) : EReal) = dpV (dRow x y r) (rowOf w 0) (rowOf g r) k := by
  unfold dpV
  simp only [← pay4_at, ← pay3_at]
  pointwise [k0_pay5]
theorem pay6_at : (k0_pay6 (k0_pay5 x y g w) (ix2 r k) : EReal) = dpV (dRow x y r) (rowOf w 0) (rowOf g r) k := by
  rw [← pay5_at]
  pointwise [k0_pay6]
theorem pay7_at : ((k0_pay7 (F := Ideal)) (ix2 0 k) : EReal) = 0 := by
  pointwise [k0_pay7]
theorem pay8_at (xo : Vec Ideal S1x1024 .f32) :
    (k0_pay8 (k0_pay4 x y) g xo (ix2 0 k) : EReal) = (xo (ix2 0 k) : EReal) + ∑ r : Fin 512, g (ix2 r k) * hatV (dRow x y r) k := by
  simp only [← pay4_at]
  pointwise [k0_pay8]
theorem pay9_at : ((k0_pay9 (F := Ideal)) (ix2 0 k) : EReal) = 0 := by
  pointwise [k0_pay9]
theorem pay10_at (xo : Vec Ideal S1x1024 .f32) : (k0_pay10 g xo (ix2 0 k) : EReal) = (xo (ix2 0 k) : EReal) + ∑ r : Fin 512, g (ix2 r k) := by
  pointwise [k0_pay10]
theorem pay11_at (v : FVec Ideal S512x1024 .f32) (z : Vec Ideal S1024x1024 .bf16) : (k0_pay11 v z (ix2 r k) : EReal) = ∑ j : Fin 1024, (v (ix2 r j) : EReal) * z (ix2 k j) := by
  pointwise [k0_pay11, k0_pay6]
theorem pay1_at (v : FVec Ideal S512x1024 .f32) (z : Vec Ideal S1024x1024 .bf16) :
    (k0_pay1 (k0_pay6 v) (k0_pay12 z) (ix2 r k) : EReal) = ∑ j : Fin 1024, (v (ix2 r j) : EReal) * z (ix2 k j) := by
  pointwise [k0_pay1, k0_pay6, k0_pay12]
end

/-! ## What a point leaves -/

section
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S2048x1024 .bf16) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .f32) (harg11 : arg11.IsWhole)
  (x0 x1 x3 : Vec Ideal S512x1024 .f32) (x2 xo xp : Vec Ideal S1x1024 .f32) (x4 : Vec Ideal S2048x1024 .bf16)

theorem outA5 (hc0 : cond0_0 i) (hc1 : cond0_1 i) (r : Fin 512) (k : Fin 1024) :
    (out0_A_5 (F := Ideal) c i arg1 harg1 arg2 harg2 arg3 harg3 arg4 harg4 arg5 harg5 arg6 harg6 arg7 harg7 arg8 harg8 arg9 harg9 arg10 harg10 arg11 harg11 hc0 hc1 x0 x1 x2 x3 x4 (ix2 r k) : EReal) = dpV (dRow x0 x1 r) (rowOf x2 0) (rowOf x3 r) k := by
  unfold out0_A_5 kernelRun0_A
  dsimp only
  sl_unfold_words
  simp only [View.readAt_eq_ld, harg1.read_unread, harg2.read_unread, harg3.read_unread, harg4.read_unread, harg5.read_unread, View.ld_unit_zero (S := S512x1024) hz2, View.ld_unit_zero (S := S1x1024) hz2]
  rw [View.read_writes_cons_unit_of_mem _ _ _ _ _ _ (ix2 r k) rfl (by intro a; fin_cases a <;> simp)]
  exact pay5_at ..
theorem outA6 (hc0 : cond0_0 i) (hc1 : cond0_1 i) (r : Fin 512) (k : Fin 1024) :
    (out0_A_6 (F := Ideal) c i arg1 harg1 arg2 harg2 arg3 harg3 arg4 harg4 arg5 harg5 arg6 harg6 arg7 harg7 arg8 harg8 arg9 harg9 arg10 harg10 arg11 harg11 hc0 hc1 x0 x1 x2 x3 x4 (ix2 r k) : EReal) = dpV (dRow x0 x1 r) (rowOf x2 0) (rowOf x3 r) k := by
  unfold out0_A_6 kernelRun0_A
  dsimp only
  sl_unfold_words
  simp only [View.readAt_eq_ld, harg1.read_unread, harg2.read_unread, harg3.read_unread, harg4.read_unread, harg5.read_unread, View.ld_unit_zero (S := S512x1024) hz2, View.ld_unit_zero (S := S1x1024) hz2]
  rw [View.read_writes_cons_unit_of_mem _ _ _ _ _ _ (ix2 r k) rfl (by intro a; fin_cases a <;> simp)]
  exact pay6_at ..
theorem outA7 (hc0 : cond0_0 i) (hc1 : cond0_1 i) (k : Fin 1024) :
    (out0_A_7 (F := Ideal) c i arg1 harg1 arg2 harg2 arg3 harg3 arg4 harg4 arg5 harg5 arg6 harg6 arg7 harg7 arg8 harg8 arg9 harg9 arg10 harg10 arg11 harg11 hc0 hc1 x0 x1 x2 x3 x4 (ix2 0 k) : EReal) = ∑ r : Fin 512, x3 (ix2 r k) * hatV (dRow x0 x1 r) k := by
  unfold out0_A_7 kernelRun0_A
  dsimp only
  sl_unfold_words
  simp only [View.readAt_eq_ld, harg1.read_unread, harg2.read_unread, harg3.read_unread, harg4.read_unread, harg5.read_unread, View.ld_unit_zero (S := S512x1024) hz2, View.ld_unit_zero (S := S1x1024) hz2]
  rw [View.read_writes_cons_unit_of_mem _ _ _ _ _ _ (ix2 0 k) rfl (by intro a; fin_cases a <;> simp)]
  refine (pay8_at ..).trans ?_
  rw [View.readCov_unit_zero (S := S1x1024) _ hz2, pay7_at, zero_add]
theorem outA8 (hc0 : cond0_0 i) (hc1 : cond0_1 i) (k : Fin 1024) :
    (out0_A_8 (F := Ideal) c i arg1 harg1 arg2 harg2 arg3 harg3 arg4 harg4 arg5 harg5 arg6 harg6 arg7 harg7 arg8 harg8 arg9 harg9 arg10 harg10 arg11 harg11 hc0 hc1 x0 x1 x2 x3 x4 (ix2 0 k) : EReal) = ∑ r : Fin 512, x3 (ix2 r k) := by
  unfold out0_A_8 kernelRun0_A
  dsimp only
  sl_unfold_words
  simp only [View.readAt_eq_ld, harg1.read_unread, harg2.read_unread, harg3.read_unread, harg4.read_unread, harg5.read_unread, View.ld_unit_zero (S := S512x1024) hz2, View.ld_unit_zero (S := S1x1024) hz2]
  rw [View.read_writes_cons_unit_of_mem _ _ _ _ _ _ (ix2 0 k) rfl (by intro a; fin_cases a <;> simp)]
  refine (pay10_at ..).trans ?_
  rw [View.readCov_unit_zero (S := S1x1024) _ hz2, pay9_at, zero_add]
theorem outA9 (hc0 : cond0_0 i) (hc1 : cond0_1 i) (r : Fin 512) (k : Fin 1024) :
    (out0_A_9 (F := Ideal) c i arg1 harg1 arg2 harg2 arg3 harg3 arg4 harg4 arg5 harg5 arg6 harg6 arg7 harg7 arg8 harg8 arg9 harg9 arg10 harg10 arg11 harg11 hc0 hc1 x0 x1 x2 x3 x4 (ix2 r k) : EReal) = ∑ j : Fin 1024, dpV (dRow x0 x1 r) (rowOf x2 0) (rowOf x3 r) j * x4 (ix2 (up k) j) := by
  unfold out0_A_9 kernelRun0_A
  dsimp only
  sl_unfold_words
  simp only [View.readAt_eq_ld, harg1.read_unread, harg2.read_unread, harg3.read_unread, harg4.read_unread, harg5.read_unread, View.ld_unit_zero (S := S512x1024) hz2, View.ld_unit_zero (S := S1x1024) hz2]
  rw [View.read_writes_cons_unit_of_mem _ _ _ _ _ _ (ix2 r k) rfl (by intro a; fin_cases a <;> simp)]
  refine (pay11_at ..).trans (Finset.sum_congr rfl fun j _ => congr (congrArg HMul.hMul (pay5_at ..)) ?_)
  exact View.ld_unit_apply_of _ _ _ _ _ (ix2 (up k) j) (by intro a; fin_cases a <;> simp [up, lo])
theorem outA10 (hc0 : cond0_0 i) (hc1 : cond0_1 i) (r : Fin 512) (k : Fin 1024) :
    (out0_A_10 (F := Ideal) c i arg1 harg1 arg2 harg2 arg3 harg3 arg4 harg4 arg5 harg5 arg6 harg6 arg7 harg7 arg8 harg8 arg9 harg9 arg10 harg10 arg11 harg11 hc0 hc1 x0 x1 x2 x3 x4 (ix2 r k) : EReal) = ∑ j : Fin 1024, dpV (dRow x0 x1 r) (rowOf x2 0) (rowOf x3 r) j * x4 (ix2 (lo k) j) := by
  unfold out0_A_10 kernelRun0_A
  dsimp only
  sl_unfold_words
  simp only [View.readAt_eq_ld, harg1.read_unread, harg2.read_unread, harg3.read_unread, harg4.read_unread, harg5.read_unread, View.ld_unit_zero (S := S512x1024) hz2, View.ld_unit_zero (S := S1x1024) hz2]
  rw [View.read_writes_cons_unit_of_mem _ _ _ _ _ _ (ix2 r k) rfl (by intro a; fin_cases a <;> simp)]
  refine (pay1_at ..).trans (Finset.sum_congr rfl fun j _ => congr (congrArg HMul.hMul (pay5_at ..)) ?_)
  exact View.ld_unit_apply_of _ _ _ _ _ (ix2 (lo k) j) (by intro a; fin_cases a <;> simp [up, lo])
theorem outB5 (hc0 : ¬cond0_0 i) (hc1 : ¬cond0_1 i) (r : Fin 512) (k : Fin 1024) :
    (out0_B_5 (F := Ideal) c i arg1 harg1 arg2 harg2 arg3 harg3 arg4 harg4 arg5 harg5 arg6 harg6 arg7 harg7 arg8 harg8 arg9 harg9 arg10 harg10 arg11 harg11 hc0 hc1 x0 x1 x2 x3 x4 xo xp (ix2 r k) : EReal) = dpV (dRow x0 x1 r) (rowOf x2 0) (rowOf x3 r) k := by
  unfold out0_B_5 kernelRun0_B
  dsimp only
  sl_unfold_words
  simp only [View.readAt_eq_ld, harg1.read_unread, harg2.read_unread, harg3.read_unread, harg4.read_unread, harg5.read_unread, harg8.read_unread, harg9.read_unread, View.ld_unit_zero (S := S512x1024) hz2, View.ld_unit_zero (S := S1x1024) hz2]
  rw [View.read_writes_cons_unit_of_mem _ _ _ _ _ _ (ix2 r k) rfl (by intro a; fin_cases a <;> simp)]
  exact pay5_at ..
theorem outB6 (hc0 : ¬cond0_0 i) (hc1 : ¬cond0_1 i) (r : Fin 512) (k : Fin 1024) :
    (out0_B_6 (F := Ideal) c i arg1 harg1 arg2 harg2 arg3 harg3 arg4 harg4 arg5 harg5 arg6 harg6 arg7 harg7 arg8 harg8 arg9 harg9 arg10 harg10 arg11 harg11 hc0 hc1 x0 x1 x2 x3 x4 xo xp (ix2 r k) : EReal) = dpV (dRow x0 x1 r) (rowOf x2 0) (rowOf x3 r) k := by
  unfold out0_B_6 kernelRun0_B
  dsimp only
  sl_unfold_words
  simp only [View.readAt_eq_ld, harg1.read_unread, harg2.read_unread, harg3.read_unread, harg4.read_unread, harg5.read_unread, harg8.read_unread, harg9.read_unread, View.ld_unit_zero (S := S512x1024) hz2, View.ld_unit_zero (S := S1x1024) hz2]
  rw [View.read_writes_cons_unit_of_mem _ _ _ _ _ _ (ix2 r k) rfl (by intro a; fin_cases a <;> simp)]
  exact pay6_at ..
theorem outB7 (hc0 : ¬cond0_0 i) (hc1 : ¬cond0_1 i) (k : Fin 1024) :
    (out0_B_7 (F := Ideal) c i arg1 harg1 arg2 harg2 arg3 harg3 arg4 harg4 arg5 harg5 arg6 harg6 arg7 harg7 arg8 harg8 arg9 harg9 arg10 harg10 arg11 harg11 hc0 hc1 x0 x1 x2 x3 x4 xo xp (ix2 0 k) : EReal) = (xo (ix2 0 k) : EReal) + ∑ r : Fin 512, x3 (ix2 r k) * hatV (dRow x0 x1 r) k := by
  unfold out0_B_7 kernelRun0_B
  dsimp only
  sl_unfold_words
  simp only [View.readAt_eq_ld, harg1.read_unread, harg2.read_unread, harg3.read_unread, harg4.read_unread, harg5.read_unread, harg8.read_unread, harg9.read_unread, View.ld_unit_zero (S := S512x1024) hz2, View.ld_unit_zero (S := S1x1024) hz2]
  rw [View.read_writes_cons_unit_of_mem _ _ _ _ _ _ (ix2 0 k) rfl (by intro a; fin_cases a <;> simp)]
  exact pay8_at ..
theorem outB8 (hc0 : ¬cond0_0 i) (hc1 : ¬cond0_1 i) (k : Fin 1024) :
    (out0_B_8 (F := Ideal) c i arg1 harg1 arg2 harg2 arg3 harg3 arg4 harg4 arg5 harg5 arg6 harg6 arg7 harg7 arg8 harg8 arg9 harg9 arg10 harg10 arg11 harg11 hc0 hc1 x0 x1 x2 x3 x4 xo xp (ix2 0 k) : EReal) = (xp (ix2 0 k) : EReal) + ∑ r : Fin 512, x3 (ix2 r k) := by
  unfold out0_B_8 kernelRun0_B
  dsimp only
  sl_unfold_words
  simp only [View.readAt_eq_ld, harg1.read_unread, harg2.read_unread, harg3.read_unread, harg4.read_unread, harg5.read_unread, harg8.read_unread, harg9.read_unread, View.ld_unit_zero (S := S512x1024) hz2, View.ld_unit_zero (S := S1x1024) hz2]
  rw [View.read_writes_cons_unit_of_mem _ _ _ _ _ _ (ix2 0 k) rfl (by intro a; fin_cases a <;> simp)]
  exact pay10_at ..
theorem outB9 (hc0 : ¬cond0_0 i) (hc1 : ¬cond0_1 i) (r : Fin 512) (k : Fin 1024) :
    (out0_B_9 (F := Ideal) c i arg1 harg1 arg2 harg2 arg3 harg3 arg4 harg4 arg5 harg5 arg6 harg6 arg7 harg7 arg8 harg8 arg9 harg9 arg10 harg10 arg11 harg11 hc0 hc1 x0 x1 x2 x3 x4 xo xp (ix2 r k) : EReal) = ∑ j : Fin 1024, dpV (dRow x0 x1 r) (rowOf x2 0) (rowOf x3 r) j * x4 (ix2 (up k) j) := by
  unfold out0_B_9 kernelRun0_B
  dsimp only
  sl_unfold_words
  simp only [View.readAt_eq_ld, harg1.read_unread, harg2.read_unread, harg3.read_unread, harg4.read_unread, harg5.read_unread, harg8.read_unread, harg9.read_unread, View.ld_unit_zero (S := S512x1024) hz2, View.ld_unit_zero (S := S1x1024) hz2]
  rw [View.read_writes_cons_unit_of_mem _ _ _ _ _ _ (ix2 r k) rfl (by intro a; fin_cases a <;> simp)]
  refine (pay11_at ..).trans (Finset.sum_congr rfl fun j _ => congr (congrArg HMul.hMul (pay5_at ..)) ?_)
  exact View.ld_unit_apply_of _ _ _ _ _ (ix2 (up k) j) (by intro a; fin_cases a <;> simp [up, lo])
theorem outB10 (hc0 : ¬cond0_0 i) (hc1 : ¬cond0_1 i) (r : Fin 512) (k : Fin 1024) :
    (out0_B_10 (F := Ideal) c i arg1 harg1 arg2 harg2 arg3 harg3 arg4 harg4 arg5 harg5 arg6 harg6 arg7 harg7 arg8 harg8 arg9 harg9 arg10 harg10 arg11 harg11 hc0 hc1 x0 x1 x2 x3 x4 xo xp (ix2 r k) : EReal) = ∑ j : Fin 1024, dpV (dRow x0 x1 r) (rowOf x2 0) (rowOf x3 r) j * x4 (ix2 (lo k) j) := by
  unfold out0_B_10 kernelRun0_B
  dsimp only
  sl_unfold_words
  simp only [View.readAt_eq_ld, harg1.read_unread, harg2.read_unread, harg3.read_unread, harg4.read_unread, harg5.read_unread, harg8.read_unread, harg9.read_unread, View.ld_unit_zero (S := S512x1024) hz2, View.ld_unit_zero (S := S1x1024) hz2]
  rw [View.read_writes_cons_unit_of_mem _ _ _ _ _ _ (ix2 r k) rfl (by intro a; fin_cases a <;> simp)]
  refine (pay1_at ..).trans (Finset.sum_congr rfl fun j _ => congr (congrArg HMul.hMul (pay5_at ..)) ?_)
  exact View.ld_unit_apply_of _ _ _ _ _ (ix2 (lo k) j) (by intro a; fin_cases a <;> simp [up, lo])
end

/-! ## The arrays after the run -/

section
variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![t.val, 0] ∧ win0_6.index t = ![t.val, 0]
    ∧ win0_7.index t = ![0, 0] ∧ win0_8.index t = ![0, 0] ∧ win0_9.index t = ![t.val, 0] ∧ win0_10.index t = ![t.val, 0] :=
  (by decide +kernel : ∀ t : Fin grid0.N, _)

/-- The row that is a point's `r`-th. -/
def rt (t : Fin cfg0.N) (r : Fin 512) : Fin 2048 := ⟨512 * t.val + r.val, by have := t.isLt; have := N_0; omega⟩

/-- The five arguments. -/
abbrev A0 : S2048x1024.Idx → EReal := m ((c.tc : Thread nD τ).loc main_arg0)
abbrev A1 : S2048x1024.Idx → EReal := m ((c.tc : Thread nD τ).loc main_arg1)
abbrev A2 : S1x1024.Idx → EReal := m ((c.tc : Thread nD τ).loc main_arg2)
abbrev A3 : S2048x1024.Idx → EReal := m ((c.tc : Thread nD τ).loc main_arg3)
abbrev A4 : S2048x1024.Idx → EReal := m ((c.tc : Thread nD τ).loc main_arg4)

theorem blk0 (t : Fin cfg0.N) (r : Fin 512) (k : Fin 1024) : (iblk m c 0 t : S512x1024.Idx → EReal) (ix2 r k) = A0 m c (ix2 (rt t r) k) := by
  refine Eq.trans ?_ (congrFun (V_main_arg0 m c) _)
  blk_ext [iblk, idx t, rt]
theorem blk1 (t : Fin cfg0.N) (r : Fin 512) (k : Fin 1024) : (iblk m c 1 t : S512x1024.Idx → EReal) (ix2 r k) = A1 m c (ix2 (rt t r) k) := by
  refine Eq.trans ?_ (congrFun (V_main_arg1 m c) _)
  blk_ext [iblk, idx t, rt]
theorem blk2 (t : Fin cfg0.N) (k : Fin 1024) : (iblk m c 2 t : S1x1024.Idx → EReal) (ix2 0 k) = A2 m c (ix2 0 k) := by
  refine Eq.trans ?_ (congrFun (V_main_arg2 m c) _)
  blk_ext [iblk, idx t, rt]
theorem blk3 (t : Fin cfg0.N) (r : Fin 512) (k : Fin 1024) : (iblk m c 3 t : S512x1024.Idx → EReal) (ix2 r k) = A3 m c (ix2 (rt t r) k) := by
  refine Eq.trans ?_ (congrFun (V_main_arg3 m c) _)
  blk_ext [iblk, idx t, rt]
theorem V0 : V m c main_v0 = A4 m c := by
  entry_read; rfl
theorem blk4 (t : Fin cfg0.N) (r : Fin 2048) (k : Fin 1024) : (iblk m c 4 t : S2048x1024.Idx → EReal) (ix2 r k) = A4 m c (ix2 r k) := by
  refine Eq.trans ?_ (congrFun (V0 m c) _)
  blk_ext [iblk, idx t, rt]

/-- The kernel's arrays. -/
abbrev dpA (x y : S2048x1024.Idx → EReal) (w : S1x1024.Idx → EReal) (g : S2048x1024.Idx → EReal) : S2048x1024.Idx → EReal :=
  fun j => dpV (dRow x y (j 0)) (rowOf w 0) (rowOf g (j 0)) (j 1)
abbrev dysA (x y : S2048x1024.Idx → EReal) (w : S1x1024.Idx → EReal) (g z : S2048x1024.Idx → EReal) : S2048x1024.Idx → EReal :=
  fun j => ∑ k : Fin 1024, dpA x y w g (ix2 (j 0) k) * z (ix2 (up (j 1)) k)
abbrev dymA (x y : S2048x1024.Idx → EReal) (w : S1x1024.Idx → EReal) (g z : S2048x1024.Idx → EReal) : S2048x1024.Idx → EReal :=
  fun j => ∑ k : Fin 1024, dpA x y w g (ix2 (j 0) k) * z (ix2 (lo (j 1)) k)
abbrev dgA (x y g : S2048x1024.Idx → EReal) : S1x1024.Idx → EReal :=
  fun j => ∑ i : Fin 2048, g (ix2 i (j 1)) * hatV (dRow x y i) (j 1)
abbrev dbA (g : S2048x1024.Idx → EReal) : S1x1024.Idx → EReal :=
  fun j => ∑ i : Fin 2048, g (ix2 i (j 1))

theorem row0 (t : Fin cfg0.N) (r : Fin 512) : rowOf (iblk m c 0 t) r = rowOf (A0 m c) (rt t r) := funext fun k => blk0 m c t r k
theorem row1 (t : Fin cfg0.N) (r : Fin 512) : rowOf (iblk m c 1 t) r = rowOf (A1 m c) (rt t r) := funext fun k => blk1 m c t r k
theorem vec2 (t : Fin cfg0.N) : rowOf (iblk m c 2 t) 0 = rowOf (A2 m c) 0 := funext fun k => blk2 m c t k
theorem row3 (t : Fin cfg0.N) (r : Fin 512) : rowOf (iblk m c 3 t) r = rowOf (A3 m c) (rt t r) := funext fun k => blk3 m c t r k
theorem dRow_t (t : Fin cfg0.N) (r : Fin 512) : dRow (iblk m c 0 t) (iblk m c 1 t) r = dRow (A0 m c) (A1 m c) (rt t r) := by
  unfold dRow
  rw [row0, row1]

theorem res5 (t : Fin cfg0.N) (r : Fin 512) (k : Fin 1024) :
    ((outsAt0 m c t.val t.isLt).1 : S512x1024.Idx → EReal) (ix2 r k) = dpA (A0 m c) (A1 m c) (A2 m c) (A3 m c) (ix2 (rt t r) k) := by
  have e : dpV (dRow (iblk m c 0 t) (iblk m c 1 t) r) (rowOf (iblk m c 2 t) 0) (rowOf (iblk m c 3 t) r) k = dpA (A0 m c) (A1 m c) (A2 m c) (A3 m c) (ix2 (rt t r) k) := by
    rw [dRow_t, vec2, row3]
    rfl
  by_cases h : t.val % 4 = 0
  · rw [outsAt0_A m c t h h]
    dsimp only
    rw [← e]
    exact outA5 (hc0 := (hcond0_0 t).mpr h) (hc1 := (hcond0_1 t).mpr h) ..
  · rw [outsAt0_B m c t h h]
    dsimp only
    rw [← e]
    exact outB5 (hc0 := fun h' => h ((hcond0_0 t).mp h')) (hc1 := fun h' => h ((hcond0_1 t).mp h')) ..
theorem final5 : (dats m 0 c).arrAt 5 cfg0.N = dpA (A0 m c) (A1 m c) (A2 m c) (A3 m c) := by
  refine (dats m 0 c).arrAt_eq_of_covers 5 _ (by decide +kernel) fun t _ y => ?_
  blk_simp
  rw [after0_5]
  idx_vars y
  refine (res5 m c t y0 y1).trans (congrArg (dpA (A0 m c) (A1 m c) (A2 m c) (A3 m c)) (?_ : ix2 (rt t y0) y1 = _))
  blk_ext [idx t, rt]

theorem res6 (t : Fin cfg0.N) (r : Fin 512) (k : Fin 1024) :
    ((outsAt0 m c t.val t.isLt).2.1 : S512x1024.Idx → EReal) (ix2 r k) = dpA (A0 m c) (A1 m c) (A2 m c) (A3 m c) (ix2 (rt t r) k) := by
  have e : dpV (dRow (iblk m c 0 t) (iblk m c 1 t) r) (rowOf (iblk m c 2 t) 0) (rowOf (iblk m c 3 t) r) k = dpA (A0 m c) (A1 m c) (A2 m c) (A3 m c) (ix2 (rt t r) k) := by
    rw [dRow_t, vec2, row3]
    rfl
  by_cases h : t.val % 4 = 0
  · rw [outsAt0_A m c t h h]
    dsimp only
    rw [← e]
    exact outA6 (hc0 := (hcond0_0 t).mpr h) (hc1 := (hcond0_1 t).mpr h) ..
  · rw [outsAt0_B m c t h h]
    dsimp only
    rw [← e]
    exact outB6 (hc0 := fun h' => h ((hcond0_0 t).mp h')) (hc1 := fun h' => h ((hcond0_1 t).mp h')) ..
theorem final6 : (dats m 0 c).arrAt 6 cfg0.N = dpA (A0 m c) (A1 m c) (A2 m c) (A3 m c) := by
  refine (dats m 0 c).arrAt_eq_of_covers 6 _ (by decide +kernel) fun t _ y => ?_
  blk_simp
  rw [after0_6]
  idx_vars y
  refine (res6 m c t y0 y1).trans (congrArg (dpA (A0 m c) (A1 m c) (A2 m c) (A3 m c)) (?_ : ix2 (rt t y0) y1 = _))
  blk_ext [idx t, rt]

theorem res9 (t : Fin cfg0.N) (r : Fin 512) (k : Fin 1024) :
    ((outsAt0 m c t.val t.isLt).2.2.2.2.1 : S512x1024.Idx → EReal) (ix2 r k) = dysA (A0 m c) (A1 m c) (A2 m c) (A3 m c) (A4 m c) (ix2 (rt t r) k) := by
  have e : ∑ j : Fin 1024, dpV (dRow (iblk m c 0 t) (iblk m c 1 t) r) (rowOf (iblk m c 2 t) 0) (rowOf (iblk m c 3 t) r) j * (iblk m c 4 t : S2048x1024.Idx → EReal) (ix2 (up k) j) = dysA (A0 m c) (A1 m c) (A2 m c) (A3 m c) (A4 m c) (ix2 (rt t r) k) := by
    simp only [dRow_t, vec2, row3, blk4]
    rfl
  by_cases h : t.val % 4 = 0
  · rw [outsAt0_A m c t h h]
    dsimp only
    rw [← e]
    exact outA9 (hc0 := (hcond0_0 t).mpr h) (hc1 := (hcond0_1 t).mpr h) ..
  · rw [outsAt0_B m c t h h]
    dsimp only
    rw [← e]
    exact outB9 (hc0 := fun h' => h ((hcond0_0 t).mp h')) (hc1 := fun h' => h ((hcond0_1 t).mp h')) ..
theorem final9 : (dats m 0 c).arrAt 9 cfg0.N = dysA (A0 m c) (A1 m c) (A2 m c) (A3 m c) (A4 m c) := by
  refine (dats m 0 c).arrAt_eq_of_covers 9 _ (by decide +kernel) fun t _ y => ?_
  blk_simp
  rw [after0_9]
  idx_vars y
  refine (res9 m c t y0 y1).trans (congrArg (dysA (A0 m c) (A1 m c) (A2 m c) (A3 m c) (A4 m c)) (?_ : ix2 (rt t y0) y1 = _))
  blk_ext [idx t, rt]

theorem res10 (t : Fin cfg0.N) (r : Fin 512) (k : Fin 1024) :
    ((outsAt0 m c t.val t.isLt).2.2.2.2.2 : S512x1024.Idx → EReal) (ix2 r k) = dymA (A0 m c) (A1 m c) (A2 m c) (A3 m c) (A4 m c) (ix2 (rt t r) k) := by
  have e : ∑ j : Fin 1024, dpV (dRow (iblk m c 0 t) (iblk m c 1 t) r) (rowOf (iblk m c 2 t) 0) (rowOf (iblk m c 3 t) r) j * (iblk m c 4 t : S2048x1024.Idx → EReal) (ix2 (lo k) j) = dymA (A0 m c) (A1 m c) (A2 m c) (A3 m c) (A4 m c) (ix2 (rt t r) k) := by
    simp only [dRow_t, vec2, row3, blk4]
    rfl
  by_cases h : t.val % 4 = 0
  · rw [outsAt0_A m c t h h]
    dsimp only
    rw [← e]
    exact outA10 (hc0 := (hcond0_0 t).mpr h) (hc1 := (hcond0_1 t).mpr h) ..
  · rw [outsAt0_B m c t h h]
    dsimp only
    rw [← e]
    exact outB10 (hc0 := fun h' => h ((hcond0_0 t).mp h')) (hc1 := fun h' => h ((hcond0_1 t).mp h')) ..
theorem final10 : (dats m 0 c).arrAt 10 cfg0.N = dymA (A0 m c) (A1 m c) (A2 m c) (A3 m c) (A4 m c) := by
  refine (dats m 0 c).arrAt_eq_of_covers 10 _ (by decide +kernel) fun t _ y => ?_
  blk_simp
  rw [after0_10]
  idx_vars y
  refine (res10 m c t y0 y1).trans (congrArg (dymA (A0 m c) (A1 m c) (A2 m c) (A3 m c) (A4 m c)) (?_ : ix2 (rt t y0) y1 = _))
  blk_ext [idx t, rt]

/-- What a point adds to the weights' gradient. -/
def add7 (t : Fin cfg0.N) (j : S1x1024.Idx) : EReal := ∑ r : Fin 512, (A3 m c (ix2 (rt t r) (j 1))) * hatV (dRow (A0 m c) (A1 m c) (rt t r)) (j 1)
theorem add7_at (t : Fin cfg0.N) (k : Fin 1024) : ∑ r : Fin 512, rowOf (iblk m c 3 t) r k * hatV (dRow (iblk m c 0 t) (iblk m c 1 t) r) k = add7 m c t (ix2 0 k) :=
  Finset.sum_congr rfl fun r _ => by rw [dRow_t, row3]; rfl
theorem first7 (t : Fin cfg0.N) (h : t.val % 4 = 0) (k : Fin 1024) :
    ((outsAt0 m c t.val t.isLt).2.2.1 : S1x1024.Idx → EReal) (ix2 0 k) = add7 m c t (ix2 0 k) := by
  rw [outsAt0_A m c t h h]
  dsimp only
  rw [← add7_at]
  exact outA7 (hc0 := (hcond0_0 t).mpr h) (hc1 := (hcond0_1 t).mpr h) ..
theorem next7 (t : Fin cfg0.N) (h : ¬t.val % 4 = 0) (k : Fin 1024) :
    ((outsAt0 m c t.val t.isLt).2.2.1 : S1x1024.Idx → EReal) (ix2 0 k)
      = ((outsAt0 m c (t.val - 1) (Nat.lt_of_le_of_lt (Nat.sub_le _ _) t.isLt)).2.2.1 : S1x1024.Idx → EReal) (ix2 0 k) + add7 m c t (ix2 0 k) := by
  rw [outsAt0_B m c t h h]
  dsimp only
  rw [← add7_at]
  exact outB7 (hc0 := fun h' => h ((hcond0_0 t).mp h')) (hc1 := fun h' => h ((hcond0_1 t).mp h')) ..
theorem add7_sum (t : Fin cfg0.N) (h : ∀ s : Fin 4, 4 * (t.val / 4) + s.val < cfg0.N) (k : Fin 1024) :
    ∑ s : Fin 4, add7 m c ⟨4 * (t.val / 4) + s.val, h s⟩ (ix2 0 k) = dgA (A0 m c) (A1 m c) (A3 m c) (ix2 0 k) := by
  have ht : t.val < 4 := lt_of_lt_of_eq t.isLt N_0
  refine Eq.symm ((Fin.sum_univ_tiles 4 512 rfl _).trans (Finset.sum_congr rfl fun s _ => Finset.sum_congr rfl fun r _ => ?_))
  have e : rt ⟨4 * (t.val / 4) + s.val, h s⟩ r = ⟨s.val * 512 + r.val, by omega⟩ := Fin.ext (by show 512 * (4 * (t.val / 4) + s.val) + r.val = s.val * 512 + r.val; omega)
  rw [e]
theorem last7 (t : Fin cfg0.N) (hf : t.val % 4 = 4 - 1) (k : Fin 1024) :
    ((outsAt0 m c t.val t.isLt).2.2.1 : S1x1024.Idx → EReal) (ix2 0 k) = dgA (A0 m c) (A1 m c) (A3 m c) (ix2 0 k) := by
  refine (Pipeline.eq_sum_fin_of_reset_step_apply_of_flush (N := cfg0.N) (fun n h => ((outsAt0 m c n h).2.2.1 : S1x1024.Idx → EReal)) 4 (fun _ => 0) (add7 m c)
    (fun t h j => ?_) (fun t h j => ?_) t hf (ix2 0 k)).trans ?_
  · idx_vars j
    obtain rfl : j0 = 0 := Subsingleton.elim _ _
    exact (first7 m c t h j1).trans (zero_add _).symm
  · idx_vars j
    obtain rfl : j0 = 0 := Subsingleton.elim _ _
    exact next7 m c t h j1
  · rw [zero_add, ← add7_sum m c t (Pipeline.run_point_lt_of_flush t hf)]
theorem final7 : (dats m 0 c).arrAt 7 cfg0.N = dgA (A0 m c) (A1 m c) (A3 m c) := by
  refine (dats m 0 c).arrAt_eq_of_covers 7 _ (by decide +kernel) fun t hf y => ?_
  blk_simp
  rw [after0_7]
  idx_vars y
  obtain rfl : y0 = 0 := Subsingleton.elim _ _
  refine (last7 m c t ((flush0_7 t).mp hf) y1).trans (congrArg (dgA (A0 m c) (A1 m c) (A3 m c)) (?_ : ix2 0 y1 = _))
  blk_ext [idx t, rt]

/-- What a point adds to the shift's gradient. -/
def add8 (t : Fin cfg0.N) (j : S1x1024.Idx) : EReal := ∑ r : Fin 512, A3 m c (ix2 (rt t r) (j 1))
theorem add8_at (t : Fin cfg0.N) (k : Fin 1024) : ∑ r : Fin 512, rowOf (iblk m c 3 t) r k = add8 m c t (ix2 0 k) :=
  Finset.sum_congr rfl fun r _ => by rw [row3]; rfl
theorem first8 (t : Fin cfg0.N) (h : t.val % 4 = 0) (k : Fin 1024) :
    ((outsAt0 m c t.val t.isLt).2.2.2.1 : S1x1024.Idx → EReal) (ix2 0 k) = add8 m c t (ix2 0 k) := by
  rw [outsAt0_A m c t h h]
  dsimp only
  rw [← add8_at]
  exact outA8 (hc0 := (hcond0_0 t).mpr h) (hc1 := (hcond0_1 t).mpr h) ..
theorem next8 (t : Fin cfg0.N) (h : ¬t.val % 4 = 0) (k : Fin 1024) :
    ((outsAt0 m c t.val t.isLt).2.2.2.1 : S1x1024.Idx → EReal) (ix2 0 k)
      = ((outsAt0 m c (t.val - 1) (Nat.lt_of_le_of_lt (Nat.sub_le _ _) t.isLt)).2.2.2.1 : S1x1024.Idx → EReal) (ix2 0 k) + add8 m c t (ix2 0 k) := by
  rw [outsAt0_B m c t h h]
  dsimp only
  rw [← add8_at]
  exact outB8 (hc0 := fun h' => h ((hcond0_0 t).mp h')) (hc1 := fun h' => h ((hcond0_1 t).mp h')) ..
theorem add8_sum (t : Fin cfg0.N) (h : ∀ s : Fin 4, 4 * (t.val / 4) + s.val < cfg0.N) (k : Fin 1024) :
    ∑ s : Fin 4, add8 m c ⟨4 * (t.val / 4) + s.val, h s⟩ (ix2 0 k) = dbA (A3 m c) (ix2 0 k) := by
  have ht : t.val < 4 := lt_of_lt_of_eq t.isLt N_0
  refine Eq.symm ((Fin.sum_univ_tiles 4 512 rfl _).trans (Finset.sum_congr rfl fun s _ => Finset.sum_congr rfl fun r _ => ?_))
  have e : rt ⟨4 * (t.val / 4) + s.val, h s⟩ r = ⟨s.val * 512 + r.val, by omega⟩ := Fin.ext (by show 512 * (4 * (t.val / 4) + s.val) + r.val = s.val * 512 + r.val; omega)
  rw [e]
theorem last8 (t : Fin cfg0.N) (hf : t.val % 4 = 4 - 1) (k : Fin 1024) :
    ((outsAt0 m c t.val t.isLt).2.2.2.1 : S1x1024.Idx → EReal) (ix2 0 k) = dbA (A3 m c) (ix2 0 k) := by
  refine (Pipeline.eq_sum_fin_of_reset_step_apply_of_flush (N := cfg0.N) (fun n h => ((outsAt0 m c n h).2.2.2.1 : S1x1024.Idx → EReal)) 4 (fun _ => 0) (add8 m c)
    (fun t h j => ?_) (fun t h j => ?_) t hf (ix2 0 k)).trans ?_
  · idx_vars j
    obtain rfl : j0 = 0 := Subsingleton.elim _ _
    exact (first8 m c t h j1).trans (zero_add _).symm
  · idx_vars j
    obtain rfl : j0 = 0 := Subsingleton.elim _ _
    exact next8 m c t h j1
  · rw [zero_add, ← add8_sum m c t (Pipeline.run_point_lt_of_flush t hf)]
theorem final8 : (dats m 0 c).arrAt 8 cfg0.N = dbA (A3 m c) := by
  refine (dats m 0 c).arrAt_eq_of_covers 8 _ (by decide +kernel) fun t hf y => ?_
  blk_simp
  rw [after0_8]
  idx_vars y
  obtain rfl : y0 = 0 := Subsingleton.elim _ _
  refine (last8 m c t ((flush0_8 t).mp hf) y1).trans (congrArg (dbA (A3 m c)) (?_ : ix2 0 y1 = _))
  blk_ext [idx t, rt]

end

end Cert.MixIdeal.Att

end
-- ==== Proof.MixRef.lean ====
module

public import proofs.«01_k».proof.Proof.MixVal
public import proofs.«01_k».proof.Proof.FeedRef
public import proofs.«01_k».proof.Proof.Gen.MixReferenceIdeal.Run

@[expose] public section

set_option maxRecDepth 16384

noncomputable section

open Idealize.ShloMosaic Idealize.ShloMosaic.TcCoe Idealize.SL.Sem

namespace Cert.MixReferenceIdeal.Att

open Cert.MixReferenceIdeal Cert.MixReferenceIdeal.Gen
open Cert.FeedIdeal.Att (AllReal)
open Cert.NormRow (Row rowOf wid half qV rV backV dvT)
open Cert.MixRow (al e5 preV cenV hatV dpV dpT dp_eq)
open Cert.MixIdeal.Att (dRow up lo dpA dysA dymA dgA dbA)

/-! ## The reference's arrays, stage by stage -/

abbrev Big := FVec Ideal S2048x1024 .f32
abbrev Vc := FVec Ideal S1x1024 .f32
abbrev Col := FVec Ideal S2048x1 .f32

def widS : Col := broadcastInDim S2048x1 ![] bcast_S_S2048x1 (constant S_ .f32 0x44800000#32)
/-- The sum over a row. -/
def sumS (x : Big) : FVec Ideal S2048 .f32 := Host.reduceAdd x (constant S_ .f32 0x00000000#32) reducesTo_S2048x1024_S2048_d1 h_S_
/-- A column's entries along their rows. -/
def alongS (x : Col) : Big := broadcastInDim S2048x1024 ![0, 1] bcast_S2048x1_S2048x1024_0_1 x
/-- The row that is normed, and the same less its mean. -/
def preS (x y : Big) : Big := addf (mulf (broadcastInDim S2048x1024 ![] bcast_S_S2048x1024 (constant S_ .f32 0x3F9837F0#32)) x) y
def cenS (x y : Big) : Big := subf (preS x y) (alongS (Host.divf (broadcastInDim S2048x1 ![0] bcast_S2048_S2048x1_0 (sumS (preS x y))) widS))
/-- The variance, with what the norm adds to it, and its root's reciprocal. -/
def qS (d : Big) : Col :=
  addf (Host.divf (broadcastInDim S2048x1 ![0] bcast_S2048_S2048x1_0 (sumS (mulf d d))) widS) (broadcastInDim S2048x1 ![] bcast_S_S2048x1 (constant S_ .f32 0x3727C5AC#32))
def rS (d : Big) : Col := Host.rsqrt (qS d)
def gwS (w : Vc) (g : Big) : Big := mulf (shapeCast _ g shapeCasts_S2048x1024_S2048x1024) (broadcastInDim S2048x1024 ![0, 1] bcast_S1x1024_S2048x1024_0_1 w)
/-- What reaches the square of a centred entry through the norm. -/
def backS (d : Big) (w : Vc) (g : Big) : Big :=
  broadcastInDim S2048x1024 ![0] bcast_S2048_S2048x1024_0 (Host.reduceAdd (Host.divf (mulf (shapeCast _ (sumS (mulf d (gwS w g))) shapeCasts_S2048_S2048x1)
    (mulf (broadcastInDim S2048x1 ![] bcast_S_S2048x1 (constant S_ .f32 0xBF000000#32)) (Host.divf (rS d) (qS d)))) widS)
    (constant S_ .f32 0x00000000#32) reducesTo_S2048x1_S2048_d1 h_S_)
/-- The gradient of the centred row. -/
def ddS (d : Big) (w : Vc) (g : Big) : Big := addf (addf (mulf (gwS w g) (alongS (rS d))) (mulf d (backS d w g))) (mulf (backS d w g) d)
/-- The gradient of the row that is normed. -/
def dpS (d : Big) (w : Vc) (g : Big) : Big :=
  addf (ddS d w g) (broadcastInDim S2048x1024 ![0] bcast_S2048_S2048x1024_0 (Host.reduceAdd (Host.divf (shapeCast _ (sumS (Host.negf (ddS d w g))) shapeCasts_S2048_S2048x1) widS)
    (constant S_ .f32 0x00000000#32) reducesTo_S2048x1_S2048_d1 h_S_))
def dpbS (d : Big) (w : Vc) (g : Big) : FVec Ideal S2048x1024 .bf16 := truncf .bf16 (dpS d w g) bitsLt_bf16_f32
def dgS (d g : Big) : Vc :=
  shapeCast _ (Host.reduceAdd (mulf (mulf d (alongS (rS d))) (shapeCast _ g shapeCasts_S2048x1024_S2048x1024)) (constant S_ .f32 0x00000000#32) reducesTo_S2048x1024_S1024_d0 h_S_) shapeCasts_S1024_S1x1024
def dbS (g : Big) : Vc := shapeCast _ (Host.reduceAdd g (constant S_ .f32 0x00000000#32) reducesTo_S2048x1024_S1024_d0 h_S_) shapeCasts_S1024_S1x1024
/-- The gradients of the two mixers' results. -/
def catS (p z : Big) : FVec Ideal S2048x2048 .f32 := Host.dotGeneral dot_S2048x1024_S2048x1024_S2048x2048_1_1_0_0_n_n none p z
def dysS (p z : Big) : Big := extractStridedSlice S2048x1024 ![0, 0] (catS p z) slices_S2048x2048_S2048x1024_0_0
def dymS (p z : Big) : Big := extractStridedSlice S2048x1024 ![0, 1024] (catS p z) slices_S2048x2048_S2048x1024_0_1024

section
variable (x y d g p z : Big) (w : Vc) (i : Fin 2048) (k : Fin 1024)

theorem preS_at : (preS x y (ix2 i k) : EReal) = preV (rowOf x i) (rowOf y i) k := by
  unfold preV
  pointwise [preS]
theorem cenS_at : (cenS x y (ix2 i k) : EReal) = dRow x y i k := by
  unfold dRow cenV
  simp only [← preS_at]
  pointwise [cenS, widS, sumS, alongS]
theorem qS_at : (qS d (ix2 i 0) : EReal) = qV e5 (rowOf d i) := by
  unfold qV
  pointwise [qS, widS, sumS]
theorem rS_at : (rS d (ix2 i 0) : EReal) = rV e5 (rowOf d i) := by
  unfold rV
  rw [← qS_at]
  pointwise [rS]
theorem backS_at : (backS d w g (ix2 i k) : EReal) = backV e5 (rowOf d i) (rowOf w 0) (rowOf g i) := by
  unfold backV
  simp only [← rS_at, ← qS_at]
  pointwise [backS, widS, sumS, gwS]
  exact Fin.sum_univ_one _
theorem ddS_at : (ddS d w g (ix2 i k) : EReal) = dvT e5 (rowOf d i) (rowOf w 0) (rowOf g i) k := by
  unfold dvT
  rw [← backS_at d g w i k, ← rS_at]
  pointwise [ddS, gwS, alongS]
theorem dpS_at : (dpS d w g (ix2 i k) : EReal) = dpT (rowOf d i) (rowOf w 0) (rowOf g i) k := by
  unfold dpT
  simp only [← ddS_at]
  pointwise [dpS, widS, sumS]
  exact congrArg _ (Fin.sum_univ_one _)
theorem dgS_at : (dgS d g (ix2 0 k) : EReal) = ∑ i : Fin 2048, d (ix2 i k) * rV e5 (rowOf d i) * g (ix2 i k) := by
  simp only [← rS_at]
  pointwise [dgS, alongS]
theorem dbS_at : (dbS g (ix2 0 k) : EReal) = ∑ i : Fin 2048, g (ix2 i k) := by
  pointwise [dbS]
theorem dysS_at : (dysS p z (ix2 i k) : EReal) = ∑ j : Fin 1024, p (ix2 i j) * z (ix2 (up k) j) := by
  pointwise [dysS, catS]
  rfl
theorem dymS_at : (dymS p z (ix2 i k) : EReal) = ∑ j : Fin 1024, p (ix2 i j) * z (ix2 (lo k) j) := by
  pointwise [dymS, catS]
  rfl
end

/-! ## The results -/

theorem row_cen (x y : Big) (i : Fin 2048) : rowOf (cenS x y) i = dRow x y i := funext fun k => cenS_at x y i k

/-- For real weights and gradients the reference's gradient of the row that is normed is the kernel's. -/
theorem dpS_eq (x y : Big) {w : Vc} {g : Big} (hw : AllReal w) (hg : AllReal g) : dpS (cenS x y) w g = dpA x y w g := by
  funext j
  idx_vars j
  refine (dpS_at (cenS x y) g w j0 j1).trans ?_
  choose rw ew using fun k => hw (ix2 0 k)
  choose rg eg using fun k => hg (ix2 j0 k)
  have fw : rowOf w 0 = fun k => (rw k : EReal) := funext ew
  have fg : rowOf g j0 = fun k => (rg k : EReal) := funext eg
  show dpT (rowOf (cenS x y) j0) (rowOf w 0) (rowOf g j0) j1 = dpV (dRow x y j0) (rowOf w 0) (rowOf g j0) j1
  rw [row_cen, fw, fg]
  exact dp_eq _ rw rg j1
theorem dpbS_eq (x y : Big) {w : Vc} {g : Big} (hw : AllReal w) (hg : AllReal g) : dpbS (cenS x y) w g = dpA x y w g := by
  rw [← dpS_eq x y hw hg]
  funext j
  idx_vars j
  pointwise [dpbS]

/-- The weights' and the shift's gradients are the kernel's for any entries. -/
theorem dgS_eq (x y g : Big) : dgS (cenS x y) g = dgA x y g := by
  funext j
  idx_vars j
  obtain rfl : j0 = 0 := Subsingleton.elim _ _
  refine (dgS_at (cenS x y) g j1).trans (Finset.sum_congr rfl fun i _ => ?_)
  rw [mul_comm, row_cen, cenS_at]
  rfl
theorem dbS_eq (g : Big) : dbS g = dbA g := by
  funext j
  idx_vars j
  obtain rfl : j0 = 0 := Subsingleton.elim _ _
  exact dbS_at g j1

/-- The two mixers' gradients are the halves of one product. -/
theorem dysS_eq (x y : Big) {w : Vc} {g : Big} (z : Big) (hw : AllReal w) (hg : AllReal g) : dysS (dpS (cenS x y) w g) z = dysA x y w g z := by
  rw [dpS_eq x y hw hg]
  funext j
  idx_vars j
  exact dysS_at _ z j0 j1
theorem dymS_eq (x y : Big) {w : Vc} {g : Big} (z : Big) (hw : AllReal w) (hg : AllReal g) : dymS (dpS (cenS x y) w g) z = dymA x y w g z := by
  rw [dpS_eq x y hw hg]
  funext j
  idx_vars j
  exact dymS_at _ z j0 j1

end Cert.MixReferenceIdeal.Att

end
-- ==== Proof.MixClaims.lean ====
module

public import proofs.«01_k».proof.Defs
public import proofs.«01_k».proof.Proof.Gen.Pre_finite6
public import proofs.«01_k».proof.Proof.Gen.Mix.Frame
public import proofs.«01_k».proof.Proof.MixRef
public import proofs.«01_k».proof.Proof.AttnClaims

@[expose] public section

set_option maxRecDepth 16384

noncomputable section

open Idealize.ShloMosaic Idealize.ShloMosaic.TcCoe Idealize.SL.Sem

namespace Cert.MixClaims

open Cert.FeedIdeal.Att (AllReal)

section
open Cert.Pre_finite6 Cert.Pre_finite6.Facts

theorem sub0 : Subsingleton S_.Idx := ⟨fun a b => funext fun i => i.elim0⟩

/-- The precondition says that every entry of the norm's weights and of the result's gradient is a real. -/
theorem finite_real [Cert.Pre_finite6.Facts] (a0 a1 a3 a4 : FVec Ideal S2048x1024 .f32) (a2 : FVec Ideal S1x1024 .f32)
    (h : Cert.Pre_finite6.fn (F := Ideal) a0 a1 a2 a3 a4 = fun _ => 1#1) : AllReal a2 ∧ AllReal a3 := by
  have e := congrFun h ix0
  unfold Cert.Pre_finite6.fn at e
  have := sub0
  obtain ⟨e1, e2⟩ := IntOp.andi_eq_one.1 e
  exact ⟨fun i => ⟨_, (AttnClaims.real_of_lt _ (Host.reduce_andi_all _ _ _ _ _ e1 i)).symm⟩, fun i => ⟨_, (AttnClaims.real_of_lt _ (Host.reduce_andi_all _ _ _ _ _ e2 i)).symm⟩⟩

end

theorem frame_p : Cert.quiescent_Mix := fun m ρ _ => Cert.Mix.Gen.frame m ρ
theorem frame_pi : Cert.quiescent_MixIdeal := fun m ρ _ => Cert.MixIdeal.Gen.frame m ρ
theorem frame_pi_finite : Cert.quiescent_MixIdeal_pre_finite6 (hPre_finite6 := Cert.Pre_finite6.Gen.facts) := fun m ρ _ => Cert.MixIdeal.Gen.frame m ρ
theorem frame_ri : Cert.quiescent_MixReferenceIdeal := fun m ρ _ =>
  (θ_run Cert.MixReferenceIdeal.defs _ _).mono (fun r h => ⟨fun c => (h c).2.2.2.2.2.2, sem_eq_zero_of_no_sems (by decide) r.2⟩)
    (Cert.MixReferenceIdeal.Value.run (F := Ideal) m ρ)
theorem frame_ri_finite : Cert.quiescent_MixReferenceIdeal_pre_finite6 (hPre_finite6 := Cert.Pre_finite6.Gen.facts) := fun m ρ _ => frame_ri m ρ trivial

/-- No operation is replaced. -/
theorem preserves : Cert.preserves_Mix_MixIdeal := trivial

section
open Cert.MixReferenceIdeal
variable (m : (ℓ : Loc nD τ sig) → Buf (Elt Ideal) ℓ) (c : Dev nD)
abbrev B0 : FVec Ideal S2048x1024 .f32 := m ((c.tc : Thread nD τ).loc main_arg0)
abbrev B1 : FVec Ideal S2048x1024 .f32 := m ((c.tc : Thread nD τ).loc main_arg1)
abbrev B2 : FVec Ideal S1x1024 .f32 := m ((c.tc : Thread nD τ).loc main_arg2)
abbrev B3 : FVec Ideal S2048x1024 .f32 := m ((c.tc : Thread nD τ).loc main_arg3)
abbrev B4 : FVec Ideal S2048x1024 .f32 := m ((c.tc : Thread nD τ).loc main_arg4)
end

/-- For finite weights and a finite gradient of the result the kernel's six arrays are the derivative of the norm and of the mixers' product. -/
theorem algebraic : Cert.algebraic_MixIdeal_MixReferenceIdeal_pre_finite6 (hPre_finite6 := Cert.Pre_finite6.Gen.facts) := by
  intro m ρ m' ρ' hpre hagree
  have key : ∀ c : Dev Cert.MixIdeal.nD,
      Cert.MixReferenceIdeal.Att.dpS (Cert.MixReferenceIdeal.Att.cenS (B0 m' c) (B1 m' c)) (B2 m' c) (B3 m' c) = (Cert.MixIdeal.Gen.dats m 0 c).arrAt 5 Cert.MixIdeal.cfg0.N
      ∧ Cert.MixReferenceIdeal.Att.dpbS (Cert.MixReferenceIdeal.Att.cenS (B0 m' c) (B1 m' c)) (B2 m' c) (B3 m' c) = (Cert.MixIdeal.Gen.dats m 0 c).arrAt 6 Cert.MixIdeal.cfg0.N
      ∧ Cert.MixReferenceIdeal.Att.dgS (Cert.MixReferenceIdeal.Att.cenS (B0 m' c) (B1 m' c)) (B3 m' c) = (Cert.MixIdeal.Gen.dats m 0 c).arrAt 7 Cert.MixIdeal.cfg0.N
      ∧ Cert.MixReferenceIdeal.Att.dbS (B3 m' c) = (Cert.MixIdeal.Gen.dats m 0 c).arrAt 8 Cert.MixIdeal.cfg0.N
      ∧ Cert.MixReferenceIdeal.Att.dysS (Cert.MixReferenceIdeal.Att.dpS (Cert.MixReferenceIdeal.Att.cenS (B0 m' c) (B1 m' c)) (B2 m' c) (B3 m' c)) (B4 m' c) = (Cert.MixIdeal.Gen.dats m 0 c).arrAt 9 Cert.MixIdeal.cfg0.N
      ∧ Cert.MixReferenceIdeal.Att.dymS (Cert.MixReferenceIdeal.Att.dpS (Cert.MixReferenceIdeal.Att.cenS (B0 m' c) (B1 m' c)) (B2 m' c) (B3 m' c)) (B4 m' c) = (Cert.MixIdeal.Gen.dats m 0 c).arrAt 10 Cert.MixIdeal.cfg0.N := fun c => by
    obtain ⟨h1, h2⟩ := finite_real _ _ _ _ _ (hpre c)
    obtain ⟨g0, g1, g2, g3, g4⟩ := hagree c
    have e0 : B0 m' c = Cert.MixIdeal.Att.A0 m c := g0
    have e1 : B1 m' c = Cert.MixIdeal.Att.A1 m c := g1
    have e2 : B2 m' c = Cert.MixIdeal.Att.A2 m c := g2
    have e3 : B3 m' c = Cert.MixIdeal.Att.A3 m c := g3
    have e4 : B4 m' c = Cert.MixIdeal.Att.A4 m c := g4
    rw [e0, e1, e2, e3, e4]
    exact ⟨(Cert.MixReferenceIdeal.Att.dpS_eq _ _ h1 h2).trans (Cert.MixIdeal.Att.final5 m c).symm,
      (Cert.MixReferenceIdeal.Att.dpbS_eq _ _ h1 h2).trans (Cert.MixIdeal.Att.final6 m c).symm,
      (Cert.MixReferenceIdeal.Att.dgS_eq _ _ _).trans (Cert.MixIdeal.Att.final7 m c).symm,
      (Cert.MixReferenceIdeal.Att.dbS_eq _).trans (Cert.MixIdeal.Att.final8 m c).symm,
      (Cert.MixReferenceIdeal.Att.dysS_eq _ _ _ h1 h2).trans (Cert.MixIdeal.Att.final9 m c).symm,
      (Cert.MixReferenceIdeal.Att.dymS_eq _ _ _ h1 h2).trans (Cert.MixIdeal.Att.final10 m c).symm⟩
  refine ⟨_, _, _, _, _, _, Cert.MixIdeal.Value.run_blocks m ρ, ?_⟩
  exact (θ_run Cert.MixReferenceIdeal.defs _ _).mono (fun _ h c => ⟨((h c).1).trans ((key c).1), ((h c).2.1).trans ((key c).2.1), ((h c).2.2.1).trans ((key c).2.2.1), ((h c).2.2.2.1).trans ((key c).2.2.2.1), ((h c).2.2.2.2.1).trans ((key c).2.2.2.2.1), ((h c).2.2.2.2.2.1).trans ((key c).2.2.2.2.2), (h c).2.2.2.2.2.2⟩)
    (Cert.MixReferenceIdeal.Value.run (F := Ideal) m' ρ')

end Cert.MixClaims

end
-- ==== Proof.EntryVal.lean ====
module

public import proofs.«01_k».proof.Proof.Gen.EntryIdeal.Value
public import Idealize.ShloMosaic.Lib.Pipeline.ValueKit
public import Idealize.ShloMosaic.Lib.Pointwise
public import Idealize.ShloMosaic.Lib.Tactic
public import Idealize.ShloMosaic.Lib.WritesUnit
public import Idealize.ShloMosaic.PureOps.Ideal

@[expose] public section

set_option maxRecDepth 16384

noncomputable section

open Idealize.ShloMosaic Idealize.ShloMosaic.TcCoe Idealize.SL.Sem
open Idealize.ShloMosaic.Pipeline (Dat)

namespace Cert.EntryIdeal.Att

open Cert.EntryIdeal Cert.EntryIdeal.Gen

/-- The scale of the residual stream. -/
abbrev al : EReal := FloatOps.ofBits (F := Ideal) .f32 0x3F9837F0#32

theorem hz2 : (![0, 0] : Fin 2 → Nat) = fun _ => 0 := funext fun a => by fin_cases a <;> rfl
theorem N_0 : cfg0.N = 4 := by decide +kernel

/-- A place among `n` of the `k`-th of a group that starts at `o`. -/
def kz {n b : ℕ} (o : ℕ) (h : o + b ≤ n) (k : Fin b) : Fin n := ⟨o + k.val, by omega⟩
/-- The same among the columns of the entry's weights. -/
abbrev ks {b : ℕ} (o : ℕ) (h : o + b ≤ 3248) (k : Fin b) : Fin 3248 := kz o h k

section
variable (x0 x2 x4 x6 x8 : Vec Ideal S1024x512 .bf16) (x1 x3 x5 x7 x9 : Vec Ideal S512x512 .bf16) (x10 : Vec Ideal S1024x896 .bf16) (x11 : Vec Ideal S896x512 .bf16)
  (x12 : Vec Ideal S1024x512 .f32) (r : Fin 1024) (q : Fin 512)

theorem pay2_at : (k0_pay2 x0 x1 x2 x3 x4 x5 x6 x7 x8 x9 (ix2 r q) : EReal) = (∑ k : Fin 512, (x0 (ix2 r k) : EReal) * x1 (ix2 k q)) + (∑ k : Fin 512, (x2 (ix2 r k) : EReal) * x3 (ix2 k q)) + (∑ k : Fin 512, (x4 (ix2 r k) : EReal) * x5 (ix2 k q)) + (∑ k : Fin 512, (x6 (ix2 r k) : EReal) * x7 (ix2 k q)) + (∑ k : Fin 512, (x8 (ix2 r k) : EReal) * x9 (ix2 k q)) := by
  pointwise [k0_pay2]
theorem pay1_at : (k0_pay1 (k0_pay2 x0 x1 x2 x3 x4 x5 x6 x7 x8 x9) (k0_pay3 x10) (k0_pay4 x11) x12 (ix2 r q) : EReal)
    = (∑ k : Fin 512, (x0 (ix2 r k) : EReal) * x1 (ix2 k q)) + (∑ k : Fin 512, (x2 (ix2 r k) : EReal) * x3 (ix2 k q)) + (∑ k : Fin 512, (x4 (ix2 r k) : EReal) * x5 (ix2 k q)) + (∑ k : Fin 512, (x6 (ix2 r k) : EReal) * x7 (ix2 k q)) + (∑ k : Fin 512, (x8 (ix2 r k) : EReal) * x9 (ix2 k q)) + (∑ k : Fin 896, (x10 (ix2 r k) : EReal) * x11 (ix2 k q)) + al * x12 (ix2 r q) := by
  rw [← pay2_at]
  pointwise [k0_pay1, k0_pay3, k0_pay4]

variable (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S512x512 .bf16) (harg6 : arg6.IsWhole) (arg7 : Memref sig .tc .vmem S1024x512 .bf16) (harg7 : arg7.IsWhole) (arg8 : Memref sig .tc .vmem S512x512 .bf16) (harg8 : arg8.IsWhole) (arg9 : Memref sig .tc .vmem S1024x512 .bf16) (harg9 : arg9.IsWhole) (arg10 : Memref sig .tc .vmem S512x512 .bf16) (harg10 : arg10.IsWhole) (arg11 : Memref sig .tc .vmem S1024x512 .bf16) (harg11 : arg11.IsWhole) (arg12 : Memref sig .tc .vmem S512x512 .bf16) (harg12 : arg12.IsWhole) (arg13 : Memref sig .tc .vmem S1024x896 .bf16) (harg13 : arg13.IsWhole) (arg14 : Memref sig .tc .vmem S896x512 .bf16) (harg14 : arg14.IsWhole) (arg15 : Memref sig .tc .vmem S1024x512 .f32) (harg15 : arg15.IsWhole) (arg16 : Memref sig .tc .vmem S1024x512 .f32) (harg16 : arg16.IsWhole)

theorem out13 : (out0_A_13 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 (ix2 r q) : EReal)
    = (∑ k : Fin 512, (x0 (ix2 r k) : EReal) * x1 (ix2 k q)) + (∑ k : Fin 512, (x2 (ix2 r k) : EReal) * x3 (ix2 k q)) + (∑ k : Fin 512, (x4 (ix2 r k) : EReal) * x5 (ix2 k q)) + (∑ k : Fin 512, (x6 (ix2 r k) : EReal) * x7 (ix2 k q)) + (∑ k : Fin 512, (x8 (ix2 r k) : EReal) * x9 (ix2 k q)) + (∑ k : Fin 896, (x10 (ix2 r k) : EReal) * x11 (ix2 k q)) + al * x12 (ix2 r q) := by
  unfold out0_A_13 kernelRun0_A
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1024x512) hz2, View.ld_unit_zero (S := S512x512) hz2, View.ld_unit_zero (S := S1024x896) hz2, View.ld_unit_zero (S := S896x512) hz2]
  rw [View.read_writes_cons_unit_of_mem _ _ _ _ _ _ (ix2 r q) rfl (by intro a; fin_cases a <;> simp)]
  exact pay1_at ..
end

section
variable (m : (ℓ : Loc nD τ sig) → Buf (Elt Ideal) ℓ) (c : Dev nD)

theorem idx : ∀ t : Fin cfg0.N, win0_0.index t = ![t.val / 2, 0] ∧ win0_1.index t = ![0, t.val % 2] ∧ win0_2.index t = ![t.val / 2, 1] ∧ win0_3.index t = ![1, t.val % 2]
    ∧ win0_4.index t = ![t.val / 2, 0] ∧ win0_5.index t = ![2, t.val % 2] ∧ win0_6.index t = ![t.val / 2, 1] ∧ win0_7.index t = ![3, t.val % 2]
    ∧ win0_8.index t = ![t.val / 2, 2] ∧ win0_9.index t = ![4, t.val % 2] ∧ win0_10.index t = ![t.val / 2, 0] ∧ win0_11.index t = ![0, t.val % 2]
    ∧ win0_12.index t = ![t.val / 2, t.val % 2] ∧ win0_13.index t = ![t.val / 2, t.val % 2] :=
  (by decide +kernel : ∀ t : Fin grid0.N, _)

/-- The row and the column of a point's `r`-th row and `q`-th column. -/
def rt (t : Fin cfg0.N) (r : Fin 1024) : Fin 2048 := ⟨1024 * (t.val / 2) + r.val, by have := t.isLt; have := N_0; omega⟩
def ct (t : Fin cfg0.N) (q : Fin 512) : Fin 1024 := ⟨512 * (t.val % 2) + q.val, by omega⟩

/-- The six arguments. -/
abbrev A0 : S2048x1024.Idx → EReal := m ((c.tc : Thread nD τ).loc main_arg0)
abbrev A1 : S2048x1536.Idx → EReal := m ((c.tc : Thread nD τ).loc main_arg1)
abbrev A2 : S2048x768.Idx → EReal := m ((c.tc : Thread nD τ).loc main_arg2)
abbrev A3 : S2048x128.Idx → EReal := m ((c.tc : Thread nD τ).loc main_arg3)
abbrev A4 : S1024x3248.Idx → EReal := m ((c.tc : Thread nD τ).loc main_arg4)
abbrev A5 : S2048x1024.Idx → EReal := m ((c.tc : Thread nD τ).loc main_arg5)

/-! ## The arrays prepared before the call -/

/-- The weights with their columns as rows. -/
def tS (w : FVec Ideal S1024x3248 .f32) : FVec Ideal S3248x1024 .bf16 := transpose S3248x1024 [1, 0] (truncf .bf16 w bitsLt_bf16_f32) transposes_S1024x3248_S3248x1024_1_0
/-- The rows that meet the latent gradients and the time steps' gradients, with rows of zeros between and after. -/
def smallS (w : FVec Ideal S1024x3248 .f32) : FVec Ideal S1024x1024 .bf16 :=
  concatenate S1024x1024 0 [⟨S384x1024, extractStridedSlice S384x1024 ![2576, 0] (tS w) slices_S3248x1024_S384x1024_2576_0⟩,
    ⟨S256x1024, extractStridedSlice S256x1024 ![2960, 0] (tS w) slices_S3248x1024_S256x1024_2960_0⟩,
    ⟨S32x1024, extractStridedSlice S32x1024 ![3216, 0] (tS w) slices_S3248x1024_S32x1024_3216_0⟩,
    ⟨S96x1024, broadcastInDim S96x1024 ![] bcast_S_S96x1024 (constant S_ .bf16 0x0000#16)⟩,
    ⟨S16x1024, extractStridedSlice S16x1024 ![2560, 0] (tS w) slices_S3248x1024_S16x1024_2560_0⟩,
    ⟨S240x1024, broadcastInDim S240x1024 ![] bcast_S_S240x1024 (constant S_ .bf16 0x0000#16)⟩] concatenates_S384x1024_S256x1024_S32x1024_S96x1024_S16x1024_S240x1024_S1024x1024_d0
/-- The latent gradients and the time steps' gradients side by side. -/
def sideS (l : FVec Ideal S2048x768 .bf16) (d : FVec Ideal S2048x128 .f32) : FVec Ideal S2048x896 .bf16 :=
  concatenate S2048x896 1 [⟨S2048x768, l⟩, ⟨S2048x128, truncf .bf16 d bitsLt_bf16_f32⟩] concatenates_S2048x768_S2048x128_S2048x896_d1

theorem V1 : V m c main_v1 = tS (A4 m c) := by
  entry_read; rfl
theorem V8 : V m c main_v8 = smallS (A4 m c) := by
  unfold smallS tS
  show StableHlo.after hostOps0 _ _ = _
  after_results
  rfl
theorem V10 : V m c main_v10 = sideS (A2 m c) (A3 m c) := by
  entry_read; rfl

theorem tS_at (w : FVec Ideal S1024x3248 .f32) (k : Fin 3248) (q : Fin 1024) : (tS w (ix2 k q) : EReal) = w (ix2 q k) := by
  pointwise [tS]
theorem V1_at (k : Fin 3248) (q : Fin 1024) : (V m c main_v1 : S3248x1024.Idx → EReal) (ix2 k q) = A4 m c (ix2 q k) := by
  rw [V1]
  exact tS_at _ k q

/-! ## The blocks of a point -/

theorem lblk0 (t : Fin cfg0.N) (r : Fin 1024) (k : Fin 512) : (iblk m c 0 t : S1024x512.Idx → EReal) (ix2 r k) = A0 m c (ix2 (rt t r) (kz (n := 1024) 0 (by omega) k)) := by
  refine Eq.trans ?_ (congrFun (V_main_arg0 m c) _)
  blk_ext [iblk, idx t, rt, kz]
theorem lblk2 (t : Fin cfg0.N) (r : Fin 1024) (k : Fin 512) : (iblk m c 2 t : S1024x512.Idx → EReal) (ix2 r k) = A0 m c (ix2 (rt t r) (kz (n := 1024) 512 (by omega) k)) := by
  refine Eq.trans ?_ (congrFun (V_main_arg0 m c) _)
  blk_ext [iblk, idx t, rt, kz]
theorem lblk4 (t : Fin cfg0.N) (r : Fin 1024) (k : Fin 512) : (iblk m c 4 t : S1024x512.Idx → EReal) (ix2 r k) = A1 m c (ix2 (rt t r) (kz (n := 1536) 0 (by omega) k)) := by
  refine Eq.trans ?_ (congrFun (V_main_arg1 m c) _)
  blk_ext [iblk, idx t, rt, kz]
theorem lblk6 (t : Fin cfg0.N) (r : Fin 1024) (k : Fin 512) : (iblk m c 6 t : S1024x512.Idx → EReal) (ix2 r k) = A1 m c (ix2 (rt t r) (kz (n := 1536) 512 (by omega) k)) := by
  refine Eq.trans ?_ (congrFun (V_main_arg1 m c) _)
  blk_ext [iblk, idx t, rt, kz]
theorem lblk8 (t : Fin cfg0.N) (r : Fin 1024) (k : Fin 512) : (iblk m c 8 t : S1024x512.Idx → EReal) (ix2 r k) = A1 m c (ix2 (rt t r) (kz (n := 1536) 1024 (by omega) k)) := by
  refine Eq.trans ?_ (congrFun (V_main_arg1 m c) _)
  blk_ext [iblk, idx t, rt, kz]
theorem wblk1 (t : Fin cfg0.N) (k q : Fin 512) : (X0_1 m c t : S512x512.Idx → EReal) (ix2 k q) = A4 m c (ix2 (ct t q) (ks 0 (by omega) k)) := by
  refine Eq.trans ?_ (V1_at m c _ _)
  unfold X0_1 Pipeline.Window.fill
  rw [dif_pos (moved0_1 t _)]
  blk_ext [iblk, idx t, rt, ct, kz]
theorem wblk3 (t : Fin cfg0.N) (k q : Fin 512) : (X0_3 m c t : S512x512.Idx → EReal) (ix2 k q) = A4 m c (ix2 (ct t q) (ks 512 (by omega) k)) := by
  refine Eq.trans ?_ (V1_at m c _ _)
  unfold X0_3 Pipeline.Window.fill
  rw [dif_pos (moved0_3 t _)]
  blk_ext [iblk, idx t, rt, ct, kz]
theorem wblk5 (t : Fin cfg0.N) (k q : Fin 512) : (X0_5 m c t : S512x512.Idx → EReal) (ix2 k q) = A4 m c (ix2 (ct t q) (ks 1024 (by omega) k)) := by
  refine Eq.trans ?_ (V1_at m c _ _)
  unfold X0_5 Pipeline.Window.fill
  rw [dif_pos (moved0_5 t _)]
  blk_ext [iblk, idx t, rt, ct, kz]
theorem wblk7 (t : Fin cfg0.N) (k q : Fin 512) : (X0_7 m c t : S512x512.Idx → EReal) (ix2 k q) = A4 m c (ix2 (ct t q) (ks 1536 (by omega) k)) := by
  refine Eq.trans ?_ (V1_at m c _ _)
  unfold X0_7 Pipeline.Window.fill
  rw [dif_pos (moved0_7 t _)]
  blk_ext [iblk, idx t, rt, ct, kz]
theorem wblk9 (t : Fin cfg0.N) (k q : Fin 512) : (X0_9 m c t : S512x512.Idx → EReal) (ix2 k q) = A4 m c (ix2 (ct t q) (ks 2048 (by omega) k)) := by
  refine Eq.trans ?_ (V1_at m c _ _)
  unfold X0_9 Pipeline.Window.fill
  rw [dif_pos (moved0_9 t _)]
  blk_ext [iblk, idx t, rt, ct, kz]
theorem sblk (t : Fin cfg0.N) (r : Fin 1024) (k : Fin 896) : (iblk m c 10 t : S1024x896.Idx → EReal) (ix2 r k) = sideS (A2 m c) (A3 m c) (ix2 (rt t r) k) := by
  refine Eq.trans ?_ (congrFun (V10 m c) _)
  blk_ext [iblk, idx t, rt]
theorem wblk11 (t : Fin cfg0.N) (k : Fin 896) (q : Fin 512) : (X0_11 m c t : S896x512.Idx → EReal) (ix2 k q) = smallS (A4 m c) (ix2 (kz (n := 1024) 0 (by omega) k) (ct t q)) := by
  refine Eq.trans ?_ (congrFun (V8 m c) _)
  unfold X0_11 Pipeline.Window.fill
  rw [dif_pos (moved0_11 t _)]
  blk_ext [iblk, idx t, ct, kz]
theorem pblk (t : Fin cfg0.N) (r : Fin 1024) (q : Fin 512) : (iblk m c 12 t : S1024x512.Idx → EReal) (ix2 r q) = A5 m c (ix2 (rt t r) (ct t q)) := by
  refine Eq.trans ?_ (congrFun (V_main_arg5 m c) _)
  blk_ext [iblk, idx t, rt, ct]

/-- The kernel's array: five products of 512 columns, the product of the small arrays, and the residual's part. -/
def entryA (z : S2048x1024.Idx → EReal) (x : S2048x1536.Idx → EReal) (l : FVec Ideal S2048x768 .bf16) (d : FVec Ideal S2048x128 .f32) (w : FVec Ideal S1024x3248 .f32) (p : S2048x1024.Idx → EReal)
    (i : Fin 2048) (q : Fin 1024) : EReal :=
  (∑ k : Fin 512, z (ix2 i (kz (n := 1024) 0 (by omega) k)) * w (ix2 q (ks 0 (by omega) k)))
    + (∑ k : Fin 512, z (ix2 i (kz (n := 1024) 512 (by omega) k)) * w (ix2 q (ks 512 (by omega) k)))
    + (∑ k : Fin 512, x (ix2 i (kz (n := 1536) 0 (by omega) k)) * w (ix2 q (ks 1024 (by omega) k)))
    + (∑ k : Fin 512, x (ix2 i (kz (n := 1536) 512 (by omega) k)) * w (ix2 q (ks 1536 (by omega) k)))
    + (∑ k : Fin 512, x (ix2 i (kz (n := 1536) 1024 (by omega) k)) * w (ix2 q (ks 2048 (by omega) k)))
    + (∑ k : Fin 896, (sideS l d (ix2 i k) : EReal) * smallS w (ix2 (kz (n := 1024) 0 (by omega) k) q)) + al * p (ix2 i q)

theorem res (t : Fin cfg0.N) (r : Fin 1024) (q : Fin 512) :
    (outsAt0 m c t : S1024x512.Idx → EReal) (ix2 r q) = entryA (A0 m c) (A1 m c) (A2 m c) (A3 m c) (A4 m c) (A5 m c) (rt t r) (ct t q) := by
  refine (out13 ..).trans ?_
  unfold entryA
  simp only [lblk0, lblk2, lblk4, lblk6, lblk8, wblk1, wblk3, wblk5, wblk7, wblk9, sblk, wblk11, pblk]
/-- The result array holds `G` when every point's block holds its part of `G`. -/
theorem arr_of (G : S2048x1024.Idx → EReal)
    (hG : ∀ (t : Fin cfg0.N) (r : Fin 1024) (q : Fin 512), (outsAt0 m c t : S1024x512.Idx → EReal) (ix2 r q) = G (ix2 (rt t r) (ct t q))) :
    (dats m 0 c).arrAt 13 cfg0.N = G := by
  refine (dats m 0 c).arrAt_eq_of_covers 13 _ (by decide +kernel) fun t _ y => ?_
  blk_simp
  rw [after0_13]
  idx_vars y
  refine (hG t y0 y1).trans (congrArg G ?_)
  blk_ext [idx t, rt, ct]
theorem final13 : (dats m 0 c).arrAt 13 cfg0.N = fun j : S2048x1024.Idx => entryA (A0 m c) (A1 m c) (A2 m c) (A3 m c) (A4 m c) (A5 m c) (j 0) (j 1) :=
  arr_of m c _ fun t r q => res m c t r q
end

end Cert.EntryIdeal.Att

end
-- ==== Proof.EntryRef.lean ====
module

public import proofs.«01_k».proof.Proof.EntryVal
public import proofs.«01_k».proof.Proof.Gen.EntryReferenceIdeal.Run

@[expose] public section

set_option maxRecDepth 16384

noncomputable section

open Idealize.ShloMosaic Idealize.ShloMosaic.TcCoe Idealize.SL.Sem

namespace Cert.EntryIdeal.Att

open Cert.EntryIdeal

/-! ## The small product, group by group -/

/-- A sum over 896 places is the sum of its groups. -/
theorem sum_groups (f : Fin 896 → EReal) : ∑ k, f k
    = (∑ k : Fin 384, f (kz 0 (by omega) k)) + (∑ k : Fin 256, f (kz 384 (by omega) k)) + (∑ k : Fin 32, f (kz 640 (by omega) k)) + (∑ k : Fin 96, f (kz 672 (by omega) k))
      + (∑ k : Fin 16, f (kz 768 (by omega) k)) + (∑ k : Fin 112, f (kz 784 (by omega) k)) := by
  rw [Fin.sum_univ_two_halves 784 112 rfl f, Fin.sum_univ_two_halves 768 16 rfl, Fin.sum_univ_two_halves 672 96 rfl, Fin.sum_univ_two_halves 640 32 rfl,
    Fin.sum_univ_two_halves 384 256 rfl]
  simp only [kz, Nat.zero_add]

section
variable (w : FVec Ideal S1024x3248 .f32) (l : FVec Ideal S2048x768 .bf16) (d : FVec Ideal S2048x128 .f32) (i : Fin 2048) (q : Fin 1024)

theorem small_1 (k : Fin 384) : (smallS w (ix2 (kz (n := 1024) 0 (by omega) (kz (n := 896) 0 (by omega) k)) q) : EReal) = w (ix2 q (ks 2576 (by omega) k)) := by
  pointwise [smallS, kz]
  exact (tS_at ..).trans (congrArg (fun k => w (ix2 q k)) (Fin.ext (by simp only [kz])))
theorem small_2 (k : Fin 256) : (smallS w (ix2 (kz (n := 1024) 0 (by omega) (kz (n := 896) 384 (by omega) k)) q) : EReal) = w (ix2 q (ks 2960 (by omega) k)) := by
  pointwise [smallS, kz]
  exact (tS_at ..).trans (congrArg (fun k => w (ix2 q k)) (Fin.ext (by simp only [kz])))
theorem small_3 (k : Fin 32) : (smallS w (ix2 (kz (n := 1024) 0 (by omega) (kz (n := 896) 640 (by omega) k)) q) : EReal) = w (ix2 q (ks 3216 (by omega) k)) := by
  pointwise [smallS, kz]
  rw [dif_neg (by omega), dif_neg (by omega), dif_pos (by omega)]
  exact (tS_at ..).trans (congrArg (fun k => w (ix2 q k)) (Fin.ext (by simp only [kz]; omega)))
theorem small_4 (k : Fin 96) : (smallS w (ix2 (kz (n := 1024) 0 (by omega) (kz (n := 896) 672 (by omega) k)) q) : EReal) = 0 := by
  pointwise [smallS, kz]
  rw [dif_neg (by omega), dif_neg (by omega), dif_neg (by omega), dif_pos (by omega)]
theorem small_5 (k : Fin 16) : (smallS w (ix2 (kz (n := 1024) 0 (by omega) (kz (n := 896) 768 (by omega) k)) q) : EReal) = w (ix2 q (ks 2560 (by omega) k)) := by
  pointwise [smallS, kz]
  rw [dif_neg (by omega), dif_neg (by omega), dif_neg (by omega), dif_neg (by omega), dif_pos (by omega)]
  exact (tS_at ..).trans (congrArg (fun k => w (ix2 q k)) (Fin.ext (by simp only [kz]; omega)))
theorem small_6 (k : Fin 112) : (smallS w (ix2 (kz (n := 1024) 0 (by omega) (kz (n := 896) 784 (by omega) k)) q) : EReal) = 0 := by
  pointwise [smallS, kz]
  rw [dif_neg (by omega), dif_neg (by omega), dif_neg (by omega), dif_neg (by omega), dif_neg (by omega)]
theorem side_1 (k : Fin 384) : (sideS l d (ix2 i (kz (n := 896) 0 (by omega) k)) : EReal) = l (ix2 i (kz (n := 768) 0 (by omega) k)) := by
  pointwise [sideS, kz]
  rw [dif_pos (by omega)]
theorem side_2 (k : Fin 256) : (sideS l d (ix2 i (kz (n := 896) 384 (by omega) k)) : EReal) = l (ix2 i (kz (n := 768) 384 (by omega) k)) := by
  pointwise [sideS, kz]
  rw [dif_pos (by omega)]
theorem side_3 (k : Fin 32) : (sideS l d (ix2 i (kz (n := 896) 640 (by omega) k)) : EReal) = l (ix2 i (kz (n := 768) 640 (by omega) k)) := by
  pointwise [sideS, kz]
  rw [dif_pos (by omega)]
theorem side_5 (k : Fin 16) : (sideS l d (ix2 i (kz (n := 896) 768 (by omega) k)) : EReal) = d (ix2 i (kz (n := 128) 0 (by omega) k)) := by
  pointwise [sideS, kz]
/-- The small product is the latent gradients' and the time steps' parts; the rows of zeros add nothing. -/
theorem small_sum : (∑ k : Fin 896, (sideS l d (ix2 i k) : EReal) * smallS w (ix2 (kz (n := 1024) 0 (by omega) k) q))
    = (∑ k : Fin 384, (l (ix2 i (kz (n := 768) 0 (by omega) k)) : EReal) * w (ix2 q (ks 2576 (by omega) k)))
      + (∑ k : Fin 256, (l (ix2 i (kz (n := 768) 384 (by omega) k)) : EReal) * w (ix2 q (ks 2960 (by omega) k)))
      + (∑ k : Fin 32, (l (ix2 i (kz (n := 768) 640 (by omega) k)) : EReal) * w (ix2 q (ks 3216 (by omega) k)))
      + (∑ k : Fin 16, (d (ix2 i (kz (n := 128) 0 (by omega) k)) : EReal) * w (ix2 q (ks 2560 (by omega) k))) := by
  rw [sum_groups]
  simp only [small_1, small_2, small_3, small_4, small_5, small_6, side_1, side_2, side_3, side_5, mul_zero, Finset.sum_const_zero, add_zero]

/-- Sums over 1024 and 1536 places by 512. -/
theorem sum_two (f : Fin 1024 → EReal) : ∑ k, f k = (∑ k : Fin 512, f (kz 0 (by omega) k)) + ∑ k : Fin 512, f (kz 512 (by omega) k) := by
  rw [Fin.sum_univ_two_halves 512 512 rfl f]
  simp only [kz, Nat.zero_add]
theorem sum_three (f : Fin 1536 → EReal) : ∑ k, f k
    = (∑ k : Fin 512, f (kz 0 (by omega) k)) + (∑ k : Fin 512, f (kz 512 (by omega) k)) + ∑ k : Fin 512, f (kz 1024 (by omega) k) := by
  rw [Fin.sum_univ_two_halves 1024 512 rfl f, Fin.sum_univ_two_halves 512 512 rfl]
  simp only [kz, Nat.zero_add]
end
end Cert.EntryIdeal.Att

namespace Cert.EntryReferenceIdeal.Att

open Cert.EntryReferenceIdeal Cert.EntryReferenceIdeal.Gen Cert.EntryIdeal.Att

/-- The gradients of the entry's columns, side by side. -/
def catS (z : FVec Ideal S2048x1024 .bf16) (x : FVec Ideal S2048x1536 .bf16) (l : FVec Ideal S2048x768 .bf16) (d : FVec Ideal S2048x128 .f32) : FVec Ideal S2048x3248 .f32 :=
  ((concatenate S2048x3248 1 [⟨S2048x1024, ((extf .f32 z bitsLt_bf16_f32) : (⟨S2048x1024, .f32⟩ : BufTy).Contents (Elt Ideal))⟩, ⟨S2048x1536, ((extf .f32 x bitsLt_bf16_f32) : (⟨S2048x1536, .f32⟩ : BufTy).Contents (Elt Ideal))⟩, ⟨S2048x16, ((extractStridedSlice S2048x16 ![0, 0] d slices_S2048x128_S2048x16_0_0) : (⟨S2048x16, .f32⟩ : BufTy).Contents (Elt Ideal))⟩, ⟨S2048x384, ((extractStridedSlice S2048x384 ![0, 0] (extf .f32 l bitsLt_bf16_f32) slices_S2048x768_S2048x384_0_0) : (⟨S2048x384, .f32⟩ : BufTy).Contents (Elt Ideal))⟩, ⟨S2048x256, ((extractStridedSlice S2048x256 ![0, 384] (extf .f32 l bitsLt_bf16_f32) slices_S2048x768_S2048x256_0_384) : (⟨S2048x256, .f32⟩ : BufTy).Contents (Elt Ideal))⟩, ⟨S2048x32, ((extractStridedSlice S2048x32 ![0, 640] (extf .f32 l bitsLt_bf16_f32) slices_S2048x768_S2048x32_0_640) : (⟨S2048x32, .f32⟩ : BufTy).Contents (Elt Ideal))⟩] concatenates_S2048x1024_S2048x1536_S2048x16_S2048x384_S2048x256_S2048x32_S2048x3248_d1 : (⟨S2048x3248, .f32⟩ : BufTy).Contents (Elt Ideal)))
/-- The reference's result. -/
def entryS (z : FVec Ideal S2048x1024 .bf16) (x : FVec Ideal S2048x1536 .bf16) (l : FVec Ideal S2048x768 .bf16) (d : FVec Ideal S2048x128 .f32) (w : FVec Ideal S1024x3248 .f32) (p : FVec Ideal S2048x1024 .f32) : FVec Ideal S2048x1024 .f32 :=
  addf (mulf (broadcastInDim S2048x1024 ![] bcast_S_S2048x1024 (constant S_ .f32 0x3F9837F0#32)) p) (Host.dotGeneral dot_S2048x3248_S1024x3248_S2048x1024_1_1_0_0_n_n none (catS z x l d) w)

section
variable (z : FVec Ideal S2048x1024 .bf16) (x : FVec Ideal S2048x1536 .bf16) (l : FVec Ideal S2048x768 .bf16) (d : FVec Ideal S2048x128 .f32) (w : FVec Ideal S1024x3248 .f32) (p : FVec Ideal S2048x1024 .f32)
  (i : Fin 2048) (q : Fin 1024)
theorem entryS_at : (entryS z x l d w p (ix2 i q) : EReal) = al * p (ix2 i q)
    + ((∑ k : Fin 1024, (z (ix2 i k) : EReal) * w (ix2 q (ks 0 (by omega) k)))
      + ((∑ k : Fin 1536, (x (ix2 i k) : EReal) * w (ix2 q (ks 1024 (by omega) k)))
      + ((∑ k : Fin 16, (d (ix2 i (kz (n := 128) 0 (by omega) k)) : EReal) * w (ix2 q (ks 2560 (by omega) k)))
      + ((∑ k : Fin 384, (l (ix2 i (kz (n := 768) 0 (by omega) k)) : EReal) * w (ix2 q (ks 2576 (by omega) k)))
      + ((∑ k : Fin 256, (l (ix2 i (kz (n := 768) 384 (by omega) k)) : EReal) * w (ix2 q (ks 2960 (by omega) k)))
      + (∑ k : Fin 32, (l (ix2 i (kz (n := 768) 640 (by omega) k)) : EReal) * w (ix2 q (ks 3216 (by omega) k)))))))) := by
  pointwise [entryS, catS, sumSplitAll]
  simp only [kz, ← Nat.add_assoc, Nat.reduceAdd, Nat.zero_add]
/-- The reference's array is the kernel's, the parts of the sum in another order. -/
theorem entryS_eq : entryS z x l d w p = fun j : S2048x1024.Idx => entryA z x l d w p (j 0) (j 1) := by
  funext j
  idx_vars j
  refine (entryS_at z x l d w p j0 j1).trans ?_
  rw [sum_two, sum_three]
  show _ = entryA z x l d w p j0 j1
  unfold entryA
  rw [small_sum]
  simp only [kz, ← Nat.add_assoc, Nat.reduceAdd, Nat.zero_add]
  abel
end

end Cert.EntryReferenceIdeal.Att

end
-- ==== Proof.EntryClaims.lean ====
module

public import proofs.«01_k».proof.Defs
public import proofs.«01_k».proof.Proof.Gen.Entry.Frame
public import proofs.«01_k».proof.Proof.EntryRef
public import Idealize.ShloMosaic.Lib.Quiescent

@[expose] public section

set_option maxRecDepth 16384

noncomputable section

open Idealize.ShloMosaic Idealize.ShloMosaic.TcCoe Idealize.SL.Sem

namespace Cert.EntryClaims

theorem frame_p : Cert.quiescent_Entry := fun m ρ _ => Cert.Entry.Gen.frame m ρ
theorem frame_pi : Cert.quiescent_EntryIdeal := fun m ρ _ => Cert.EntryIdeal.Gen.frame m ρ
theorem frame_ri : Cert.quiescent_EntryReferenceIdeal := fun m ρ _ =>
  (θ_run Cert.EntryReferenceIdeal.defs _ _).mono (fun r h => ⟨fun c => (h c).2, sem_eq_zero_of_no_sems (by decide) r.2⟩)
    (Cert.EntryReferenceIdeal.Value.run (F := Ideal) m ρ)

/-- No operation is replaced. -/
theorem preserves : Cert.preserves_Entry_EntryIdeal := trivial

section
open Cert.EntryReferenceIdeal

variable (m : (ℓ : Loc nD τ sig) → Buf (Elt Ideal) ℓ) (c : Dev nD)

abbrev B0 : FVec Ideal S2048x1024 .bf16 := m ((c.tc : Thread nD τ).loc main_arg0)
abbrev B1 : FVec Ideal S2048x1536 .bf16 := m ((c.tc : Thread nD τ).loc main_arg1)
abbrev B2 : FVec Ideal S2048x768 .bf16 := m ((c.tc : Thread nD τ).loc main_arg2)
abbrev B3 : FVec Ideal S2048x128 .f32 := m ((c.tc : Thread nD τ).loc main_arg3)
abbrev B4 : FVec Ideal S1024x3248 .f32 := m ((c.tc : Thread nD τ).loc main_arg4)
abbrev B5 : FVec Ideal S2048x1024 .f32 := m ((c.tc : Thread nD τ).loc main_arg5)
end

/-- The kernel's array is the derivative of the entry's products and of the residual's scaled copy with respect to the layer's input. -/
theorem algebraic : Cert.algebraic_EntryIdeal_EntryReferenceIdeal := by
  intro m ρ m' ρ' _ hagree
  have key : ∀ c : Dev Cert.EntryIdeal.nD,
      Cert.EntryReferenceIdeal.Att.entryS (B0 m' c) (B1 m' c) (B2 m' c) (B3 m' c) (B4 m' c) (B5 m' c) = (Cert.EntryIdeal.Gen.dats m 0 c).arrAt 13 Cert.EntryIdeal.cfg0.N := fun c => by
    obtain ⟨g0, g1, g2, g3, g4, g5⟩ := hagree c
    have e0 : B0 m' c = Cert.EntryIdeal.Att.A0 m c := g0
    have e1 : B1 m' c = Cert.EntryIdeal.Att.A1 m c := g1
    have e2 : B2 m' c = Cert.EntryIdeal.Att.A2 m c := g2
    have e3 : B3 m' c = Cert.EntryIdeal.Att.A3 m c := g3
    have e4 : B4 m' c = Cert.EntryIdeal.Att.A4 m c := g4
    have e5 : B5 m' c = Cert.EntryIdeal.Att.A5 m c := g5
    rw [e0, e1, e2, e3, e4, e5, Cert.EntryIdeal.Att.final13]
    exact Cert.EntryReferenceIdeal.Att.entryS_eq _ _ _ _ _ _
  refine ⟨_, Cert.EntryIdeal.Value.run_blocks m ρ, ?_⟩
  exact (θ_run Cert.EntryReferenceIdeal.defs _ _).mono (fun _ h c => ⟨(h c).1.trans (key c), (h c).2⟩)
    (Cert.EntryReferenceIdeal.Value.run (F := Ideal) m' ρ')

end Cert.EntryClaims

end
-- ==== Proof.NormVal.lean ====
module

public import proofs.«01_k».proof.Proof.Gen.NormIdeal.Value
public import proofs.«01_k».proof.Proof.NormRow
public import Idealize.ShloMosaic.Lib.Pipeline.ValueKit
public import Idealize.ShloMosaic.Lib.Pointwise
public import Idealize.ShloMosaic.Lib.Tactic
public import Idealize.ShloMosaic.Lib.WritesUnit
public import Idealize.ShloMosaic.PureOps.Ideal

@[expose] public section

set_option maxRecDepth 16384

noncomputable section

open Idealize.ShloMosaic Idealize.ShloMosaic.TcCoe Idealize.SL.Sem
open Idealize.ShloMosaic.Pipeline (Dat)

namespace Cert.NormIdeal.Att

open Cert.NormIdeal Cert.NormIdeal.Gen
open Cert.NormRow (Row rowOf eps qV rV dvV)

/-- What a row adds to the weights' gradient. -/
def dwV (v g : Row) (k : Fin 1024) : EReal := g k * v k * rV eps v

theorem hz2 : (![0, 0] : Fin 2 → Nat) = fun _ => 0 := funext fun a => by fin_cases a <;> rfl
theorem N_0 : cfg0.N = 8 := by decide +kernel

section
variable (x0 x2 : Vec Ideal S256x1024 .f32) (x1 : Vec Ideal S1x1024 .f32) (i : Fin 256) (k : Fin 1024)

theorem pay1_at : (k0_pay1 x0 (ix2 i 0) : EReal) = rV eps (rowOf x0 i) := by
  unfold rV qV
  pointwise [k0_pay1]
theorem pay2_at : (k0_pay2 x0 x2 x1 (ix2 i k) : EReal) = dvV eps (rowOf x0 i) (rowOf x1 0) (rowOf x2 i) k := by
  unfold dvV
  simp only [← pay1_at]
  pointwise [k0_pay2]
theorem pay3_at : ((k0_pay3 (F := Ideal)) (ix2 0 k) : EReal) = 0 := by
  pointwise [k0_pay3]
theorem pay4_at (xo : Vec Ideal S1x1024 .f32) : (k0_pay4 x0 x2 xo (ix2 0 k) : EReal) = (xo (ix2 0 k) : EReal) + ∑ i : Fin 256, dwV (rowOf x0 i) (rowOf x2 i) k := by
  unfold dwV
  simp only [← pay1_at]
  pointwise [k0_pay4]
end

/-! ## What a point leaves -/

section
variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1x1024 .f32) (harg5 : arg5.IsWhole)
  (x0 x2 : Vec Ideal S256x1024 .f32) (x1 xo : Vec Ideal S1x1024 .f32)

theorem outA3 (hc0 : cond0_0 i) (r : Fin 256) (k : Fin 1024) :
    (out0_A_3 (F := Ideal) c i arg1 harg1 arg2 harg2 arg3 harg3 arg4 harg4 arg5 harg5 hc0 x0 x1 x2 (ix2 r k) : EReal) = dvV eps (rowOf x0 r) (rowOf x1 0) (rowOf x2 r) k := by
  unfold out0_A_3 kernelRun0_A
  dsimp only
  sl_unfold_words
  simp only [View.readAt_eq_ld, harg1.read_unread, harg2.read_unread, harg3.read_unread, View.ld_unit_zero (S := S256x1024) hz2, View.ld_unit_zero (S := S1x1024) hz2]
  rw [View.read_writes_cons_unit_of_mem _ _ _ _ _ _ (ix2 r k) rfl (by intro a; fin_cases a <;> simp)]
  exact pay2_at ..
theorem outA4 (hc0 : cond0_0 i) (k : Fin 1024) :
    (out0_A_4 (F := Ideal) c i arg1 harg1 arg2 harg2 arg3 harg3 arg4 harg4 arg5 harg5 hc0 x0 x1 x2 (ix2 0 k) : EReal) = ∑ r : Fin 256, dwV (rowOf x0 r) (rowOf x2 r) k := by
  unfold out0_A_4 kernelRun0_A
  dsimp only
  sl_unfold_words
  simp only [View.readAt_eq_ld, harg1.read_unread, harg2.read_unread, harg3.read_unread, View.ld_unit_zero (S := S256x1024) hz2, View.ld_unit_zero (S := S1x1024) hz2]
  rw [View.read_writes_cons_unit_of_mem _ _ _ _ _ _ (ix2 0 k) rfl (by intro a; fin_cases a <;> simp)]
  refine (pay4_at ..).trans ?_
  rw [View.readCov_unit_zero (S := S1x1024) _ hz2, pay3_at, zero_add]
theorem outB3 (hc0 : ¬cond0_0 i) (r : Fin 256) (k : Fin 1024) :
    (out0_B_3 (F := Ideal) c i arg1 harg1 arg2 harg2 arg3 harg3 arg4 harg4 arg5 harg5 hc0 x0 x1 x2 xo (ix2 r k) : EReal) = dvV eps (rowOf x0 r) (rowOf x1 0) (rowOf x2 r) k := by
  unfold out0_B_3 kernelRun0_B
  dsimp only
  sl_unfold_words
  simp only [View.readAt_eq_ld, harg1.read_unread, harg2.read_unread, harg3.read_unread, View.ld_unit_zero (S := S256x1024) hz2, View.ld_unit_zero (S := S1x1024) hz2]
  rw [View.read_writes_cons_unit_of_mem _ _ _ _ _ _ (ix2 r k) rfl (by intro a; fin_cases a <;> simp)]
  exact pay2_at ..
theorem outB4 (hc0 : ¬cond0_0 i) (k : Fin 1024) :
    (out0_B_4 (F := Ideal) c i arg1 harg1 arg2 harg2 arg3 harg3 arg4 harg4 arg5 harg5 hc0 x0 x1 x2 xo (ix2 0 k) : EReal) = (xo (ix2 0 k) : EReal) + ∑ r : Fin 256, dwV (rowOf x0 r) (rowOf x2 r) k := by
  unfold out0_B_4 kernelRun0_B
  dsimp only
  sl_unfold_words
  simp only [View.readAt_eq_ld, harg1.read_unread, harg2.read_unread, harg3.read_unread, harg5.read_unread, View.ld_unit_zero (S := S256x1024) hz2, View.ld_unit_zero (S := S1x1024) hz2]
  rw [View.read_writes_cons_unit_of_mem _ _ _ _ _ _ (ix2 0 k) rfl (by intro a; fin_cases a <;> simp)]
  exact pay4_at ..
end

/-! ## The arrays after the run -/

section
variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![t.val, 0] ∧ win0_4.index t = ![0, 0] :=
  (by decide +kernel : ∀ t : Fin grid0.N, _)

/-- The row that is a point's `r`-th. -/
def rt (t : Fin cfg0.N) (r : Fin 256) : Fin 2048 := ⟨256 * t.val + r.val, by have := t.isLt; have := N_0; omega⟩

theorem blk0 (t : Fin cfg0.N) (r : Fin 256) (k : Fin 1024) : (iblk m c 0 t : S256x1024.Idx → EReal) (ix2 r k) = (V m c main_arg0 : S2048x1024.Idx → EReal) (ix2 (rt t r) k) := by
  blk_ext [iblk, idx t, rt]
theorem blk1 (t : Fin cfg0.N) (k : Fin 1024) : (iblk m c 1 t : S1x1024.Idx → EReal) (ix2 0 k) = (V m c main_arg1 : S1x1024.Idx → EReal) (ix2 0 k) := by
  blk_ext [iblk, idx t, rt]
theorem blk2 (t : Fin cfg0.N) (r : Fin 256) (k : Fin 1024) : (iblk m c 2 t : S256x1024.Idx → EReal) (ix2 r k) = (V m c main_arg2 : S2048x1024.Idx → EReal) (ix2 (rt t r) k) := by
  blk_ext [iblk, idx t, rt]

/-- The three arguments. -/
abbrev A0 : S2048x1024.Idx → EReal := m ((c.tc : Thread nD τ).loc main_arg0)
abbrev A1 : S1x1024.Idx → EReal := m ((c.tc : Thread nD τ).loc main_arg1)
abbrev A2 : S2048x1024.Idx → EReal := m ((c.tc : Thread nD τ).loc main_arg2)

/-- The kernel's two arrays. -/
abbrev duA (u : S2048x1024.Idx → EReal) (w : S1x1024.Idx → EReal) (g : S2048x1024.Idx → EReal) : S2048x1024.Idx → EReal :=
  fun j => dvV eps (rowOf u (j 0)) (rowOf w 0) (rowOf g (j 0)) (j 1)
abbrev dwA (u g : S2048x1024.Idx → EReal) : S1x1024.Idx → EReal :=
  fun j => ∑ i : Fin 2048, dwV (rowOf u i) (rowOf g i) (j 1)

theorem row0 (t : Fin cfg0.N) (r : Fin 256) : rowOf (iblk m c 0 t) r = rowOf (A0 m c) (rt t r) := funext fun k => blk0 m c t r k
theorem vec1 (t : Fin cfg0.N) : rowOf (iblk m c 1 t) 0 = rowOf (A1 m c) 0 := funext fun k => blk1 m c t k
theorem row2 (t : Fin cfg0.N) (r : Fin 256) : rowOf (iblk m c 2 t) r = rowOf (A2 m c) (rt t r) := funext fun k => blk2 m c t r k

theorem du_blk (t : Fin cfg0.N) (r : Fin 256) (k : Fin 1024) :
    ((outsAt0 m c t.val t.isLt).1 : S256x1024.Idx → EReal) (ix2 r k) = duA (A0 m c) (A1 m c) (A2 m c) (ix2 (rt t r) k) := by
  have e : dvV eps (rowOf (iblk m c 0 t) r) (rowOf (iblk m c 1 t) 0) (rowOf (iblk m c 2 t) r) k = duA (A0 m c) (A1 m c) (A2 m c) (ix2 (rt t r) k) := by
    rw [row0, vec1, row2]
    rfl
  by_cases h : t.val % 8 = 0
  · rw [outsAt0_A m c t h]
    dsimp only
    rw [← e]
    exact outA3 (hc0 := (hcond0_0 t).mpr h) ..
  · rw [outsAt0_B m c t h]
    dsimp only
    rw [← e]
    exact outB3 (hc0 := fun h' => h ((hcond0_0 t).mp h')) ..

/-- What a point adds to the weights' gradient. -/
def addB (t : Fin cfg0.N) (j : S1x1024.Idx) : EReal := ∑ r : Fin 256, dwV (rowOf (A0 m c) (rt t r)) (rowOf (A2 m c) (rt t r)) (j 1)

theorem add_at (t : Fin cfg0.N) (k : Fin 1024) :
    ∑ r : Fin 256, dwV (rowOf (iblk m c 0 t) r) (rowOf (iblk m c 2 t) r) k = addB m c t (ix2 0 k) :=
  Finset.sum_congr rfl fun r _ => by rw [row0, row2]; rfl

theorem outs_first (t : Fin cfg0.N) (h : t.val % 8 = 0) (k : Fin 1024) :
    ((outsAt0 m c t.val t.isLt).2 : S1x1024.Idx → EReal) (ix2 0 k) = addB m c t (ix2 0 k) := by
  rw [outsAt0_A m c t h]
  dsimp only
  rw [← add_at]
  exact outA4 (hc0 := (hcond0_0 t).mpr h) ..
theorem outs_next (t : Fin cfg0.N) (h : ¬t.val % 8 = 0) (k : Fin 1024) :
    ((outsAt0 m c t.val t.isLt).2 : S1x1024.Idx → EReal) (ix2 0 k)
      = ((outsAt0 m c (t.val - 1) (Nat.lt_of_le_of_lt (Nat.sub_le _ _) t.isLt)).2 : S1x1024.Idx → EReal) (ix2 0 k) + addB m c t (ix2 0 k) := by
  rw [outsAt0_B m c t h]
  dsimp only
  rw [← add_at]
  exact outB4 (hc0 := fun h' => h ((hcond0_0 t).mp h')) ..

/-- What the eight points add together. -/
theorem addB_sum (t : Fin cfg0.N) (h : ∀ s : Fin 8, 8 * (t.val / 8) + s.val < cfg0.N) (k : Fin 1024) :
    ∑ s : Fin 8, addB m c ⟨8 * (t.val / 8) + s.val, h s⟩ (ix2 0 k) = dwA (A0 m c) (A2 m c) (ix2 0 k) := by
  have ht : t.val < 8 := lt_of_lt_of_eq t.isLt N_0
  refine Eq.symm ((Fin.sum_univ_tiles 8 256 rfl _).trans (Finset.sum_congr rfl fun s _ => Finset.sum_congr rfl fun r _ => ?_))
  have e : rt ⟨8 * (t.val / 8) + s.val, h s⟩ r = ⟨s.val * 256 + r.val, by omega⟩ := Fin.ext (by show 256 * (8 * (t.val / 8) + s.val) + r.val = s.val * 256 + r.val; omega)
  rw [e]

theorem outs_last (t : Fin cfg0.N) (hf : t.val % 8 = 8 - 1) (k : Fin 1024) :
    ((outsAt0 m c t.val t.isLt).2 : S1x1024.Idx → EReal) (ix2 0 k) = dwA (A0 m c) (A2 m c) (ix2 0 k) := by
  refine (Pipeline.eq_sum_fin_of_reset_step_apply_of_flush (N := cfg0.N) (fun n h => ((outsAt0 m c n h).2 : S1x1024.Idx → EReal)) 8 (fun _ => 0) (addB m c)
    (fun t h j => ?_) (fun t h j => ?_) t hf (ix2 0 k)).trans ?_
  · idx_vars j
    obtain rfl : j0 = 0 := Subsingleton.elim _ _
    exact (outs_first m c t h j1).trans (zero_add _).symm
  · idx_vars j
    obtain rfl : j0 = 0 := Subsingleton.elim _ _
    exact outs_next m c t h j1
  · rw [zero_add, ← addB_sum m c t (Pipeline.run_point_lt_of_flush t hf)]

theorem final3 : (dats m 0 c).arrAt 3 cfg0.N = duA (A0 m c) (A1 m c) (A2 m c) := by
  refine (dats m 0 c).arrAt_eq_of_covers 3 _ (by decide +kernel) fun t _ y => ?_
  blk_simp
  rw [after0_3]
  idx_vars y
  refine (du_blk m c t y0 y1).trans (congrArg (duA (A0 m c) (A1 m c) (A2 m c)) (?_ : ix2 (rt t y0) y1 = _))
  blk_ext [idx t, rt]
theorem final4 : (dats m 0 c).arrAt 4 cfg0.N = dwA (A0 m c) (A2 m c) := by
  refine (dats m 0 c).arrAt_eq_of_covers 4 _ (by decide +kernel) fun t hf y => ?_
  blk_simp
  rw [after0_4]
  idx_vars y
  obtain rfl : y0 = 0 := Subsingleton.elim _ _
  refine (outs_last m c t ((flush0_4 t).mp hf) y1).trans (congrArg (dwA (A0 m c) (A2 m c)) (?_ : ix2 0 y1 = _))
  blk_ext [idx t, rt]
end

end Cert.NormIdeal.Att

end
-- ==== Proof.NormRef.lean ====
module

public import proofs.«01_k».proof.Proof.NormVal
public import proofs.«01_k».proof.Proof.FeedRef
public import proofs.«01_k».proof.Proof.Gen.NormReferenceIdeal.Run

@[expose] public section

set_option maxRecDepth 16384

noncomputable section

open Idealize.ShloMosaic Idealize.ShloMosaic.TcCoe Idealize.SL.Sem

namespace Cert.NormReferenceIdeal.Att

open Cert.NormReferenceIdeal Cert.NormReferenceIdeal.Gen
open Cert.FeedIdeal.Att (AllReal)
open Cert.NormRow (Row rowOf wid eps half qV rV dvV backV dvT eps_pos squares dv_real dv_zero)
open Cert.NormIdeal.Att (dwV duA dwA)

/-! ## The reference's arrays, stage by stage -/

abbrev Big := FVec Ideal S2048x1024 .f32
abbrev Col := FVec Ideal S2048x1 .f32

def widS : Col := broadcastInDim S2048x1 ![] bcast_S_S2048x1 (constant S_ .f32 0x44800000#32)
/-- The sum over a row. -/
def sumS (x : Big) : FVec Ideal S2048 .f32 := Host.reduceAdd x (constant S_ .f32 0x00000000#32) reducesTo_S2048x1024_S2048_d1 h_S_
/-- A column's entries along their rows. -/
def alongS (x : Col) : Big := broadcastInDim S2048x1024 ![0, 1] bcast_S2048x1_S2048x1024_0_1 x
/-- The mean square, with what the norm adds to it. -/
def qS (u : Big) : Col :=
  addf (Host.divf (broadcastInDim S2048x1 ![0] bcast_S2048_S2048x1_0 (sumS (mulf u u))) widS) (broadcastInDim S2048x1 ![] bcast_S_S2048x1 (constant S_ .f32 0x358637BD#32))
def rS (u : Big) : Col := Host.rsqrt (qS u)
def gwS (w : FVec Ideal S1x1024 .f32) (g : Big) : Big := mulf g (broadcastInDim S2048x1024 ![0, 1] bcast_S1x1024_S2048x1024_0_1 w)
/-- What reaches the square of a row's entry through the norm. -/
def backS (u : Big) (w : FVec Ideal S1x1024 .f32) (g : Big) : Big :=
  broadcastInDim S2048x1024 ![0] bcast_S2048_S2048x1024_0 (Host.reduceAdd (Host.divf (mulf (shapeCast _ (sumS (mulf u (gwS w g))) shapeCasts_S2048_S2048x1)
    (mulf (broadcastInDim S2048x1 ![] bcast_S_S2048x1 (constant S_ .f32 0xBF000000#32)) (Host.divf (rS u) (qS u)))) widS)
    (constant S_ .f32 0x00000000#32) reducesTo_S2048x1_S2048_d1 h_S_)
/-- The row's gradient. -/
def duS (u : Big) (w : FVec Ideal S1x1024 .f32) (g : Big) : Big :=
  addf (addf (mulf (gwS w g) (alongS (rS u))) (mulf u (backS u w g))) (mulf (backS u w g) u)
def dwS (u g : Big) : FVec Ideal S1x1024 .f32 :=
  shapeCast _ (Host.reduceAdd (mulf (mulf u (alongS (rS u))) g) (constant S_ .f32 0x00000000#32) reducesTo_S2048x1024_S1024_d0 h_S_) shapeCasts_S1024_S1x1024

section
variable (u g : Big) (w : FVec Ideal S1x1024 .f32) (i : Fin 2048) (k : Fin 1024)

theorem qS_at : (qS u (ix2 i 0) : EReal) = qV eps (rowOf u i) := by
  unfold qV
  pointwise [qS, widS, sumS]
theorem rS_at : (rS u (ix2 i 0) : EReal) = rV eps (rowOf u i) := by
  unfold rV
  rw [← qS_at]
  pointwise [rS]
theorem backS_at : (backS u w g (ix2 i k) : EReal) = backV eps (rowOf u i) (rowOf w 0) (rowOf g i) := by
  unfold backV
  simp only [← rS_at, ← qS_at]
  pointwise [backS, widS, sumS, gwS]
  exact Fin.sum_univ_one _
theorem duS_at : (duS u w g (ix2 i k) : EReal) = dvT eps (rowOf u i) (rowOf w 0) (rowOf g i) k := by
  unfold dvT
  rw [← backS_at u g w i k, ← rS_at]
  pointwise [duS, gwS, alongS]
theorem dwS_at : (dwS u g (ix2 0 k) : EReal) = ∑ i : Fin 2048, u (ix2 i k) * rV eps (rowOf u i) * g (ix2 i k) := by
  simp only [← rS_at]
  pointwise [dwS, alongS]
end

/-! ## The results -/

/-- For real weights and gradients the reference's array is the kernel's. -/
theorem du_eq {u g : Big} {w : FVec Ideal S1x1024 .f32} (hw : AllReal w) (hg : AllReal g) : duS u w g = duA u w g := by
  funext j
  idx_vars j
  refine (duS_at u g w j0 j1).trans ?_
  choose rw ew using fun k => hw (ix2 0 k)
  choose rg eg using fun k => hg (ix2 j0 k)
  have fw : rowOf w 0 = fun k => (rw k : EReal) := funext ew
  have fg : rowOf g j0 = fun k => (rg k : EReal) := funext eg
  show dvT eps (rowOf u j0) (rowOf w 0) (rowOf g j0) j1 = dvV eps (rowOf u j0) (rowOf w 0) (rowOf g j0) j1
  rcases squares (rowOf u j0) with ⟨v, ev⟩ | h
  · obtain ⟨d, h1, h2⟩ := dv_real eps_pos ev rw rg j1
    rw [fw, fg, h1, h2]
  · obtain ⟨h1, h2⟩ := dv_zero eps_pos (rowOf w 0) (rowOf g j0) h j1
    rw [h1, h2]

/-- The weights' gradient is the kernel's for any entries. -/
theorem dw_eq (u g : Big) : dwS u g = dwA u g := by
  funext j
  idx_vars j
  obtain rfl : j0 = 0 := Subsingleton.elim _ _
  refine (dwS_at u g j1).trans (Finset.sum_congr rfl fun i _ => ?_)
  unfold dwV
  rw [mul_comm, ← mul_assoc]
  rfl

end Cert.NormReferenceIdeal.Att

end
-- ==== Proof.NormClaims.lean ====
module

public import proofs.«01_k».proof.Defs
public import proofs.«01_k».proof.Proof.Gen.Pre_finite8
public import proofs.«01_k».proof.Proof.Gen.Norm.Frame
public import proofs.«01_k».proof.Proof.NormRef
public import proofs.«01_k».proof.Proof.AttnClaims

@[expose] public section

set_option maxRecDepth 16384

noncomputable section

open Idealize.ShloMosaic Idealize.ShloMosaic.TcCoe Idealize.SL.Sem

namespace Cert.NormClaims

open Cert.FeedIdeal.Att (AllReal)

section
open Cert.Pre_finite8 Cert.Pre_finite8.Facts

theorem sub0 : Subsingleton S_.Idx := ⟨fun a b => funext fun i => i.elim0⟩

/-- The precondition says that every entry of the weights and of the result's gradient is a real. -/
theorem finite_real [Cert.Pre_finite8.Facts] (a0 a2 : FVec Ideal S2048x1024 .f32) (a1 : FVec Ideal S1x1024 .f32)
    (h : Cert.Pre_finite8.fn (F := Ideal) a0 a1 a2 = fun _ => 1#1) : AllReal a1 ∧ AllReal a2 := by
  have e := congrFun h ix0
  unfold Cert.Pre_finite8.fn at e
  have := sub0
  obtain ⟨e1, e2⟩ := IntOp.andi_eq_one.1 e
  exact ⟨fun i => ⟨_, (AttnClaims.real_of_lt _ (Host.reduce_andi_all _ _ _ _ _ e1 i)).symm⟩, fun i => ⟨_, (AttnClaims.real_of_lt _ (Host.reduce_andi_all _ _ _ _ _ e2 i)).symm⟩⟩

end

theorem frame_p : Cert.quiescent_Norm := fun m ρ _ => Cert.Norm.Gen.frame m ρ
theorem frame_pi : Cert.quiescent_NormIdeal := fun m ρ _ => Cert.NormIdeal.Gen.frame m ρ
theorem frame_pi_finite : Cert.quiescent_NormIdeal_pre_finite8 (hPre_finite8 := Cert.Pre_finite8.Gen.facts) := fun m ρ _ => Cert.NormIdeal.Gen.frame m ρ
theorem frame_ri : Cert.quiescent_NormReferenceIdeal := fun m ρ _ =>
  (θ_run Cert.NormReferenceIdeal.defs _ _).mono (fun r h => ⟨fun c => (h c).2.2, sem_eq_zero_of_no_sems (by decide) r.2⟩)
    (Cert.NormReferenceIdeal.Value.run (F := Ideal) m ρ)
theorem frame_ri_finite : Cert.quiescent_NormReferenceIdeal_pre_finite8 (hPre_finite8 := Cert.Pre_finite8.Gen.facts) := fun m ρ _ => frame_ri m ρ trivial

/-- No operation is replaced. -/
theorem preserves : Cert.preserves_Norm_NormIdeal := trivial

section
open Cert.NormReferenceIdeal
variable (m : (ℓ : Loc nD τ sig) → Buf (Elt Ideal) ℓ) (c : Dev nD)
abbrev B0 : FVec Ideal S2048x1024 .f32 := m ((c.tc : Thread nD τ).loc main_arg0)
abbrev B1 : FVec Ideal S1x1024 .f32 := m ((c.tc : Thread nD τ).loc main_arg1)
abbrev B2 : FVec Ideal S2048x1024 .f32 := m ((c.tc : Thread nD τ).loc main_arg2)
end

/-- For finite weights and a finite gradient of the result the kernel's two arrays are the derivative of the norm. -/
theorem algebraic : Cert.algebraic_NormIdeal_NormReferenceIdeal_pre_finite8 (hPre_finite8 := Cert.Pre_finite8.Gen.facts) := by
  intro m ρ m' ρ' hpre hagree
  have key : ∀ c : Dev Cert.NormIdeal.nD,
      Cert.NormReferenceIdeal.Att.duS (B0 m' c) (B1 m' c) (B2 m' c) = (Cert.NormIdeal.Gen.dats m 0 c).arrAt 3 Cert.NormIdeal.cfg0.N
      ∧ Cert.NormReferenceIdeal.Att.dwS (B0 m' c) (B2 m' c) = (Cert.NormIdeal.Gen.dats m 0 c).arrAt 4 Cert.NormIdeal.cfg0.N := fun c => by
    obtain ⟨h1, h2⟩ := finite_real _ _ _ (hpre c)
    obtain ⟨g0, g1, g2⟩ := hagree c
    have e0 : B0 m' c = Cert.NormIdeal.Att.A0 m c := g0
    have e1 : B1 m' c = Cert.NormIdeal.Att.A1 m c := g1
    have e2 : B2 m' c = Cert.NormIdeal.Att.A2 m c := g2
    rw [e0, e1, e2]
    exact ⟨(Cert.NormReferenceIdeal.Att.du_eq h1 h2).trans (Cert.NormIdeal.Att.final3 m c).symm,
      (Cert.NormReferenceIdeal.Att.dw_eq _ _).trans (Cert.NormIdeal.Att.final4 m c).symm⟩
  refine ⟨_, _, Cert.NormIdeal.Value.run_blocks m ρ, ?_⟩
  exact (θ_run Cert.NormReferenceIdeal.defs _ _).mono (fun _ h c => ⟨(h c).1.trans (key c).1, (h c).2.1.trans (key c).2, (h c).2.2⟩)
    (Cert.NormReferenceIdeal.Value.run (F := Ideal) m' ρ')

end Cert.NormClaims

end
-- ==== Proof.OutVal.lean ====
module

public import proofs.«01_k».proof.Proof.Gen.OutIdeal.Value
public import Idealize.ShloMosaic.Lib.Pipeline.ValueKit
public import Idealize.ShloMosaic.Lib.Pointwise
public import Idealize.ShloMosaic.Lib.Tactic
public import Idealize.ShloMosaic.Lib.WritesUnit
public import Idealize.ShloMosaic.PureOps.Ideal

@[expose] public section

set_option maxRecDepth 16384

noncomputable section

open Idealize.ShloMosaic Idealize.ShloMosaic.TcCoe Idealize.SL.Sem
open Idealize.ShloMosaic.Pipeline (Dat)

namespace Cert.OutIdeal.Att

open Cert.OutIdeal Cert.OutIdeal.Gen

theorem hz2 : (![0, 0] : Fin 2 → Nat) = fun _ => 0 := funext fun a => by fin_cases a <;> rfl
theorem N_0 : cfg0.N = 4 := by decide +kernel

/-- The product of two columns. -/
abbrev colsT {n : ℕ} (f : Fin 2048 → Fin n → EReal) (g : S2048x1024.Idx → EReal) (a : Fin n) (b : Fin 1024) : EReal := ∑ s : Fin 2048, f s a * g (ix2 s b)

section
variable (x0 x1 : Vec Ideal S2048x512 .bf16) (x2 : Vec Ideal S2048x1024 .bf16) (a : Fin 512) (b : Fin 1024)

theorem pay1_at : (k0_pay1 x0 x2 (ix2 a b) : EReal) = ∑ s : Fin 2048, (x0 (ix2 s a) : EReal) * x2 (ix2 s b) := by
  pointwise [k0_pay1]
theorem pay2_at : (k0_pay2 x1 x2 (ix2 a b) : EReal) = ∑ s : Fin 2048, (x1 (ix2 s a) : EReal) * x2 (ix2 s b) := by
  pointwise [k0_pay2]

variable (c : Dev nD) (i : grid0.Coords) (arg1 : Memref sig .tc .vmem S2048x512 .bf16) (harg1 : arg1.IsWhole) (arg2 : Memref sig .tc .vmem S2048x512 .bf16) (harg2 : arg2.IsWhole) (arg3 : Memref sig .tc .vmem S2048x1024 .bf16) (harg3 : arg3.IsWhole) (arg4 : Memref sig .tc .vmem S512x1024 .bf16) (harg4 : arg4.IsWhole)

theorem outA' (hc0 : cond0_0 i) (hc1 : ¬cond0_1 i) : (out0_A_3 (F := Ideal) c i arg1 harg1 arg2 harg2 arg3 harg3 arg4 harg4 hc0 hc1 x0 x1 x2 (ix2 a b) : EReal) = ∑ s : Fin 2048, (x0 (ix2 s a) : EReal) * x2 (ix2 s b) := by
  unfold out0_A_3 kernelRun0_A
  dsimp only
  sl_unfold_words
  simp only [View.readAt_eq_ld, harg1.read_unread, harg2.read_unread, harg3.read_unread, View.ld_unit_zero (S := S2048x512) hz2, View.ld_unit_zero (S := S2048x1024) hz2]
  rw [View.read_writes_cons_unit_of_mem _ _ _ _ _ _ (ix2 a b) rfl (by intro a; fin_cases a <;> simp)]
  exact pay1_at ..
theorem outB' (hc0 : ¬cond0_0 i) (hc1 : cond0_1 i) : (out0_B_3 (F := Ideal) c i arg1 harg1 arg2 harg2 arg3 harg3 arg4 harg4 hc0 hc1 x0 x1 x2 (ix2 a b) : EReal) = ∑ s : Fin 2048, (x1 (ix2 s a) : EReal) * x2 (ix2 s b) := by
  unfold out0_B_3 kernelRun0_B
  dsimp only
  sl_unfold_words
  simp only [View.readAt_eq_ld, harg1.read_unread, harg2.read_unread, harg3.read_unread, View.ld_unit_zero (S := S2048x512) hz2, View.ld_unit_zero (S := S2048x1024) hz2]
  rw [View.read_writes_cons_unit_of_mem _ _ _ _ _ _ (ix2 a b) rfl (by intro a; fin_cases a <;> simp)]
  exact pay2_at ..
end

section
variable (m : (ℓ : Loc nD τ sig) → Buf (Elt Ideal) ℓ) (c : Dev nD)

theorem idx : ∀ t : Fin cfg0.N, (t.val < 2 → win0_0.index t = ![0, t.val]) ∧ (2 ≤ t.val → win0_1.index t = ![0, t.val - 2]) ∧ win0_2.index t = ![0, 0] ∧ win0_3.index t = ![t.val, 0] :=
  (by decide +kernel : ∀ t : Fin grid0.N, _)

/-- The row that is a point's `a`-th. -/
def rt (t : Fin cfg0.N) (a : Fin 512) : Fin 2048 := ⟨512 * t.val + a.val, by have := t.isLt; have := N_0; omega⟩

/-- The three arguments. -/
abbrev A0 : S2048x1024.Idx → EReal := m ((c.tc : Thread nD τ).loc main_arg0)
abbrev A1 : S2048x1024.Idx → EReal := m ((c.tc : Thread nD τ).loc main_arg1)
abbrev A2 : S2048x1024.Idx → EReal := m ((c.tc : Thread nD τ).loc main_arg2)

/-- The two groups' results side by side. -/
def catV (x y : S2048x1024.Idx → EReal) (s : Fin 2048) (k : Fin 2048) : EReal :=
  if h : k.val < 1024 then x (ix2 s ⟨k.val, h⟩) else y (ix2 s ⟨k.val - 1024, by omega⟩)

theorem blk0 (t : Fin cfg0.N) (h : t.val < 2) (s : Fin 2048) (a : Fin 512) : (iblk m c 0 t : S2048x512.Idx → EReal) (ix2 s a) = catV (A0 m c) (A1 m c) s (rt t a) := by
  unfold catV
  rw [dif_pos (show (rt t a).val < 1024 by simp only [rt]; omega)]
  refine Eq.trans ?_ (congrFun (V_main_arg0 m c) _)
  blk_ext [iblk, (idx t).1 h, rt]
theorem blk1 (t : Fin cfg0.N) (h : 2 ≤ t.val) (s : Fin 2048) (a : Fin 512) : (iblk m c 1 t : S2048x512.Idx → EReal) (ix2 s a) = catV (A0 m c) (A1 m c) s (rt t a) := by
  unfold catV
  rw [dif_neg (show ¬(rt t a).val < 1024 by simp only [rt]; omega)]
  refine Eq.trans ?_ (congrFun (V_main_arg1 m c) _)
  blk_ext [iblk, (idx t).2.1 h, rt]
theorem blk2 (t : Fin cfg0.N) (s : Fin 2048) (b : Fin 1024) : (iblk m c 2 t : S2048x1024.Idx → EReal) (ix2 s b) = A2 m c (ix2 s b) := by
  refine Eq.trans ?_ (congrFun (V_main_arg2 m c) _)
  blk_ext [iblk, idx t]

/-- The kernel's array. -/
def outA (x y g : S2048x1024.Idx → EReal) : S2048x1024.Idx → EReal := fun j => colsT (catV x y) g (j 0) (j 1)

theorem res (t : Fin cfg0.N) (a : Fin 512) (b : Fin 1024) :
    (outsAt0 m c t.val t.isLt : S512x1024.Idx → EReal) (ix2 a b) = outA (A0 m c) (A1 m c) (A2 m c) (ix2 (rt t a) b) := by
  show _ = colsT (catV (A0 m c) (A1 m c)) (A2 m c) (rt t a) b
  unfold colsT
  by_cases h : t.val < 2
  · rw [outsAt0_A m c t h (by omega)]
    refine (outA' (hc0 := (hcond0_0 t).mpr h) (hc1 := fun h' => absurd ((hcond0_1 t).mp h') (by omega)) ..).trans ?_
    simp only [blk0 m c t h, blk2]
  · rw [outsAt0_B m c t h (by omega)]
    refine (outB' (hc0 := fun h' => h ((hcond0_0 t).mp h')) (hc1 := (hcond0_1 t).mpr (by omega)) ..).trans ?_
    simp only [blk1 m c t (not_lt.mp h), blk2]
theorem final3 : (dats m 0 c).arrAt 3 cfg0.N = outA (A0 m c) (A1 m c) (A2 m c) := by
  generalize hG : outA (A0 m c) (A1 m c) (A2 m c) = G
  refine (dats m 0 c).arrAt_eq_of_covers 3 _ (by decide +kernel) fun t _ y => ?_
  blk_simp
  rw [after0_3]
  idx_vars y
  refine ((res m c t y0 y1).trans (congrFun hG _)).trans (congrArg G (?_ : ix2 (rt t y0) y1 = _))
  blk_ext [idx t, rt]
end

end Cert.OutIdeal.Att

end
-- ==== Proof.OutRef.lean ====
module

public import proofs.«01_k».proof.Proof.OutVal
public import proofs.«01_k».proof.Proof.Gen.OutReferenceIdeal.Run

@[expose] public section

set_option maxRecDepth 16384

noncomputable section

open Idealize.ShloMosaic Idealize.ShloMosaic.TcCoe Idealize.SL.Sem

namespace Cert.OutReferenceIdeal.Att

open Cert.OutReferenceIdeal Cert.OutReferenceIdeal.Gen

variable (x y g : FVec Ideal S2048x1024 .bf16)

/-- The two groups' results side by side, and the derivative of their product with the weights. -/
def catS : FVec Ideal S2048x2048 .f32 :=
  concatenate S2048x2048 1 [⟨S2048x1024, extf .f32 x bitsLt_bf16_f32⟩, ⟨S2048x1024, extf .f32 y bitsLt_bf16_f32⟩] concatenates_S2048x1024_S2048x1024_S2048x2048_d1
def outS : FVec Ideal S2048x1024 .bf16 :=
  truncf .bf16 (transpose S2048x1024 [1, 0] (Host.dotGeneral dot_S2048x1024_S2048x2048_S1024x2048_0_0_1_1_n_n none (extf .f32 g bitsLt_bf16_f32) (catS x y)) transposes_S1024x2048_S2048x1024_1_0) bitsLt_bf16_f32

theorem catS_at (s k : Fin 2048) : (catS x y (ix2 s k) : EReal) = Cert.OutIdeal.Att.catV x y s k := by
  pointwise [catS, Cert.OutIdeal.Att.catV]
theorem outS_at (k : Fin 2048) (b : Fin 1024) : (outS x y g (ix2 k b) : EReal) = ∑ s : Fin 2048, (g (ix2 s b) : EReal) * catS x y (ix2 s k) := by
  pointwise [outS]
/-- The reference's array is the kernel's: its factors stand in the other order. -/
theorem outS_eq : (outS x y g : S2048x1024.Idx → EReal) = Cert.OutIdeal.Att.outA x y g := by
  funext j
  idx_vars j
  refine (outS_at ..).trans (Finset.sum_congr rfl fun s _ => ?_)
  rw [catS_at]
  exact mul_comm _ _

end Cert.OutReferenceIdeal.Att

end
-- ==== Proof.OutClaims.lean ====
module

public import proofs.«01_k».proof.Defs
public import proofs.«01_k».proof.Proof.Gen.Out.Frame
public import proofs.«01_k».proof.Proof.OutRef
public import Idealize.ShloMosaic.Lib.Quiescent

@[expose] public section

set_option maxRecDepth 16384

noncomputable section

open Idealize.ShloMosaic Idealize.ShloMosaic.TcCoe Idealize.SL.Sem

namespace Cert.OutClaims

theorem frame_p : Cert.quiescent_Out := fun m ρ _ => Cert.Out.Gen.frame m ρ
theorem frame_pi : Cert.quiescent_OutIdeal := fun m ρ _ => Cert.OutIdeal.Gen.frame m ρ
theorem frame_ri : Cert.quiescent_OutReferenceIdeal := fun m ρ _ =>
  (θ_run Cert.OutReferenceIdeal.defs _ _).mono (fun r h => ⟨fun c => (h c).2, sem_eq_zero_of_no_sems (by decide) r.2⟩)
    (Cert.OutReferenceIdeal.Value.run (F := Ideal) m ρ)

/-- No operation is replaced. -/
theorem preserves : Cert.preserves_Out_OutIdeal := trivial

section
open Cert.OutReferenceIdeal

variable (m : (ℓ : Loc nD τ sig) → Buf (Elt Ideal) ℓ) (c : Dev nD)

abbrev B0 : FVec Ideal S2048x1024 .bf16 := m ((c.tc : Thread nD τ).loc main_arg0)
abbrev B1 : FVec Ideal S2048x1024 .bf16 := m ((c.tc : Thread nD τ).loc main_arg1)
abbrev B2 : FVec Ideal S2048x1024 .bf16 := m ((c.tc : Thread nD τ).loc main_arg2)
end

/-- The kernel's array is the derivative of the mixing layer's last product with respect to its weights. -/
theorem algebraic : Cert.algebraic_OutIdeal_OutReferenceIdeal := by
  intro m ρ m' ρ' _ hagree
  have key : ∀ c : Dev Cert.OutIdeal.nD,
      Cert.OutReferenceIdeal.Att.outS (B0 m' c) (B1 m' c) (B2 m' c) = (Cert.OutIdeal.Gen.dats m 0 c).arrAt 3 Cert.OutIdeal.cfg0.N := fun c => by
    obtain ⟨g0, g1, g2⟩ := hagree c
    have e0 : B0 m' c = Cert.OutIdeal.Att.A0 m c := g0
    have e1 : B1 m' c = Cert.OutIdeal.Att.A1 m c := g1
    have e2 : B2 m' c = Cert.OutIdeal.Att.A2 m c := g2
    rw [e0, e1, e2, Cert.OutIdeal.Att.final3]
    exact Cert.OutReferenceIdeal.Att.outS_eq _ _ _
  refine ⟨_, Cert.OutIdeal.Value.run_blocks m ρ, ?_⟩
  exact (θ_run Cert.OutReferenceIdeal.defs _ _).mono (fun _ h c => ⟨(h c).1.trans (key c), (h c).2⟩)
    (Cert.OutReferenceIdeal.Value.run (F := Ideal) m' ρ')

end Cert.OutClaims

end
-- ==== Proof.WeightVal.lean ====
module

public import proofs.«01_k».proof.Proof.Gen.WeightIdeal.Value
public import Idealize.ShloMosaic.Lib.Pipeline.ValueKit
public import Idealize.ShloMosaic.Lib.Pointwise
public import Idealize.ShloMosaic.Lib.Tactic
public import Idealize.ShloMosaic.Lib.WritesUnit
public import Idealize.ShloMosaic.PureOps.Ideal

@[expose] public section

set_option maxRecDepth 16384

noncomputable section

open Idealize.ShloMosaic Idealize.ShloMosaic.TcCoe Idealize.SL.Sem
open Idealize.ShloMosaic.Pipeline (Dat)

namespace Cert.WeightIdeal.Att

open Cert.WeightIdeal Cert.WeightIdeal.Gen

theorem hz2 : (![0, 0] : Fin 2 → Nat) = fun _ => 0 := funext fun a => by fin_cases a <;> rfl
theorem N_0 : cfg0.N = 7 := by decide +kernel

/-- The product of two columns. -/
abbrev colsT {n : ℕ} (f : Fin 2048 → Fin n → EReal) (g : S2048x1024.Idx → EReal) (a : Fin n) (b : Fin 1024) : EReal := ∑ s : Fin 2048, f s a * g (ix2 s b)

section
variable (x0 x1 x2 : Vec Ideal S2048x512 .bf16) (x3 : Vec Ideal S2048x1024 .bf16) (a : Fin 512) (b : Fin 1024)

theorem pay1_at : (k0_pay1 x0 x3 (ix2 a b) : EReal) = ∑ s : Fin 2048, (x0 (ix2 s a) : EReal) * x3 (ix2 s b) := by
  pointwise [k0_pay1]
theorem pay2_at : (k0_pay2 x1 x3 (ix2 a b) : EReal) = ∑ s : Fin 2048, (x1 (ix2 s a) : EReal) * x3 (ix2 s b) := by
  pointwise [k0_pay2]
theorem pay3_at : (k0_pay3 x2 x3 (ix2 a b) : EReal) = ∑ s : Fin 2048, (x2 (ix2 s a) : EReal) * x3 (ix2 s b) := by
  pointwise [k0_pay3]

variable (c : Dev nD) (i : grid0.Coords) (arg1 : Memref sig .tc .vmem S2048x512 .bf16) (harg1 : arg1.IsWhole) (arg2 : Memref sig .tc .vmem S2048x512 .bf16) (harg2 : arg2.IsWhole) (arg3 : Memref sig .tc .vmem S2048x512 .bf16) (harg3 : arg3.IsWhole) (arg4 : Memref sig .tc .vmem S2048x1024 .bf16) (harg4 : arg4.IsWhole) (arg5 : Memref sig .tc .vmem S512x1024 .bf16) (harg5 : arg5.IsWhole)

theorem outA (hc0 : cond0_0 i) (hc1 : ¬cond0_1 i) (hc2 : ¬cond0_2 i) : (out0_A_4 (F := Ideal) c i arg1 harg1 arg2 harg2 arg3 harg3 arg4 harg4 arg5 harg5 hc0 hc1 hc2 x0 x1 x2 x3 (ix2 a b) : EReal) = ∑ s : Fin 2048, (x0 (ix2 s a) : EReal) * x3 (ix2 s b) := by
  unfold out0_A_4 kernelRun0_A
  dsimp only
  sl_unfold_words
  simp only [View.readAt_eq_ld, harg1.read_unread, harg2.read_unread, harg3.read_unread, harg4.read_unread, View.ld_unit_zero (S := S2048x512) hz2, View.ld_unit_zero (S := S2048x1024) hz2]
  rw [View.read_writes_cons_unit_of_mem _ _ _ _ _ _ (ix2 a b) rfl (by intro a; fin_cases a <;> simp)]
  exact pay1_at ..
theorem outB (hc0 : ¬cond0_0 i) (hc1 : cond0_1 i) (hc2 : ¬cond0_2 i) : (out0_B_4 (F := Ideal) c i arg1 harg1 arg2 harg2 arg3 harg3 arg4 harg4 arg5 harg5 hc0 hc1 hc2 x0 x1 x2 x3 (ix2 a b) : EReal) = ∑ s : Fin 2048, (x1 (ix2 s a) : EReal) * x3 (ix2 s b) := by
  unfold out0_B_4 kernelRun0_B
  dsimp only
  sl_unfold_words
  simp only [View.readAt_eq_ld, harg1.read_unread, harg2.read_unread, harg3.read_unread, harg4.read_unread, View.ld_unit_zero (S := S2048x512) hz2, View.ld_unit_zero (S := S2048x1024) hz2]
  rw [View.read_writes_cons_unit_of_mem _ _ _ _ _ _ (ix2 a b) rfl (by intro a; fin_cases a <;> simp)]
  exact pay2_at ..
theorem outC (hc0 : ¬cond0_0 i) (hc1 : ¬cond0_1 i) (hc2 : cond0_2 i) : (out0_C_4 (F := Ideal) c i arg1 harg1 arg2 harg2 arg3 harg3 arg4 harg4 arg5 harg5 hc0 hc1 hc2 x0 x1 x2 x3 (ix2 a b) : EReal) = ∑ s : Fin 2048, (x2 (ix2 s a) : EReal) * x3 (ix2 s b) := by
  unfold out0_C_4 kernelRun0_C
  dsimp only
  sl_unfold_words
  simp only [View.readAt_eq_ld, harg1.read_unread, harg2.read_unread, harg3.read_unread, harg4.read_unread, View.ld_unit_zero (S := S2048x512) hz2, View.ld_unit_zero (S := S2048x1024) hz2]
  rw [View.read_writes_cons_unit_of_mem _ _ _ _ _ _ (ix2 a b) rfl (by intro a; fin_cases a <;> simp)]
  exact pay3_at ..
end

section
variable (m : (ℓ : Loc nD τ sig) → Buf (Elt Ideal) ℓ) (c : Dev nD)

theorem idx : ∀ t : Fin cfg0.N, (t.val < 2 → win0_0.index t = ![0, t.val]) ∧ (2 ≤ t.val → t.val < 5 → win0_1.index t = ![0, t.val - 2]) ∧ (5 ≤ t.val → win0_2.index t = ![0, t.val - 5])
    ∧ win0_3.index t = ![0, 0] ∧ win0_4.index t = ![t.val, 0] :=
  (by decide +kernel : ∀ t : Fin grid0.N, _)

/-- The row that is a point's `a`-th, of the whole blocks' 3584. -/
def rt (t : Fin cfg0.N) (a : Fin 512) : Fin 3584 := ⟨512 * t.val + a.val, by have := t.isLt; have := N_0; omega⟩

/-- The five arguments. -/
abbrev A0 : S2048x1024.Idx → EReal := m ((c.tc : Thread nD τ).loc main_arg0)
abbrev A1 : S2048x1536.Idx → EReal := m ((c.tc : Thread nD τ).loc main_arg1)
abbrev A2 : S2048x768.Idx → EReal := m ((c.tc : Thread nD τ).loc main_arg2)
abbrev A3 : S2048x128.Idx → EReal := m ((c.tc : Thread nD τ).loc main_arg3)
abbrev A4 : S2048x1024.Idx → EReal := m ((c.tc : Thread nD τ).loc main_arg4)

/-- The time steps' and the latent gradients side by side, with columns of zeros after. -/
def restS (l : FVec Ideal S2048x768 .bf16) (d : FVec Ideal S2048x128 .f32) : FVec Ideal S2048x1024 .bf16 :=
  concatenate S2048x1024 1 [⟨S2048x16, truncf .bf16 (extractStridedSlice S2048x16 ![0, 0] d slices_S2048x128_S2048x16_0_0) bitsLt_bf16_f32⟩, ⟨S2048x672, extractStridedSlice S2048x672 ![0, 0] l slices_S2048x768_S2048x672_0_0⟩, ⟨S2048x336, broadcastInDim S2048x336 ![] bcast_S_S2048x336 (constant S_ .bf16 0x0000#16)⟩] concatenates_S2048x16_S2048x672_S2048x336_S2048x1024_d1
theorem V_rest : V m c main_v4 = restS (A2 m c) (A3 m c) := by
  unfold restS
  show StableHlo.after hostOps0 _ _ = _
  after_results
  rfl
theorem V_in : V m c main_v5 = A4 m c := by
  entry_read; rfl

/-- The columns' gradients side by side. -/
def catV (z : S2048x1024.Idx → EReal) (x : S2048x1536.Idx → EReal) (r : S2048x1024.Idx → EReal) (s : Fin 2048) (k : Fin 3584) : EReal :=
  if h : k.val < 1024 then z (ix2 s ⟨k.val, h⟩) else if h' : k.val < 2560 then x (ix2 s ⟨k.val - 1024, by omega⟩) else r (ix2 s ⟨k.val - 2560, by omega⟩)

theorem blk0 (t : Fin cfg0.N) (h : t.val < 2) (s : Fin 2048) (a : Fin 512) : (iblk m c 0 t : S2048x512.Idx → EReal) (ix2 s a) = catV (A0 m c) (A1 m c) (restS (A2 m c) (A3 m c)) s (rt t a) := by
  unfold catV
  rw [dif_pos (show (rt t a).val < 1024 by simp only [rt]; omega)]
  refine Eq.trans ?_ (congrFun (V_main_arg0 m c) _)
  blk_ext [iblk, (idx t).1 h, rt]
theorem blk1 (t : Fin cfg0.N) (h : 2 ≤ t.val) (h' : t.val < 5) (s : Fin 2048) (a : Fin 512) : (iblk m c 1 t : S2048x512.Idx → EReal) (ix2 s a) = catV (A0 m c) (A1 m c) (restS (A2 m c) (A3 m c)) s (rt t a) := by
  unfold catV
  rw [dif_neg (show ¬(rt t a).val < 1024 by simp only [rt]; omega), dif_pos (show (rt t a).val < 2560 by simp only [rt]; omega)]
  refine Eq.trans ?_ (congrFun (V_main_arg1 m c) _)
  blk_ext [iblk, (idx t).2.1 h h', rt]
theorem blk2 (t : Fin cfg0.N) (h : 5 ≤ t.val) (s : Fin 2048) (a : Fin 512) : (iblk m c 2 t : S2048x512.Idx → EReal) (ix2 s a) = catV (A0 m c) (A1 m c) (restS (A2 m c) (A3 m c)) s (rt t a) := by
  unfold catV
  rw [dif_neg (show ¬(rt t a).val < 1024 by simp only [rt]; omega), dif_neg (show ¬(rt t a).val < 2560 by simp only [rt]; omega)]
  refine Eq.trans ?_ (congrFun (V_rest m c) _)
  blk_ext [iblk, (idx t).2.2.1 h, rt]
theorem blk3 (t : Fin cfg0.N) (s : Fin 2048) (b : Fin 1024) : (iblk m c 3 t : S2048x1024.Idx → EReal) (ix2 s b) = A4 m c (ix2 s b) := by
  refine Eq.trans ?_ (congrFun (V_in m c) _)
  blk_ext [iblk, idx t]

/-- The kernel's rows, those past the array's end included, and its array. -/
def rowsA (z : S2048x1024.Idx → EReal) (x : S2048x1536.Idx → EReal) (l : FVec Ideal S2048x768 .bf16) (d : FVec Ideal S2048x128 .f32) (g : S2048x1024.Idx → EReal) (k : Fin 3584) (b : Fin 1024) : EReal :=
  colsT (catV z x (restS l d)) g k b
def weightA (z : S2048x1024.Idx → EReal) (x : S2048x1536.Idx → EReal) (l : FVec Ideal S2048x768 .bf16) (d : FVec Ideal S2048x128 .f32) (g : S2048x1024.Idx → EReal) : S3248x1024.Idx → EReal :=
  fun j => rowsA z x l d g ⟨(j 0).val, lt_trans (j 0).isLt (by decide)⟩ (j 1)

theorem res (t : Fin cfg0.N) (a : Fin 512) (b : Fin 1024) :
    (outsAt0 m c t.val t.isLt : S512x1024.Idx → EReal) (ix2 a b) = rowsA (A0 m c) (A1 m c) (A2 m c) (A3 m c) (A4 m c) (rt t a) b := by
  have ht : t.val < 7 := lt_of_lt_of_eq t.isLt N_0
  unfold rowsA colsT
  by_cases h : t.val < 2
  · rw [outsAt0_A m c t h (by omega) (by omega)]
    refine (outA (hc0 := (hcond0_0 t).mpr h) (hc1 := fun h' => absurd ((hcond0_1 t).mp h') (by omega)) (hc2 := fun h' => absurd ((hcond0_2 t).mp h') (by omega)) ..).trans ?_
    simp only [blk0 m c t h, blk3]
  · by_cases h' : t.val < 5
    · rw [outsAt0_B m c t h (by omega) (by omega)]
      refine (outB (hc0 := fun h' => h ((hcond0_0 t).mp h')) (hc1 := (hcond0_1 t).mpr (by omega)) (hc2 := fun h' => absurd ((hcond0_2 t).mp h') (by omega)) ..).trans ?_
      simp only [blk1 m c t (not_lt.mp h) h', blk3]
    · rw [outsAt0_C m c t h (by omega) (by omega)]
      refine (outC (hc0 := fun h' => h ((hcond0_0 t).mp h')) (hc1 := fun h' => absurd ((hcond0_1 t).mp h') (by omega)) (hc2 := (hcond0_2 t).mpr (by omega)) ..).trans ?_
      simp only [blk2 m c t (not_lt.mp h'), blk3]
theorem final4 : (dats m 0 c).arrAt 4 cfg0.N = weightA (A0 m c) (A1 m c) (A2 m c) (A3 m c) (A4 m c) := by
  unfold weightA
  have hr := res m c
  generalize rowsA (A0 m c) (A1 m c) (A2 m c) (A3 m c) (A4 m c) = R at hr ⊢
  refine (dats m 0 c).arrAt_eq_of_covers 4 _ (by decide +kernel) fun t _ y => ?_
  blk_simp
  rw [after0_4]
  have h0 : ((cfg0.win 4).xinj (cfg0.grid.coords t) y 0).val = (y 0).val := rfl
  have h1 : ((cfg0.win 4).xinj (cfg0.grid.coords t) y 1).val = (y 1).val := rfl
  generalize (cfg0.win 4).xinj (cfg0.grid.coords t) y = z at h0 h1 ⊢
  have hz : (z : S512x1024.Idx) = ix2 (n0 := 512) (n1 := 1024) (z 0) (z 1) := eq_ix2 (n0 := 512) (n1 := 1024) z
  refine (congrArg (outsAt0 m c t.val t.isLt : S512x1024.Idx → EReal) hz).trans ((hr t (z 0) (z 1)).trans ?_)
  have e : win0_4.index t = ![t.val, 0] := (idx t).2.2.2.2
  refine congrArg₂ R (Fin.ext ?_) (Fin.ext ?_)
  · simp only [rt, e, h0]
    show _ = t.val * 512 + _
    omega
  · rw [h1]
    blk_simp
    simp only [e]
    show _ = 0 * 1024 + _
    omega
end

end Cert.WeightIdeal.Att

end
-- ==== Proof.WeightRef.lean ====
module

public import proofs.«01_k».proof.Proof.WeightVal
public import proofs.«01_k».proof.Proof.Gen.WeightReferenceIdeal.Run

@[expose] public section

set_option maxRecDepth 16384

noncomputable section

open Idealize.ShloMosaic Idealize.ShloMosaic.TcCoe Idealize.SL.Sem

namespace Cert.WeightIdeal.Att

open Cert.WeightIdeal Cert.WeightIdeal.Gen

variable (l : FVec Ideal S2048x768 .bf16) (d : FVec Ideal S2048x128 .f32) (s : Fin 2048) (k : Fin 1024)

/-- A column of the time steps' part, and one of the latent part. -/
theorem rest_1 (h : k.val < 16) : (restS l d (ix2 s k) : EReal) = d (ix2 s ⟨k.val, by omega⟩) := by
  pointwise [restS]
  rw [dif_pos h]
theorem rest_2 (h : ¬k.val < 16) (h' : k.val < 688) : (restS l d (ix2 s k) : EReal) = l (ix2 s ⟨k.val - 16, by omega⟩) := by
  pointwise [restS]
  rw [dif_neg h, dif_pos (by omega)]

end Cert.WeightIdeal.Att

namespace Cert.WeightReferenceIdeal.Att

open Cert.WeightReferenceIdeal Cert.WeightReferenceIdeal.Gen

variable (z : FVec Ideal S2048x1024 .bf16) (x : FVec Ideal S2048x1536 .bf16) (l : FVec Ideal S2048x768 .bf16) (d : FVec Ideal S2048x128 .f32) (g : FVec Ideal S2048x1024 .f32)

/-- The columns' gradients side by side, and the derivative of the product with respect to its weights. -/
def catS : FVec Ideal S2048x3248 .f32 :=
  concatenate S2048x3248 1 [⟨S2048x1024, extf .f32 z bitsLt_bf16_f32⟩, ⟨S2048x1536, extf .f32 x bitsLt_bf16_f32⟩, ⟨S2048x16, extractStridedSlice S2048x16 ![0, 0] d slices_S2048x128_S2048x16_0_0⟩, ⟨S2048x384, extractStridedSlice S2048x384 ![0, 0] (extf .f32 l bitsLt_bf16_f32) slices_S2048x768_S2048x384_0_0⟩, ⟨S2048x256, extractStridedSlice S2048x256 ![0, 384] (extf .f32 l bitsLt_bf16_f32) slices_S2048x768_S2048x256_0_384⟩, ⟨S2048x32, extractStridedSlice S2048x32 ![0, 640] (extf .f32 l bitsLt_bf16_f32) slices_S2048x768_S2048x32_0_640⟩] concatenates_S2048x1024_S2048x1536_S2048x16_S2048x384_S2048x256_S2048x32_S2048x3248_d1
def weightS : FVec Ideal S3248x1024 .bf16 :=
  truncf .bf16 (transpose S3248x1024 [1, 0] (transpose S1024x3248 [1, 0] (Host.dotGeneral dot_S2048x3248_S2048x1024_S3248x1024_0_0_1_1_n_n none (catS z x l d) g) transposes_S3248x1024_S1024x3248_1_0) transposes_S1024x3248_S3248x1024_1_0) bitsLt_bf16_f32

theorem catS_at (s : Fin 2048) (k : Fin 3248) : (catS z x l d (ix2 s k) : EReal) = Cert.WeightIdeal.Att.catV z x (Cert.WeightIdeal.Att.restS l d) s ⟨k.val, by omega⟩ := by
  unfold Cert.WeightIdeal.Att.catV
  pointwise [catS]
  by_cases h1 : k.val < 1024
  · rw [dif_pos h1, dif_pos h1]
  rw [dif_neg h1, dif_neg h1]
  by_cases h2 : k.val < 2560
  · rw [dif_pos (by omega), dif_pos h2]
  rw [dif_neg (by omega), dif_neg h2]
  by_cases h3 : k.val < 2576
  · rw [dif_pos (by omega), Cert.WeightIdeal.Att.rest_1 _ _ _ _ (by show k.val - 2560 < 16; omega)]
    exact congrArg (fun q => d (ix2 s q)) (Fin.ext (by show k.val - 1024 - 1536 = k.val - 2560; omega))
  rw [dif_neg (by omega), Cert.WeightIdeal.Att.rest_2 _ _ _ _ (by show ¬k.val - 2560 < 16; omega) (by show k.val - 2560 < 688; omega)]
  by_cases h4 : k.val < 2960
  · rw [dif_pos (by omega)]
    exact congrArg (fun q => l (ix2 s q)) (Fin.ext (by show k.val - 1024 - 1536 - 16 = k.val - 2560 - 16; omega))
  rw [dif_neg (by omega)]
  by_cases h5 : k.val < 3216
  · rw [dif_pos (by omega)]
    exact congrArg (fun q => l (ix2 s q)) (Fin.ext (by show 384 + (k.val - 1024 - 1536 - 16 - 384) = k.val - 2560 - 16; omega))
  rw [dif_neg (by omega)]
  exact congrArg (fun q => l (ix2 s q)) (Fin.ext (by show 640 + (k.val - 1024 - 1536 - 16 - 384 - 256) = k.val - 2560 - 16; omega))
theorem weightS_at (k : Fin 3248) (b : Fin 1024) : (weightS z x l d g (ix2 k b) : EReal) = ∑ s : Fin 2048, (catS z x l d (ix2 s k) : EReal) * g (ix2 s b) := by
  pointwise [weightS]
/-- The reference's array is the kernel's. -/
theorem weightS_eq : (weightS z x l d g : S3248x1024.Idx → EReal) = Cert.WeightIdeal.Att.weightA z x l d g := by
  funext j
  idx_vars j
  refine (weightS_at ..).trans ?_
  show _ = ∑ s : Fin 2048, Cert.WeightIdeal.Att.catV z x (Cert.WeightIdeal.Att.restS l d) s ⟨j0.val, _⟩ * g (ix2 s j1)
  simp only [catS_at]

end Cert.WeightReferenceIdeal.Att

end
-- ==== Proof.WeightClaims.lean ====
module

public import proofs.«01_k».proof.Defs
public import proofs.«01_k».proof.Proof.Gen.Weight.Frame
public import proofs.«01_k».proof.Proof.WeightRef
public import Idealize.ShloMosaic.Lib.Quiescent

@[expose] public section

set_option maxRecDepth 16384

noncomputable section

open Idealize.ShloMosaic Idealize.ShloMosaic.TcCoe Idealize.SL.Sem

namespace Cert.WeightClaims

theorem frame_p : Cert.quiescent_Weight := fun m ρ _ => Cert.Weight.Gen.frame m ρ
theorem frame_pi : Cert.quiescent_WeightIdeal := fun m ρ _ => Cert.WeightIdeal.Gen.frame m ρ
theorem frame_ri : Cert.quiescent_WeightReferenceIdeal := fun m ρ _ =>
  (θ_run Cert.WeightReferenceIdeal.defs _ _).mono (fun r h => ⟨fun c => (h c).2, sem_eq_zero_of_no_sems (by decide) r.2⟩)
    (Cert.WeightReferenceIdeal.Value.run (F := Ideal) m ρ)

/-- No operation is replaced. -/
theorem preserves : Cert.preserves_Weight_WeightIdeal := trivial

section
open Cert.WeightReferenceIdeal

variable (m : (ℓ : Loc nD τ sig) → Buf (Elt Ideal) ℓ) (c : Dev nD)

abbrev B0 : FVec Ideal S2048x1024 .bf16 := m ((c.tc : Thread nD τ).loc main_arg0)
abbrev B1 : FVec Ideal S2048x1536 .bf16 := m ((c.tc : Thread nD τ).loc main_arg1)
abbrev B2 : FVec Ideal S2048x768 .bf16 := m ((c.tc : Thread nD τ).loc main_arg2)
abbrev B3 : FVec Ideal S2048x128 .f32 := m ((c.tc : Thread nD τ).loc main_arg3)
abbrev B4 : FVec Ideal S2048x1024 .f32 := m ((c.tc : Thread nD τ).loc main_arg4)
end

/-- The kernel's array is the derivative of the mixing layer's first product with respect to its weights. -/
theorem algebraic : Cert.algebraic_WeightIdeal_WeightReferenceIdeal := by
  intro m ρ m' ρ' _ hagree
  have key : ∀ c : Dev Cert.WeightIdeal.nD,
      Cert.WeightReferenceIdeal.Att.weightS (B0 m' c) (B1 m' c) (B2 m' c) (B3 m' c) (B4 m' c) = (Cert.WeightIdeal.Gen.dats m 0 c).arrAt 4 Cert.WeightIdeal.cfg0.N := fun c => by
    obtain ⟨g0, g1, g2, g3, g4⟩ := hagree c
    have e0 : B0 m' c = Cert.WeightIdeal.Att.A0 m c := g0
    have e1 : B1 m' c = Cert.WeightIdeal.Att.A1 m c := g1
    have e2 : B2 m' c = Cert.WeightIdeal.Att.A2 m c := g2
    have e3 : B3 m' c = Cert.WeightIdeal.Att.A3 m c := g3
    have e4 : B4 m' c = Cert.WeightIdeal.Att.A4 m c := g4
    rw [e0, e1, e2, e3, e4, Cert.WeightIdeal.Att.final4]
    exact Cert.WeightReferenceIdeal.Att.weightS_eq _ _ _ _ _
  refine ⟨_, Cert.WeightIdeal.Value.run_blocks m ρ, ?_⟩
  exact (θ_run Cert.WeightReferenceIdeal.defs _ _).mono (fun _ h c => ⟨(h c).1.trans (key c), (h c).2⟩)
    (Cert.WeightReferenceIdeal.Value.run (F := Ideal) m' ρ')

end Cert.WeightClaims

end
-- ==== Proof.LowVal.lean ====
module

public import proofs.«01_k».proof.Proof.Gen.LowIdeal.Frame
public import Idealize.ShloMosaic.Lib.Pipeline.ValueKit
public import Idealize.ShloMosaic.Lib.Pointwise
public import Idealize.ShloMosaic.PureOps.Ideal

@[expose] public section

set_option maxRecDepth 16384

noncomputable section

open Idealize.ShloMosaic Idealize.ShloMosaic.TcCoe Idealize.SL.Sem
open Idealize.ShloMosaic.Pipeline (Dat)

namespace Cert.LowIdeal.Att

open Cert.LowIdeal Cert.LowIdeal.Gen

/-- The products of the columns of two arrays. -/
def colsT {a b : ℕ} (x : (⟨2, ![2048, a]⟩ : Shape).Idx → EReal) (y : (⟨2, ![2048, b]⟩ : Shape).Idx → EReal) (i : Fin a) (j : Fin b) : EReal :=
  ∑ s : Fin 2048, x (ix2 s i) * y (ix2 s j)
abbrev colsA {a b : ℕ} (x : (⟨2, ![2048, a]⟩ : Shape).Idx → EReal) (y : (⟨2, ![2048, b]⟩ : Shape).Idx → EReal) : (⟨2, ![a, b]⟩ : Shape).Idx → EReal :=
  fun j => colsT x y (j 0) (j 1)

theorem hz2 : (![0, 0] : Fin 2 → Nat) = fun _ => 0 := funext fun a => by fin_cases a <;> rfl

theorem k0_at (v0 : Vec Ideal S2048x384 .bf16) (v1 : Vec Ideal S2048x2048 .bf16) (a : Fin 384) (b : Fin 2048) : k0_pay1 v0 v1 (ix2 a b) = colsT v0 v1 a b := by
  unfold colsT
  pointwise [k0_pay1]
theorem k1_at (v0 : Vec Ideal S2048x256 .bf16) (v1 : Vec Ideal S2048x2048 .bf16) (a : Fin 256) (b : Fin 2048) : k1_pay1 v0 v1 (ix2 a b) = colsT v0 v1 a b := by
  unfold colsT
  pointwise [k1_pay1]
theorem k2_at (v0 : Vec Ideal S2048x256 .bf16) (v1 : Vec Ideal S2048x1024 .bf16) (a : Fin 256) (b : Fin 1024) : k2_pay1 v0 v1 (ix2 a b) = colsT v0 v1 a b := by
  unfold colsT
  pointwise [k2_pay1]
theorem k3_at (v0 : Vec Ideal S2048x256 .bf16) (v1 : Vec Ideal S2048x1024 .bf16) (a : Fin 256) (b : Fin 1024) : k3_pay1 v0 v1 (ix2 a b) = colsT v0 v1 a b := by
  unfold colsT
  pointwise [k3_pay1]

section
variable (V : (c : Dev nD) → (b : Ref sig .tc) → Buf (Elt Ideal) ((c : Thread nD τ).loc b)) (c : Dev nD)

theorem idx0 : ∀ t : Fin cfg0.N, win0_0.index t = ![0, 0] ∧ win0_1.index t = ![0, 0] ∧ win0_2.index t = ![0, 0] :=
  (by decide +kernel : ∀ t : Fin grid0.N, _)
theorem iblk0_0 (t : Fin cfg0.N) (r : Fin 2048) (k : Fin 384) : (iblk0 V c 0 t : S2048x384.Idx → EReal) (ix2 r k) = (V c main_arg0 : S2048x384.Idx → EReal) (ix2 r k) := by
  blk_ext [iblk0, idx0 t]
theorem iblk0_1 (t : Fin cfg0.N) (r : Fin 2048) (k : Fin 2048) : (iblk0 V c 1 t : S2048x2048.Idx → EReal) (ix2 r k) = (V c main_arg1 : S2048x2048.Idx → EReal) (ix2 r k) := by
  blk_ext [iblk0, idx0 t]
theorem final0_2 : (dat0 V c).arrAt 2 cfg0.N = (colsA (V c main_arg0 : S2048x384.Idx → EReal) (V c main_arg1 : S2048x2048.Idx → EReal) : S384x2048.Idx → EReal) := by
  refine (dat0 V c).arrAt_eq_of_covers 2 _ (by decide +kernel) fun t _ y => ?_
  blk_simp
  rw [after0_2]
  idx_vars y
  unfold out0_2
  rw [View.canon_unit_zero hz2, View.ld_unit_zero hz2, View.ld_unit_zero hz2]
  refine (k0_at _ _ y0 y1).trans (Eq.trans (b := colsT (V c main_arg0 : S2048x384.Idx → EReal) (V c main_arg1 : S2048x2048.Idx → EReal) y0 y1) ?_ (congrArg (colsA (V c main_arg0 : S2048x384.Idx → EReal) (V c main_arg1 : S2048x2048.Idx → EReal)) (?_ : ix2 y0 y1 = _)))
  · unfold colsT; simp only [iblk0_0, iblk0_1]
  · blk_ext [idx0 t]

theorem idx1 : ∀ t : Fin cfg1.N, win1_0.index t = ![0, 0] ∧ win1_1.index t = ![0, 0] ∧ win1_2.index t = ![0, 0] :=
  (by decide +kernel : ∀ t : Fin grid1.N, _)
theorem iblk1_0 (t : Fin cfg1.N) (r : Fin 2048) (k : Fin 256) : (iblk1 V c 0 t : S2048x256.Idx → EReal) (ix2 r k) = (V c main_arg2 : S2048x256.Idx → EReal) (ix2 r k) := by
  blk_ext [iblk1, idx1 t]
theorem iblk1_1 (t : Fin cfg1.N) (r : Fin 2048) (k : Fin 2048) : (iblk1 V c 1 t : S2048x2048.Idx → EReal) (ix2 r k) = (V c main_arg3 : S2048x2048.Idx → EReal) (ix2 r k) := by
  blk_ext [iblk1, idx1 t]
theorem final1_2 : (dat1 V c).arrAt 2 cfg1.N = (colsA (V c main_arg2 : S2048x256.Idx → EReal) (V c main_arg3 : S2048x2048.Idx → EReal) : S256x2048.Idx → EReal) := by
  refine (dat1 V c).arrAt_eq_of_covers 2 _ (by decide +kernel) fun t _ y => ?_
  blk_simp
  rw [after1_2]
  idx_vars y
  unfold out1_2
  rw [View.canon_unit_zero hz2, View.ld_unit_zero hz2, View.ld_unit_zero hz2]
  refine (k1_at _ _ y0 y1).trans (Eq.trans (b := colsT (V c main_arg2 : S2048x256.Idx → EReal) (V c main_arg3 : S2048x2048.Idx → EReal) y0 y1) ?_ (congrArg (colsA (V c main_arg2 : S2048x256.Idx → EReal) (V c main_arg3 : S2048x2048.Idx → EReal)) (?_ : ix2 y0 y1 = _)))
  · unfold colsT; simp only [iblk1_0, iblk1_1]
  · blk_ext [idx1 t]

theorem idx2 : ∀ t : Fin cfg2.N, win2_0.index t = ![0, 0] ∧ win2_1.index t = ![0, 0] ∧ win2_2.index t = ![0, 0] :=
  (by decide +kernel : ∀ t : Fin grid2.N, _)
theorem iblk2_0 (t : Fin cfg2.N) (r : Fin 2048) (k : Fin 256) : (iblk2 V c 0 t : S2048x256.Idx → EReal) (ix2 r k) = (V c main_arg2 : S2048x256.Idx → EReal) (ix2 r k) := by
  blk_ext [iblk2, idx2 t]
theorem iblk2_1 (t : Fin cfg2.N) (r : Fin 2048) (k : Fin 1024) : (iblk2 V c 1 t : S2048x1024.Idx → EReal) (ix2 r k) = (V c main_arg4 : S2048x1024.Idx → EReal) (ix2 r k) := by
  blk_ext [iblk2, idx2 t]
theorem final2_2 : (dat2 V c).arrAt 2 cfg2.N = (colsA (V c main_arg2 : S2048x256.Idx → EReal) (V c main_arg4 : S2048x1024.Idx → EReal) : S256x1024.Idx → EReal) := by
  refine (dat2 V c).arrAt_eq_of_covers 2 _ (by decide +kernel) fun t _ y => ?_
  blk_simp
  rw [after2_2]
  idx_vars y
  unfold out2_2
  rw [View.canon_unit_zero hz2, View.ld_unit_zero hz2, View.ld_unit_zero hz2]
  refine (k2_at _ _ y0 y1).trans (Eq.trans (b := colsT (V c main_arg2 : S2048x256.Idx → EReal) (V c main_arg4 : S2048x1024.Idx → EReal) y0 y1) ?_ (congrArg (colsA (V c main_arg2 : S2048x256.Idx → EReal) (V c main_arg4 : S2048x1024.Idx → EReal)) (?_ : ix2 y0 y1 = _)))
  · unfold colsT; simp only [iblk2_0, iblk2_1]
  · blk_ext [idx2 t]

theorem idx3 : ∀ t : Fin cfg3.N, win3_0.index t = ![0, 0] ∧ win3_1.index t = ![0, 0] ∧ win3_2.index t = ![0, 0] :=
  (by decide +kernel : ∀ t : Fin grid3.N, _)
theorem iblk3_0 (t : Fin cfg3.N) (r : Fin 2048) (k : Fin 256) : (iblk3 V c 0 t : S2048x256.Idx → EReal) (ix2 r k) = (V c main_arg5 : S2048x256.Idx → EReal) (ix2 r k) := by
  blk_ext [iblk3, idx3 t]
theorem iblk3_1 (t : Fin cfg3.N) (r : Fin 2048) (k : Fin 1024) : (iblk3 V c 1 t : S2048x1024.Idx → EReal) (ix2 r k) = (V c main_arg6 : S2048x1024.Idx → EReal) (ix2 r k) := by
  blk_ext [iblk3, idx3 t]
theorem final3_2 : (dat3 V c).arrAt 2 cfg3.N = (colsA (V c main_arg5 : S2048x256.Idx → EReal) (V c main_arg6 : S2048x1024.Idx → EReal) : S256x1024.Idx → EReal) := by
  refine (dat3 V c).arrAt_eq_of_covers 2 _ (by decide +kernel) fun t _ y => ?_
  blk_simp
  rw [after3_2]
  idx_vars y
  unfold out3_2
  rw [View.canon_unit_zero hz2, View.ld_unit_zero hz2, View.ld_unit_zero hz2]
  refine (k3_at _ _ y0 y1).trans (Eq.trans (b := colsT (V c main_arg5 : S2048x256.Idx → EReal) (V c main_arg6 : S2048x1024.Idx → EReal) y0 y1) ?_ (congrArg (colsA (V c main_arg5 : S2048x256.Idx → EReal) (V c main_arg6 : S2048x1024.Idx → EReal)) (?_ : ix2 y0 y1 = _)))
  · unfold colsT; simp only [iblk3_0, iblk3_1]
  · blk_ext [idx3 t]
end

end Cert.LowIdeal.Att

end
-- ==== Proof.LowRun.lean ====
module

public import proofs.«01_k».proof.Proof.LowVal

@[expose] public section

set_option maxRecDepth 16384

noncomputable section

open Idealize.ShloMosaic Idealize.ShloMosaic.TcCoe Idealize.ShloMosaic.Tactic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

namespace Cert.LowIdeal.Att

open Cert.LowIdeal Cert.LowIdeal.Gen

variable (m : (ℓ : Loc nD τ sig) → Buf (Elt Ideal) ℓ) (ρ : Dev nD → PrngReg) (c : Dev nD)

abbrev A0 : S2048x384.Idx → EReal := m ((c.tc : Thread nD τ).loc main_arg0)
abbrev A1 : S2048x2048.Idx → EReal := m ((c.tc : Thread nD τ).loc main_arg1)
abbrev A2 : S2048x256.Idx → EReal := m ((c.tc : Thread nD τ).loc main_arg2)
abbrev A3 : S2048x2048.Idx → EReal := m ((c.tc : Thread nD τ).loc main_arg3)
abbrev A4 : S2048x1024.Idx → EReal := m ((c.tc : Thread nD τ).loc main_arg4)
abbrev A5 : S2048x256.Idx → EReal := m ((c.tc : Thread nD τ).loc main_arg5)
abbrev A6 : S2048x1024.Idx → EReal := m ((c.tc : Thread nD τ).loc main_arg6)

/-! What the host makes of the four products: a head's columns without their padding, and the keys' and the values' columns head by head. -/

def headQ (x : FVec Ideal S384x2048 .bf16) : FVec Ideal S384x1536 .bf16 :=
  shapeCast S384x1536 (extractStridedSlice S384x16x96 ![0, 0, 0] (shapeCast S384x16x128 x shapeCasts_S384x2048_S384x16x128) slices_S384x16x128_S384x16x96_0_0_0) shapeCasts_S384x16x96_S384x1536
def headKV (x : FVec Ideal S256x2048 .bf16) (y : FVec Ideal S256x1024 .bf16) : FVec Ideal S256x2048 .bf16 :=
  shapeCast S256x2048 (concatenate S256x16x128 2 [⟨S256x16x64, (extractStridedSlice S256x16x64 ![0, 0, 0] (shapeCast S256x16x128 x shapeCasts_S256x2048_S256x16x128) slices_S256x16x128_S256x16x64_0_0_0)⟩,
    ⟨S256x16x64, (shapeCast S256x16x64 y shapeCasts_S256x1024_S256x16x64)⟩] concatenates_S256x16x64_S256x16x64_S256x16x128_d2) shapeCasts_S256x16x128_S256x2048

/-- The column of entry `l` of head `h`, in the results and in the padded arrays. -/
abbrev qcol (h : Fin 16) (l : Fin 96) : Fin 1536 := ⟨96 * h.val + l.val, by omega⟩
abbrev pcol (h : Fin 16) (l : Fin 128) : Fin 2048 := ⟨128 * h.val + l.val, by omega⟩
abbrev vcol (h : Fin 16) (l : Fin 64) : Fin 1024 := ⟨64 * h.val + l.val, by omega⟩
abbrev l96 (l : Fin 96) : Fin 128 := ⟨l.val, by omega⟩
abbrev lk (l : Fin 64) : Fin 128 := ⟨l.val, by omega⟩
abbrev lv' (l : Fin 64) : Fin 128 := ⟨64 + l.val, by omega⟩

theorem headQ_at (x : FVec Ideal S384x2048 .bf16) (a : Fin 384) (h : Fin 16) (l : Fin 96) : headQ x (ix2 a (qcol h l)) = x (ix2 a (pcol h (l96 l))) := by
  pointwise [headQ]
  exact congrArg (fun q => x (ix2 a q)) (Fin.ext (by show (96 * h.val + l.val) / 96 * 128 + (96 * h.val + l.val) % 96 = 128 * h.val + l.val; omega))
theorem headK_at (x : FVec Ideal S256x2048 .bf16) (y : FVec Ideal S256x1024 .bf16) (a : Fin 256) (h : Fin 16) (l : Fin 64) : headKV x y (ix2 a (pcol h (lk l))) = x (ix2 a (pcol h (lk l))) := by
  pointwise [headKV]
  rw [dif_pos (by omega)]
  exact congrArg (fun q => x (ix2 a q)) (Fin.ext (by show (128 * h.val + l.val) / 128 * 128 + (128 * h.val + l.val) % 128 = 128 * h.val + l.val; omega))
theorem headV_at (x : FVec Ideal S256x2048 .bf16) (y : FVec Ideal S256x1024 .bf16) (a : Fin 256) (h : Fin 16) (l : Fin 64) : headKV x y (ix2 a (pcol h (lv' l))) = y (ix2 a (vcol h l)) := by
  pointwise [headKV]
  rw [dif_neg (by omega)]
  exact congrArg (fun q => y (ix2 a q)) (Fin.ext (by show (128 * h.val + (64 + l.val)) / 128 * 64 + ((128 * h.val + (64 + l.val)) % 128 - 64) = 64 * h.val + l.val; omega))

/-! The arrays each call reads and leaves. -/

abbrev dqA : S384x2048.Idx → EReal := colsA (A0 m c) (A1 m c)
abbrev dkA : S256x2048.Idx → EReal := colsA (A2 m c) (A3 m c)
abbrev dvA : S256x1024.Idx → EReal := colsA (A2 m c) (A4 m c)
abbrev dpA : S256x1024.Idx → EReal := colsA (A5 m c) (A6 m c)

theorem w_dq : V1 m ρ c main_v0 = dqA m c :=
  (W1_arr m ρ c 2).trans (final0_2 (V0 m ρ) c)
theorem a_1 (r : Ref sig .tc) (h : r ∈ argRefs) : V1 m ρ c r = m ((c : Thread nD τ).loc r) := W1_args m ρ c r h
theorem a_2 (r : Ref sig .tc) (h : r ∈ argRefs) : V2 m ρ c r = m ((c : Thread nD τ).loc r) := W2_args m ρ c r h
theorem a_3 (r : Ref sig .tc) (h : r ∈ argRefs) : V3 m ρ c r = m ((c : Thread nD τ).loc r) := W3_args m ρ c r h
theorem w_dk : V2 m ρ c main_v1 = dkA m c := by
  refine (W2_arr m ρ c 2).trans ((final1_2 (V1 m ρ) c).trans ?_)
  rw [a_1 m ρ c main_arg2 (by decide), a_1 m ρ c main_arg3 (by decide)]
theorem w_dv : V3 m ρ c main_v2 = dvA m c := by
  refine (W3_arr m ρ c 2).trans ((final2_2 (V2 m ρ) c).trans ?_)
  rw [a_2 m ρ c main_arg2 (by decide), a_2 m ρ c main_arg4 (by decide)]
theorem w_dp : V4 m ρ c main_v3 = dpA m c := by
  refine (W4_arr m ρ c 2).trans ((final3_2 (V3 m ρ) c).trans ?_)
  rw [a_3 m ρ c main_arg5 (by decide), a_3 m ρ c main_arg6 (by decide)]
theorem dq_4 : V4 m ρ c main_v0 = dqA m c :=
  (((W4_of m ρ c main_v0 (by decide +kernel)).trans (W3_of m ρ c main_v0 (by decide +kernel))).trans (W2_of m ρ c main_v0 (by decide +kernel))).trans (w_dq m ρ c)
theorem dk_4 : V4 m ρ c main_v1 = dkA m c :=
  ((W4_of m ρ c main_v1 (by decide +kernel)).trans (W3_of m ρ c main_v1 (by decide +kernel))).trans (w_dk m ρ c)
theorem dv_4 : V4 m ρ c main_v2 = dvA m c :=
  (W4_of m ρ c main_v2 (by decide +kernel)).trans (w_dv m ρ c)

theorem r_q : W5 m ρ c (Proc.devRef .tc main_v6) = headQ (dqA m c) := by
  rw [← dq_4 m ρ c]
  show StableHlo.after hostOps4 (W4 m ρ c) _ = _
  after_results
  rfl
theorem r_kv : W5 m ρ c (Proc.devRef .tc main_v11) = headKV (dkA m c) (dvA m c) := by
  rw [← dk_4 m ρ c, ← dv_4 m ρ c]
  show StableHlo.after hostOps4 (W4 m ρ c) _ = _
  after_results
  rfl
theorem r_p : W5 m ρ c (Proc.devRef .tc main_v3) = dpA m c :=
  (W5_of m ρ c main_v3 (by decide)).trans (w_dp m ρ c)

local notation "𝕄" => MT nD τ sig Unit (Elt Ideal) ℕ (UR sig nD τ) ℕ

set_option backward.isDefEq.respectTransparency.types false in
/-- The program's results, and its arguments unchanged. -/
theorem run : θ_run defs (onTc (τ := τ) (main (F := Ideal))) ⟨m, fun _ => 0, ρ⟩ (fun r => ∀ c : Dev nD,
      r.2.mem ((c.tc : Thread nD τ).loc main_v6) = headQ (dqA m c)
      ∧ r.2.mem ((c.tc : Thread nD τ).loc main_v11) = headKV (dkA m c) (dvA m c)
      ∧ r.2.mem ((c.tc : Thread nD τ).loc main_v3) = dpA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c =>
      ⟨(h c _ (mem_uc main_v6 (by decide))).trans (r_q m ρ c),
       (h c _ (mem_uc main_v11 (by decide))).trans (r_kv m ρ c),
       (h c _ (mem_uc main_v3 (by decide))).trans (r_p m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.LowIdeal.Att

end
-- ==== Proof.LowRef.lean ====
module

public import proofs.«01_k».proof.Proof.Gen.LowReferenceIdeal.Run
public import proofs.«01_k».proof.Proof.LowRun

@[expose] public section

set_option maxRecDepth 16384

noncomputable section

open Idealize.ShloMosaic Idealize.ShloMosaic.TcCoe Idealize.SL.Sem

namespace Cert.LowReferenceIdeal.Att

open Cert.LowReferenceIdeal Cert.LowReferenceIdeal.Gen
open Cert.LowIdeal.Att (colsT colsA qcol pcol vcol l96 lk lv' headQ headKV headQ_at headK_at headV_at)

/-! ## The reference's arrays -/

/-- The gradient of the queries' rows without their padding, and the gradients of the keys' and the values' rows head by head. -/
def cutQ (d : FVec Ideal S2048x2048 .bf16) : FVec Ideal S2048x1536 .f32 :=
  shapeCast _ (extractStridedSlice S2048x16x96 ![0, 0, 0] (shapeCast _ (extf .f32 d bitsLt_bf16_f32) shapeCasts_S2048x2048_S2048x16x128) slices_S2048x16x128_S2048x16x96_0_0_0) shapeCasts_S2048x16x96_S2048x1536
def cutKV (d : FVec Ideal S2048x2048 .bf16) (e : FVec Ideal S2048x1024 .bf16) : FVec Ideal S2048x2048 .f32 :=
  shapeCast _ (concatenate S2048x16x128 2 [⟨S2048x16x64, (extractStridedSlice S2048x16x64 ![0, 0, 0] (shapeCast _ (extf .f32 d bitsLt_bf16_f32) shapeCasts_S2048x2048_S2048x16x128) slices_S2048x16x128_S2048x16x64_0_0_0)⟩, ⟨S2048x16x64, (shapeCast _ (extf .f32 e bitsLt_bf16_f32) shapeCasts_S2048x1024_S2048x16x64)⟩] concatenates_S2048x16x64_S2048x16x64_S2048x16x128_d2) shapeCasts_S2048x16x128_S2048x2048
/-- The three gradients of weights. -/
def qS (x : FVec Ideal S2048x384 .bf16) (z : FVec Ideal S2048x1536 .f32) : FVec Ideal S384x1536 .bf16 :=
  truncf .bf16 (transpose S384x1536 [1, 0] (Host.dotGeneral dot_S2048x1536_S2048x384_S1536x384_0_0_1_1_n_n none z (extf .f32 x bitsLt_bf16_f32)) transposes_S1536x384_S384x1536_1_0) bitsLt_bf16_f32
def kvS (x : FVec Ideal S2048x256 .bf16) (z : FVec Ideal S2048x2048 .f32) : FVec Ideal S256x2048 .bf16 :=
  truncf .bf16 (transpose S256x2048 [1, 0] (Host.dotGeneral dot_S2048x2048_S2048x256_S2048x256_0_0_1_1_n_n none z (extf .f32 x bitsLt_bf16_f32)) transposes_S2048x256_S256x2048_1_0) bitsLt_bf16_f32
def pS (x : FVec Ideal S2048x256 .bf16) (z : FVec Ideal S2048x1024 .bf16) : FVec Ideal S256x1024 .bf16 :=
  truncf .bf16 (transpose S256x1024 [1, 0] (Host.dotGeneral dot_S2048x1024_S2048x256_S1024x256_0_0_1_1_n_n none (extf .f32 z bitsLt_bf16_f32) (extf .f32 x bitsLt_bf16_f32)) transposes_S1024x256_S256x1024_1_0) bitsLt_bf16_f32

theorem cutQ_at (d : FVec Ideal S2048x2048 .bf16) (s : Fin 2048) (h : Fin 16) (l : Fin 96) : (cutQ d (ix2 s (qcol h l)) : EReal) = d (ix2 s (pcol h (l96 l))) := by
  pointwise [cutQ]
  exact congrArg (fun q => d (ix2 s q)) (Fin.ext (by show (96 * h.val + l.val) / 96 * 128 + (96 * h.val + l.val) % 96 = 128 * h.val + l.val; omega))
theorem cutK_at (d : FVec Ideal S2048x2048 .bf16) (e : FVec Ideal S2048x1024 .bf16) (s : Fin 2048) (h : Fin 16) (l : Fin 64) : (cutKV d e (ix2 s (pcol h (lk l))) : EReal) = d (ix2 s (pcol h (lk l))) := by
  pointwise [cutKV]
  rw [dif_pos (by omega)]
  exact congrArg (fun q => d (ix2 s q)) (Fin.ext (by show (128 * h.val + l.val) / 128 * 128 + (128 * h.val + l.val) % 128 = 128 * h.val + l.val; omega))
theorem cutV_at (d : FVec Ideal S2048x2048 .bf16) (e : FVec Ideal S2048x1024 .bf16) (s : Fin 2048) (h : Fin 16) (l : Fin 64) : (cutKV d e (ix2 s (pcol h (lv' l))) : EReal) = e (ix2 s (vcol h l)) := by
  pointwise [cutKV]
  rw [dif_neg (by omega)]
  exact congrArg (fun q => e (ix2 s q)) (Fin.ext (by show (128 * h.val + (64 + l.val)) / 128 * 64 + ((128 * h.val + (64 + l.val)) % 128 - 64) = 64 * h.val + l.val; omega))
theorem qS_at (x : FVec Ideal S2048x384 .bf16) (z : FVec Ideal S2048x1536 .f32) (a : Fin 384) (j : Fin 1536) : (qS x z (ix2 a j) : EReal) = ∑ s : Fin 2048, (x (ix2 s a) : EReal) * z (ix2 s j) := by
  pointwise [qS]
  exact Finset.sum_congr rfl fun s _ => mul_comm _ _
theorem kvS_at (x : FVec Ideal S2048x256 .bf16) (z : FVec Ideal S2048x2048 .f32) (a : Fin 256) (j : Fin 2048) : (kvS x z (ix2 a j) : EReal) = ∑ s : Fin 2048, (x (ix2 s a) : EReal) * z (ix2 s j) := by
  pointwise [kvS]
  exact Finset.sum_congr rfl fun s _ => mul_comm _ _

/-! ## The results -/

theorem qS_eq (x : FVec Ideal S2048x384 .bf16) (d : FVec Ideal S2048x2048 .bf16) : qS x (cutQ d) = headQ (colsA x d) := by
  funext j
  idx_vars j
  obtain ⟨h, l, e⟩ : ∃ (h : Fin 16) (l : Fin 96), j1 = qcol h l := ⟨⟨j1.val / 96, by omega⟩, ⟨j1.val % 96, by omega⟩, Fin.ext (by show j1.val = 96 * (j1.val / 96) + j1.val % 96; omega)⟩
  rw [e]
  refine (qS_at x _ j0 _).trans (Eq.trans ?_ (headQ_at (colsA x d) j0 h l).symm)
  exact Finset.sum_congr rfl fun s _ => congrArg (_ * ·) (cutQ_at d s h l)
theorem kvS_eq (x : FVec Ideal S2048x256 .bf16) (d : FVec Ideal S2048x2048 .bf16) (e : FVec Ideal S2048x1024 .bf16) : kvS x (cutKV d e) = headKV (colsA x d) (colsA x e) := by
  funext j
  idx_vars j
  by_cases hj : j1.val % 128 < 64
  · obtain ⟨h, l, e'⟩ : ∃ (h : Fin 16) (l : Fin 64), j1 = pcol h (lk l) := ⟨⟨j1.val / 128, by omega⟩, ⟨j1.val % 128, hj⟩, Fin.ext (by show j1.val = 128 * (j1.val / 128) + j1.val % 128; omega)⟩
    rw [e']
    refine (kvS_at x _ j0 _).trans (Eq.trans ?_ (headK_at (colsA x d) (colsA x e) j0 h l).symm)
    exact Finset.sum_congr rfl fun s _ => congrArg (_ * ·) (cutK_at d e s h l)
  · obtain ⟨h, l, e'⟩ : ∃ (h : Fin 16) (l : Fin 64), j1 = pcol h (lv' l) :=
      ⟨⟨j1.val / 128, by omega⟩, ⟨j1.val % 128 - 64, by omega⟩, Fin.ext (by show j1.val = 128 * (j1.val / 128) + (64 + (j1.val % 128 - 64)); omega)⟩
    rw [e']
    refine (kvS_at x _ j0 _).trans (Eq.trans ?_ (headV_at (colsA x d) (colsA x e) j0 h l).symm)
    exact Finset.sum_congr rfl fun s _ => congrArg (_ * ·) (cutV_at d e s h l)
theorem pS_eq (x : FVec Ideal S2048x256 .bf16) (z : FVec Ideal S2048x1024 .bf16) : pS x z = colsA x z := by
  funext j
  idx_vars j
  show _ = colsT x z j0 j1
  unfold colsT
  pointwise [pS]
  exact Finset.sum_congr rfl fun s _ => mul_comm _ _

end Cert.LowReferenceIdeal.Att

end
-- ==== Proof.LowClaims.lean ====
module

public import proofs.«01_k».proof.Defs
public import proofs.«01_k».proof.Proof.Gen.Low.Frame
public import proofs.«01_k».proof.Proof.LowRef
public import Idealize.ShloMosaic.Lib.Quiescent

@[expose] public section

set_option maxRecDepth 16384

noncomputable section

open Idealize.ShloMosaic Idealize.ShloMosaic.TcCoe Idealize.SL.Sem

namespace Cert.LowClaims

theorem frame_p : Cert.quiescent_Low := fun m ρ _ => Cert.Low.Gen.frame m ρ
theorem frame_pi : Cert.quiescent_LowIdeal := fun m ρ _ => Cert.LowIdeal.Gen.frame m ρ
theorem frame_ri : Cert.quiescent_LowReferenceIdeal := fun m ρ _ =>
  (θ_run Cert.LowReferenceIdeal.defs _ _).mono (fun r h => ⟨fun c => (h c).2.2.2, sem_eq_zero_of_no_sems (by decide) r.2⟩)
    (Cert.LowReferenceIdeal.Value.run (F := Ideal) m ρ)

/-- No operation is replaced. -/
theorem preserves : Cert.preserves_Low_LowIdeal := trivial

section
open Cert.LowReferenceIdeal

variable (m : (ℓ : Loc nD τ sig) → Buf (Elt Ideal) ℓ) (c : Dev nD)

abbrev B0 : FVec Ideal S2048x384 .bf16 := m ((c.tc : Thread nD τ).loc main_arg0)
abbrev B1 : FVec Ideal S2048x2048 .bf16 := m ((c.tc : Thread nD τ).loc main_arg1)
abbrev B2 : FVec Ideal S2048x256 .bf16 := m ((c.tc : Thread nD τ).loc main_arg2)
abbrev B3 : FVec Ideal S2048x2048 .bf16 := m ((c.tc : Thread nD τ).loc main_arg3)
abbrev B4 : FVec Ideal S2048x1024 .bf16 := m ((c.tc : Thread nD τ).loc main_arg4)
abbrev B5 : FVec Ideal S2048x256 .bf16 := m ((c.tc : Thread nD τ).loc main_arg5)
abbrev B6 : FVec Ideal S2048x1024 .bf16 := m ((c.tc : Thread nD τ).loc main_arg6)
end

/-- The kernel's three arrays are the derivatives of the products with the weights of the queries, of the keys and values, and of the per-layer embeddings, for any entries. -/
theorem algebraic : Cert.algebraic_LowIdeal_LowReferenceIdeal := by
  intro m ρ m' ρ' _ hagree
  have key : ∀ c : Dev Cert.LowIdeal.nD,
      Cert.LowReferenceIdeal.Att.qS (B0 m' c) (Cert.LowReferenceIdeal.Att.cutQ (B1 m' c)) = Cert.LowIdeal.Att.headQ (Cert.LowIdeal.Att.dqA m c)
      ∧ Cert.LowReferenceIdeal.Att.kvS (B2 m' c) (Cert.LowReferenceIdeal.Att.cutKV (B3 m' c) (B4 m' c)) = Cert.LowIdeal.Att.headKV (Cert.LowIdeal.Att.dkA m c) (Cert.LowIdeal.Att.dvA m c)
      ∧ Cert.LowReferenceIdeal.Att.pS (B5 m' c) (B6 m' c) = Cert.LowIdeal.Att.dpA m c := fun c => by
    obtain ⟨g0, g1, g2, g3, g4, g5, g6⟩ := hagree c
    have e0 : B0 m' c = Cert.LowIdeal.Att.A0 m c := g0
    have e1 : B1 m' c = Cert.LowIdeal.Att.A1 m c := g1
    have e2 : B2 m' c = Cert.LowIdeal.Att.A2 m c := g2
    have e3 : B3 m' c = Cert.LowIdeal.Att.A3 m c := g3
    have e4 : B4 m' c = Cert.LowIdeal.Att.A4 m c := g4
    have e5 : B5 m' c = Cert.LowIdeal.Att.A5 m c := g5
    have e6 : B6 m' c = Cert.LowIdeal.Att.A6 m c := g6
    rw [e0, e1, e2, e3, e4, e5, e6]
    exact ⟨Cert.LowReferenceIdeal.Att.qS_eq _ _, Cert.LowReferenceIdeal.Att.kvS_eq _ _ _, Cert.LowReferenceIdeal.Att.pS_eq _ _⟩
  refine ⟨_, _, _, Cert.LowIdeal.Att.run m ρ, ?_⟩
  exact (θ_run Cert.LowReferenceIdeal.defs _ _).mono (fun _ h c => ⟨(h c).1.trans (key c).1, (h c).2.1.trans (key c).2.1, (h c).2.2.1.trans (key c).2.2, (h c).2.2.2⟩)
    (Cert.LowReferenceIdeal.Value.run (F := Ideal) m' ρ')

end Cert.LowClaims

end
-- ==== Proof.LayVal.lean ====
module

public import proofs.«01_k».proof.Proof.Gen.LayIdeal.Value
public import proofs.«01_k».proof.Proof.MixRow
public import Idealize.ShloMosaic.Lib.Pipeline.ValueKit
public import Idealize.ShloMosaic.Lib.Pointwise
public import Idealize.ShloMosaic.PureOps.Ideal

@[expose] public section

set_option maxRecDepth 16384

noncomputable section

open Idealize.ShloMosaic Idealize.ShloMosaic.TcCoe Idealize.SL.Sem
open Idealize.ShloMosaic.Pipeline (Dat)

namespace Cert.LayIdeal.Att

open Cert.LayIdeal Cert.LayIdeal.Gen
open Cert.NormRow (Row rowOf wid qV rV)
open Cert.MixRow (al e5 preV cenV hatV)

theorem hz2 : (![0, 0] : Fin 2 → Nat) = fun _ => 0 := funext fun a => by fin_cases a <;> rfl
theorem N_0 : cfg0.N = 4 := by decide +kernel

/-- The weights' rows of the one mixer and of the other. -/
def up (k : Fin 1024) : Fin 2048 := ⟨k.val, by omega⟩
def lo (k : Fin 1024) : Fin 2048 := ⟨1024 + k.val, by omega⟩

/-- The mixers' result: the one's row and the other's through their halves of the weights. -/
def mixR (p q : Row) (u v : (⟨2, ![1024, 1024]⟩ : Shape).Idx → EReal) : Row :=
  fun k => (∑ j : Fin 1024, p j * u (ix2 j k)) + ∑ j : Fin 1024, q j * v (ix2 j k)
/-- A row normed, with scale and shift. -/
def layV (d w b : Row) (k : Fin 1024) : EReal := hatV d k * w k + b k

section
variable (v0 v4 : Vec Ideal S512x1024 .bf16) (v1 v5 : Vec Ideal S1024x1024 .bf16) (v10 : Vec Ideal S512x1024 .f32) (v30 v33 : Vec Ideal S1x1024 .f32) (r : Fin 512) (k : Fin 1024)

theorem pay3_at : (k0_pay3 v0 v1 v4 v5 (ix2 r k) : EReal) = mixR (rowOf v0 r) (rowOf v4 r) v1 v5 k := by
  unfold mixR
  pointwise [k0_pay3]
theorem pay4_at : (k0_pay4 v0 v1 v4 v5 v10 v30 (ix2 r k) : EReal) = hatV (cenV (preV (rowOf v10 r) (mixR (rowOf v0 r) (rowOf v4 r) v1 v5))) k * v30 (ix2 0 k) := by
  have e : mixR (rowOf v0 r) (rowOf v4 r) v1 v5 = fun k => (k0_pay3 v0 v1 v4 v5 (ix2 r k) : EReal) := funext fun k => (pay3_at v0 v4 v1 v5 r k).symm
  rw [e]
  unfold hatV rV qV cenV preV
  unfold k0_pay4
  generalize k0_pay3 v0 v1 v4 v5 = z
  pointwise
theorem pay1_at (z : FVec Ideal S512x1024 .f32) : (k0_pay1 z v33 (ix2 r k) : EReal) = (z (ix2 r k) : EReal) + v33 (ix2 0 k) := by
  pointwise [k0_pay1]
theorem pay2_at (z : FVec Ideal S512x1024 .f32) : (k0_pay2 z v33 (ix2 r k) : EReal) = (z (ix2 r k) : EReal) + v33 (ix2 0 k) := by
  pointwise [k0_pay2, k0_pay1]
end

/-! ## The arrays after the run -/

section
variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![0, 0] ∧ win0_6.index t = ![t.val, 0]
    ∧ win0_7.index t = ![t.val, 0] ∧ win0_8.index t = ![t.val, 0] :=
  (by decide +kernel : ∀ t : Fin grid0.N, _)

/-- The row that is a point's `r`-th. -/
def rt (t : Fin cfg0.N) (r : Fin 512) : Fin 2048 := ⟨512 * t.val + r.val, by have := t.isLt; have := N_0; omega⟩

/-- The six arguments. -/
abbrev A0 : S2048x1024.Idx → EReal := m ((c.tc : Thread nD τ).loc main_arg0)
abbrev A1 : S2048x1024.Idx → EReal := m ((c.tc : Thread nD τ).loc main_arg1)
abbrev A2 : S2048x1024.Idx → EReal := m ((c.tc : Thread nD τ).loc main_arg2)
abbrev A3 : S2048x1024.Idx → EReal := m ((c.tc : Thread nD τ).loc main_arg3)
abbrev A4 : S1x1024.Idx → EReal := m ((c.tc : Thread nD τ).loc main_arg4)
abbrev A5 : S1x1024.Idx → EReal := m ((c.tc : Thread nD τ).loc main_arg5)

theorem V0 : V m c main_v0 = A2 m c := by
  entry_read; rfl
theorem row0 (t : Fin cfg0.N) (r : Fin 512) : rowOf (iblk m c 0 t) r = rowOf (A0 m c) (rt t r) := funext fun k => by
  show (iblk m c 0 t : S512x1024.Idx → EReal) (ix2 r k) = _
  refine Eq.trans ?_ (congrFun (V_main_arg0 m c) _)
  blk_ext [iblk, idx t, rt]
theorem row1 (t : Fin cfg0.N) (r : Fin 512) : rowOf (iblk m c 1 t) r = rowOf (A1 m c) (rt t r) := funext fun k => by
  show (iblk m c 1 t : S512x1024.Idx → EReal) (ix2 r k) = _
  refine Eq.trans ?_ (congrFun (V_main_arg1 m c) _)
  blk_ext [iblk, idx t, rt]
theorem blk2 (t : Fin cfg0.N) (r : Fin 2048) (k : Fin 1024) : (iblk m c 2 t : S2048x1024.Idx → EReal) (ix2 r k) = A2 m c (ix2 r k) := by
  refine Eq.trans ?_ (congrFun (V0 m c) _)
  blk_ext [iblk, idx t, rt]
theorem row3 (t : Fin cfg0.N) (r : Fin 512) : rowOf (iblk m c 3 t) r = rowOf (A3 m c) (rt t r) := funext fun k => by
  show (iblk m c 3 t : S512x1024.Idx → EReal) (ix2 r k) = _
  refine Eq.trans ?_ (congrFun (V_main_arg3 m c) _)
  blk_ext [iblk, idx t, rt]
theorem blk4 (t : Fin cfg0.N) (k : Fin 1024) : (iblk m c 4 t : S1x1024.Idx → EReal) (ix2 0 k) = A4 m c (ix2 0 k) := by
  refine Eq.trans ?_ (congrFun (V_main_arg4 m c) _)
  blk_ext [iblk, idx t, rt]
theorem blk5 (t : Fin cfg0.N) (k : Fin 1024) : (iblk m c 5 t : S1x1024.Idx → EReal) (ix2 0 k) = A5 m c (ix2 0 k) := by
  refine Eq.trans ?_ (congrFun (V_main_arg5 m c) _)
  blk_ext [iblk, idx t, rt]

/-- The upper half of the weights' rows, and the lower. -/
abbrev upW (w : S2048x1024.Idx → EReal) : S1024x1024.Idx → EReal := fun j => w (ix2 (up (j 0)) (j 1))
abbrev loW (w : S2048x1024.Idx → EReal) : S1024x1024.Idx → EReal := fun j => w (ix2 (lo (j 0)) (j 1))
theorem ldU (t : Fin cfg0.N) : View.ld (iblk m c 2 t : Vec Ideal S2048x1024 .bf16) r0_1 = upW (A2 m c) := by
  funext j
  idx_vars j
  exact (View.ld_unit_apply_of _ _ _ _ _ (ix2 (up j0) j1) (by intro a; fin_cases a <;> simp [up, lo])).trans (blk2 m c t _ _)
theorem ldL (t : Fin cfg0.N) : View.ld (iblk m c 2 t : Vec Ideal S2048x1024 .bf16) r0_2 = loW (A2 m c) := by
  funext j
  idx_vars j
  exact (View.ld_unit_apply_of _ _ _ _ _ (ix2 (lo j0) j1) (by intro a; fin_cases a <;> simp [up, lo])).trans (blk2 m c t _ _)

/-- The kernel's arrays: the mixers' result, and the normed stream. -/
abbrev mixRow (x y w : S2048x1024.Idx → EReal) (i : Fin 2048) : Row := mixR (rowOf x i) (rowOf y i) (upW w) (loW w)
def mixA (x y w : S2048x1024.Idx → EReal) : S2048x1024.Idx → EReal := fun j => mixRow x y w (j 0) (j 1)
def layA (x y w s : S2048x1024.Idx → EReal) (g b : S1x1024.Idx → EReal) : S2048x1024.Idx → EReal :=
  fun j => layV (cenV (preV (rowOf s (j 0)) (mixRow x y w (j 0)))) (rowOf g 0) (rowOf b 0) (j 1)

theorem mix_t (t : Fin cfg0.N) (r : Fin 512) (k : Fin 1024) :
    mixR (rowOf (iblk m c 0 t) r) (rowOf (iblk m c 1 t) r) (upW (A2 m c)) (loW (A2 m c)) k = mixA (A0 m c) (A1 m c) (A2 m c) (ix2 (rt t r) k) := by
  rw [row0, row1]
  rfl
theorem res6 (t : Fin cfg0.N) (r : Fin 512) (k : Fin 1024) :
    (out0_6 (iblk m c 0 t) (iblk m c 1 t) (iblk m c 2 t) (iblk m c 3 t) (iblk m c 4 t) (iblk m c 5 t) : S512x1024.Idx → EReal) (ix2 r k)
      = mixA (A0 m c) (A1 m c) (A2 m c) (ix2 (rt t r) k) := by
  unfold out0_6
  rw [View.canon_unit_zero hz2, View.ld_unit_zero hz2, View.ld_unit_zero hz2, ldU, ldL]
  exact (pay3_at ..).trans (mix_t m c t r k)
theorem pay5_t (t : Fin cfg0.N) (r : Fin 512) (k : Fin 1024) :
    (k0_pay5 (iblk m c 0 t) (iblk m c 1 t) (iblk m c 2 t) (iblk m c 3 t) (iblk m c 4 t) (iblk m c 5 t) : S512x1024.Idx → EReal) (ix2 r k)
      = hatV (cenV (preV (rowOf (A3 m c) (rt t r)) (mixRow (A0 m c) (A1 m c) (A2 m c) (rt t r)))) k * A4 m c (ix2 0 k) := by
  unfold k0_pay5
  rw [View.ld_unit_zero hz2, View.ld_unit_zero hz2, View.ld_unit_zero hz2, View.ld_unit_zero hz2, ldU, ldL]
  refine (pay4_at ..).trans ?_
  rw [row0, row1, row3, blk4]
theorem res7 (t : Fin cfg0.N) (r : Fin 512) (k : Fin 1024) :
    (out0_7 (iblk m c 0 t) (iblk m c 1 t) (iblk m c 2 t) (iblk m c 3 t) (iblk m c 4 t) (iblk m c 5 t) : S512x1024.Idx → EReal) (ix2 r k)
      = layA (A0 m c) (A1 m c) (A2 m c) (A3 m c) (A4 m c) (A5 m c) (ix2 (rt t r) k) := by
  unfold out0_7
  rw [View.canon_unit_zero hz2, View.ld_unit_zero hz2]
  refine (pay1_at ..).trans ?_
  rw [pay5_t, blk5]
  rfl
theorem res8 (t : Fin cfg0.N) (r : Fin 512) (k : Fin 1024) :
    (out0_8 (iblk m c 0 t) (iblk m c 1 t) (iblk m c 2 t) (iblk m c 3 t) (iblk m c 4 t) (iblk m c 5 t) : S512x1024.Idx → EReal) (ix2 r k)
      = layA (A0 m c) (A1 m c) (A2 m c) (A3 m c) (A4 m c) (A5 m c) (ix2 (rt t r) k) := by
  unfold out0_8
  rw [View.canon_unit_zero hz2, View.ld_unit_zero hz2]
  refine (pay2_at ..).trans ?_
  rw [pay5_t, blk5]
  rfl
theorem final6 : (dats m 0 c).arrAt 6 cfg0.N = mixA (A0 m c) (A1 m c) (A2 m c) := by
  refine (dats m 0 c).arrAt_eq_of_covers 6 _ (by decide +kernel) fun t _ y => ?_
  blk_simp
  rw [after0_6]
  idx_vars y
  refine (res6 m c t y0 y1).trans (congrArg (mixA (A0 m c) (A1 m c) (A2 m c)) (?_ : ix2 (rt t y0) y1 = _))
  blk_ext [idx t, rt]
theorem final7 : (dats m 0 c).arrAt 7 cfg0.N = layA (A0 m c) (A1 m c) (A2 m c) (A3 m c) (A4 m c) (A5 m c) := by
  refine (dats m 0 c).arrAt_eq_of_covers 7 _ (by decide +kernel) fun t _ y => ?_
  blk_simp
  rw [after0_7]
  idx_vars y
  refine (res7 m c t y0 y1).trans (congrArg (layA (A0 m c) (A1 m c) (A2 m c) (A3 m c) (A4 m c) (A5 m c)) (?_ : ix2 (rt t y0) y1 = _))
  blk_ext [idx t, rt]
theorem final8 : (dats m 0 c).arrAt 8 cfg0.N = layA (A0 m c) (A1 m c) (A2 m c) (A3 m c) (A4 m c) (A5 m c) := by
  refine (dats m 0 c).arrAt_eq_of_covers 8 _ (by decide +kernel) fun t _ y => ?_
  blk_simp
  rw [after0_8]
  idx_vars y
  refine (res8 m c t y0 y1).trans (congrArg (layA (A0 m c) (A1 m c) (A2 m c) (A3 m c) (A4 m c) (A5 m c)) (?_ : ix2 (rt t y0) y1 = _))
  blk_ext [idx t, rt]
end

end Cert.LayIdeal.Att

end
-- ==== Proof.LayRef.lean ====
module

public import proofs.«01_k».proof.Proof.LayVal
public import proofs.«01_k».proof.Proof.FeedRef
public import proofs.«01_k».proof.Proof.Gen.LayReferenceIdeal.Run

@[expose] public section

set_option maxRecDepth 16384

noncomputable section

open Idealize.ShloMosaic Idealize.ShloMosaic.TcCoe Idealize.SL.Sem

namespace Cert.LayReferenceIdeal.Att

open Cert.LayReferenceIdeal Cert.LayReferenceIdeal.Gen
open Cert.NormRow (Row rowOf wid qV rV)
open Cert.MixRow (al e5 preV cenV hatV)
open Cert.LayIdeal.Att (up lo mixR layV mixRow mixA layA)

/-! ## The reference's arrays, stage by stage -/

abbrev Big := FVec Ideal S2048x1024 .f32
abbrev Half := FVec Ideal S2048x1024 .bf16
abbrev Vc := FVec Ideal S1x1024 .f32
abbrev Col := FVec Ideal S2048x1 .f32

/-- The two mixers' results side by side, and their product with the weights. -/
def catS (x y : Half) : FVec Ideal S2048x2048 .f32 :=
  concatenate S2048x2048 1 [⟨S2048x1024, (extf .f32 x bitsLt_bf16_f32)⟩, ⟨S2048x1024, (extf .f32 y bitsLt_bf16_f32)⟩] concatenates_S2048x1024_S2048x1024_S2048x2048_d1
def mixS (x y : Half) (w : Big) : Big := Host.dotGeneral dot_S2048x2048_S2048x1024_S2048x1024_1_0_0_1_n_n none (catS x y) w
def widS : Col := broadcastInDim S2048x1 ![] bcast_S_S2048x1 (constant S_ .f32 0x44800000#32)
/-- The sum over a row, as a column. -/
def sumS (x : Big) : Col := broadcastInDim S2048x1 ![0] bcast_S2048_S2048x1_0 (Host.reduceAdd x (constant S_ .f32 0x00000000#32) reducesTo_S2048x1024_S2048_d1 h_S_)
/-- A column's entries along their rows. -/
def alongS (x : Col) : Big := broadcastInDim S2048x1024 ![0, 1] bcast_S2048x1_S2048x1024_0_1 x
/-- The row that is normed, and the same less its mean. -/
def preS (s z : Big) : Big := addf (mulf (broadcastInDim S2048x1024 ![] bcast_S_S2048x1024 (constant S_ .f32 0x3F9837F0#32)) s) z
def cenS (p : Big) : Big := subf p (alongS (Host.divf (sumS p) widS))
/-- The reciprocal of the root of the variance with what the norm adds to it. -/
def rS (d : Big) : Col :=
  Host.rsqrt (addf (Host.divf (sumS (mulf d d)) widS) (broadcastInDim S2048x1 ![] bcast_S_S2048x1 (constant S_ .f32 0x3727C5AC#32)))
def layS (d : Big) (g b : Vc) : Big :=
  addf (mulf (mulf d (alongS (rS d))) (broadcastInDim S2048x1024 ![0, 1] bcast_S1x1024_S2048x1024_0_1 g)) (broadcastInDim S2048x1024 ![0, 1] bcast_S1x1024_S2048x1024_0_1 b)
def laybS (d : Big) (g b : Vc) : Half := truncf .bf16 (layS d g b) bitsLt_bf16_f32

section
variable (x y : Half) (w s z d p : Big) (g b : Vc) (i : Fin 2048) (k : Fin 1024)

theorem cat_up : (catS x y (ix2 i (up k)) : EReal) = x (ix2 i k) := by
  pointwise [catS]
  have h : (up k).val < 1024 := k.isLt
  rw [dif_pos h]; rfl
theorem cat_lo : (catS x y (ix2 i (lo k)) : EReal) = y (ix2 i k) := by
  pointwise [catS]
  have h : ¬(lo k).val < 1024 := by show ¬(1024 + k.val < 1024); omega
  rw [dif_neg h]
  exact congrArg (fun q => y (ix2 i q)) (Fin.ext (by show 1024 + k.val - 1024 = k.val; omega))
theorem mixS_at : (mixS x y w (ix2 i k) : EReal) = mixA x y w (ix2 i k) := by
  have e : (mixS x y w (ix2 i k) : EReal) = ∑ j : Fin 2048, (catS x y (ix2 i j) : EReal) * w (ix2 j k) := by
    unfold mixS
    generalize catS x y = a
    pointwise
  rw [e, Fin.sum_univ_two_halves 1024 1024 (by norm_num)]
  unfold mixA mixRow mixR
  refine congr (congrArg HAdd.hAdd (Finset.sum_congr rfl fun j _ => ?_)) (Finset.sum_congr rfl fun j _ => ?_)
  · exact congrArg (· * _) (cat_up x y i j)
  · exact congrArg (· * _) (cat_lo x y i j)
theorem preS_at : (preS s z (ix2 i k) : EReal) = preV (rowOf s i) (rowOf z i) k := by
  unfold preV
  pointwise [preS]
theorem cenS_at : (cenS p (ix2 i k) : EReal) = cenV (rowOf p i) k := by
  unfold cenV
  pointwise [cenS, widS, sumS, alongS]
theorem rS_at : (rS d (ix2 i 0) : EReal) = rV e5 (rowOf d i) := by
  unfold rV qV
  pointwise [rS, widS, sumS]
theorem layS_at : (layS d g b (ix2 i k) : EReal) = layV (rowOf d i) (rowOf g 0) (rowOf b 0) k := by
  unfold layV hatV
  rw [← rS_at]
  pointwise [layS, alongS]
end

/-! ## The results -/

theorem mixS_eq (x y : Half) (w : Big) : mixS x y w = mixA x y w := by
  funext j
  idx_vars j
  exact mixS_at x y w j0 j1
theorem layS_eq (x y : Half) (w s : Big) (g b : Vc) : layS (cenS (preS s (mixS x y w))) g b = layA x y w s g b := by
  funext j
  idx_vars j
  refine (layS_at _ g b j0 j1).trans ?_
  have e : rowOf (cenS (preS s (mixS x y w))) j0 = cenV (preV (rowOf s j0) (mixRow x y w j0)) := by
    funext k
    refine (cenS_at _ j0 k).trans (congrFun (congrArg cenV ?_) k)
    funext k
    refine (preS_at s _ j0 k).trans (congrFun (congrArg (preV (rowOf s j0)) ?_) k)
    exact funext fun k => mixS_at x y w j0 k
  rw [e]
  rfl
theorem laybS_eq (x y : Half) (w s : Big) (g b : Vc) : laybS (cenS (preS s (mixS x y w))) g b = layA x y w s g b := by
  rw [← layS_eq]
  funext j
  idx_vars j
  unfold laybS
  generalize layS (cenS (preS s (mixS x y w))) g b = a
  pointwise

end Cert.LayReferenceIdeal.Att

end
-- ==== Proof.LayClaims.lean ====
module

public import proofs.«01_k».proof.Defs
public import proofs.«01_k».proof.Proof.Gen.Lay.Frame
public import proofs.«01_k».proof.Proof.LayRef
public import Idealize.ShloMosaic.Lib.Quiescent

@[expose] public section

set_option maxRecDepth 16384

noncomputable section

open Idealize.ShloMosaic Idealize.ShloMosaic.TcCoe Idealize.SL.Sem

namespace Cert.LayClaims

theorem frame_p : Cert.quiescent_Lay := fun m ρ _ => Cert.Lay.Gen.frame m ρ
theorem frame_pi : Cert.quiescent_LayIdeal := fun m ρ _ => Cert.LayIdeal.Gen.frame m ρ
theorem frame_ri : Cert.quiescent_LayReferenceIdeal := fun m ρ _ =>
  (θ_run Cert.LayReferenceIdeal.defs _ _).mono (fun r h => ⟨fun c => (h c).2.2.2, sem_eq_zero_of_no_sems (by decide) r.2⟩)
    (Cert.LayReferenceIdeal.Value.run (F := Ideal) m ρ)

/-- No operation is replaced. -/
theorem preserves : Cert.preserves_Lay_LayIdeal := trivial

section
open Cert.LayReferenceIdeal

variable (m : (ℓ : Loc nD τ sig) → Buf (Elt Ideal) ℓ) (c : Dev nD)

abbrev B0 : FVec Ideal S2048x1024 .bf16 := m ((c.tc : Thread nD τ).loc main_arg0)
abbrev B1 : FVec Ideal S2048x1024 .bf16 := m ((c.tc : Thread nD τ).loc main_arg1)
abbrev B2 : FVec Ideal S2048x1024 .f32 := m ((c.tc : Thread nD τ).loc main_arg2)
abbrev B3 : FVec Ideal S2048x1024 .f32 := m ((c.tc : Thread nD τ).loc main_arg3)
abbrev B4 : FVec Ideal S1x1024 .f32 := m ((c.tc : Thread nD τ).loc main_arg4)
abbrev B5 : FVec Ideal S1x1024 .f32 := m ((c.tc : Thread nD τ).loc main_arg5)
end

/-- The kernel's three arrays are the mixing layer's last product and its norm with the stream, for any entries. -/
theorem algebraic : Cert.algebraic_LayIdeal_LayReferenceIdeal := by
  intro m ρ m' ρ' _ hagree
  have key : ∀ c : Dev Cert.LayIdeal.nD,
      Cert.LayReferenceIdeal.Att.mixS (B0 m' c) (B1 m' c) (B2 m' c) = (Cert.LayIdeal.Gen.dats m 0 c).arrAt 6 Cert.LayIdeal.cfg0.N
      ∧ Cert.LayReferenceIdeal.Att.layS (Cert.LayReferenceIdeal.Att.cenS (Cert.LayReferenceIdeal.Att.preS (B3 m' c) (Cert.LayReferenceIdeal.Att.mixS (B0 m' c) (B1 m' c) (B2 m' c)))) (B4 m' c) (B5 m' c) = (Cert.LayIdeal.Gen.dats m 0 c).arrAt 7 Cert.LayIdeal.cfg0.N
      ∧ Cert.LayReferenceIdeal.Att.laybS (Cert.LayReferenceIdeal.Att.cenS (Cert.LayReferenceIdeal.Att.preS (B3 m' c) (Cert.LayReferenceIdeal.Att.mixS (B0 m' c) (B1 m' c) (B2 m' c)))) (B4 m' c) (B5 m' c) = (Cert.LayIdeal.Gen.dats m 0 c).arrAt 8 Cert.LayIdeal.cfg0.N := fun c => by
    obtain ⟨g0, g1, g2, g3, g4, g5⟩ := hagree c
    have e0 : B0 m' c = Cert.LayIdeal.Att.A0 m c := g0
    have e1 : B1 m' c = Cert.LayIdeal.Att.A1 m c := g1
    have e2 : B2 m' c = Cert.LayIdeal.Att.A2 m c := g2
    have e3 : B3 m' c = Cert.LayIdeal.Att.A3 m c := g3
    have e4 : B4 m' c = Cert.LayIdeal.Att.A4 m c := g4
    have e5 : B5 m' c = Cert.LayIdeal.Att.A5 m c := g5
    rw [e0, e1, e2, e3, e4, e5]
    exact ⟨(Cert.LayReferenceIdeal.Att.mixS_eq _ _ _).trans (Cert.LayIdeal.Att.final6 m c).symm,
      (Cert.LayReferenceIdeal.Att.layS_eq _ _ _ _ _ _).trans (Cert.LayIdeal.Att.final7 m c).symm,
      (Cert.LayReferenceIdeal.Att.laybS_eq _ _ _ _ _ _).trans (Cert.LayIdeal.Att.final8 m c).symm⟩
  refine ⟨_, _, _, Cert.LayIdeal.Value.run_blocks m ρ, ?_⟩
  exact (θ_run Cert.LayReferenceIdeal.defs _ _).mono (fun _ h c => ⟨(h c).1.trans (key c).1, (h c).2.1.trans (key c).2.1, (h c).2.2.1.trans (key c).2.2, (h c).2.2.2⟩)
    (Cert.LayReferenceIdeal.Value.run (F := Ideal) m' ρ')

end Cert.LayClaims

end
-- ==== Proof.lean ====
module

public import proofs.«01_k».proof.Defs
public import proofs.«01_k».proof.Proof.AttnClaims
public import proofs.«01_k».proof.Proof.FeedClaims
public import proofs.«01_k».proof.Proof.JointClaims
public import proofs.«01_k».proof.Proof.ConvClaims
public import proofs.«01_k».proof.Proof.GateClaims
public import proofs.«01_k».proof.Proof.MixClaims
public import proofs.«01_k».proof.Proof.EntryClaims
public import proofs.«01_k».proof.Proof.NormClaims
public import proofs.«01_k».proof.Proof.OutClaims
public import proofs.«01_k».proof.Proof.WeightClaims
public import proofs.«01_k».proof.Proof.LowClaims
public import proofs.«01_k».proof.Proof.LayClaims

@[expose] public section

noncomputable section

namespace Cert.Proof

open Idealize.ShloMosaic Idealize.SL.Sem

/-- Every claim: the frames, that the ideal programs are the kernels', and that they compute the gradients of attention, of the gated layer, of what the layer's products share, of the convolution, of the gate's norm, of the mixers' norm and projection, of the layer's input, of the norm of the attention's result of the weights of the layer's last and first product, and of the weights of the inner products, and the mixing layer's last product with its norm. -/
theorem claim : Cert.Claim := ⟨Cert.Kernel.Gen.facts, Cert.KernelIdeal.Gen.facts, Cert.ReferenceIdeal.Gen.facts,
  Cert.Feed.Gen.facts, Cert.FeedIdeal.Gen.facts, Cert.FeedReferenceIdeal.Gen.facts,
  Cert.Joint.Gen.facts, Cert.JointIdeal.Gen.facts, Cert.JointReferenceIdeal.Gen.facts,
  Cert.Conv.Gen.facts, Cert.ConvIdeal.Gen.facts, Cert.ConvReferenceIdeal.Gen.facts,
  Cert.Gate.Gen.facts, Cert.GateIdeal.Gen.facts, Cert.GateReferenceIdeal.Gen.facts,
  Cert.Mix.Gen.facts, Cert.MixIdeal.Gen.facts, Cert.MixReferenceIdeal.Gen.facts,
  Cert.Entry.Gen.facts, Cert.EntryIdeal.Gen.facts, Cert.EntryReferenceIdeal.Gen.facts,
  Cert.Norm.Gen.facts, Cert.NormIdeal.Gen.facts, Cert.NormReferenceIdeal.Gen.facts,
  Cert.Out.Gen.facts, Cert.OutIdeal.Gen.facts, Cert.OutReferenceIdeal.Gen.facts,
  Cert.Weight.Gen.facts, Cert.WeightIdeal.Gen.facts, Cert.WeightReferenceIdeal.Gen.facts,
  Cert.Low.Gen.facts, Cert.LowIdeal.Gen.facts, Cert.LowReferenceIdeal.Gen.facts,
  Cert.Lay.Gen.facts, Cert.LayIdeal.Gen.facts, Cert.LayReferenceIdeal.Gen.facts,
  Cert.Pre_finite.Gen.facts, Cert.Pre_finite2.Gen.facts, Cert.Pre_finite4.Gen.facts, Cert.Pre_finite5.Gen.facts, Cert.Pre_finite6.Gen.facts, Cert.Pre_finite8.Gen.facts,
  Cert.AttnClaims.frame_p, Cert.AttnClaims.frame_pi, Cert.AttnClaims.frame_pi_finite, Cert.AttnClaims.frame_ri, Cert.AttnClaims.frame_ri_finite,
  Cert.FeedClaims.frame_p, Cert.FeedClaims.frame_pi, Cert.FeedClaims.frame_pi_finite, Cert.FeedClaims.frame_ri, Cert.FeedClaims.frame_ri_finite,
  Cert.JointClaims.frame_p, Cert.JointClaims.frame_pi, Cert.JointClaims.frame_ri,
  Cert.ConvClaims.frame_p, Cert.ConvClaims.frame_pi, Cert.ConvClaims.frame_pi_finite, Cert.ConvClaims.frame_ri, Cert.ConvClaims.frame_ri_finite,
  Cert.GateClaims.frame_p, Cert.GateClaims.frame_pi, Cert.GateClaims.frame_pi_finite, Cert.GateClaims.frame_ri, Cert.GateClaims.frame_ri_finite,
  Cert.MixClaims.frame_p, Cert.MixClaims.frame_pi, Cert.MixClaims.frame_pi_finite, Cert.MixClaims.frame_ri, Cert.MixClaims.frame_ri_finite,
  Cert.EntryClaims.frame_p, Cert.EntryClaims.frame_pi, Cert.EntryClaims.frame_ri,
  Cert.NormClaims.frame_p, Cert.NormClaims.frame_pi, Cert.NormClaims.frame_pi_finite, Cert.NormClaims.frame_ri, Cert.NormClaims.frame_ri_finite,
  Cert.OutClaims.frame_p, Cert.OutClaims.frame_pi, Cert.OutClaims.frame_ri,
  Cert.WeightClaims.frame_p, Cert.WeightClaims.frame_pi, Cert.WeightClaims.frame_ri,
  Cert.LowClaims.frame_p, Cert.LowClaims.frame_pi, Cert.LowClaims.frame_ri,
  Cert.LayClaims.frame_p, Cert.LayClaims.frame_pi, Cert.LayClaims.frame_ri,
  Cert.AttnClaims.preserves, Cert.AttnClaims.algebraic, Cert.FeedClaims.preserves, Cert.FeedClaims.algebraic, Cert.JointClaims.preserves, Cert.JointClaims.algebraic,
  Cert.ConvClaims.preserves, Cert.ConvClaims.algebraic, Cert.GateClaims.preserves, Cert.GateClaims.algebraic,
  Cert.MixClaims.preserves, Cert.MixClaims.algebraic, Cert.EntryClaims.preserves, Cert.EntryClaims.algebraic, Cert.NormClaims.preserves, Cert.NormClaims.algebraic,
  Cert.OutClaims.preserves, Cert.OutClaims.algebraic, Cert.WeightClaims.preserves, Cert.WeightClaims.algebraic,
  Cert.LowClaims.preserves, Cert.LowClaims.algebraic, Cert.LayClaims.preserves, Cert.LayClaims.algebraic⟩

end Cert.Proof

end
